-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_args7 [hPre_finite_args7 : Cert.Pre_finite_args7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_args7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_args7 [hPre_finite_args7 : Cert.Pre_finite_args7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_args7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_part_number9 : Cert.Pre_part_number9.Facts] (m : (ℓ : Loc Cert.Kernel9.nD Cert.Kernel9.τ Cert.Kernel9.sig) → Buf (Elt Bits) ℓ) : Prop :=
  ∀ c : Dev Cert.Kernel9.nD,
    (Cert.Pre_part_number9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3))) = (fun _ => 1#1)

def Pre_Kernel9Ideal [hPre_part_number9 : Cert.Pre_part_number9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_part_number9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_part_number9 [hPre_part_number9 : Cert.Pre_part_number9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_part_number9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 [hPre_part_number10 : Cert.Pre_part_number10.Facts] (m : (ℓ : Loc Cert.Kernel10.nD Cert.Kernel10.τ Cert.Kernel10.sig) → Buf (Elt Bits) ℓ) : Prop :=
  ∀ c : Dev Cert.Kernel10.nD,
    (Cert.Pre_part_number10.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5))) = (fun _ => 1#1)

def Pre_Kernel10Ideal [hPre_part_number10 : Cert.Pre_part_number10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_part_number10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_part_number10 [hPre_part_number10 : Cert.Pre_part_number10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_part_number10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_args7 [hKernel7Ideal : Cert.Kernel7Ideal.Facts] [hPre_finite_args7 : Cert.Pre_finite_args7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_args7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_args7 [hReference7Ideal : Cert.Reference7Ideal.Facts] [hPre_finite_args7 : Cert.Pre_finite_args7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_args7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] [hPre_part_number9 : Cert.Pre_part_number9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] [hPre_part_number9 : Cert.Pre_part_number9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_part_number9 [hReference9Ideal : Cert.Reference9Ideal.Facts] [hPre_part_number9 : Cert.Pre_part_number9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_part_number9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] [hPre_part_number10 : Cert.Pre_part_number10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] [hPre_part_number10 : Cert.Pre_part_number10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_part_number10 [hReference10Ideal : Cert.Reference10Ideal.Facts] [hPre_part_number10 : Cert.Pre_part_number10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_part_number10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_v71) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v73) = v0 c
          ∧ r.2.mem ((c.tc : Thread Cert.Reference6Ideal.nD Cert.Reference6Ideal.τ).loc Cert.Reference6Ideal.main_v81) = v1 c
          ∧ r.2.mem ((c.tc : Thread Cert.Reference6Ideal.nD Cert.Reference6Ideal.τ).loc Cert.Reference6Ideal.main_v82) = v2 c
          ∧ r.2.mem ((c.tc : Thread Cert.Reference6Ideal.nD Cert.Reference6Ideal.τ).loc Cert.Reference6Ideal.main_v83) = v3 c
          ∧ r.2.mem ((c.tc : Thread Cert.Reference6Ideal.nD Cert.Reference6Ideal.τ).loc Cert.Reference6Ideal.main_v84) = v4 c
          ∧ r.2.mem ((c.tc : Thread Cert.Reference6Ideal.nD Cert.Reference6Ideal.τ).loc Cert.Reference6Ideal.main_v85) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  IdealRules.named_const.Statement Cert.Kernel7Ideal.κ "a" .f32 0x3F3504F3#32 (((Real.sqrt 2)⁻¹ : ℝ) : EReal)
  ∧ IdealRules.named_const.Statement Cert.Kernel7Ideal.κ "b" .f32 0x3ECC422A#32 (((Real.sqrt (2 * Real.pi))⁻¹ : ℝ) : EReal)

def algebraic_Kernel7Ideal_Reference7Ideal_pre_finite_args7 [hKernel7Ideal : Cert.Kernel7Ideal.Facts] [hReference7Ideal : Cert.Reference7Ideal.Facts] [hPre_finite_args7 : Cert.Pre_finite_args7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_args7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v160) = v0 c
          ∧ r.2.mem ((c.tc : Thread Cert.Reference7Ideal.nD Cert.Reference7Ideal.τ).loc Cert.Reference7Ideal.main_v103) = v1 c
          ∧ r.2.mem ((c.tc : Thread Cert.Reference7Ideal.nD Cert.Reference7Ideal.τ).loc Cert.Reference7Ideal.main_v161) = v2 c
          ∧ r.2.mem ((c.tc : Thread Cert.Reference7Ideal.nD Cert.Reference7Ideal.τ).loc Cert.Reference7Ideal.main_v162) = v3 c
          ∧ r.2.mem ((c.tc : Thread Cert.Reference7Ideal.nD Cert.Reference7Ideal.τ).loc Cert.Reference7Ideal.main_v163) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] [hPre_part_number9 : Cert.Pre_part_number9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_on_part_computed [hKernel10Ideal : Cert.Kernel10Ideal.Facts] [hReference10Ideal : Cert.Reference10Ideal.Facts] [hPre_part_number10 : Cert.Pre_part_number10.Facts] [hOn_part_computed : Cert.On_part_computed.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          (∀ i : (⟨2, ![8192, 1024]⟩ : Shape).Idx, (Cert.On_part_computed.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 i = 1#1 → r.2.mem ((c.tc : Thread Cert.Kernel10Ideal.nD Cert.Kernel10Ideal.τ).loc Cert.Kernel10Ideal.main_v5_0) i = v0 c i)
          ∧ (∀ i : (⟨3, ![4, 8192, 2048]⟩ : Shape).Idx, (Cert.On_part_computed.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2 i = 1#1 → r.2.mem ((c.tc : Thread Cert.Kernel10Ideal.nD Cert.Kernel10Ideal.τ).loc Cert.Kernel10Ideal.main_v5_1) i = v1 c i)
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          (∀ i : (⟨2, ![8192, 1024]⟩ : Shape).Idx, (Cert.On_part_computed.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 i = 1#1 → r.2.mem ((c.tc : Thread Cert.Reference10Ideal.nD Cert.Reference10Ideal.τ).loc Cert.Reference10Ideal.main_v21) i = v0 c i)
          ∧ (∀ i : (⟨3, ![4, 8192, 2048]⟩ : Shape).Idx, (Cert.On_part_computed.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2 i = 1#1 → r.2.mem ((c.tc : Thread Cert.Reference10Ideal.nD Cert.Reference10Ideal.τ).loc Cert.Reference10Ideal.main_v31) i = v1 c i)
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  IdealRules.named_const.Statement Cert.Kernel11Ideal.κ "a" .f32 0x3F3504F3#32 (((Real.sqrt 2)⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)) (v3 : (c : Dev Cert.Kernel11Ideal.nD) → Buf (Elt Ideal) ((c.tc : Thread Cert.Kernel11Ideal.nD Cert.Kernel11Ideal.τ).loc Cert.Kernel11Ideal.main_v6_3)) (v4 : (c : Dev Cert.Kernel11Ideal.nD) → Buf (Elt Ideal) ((c.tc : Thread Cert.Kernel11Ideal.nD Cert.Kernel11Ideal.τ).loc Cert.Kernel11Ideal.main_v6_4)) (v5 : (c : Dev Cert.Kernel11Ideal.nD) → Buf (Elt Ideal) ((c.tc : Thread Cert.Kernel11Ideal.nD Cert.Kernel11Ideal.τ).loc Cert.Kernel11Ideal.main_v6_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_v6_3) = v3 c
          ∧ r.2.mem ((c.tc : Thread Cert.Kernel11Ideal.nD Cert.Kernel11Ideal.τ).loc Cert.Kernel11Ideal.main_v6_4) = v4 c
          ∧ r.2.mem ((c.tc : Thread Cert.Kernel11Ideal.nD Cert.Kernel11Ideal.τ).loc Cert.Kernel11Ideal.main_v6_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v126) = v0 c
          ∧ r.2.mem ((c.tc : Thread Cert.Reference11Ideal.nD Cert.Reference11Ideal.τ).loc Cert.Reference11Ideal.main_v119) = v1 c
          ∧ r.2.mem ((c.tc : Thread Cert.Reference11Ideal.nD Cert.Reference11Ideal.τ).loc Cert.Reference11Ideal.main_v127) = v2 c
          ∧ r.2.mem ((c.tc : Thread Cert.Reference11Ideal.nD Cert.Reference11Ideal.τ).loc Cert.Reference11Ideal.main_v128) = v3 c
          ∧ r.2.mem ((c.tc : Thread Cert.Reference11Ideal.nD Cert.Reference11Ideal.τ).loc Cert.Reference11Ideal.main_v129) = v4 c
          ∧ r.2.mem ((c.tc : Thread Cert.Reference11Ideal.nD Cert.Reference11Ideal.τ).loc Cert.Reference11Ideal.main_v130) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_args : Cert.Pre_finite_args.Facts) (hPre_finite_args7 : Cert.Pre_finite_args7.Facts) (hPre_part_number9 : Cert.Pre_part_number9.Facts) (hPre_part_number10 : Cert.Pre_part_number10.Facts) (hOn_part_computed : Cert.On_part_computed.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_args7 (hKernel7Ideal := hKernel7Ideal) (hPre_finite_args7 := hPre_finite_args7)
    ∧ quiescent_Reference7Ideal (hReference7Ideal := hReference7Ideal)
    ∧ quiescent_Reference7Ideal_pre_finite_args7 (hReference7Ideal := hReference7Ideal) (hPre_finite_args7 := hPre_finite_args7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_part_number9 := hPre_part_number9)
    ∧ quiescent_Kernel9Ideal (hKernel9Ideal := hKernel9Ideal) (hPre_part_number9 := hPre_part_number9)
    ∧ quiescent_Reference9Ideal (hReference9Ideal := hReference9Ideal)
    ∧ quiescent_Reference9Ideal_pre_part_number9 (hReference9Ideal := hReference9Ideal) (hPre_part_number9 := hPre_part_number9)
    ∧ quiescent_Kernel10 (hKernel10 := hKernel10) (hPre_part_number10 := hPre_part_number10)
    ∧ quiescent_Kernel10Ideal (hKernel10Ideal := hKernel10Ideal) (hPre_part_number10 := hPre_part_number10)
    ∧ quiescent_Reference10Ideal (hReference10Ideal := hReference10Ideal)
    ∧ quiescent_Reference10Ideal_pre_part_number10 (hReference10Ideal := hReference10Ideal) (hPre_part_number10 := hPre_part_number10)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_args7 (hKernel7Ideal := hKernel7Ideal) (hReference7Ideal := hReference7Ideal) (hPre_finite_args7 := hPre_finite_args7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_part_number9 := hPre_part_number9)
    ∧ preserves_Kernel10_Kernel10Ideal
    ∧ algebraic_Kernel10Ideal_Reference10Ideal_on_part_computed (hKernel10Ideal := hKernel10Ideal) (hReference10Ideal := hReference10Ideal) (hPre_part_number10 := hPre_part_number10) (hOn_part_computed := hOn_part_computed)
    ∧ preserves_Kernel11_Kernel11Ideal
    ∧ algebraic_Kernel11Ideal_Reference11Ideal (hKernel11Ideal := hKernel11Ideal) (hReference11Ideal := hReference11Ideal)
-- ==== On_part_computed.lean ====
abbrev S1 : Shape := ⟨1, ![1]⟩
abbrev S8192x1024 : Shape := ⟨2, ![8192, 1024]⟩
abbrev S1024 : Shape := ⟨1, ![1024]⟩
abbrev S1024x8192 : Shape := ⟨2, ![1024, 8192]⟩
abbrev S_ : Shape := ⟨0, ![]⟩
abbrev S4 : Shape := ⟨1, ![4]⟩
abbrev S4x1x1 : Shape := ⟨3, ![4, 1, 1]⟩
abbrev S4x8192x2048 : Shape := ⟨3, ![4, 8192, 2048]⟩

class Facts : Prop where
  bcast_S_S8192x1024 : S_.BroadcastsInDim S8192x1024 (![] : Fin 0 → Fin S8192x1024.rank)
  bcast_S4_S4x1x1_0 : S4.BroadcastsInDim S4x1x1 (![0] : Fin 1 → Fin S4x1x1.rank)
  shapeCasts_S1_S_ : S1.ShapeCasts S_
  bcast_S_S4x1x1 : S_.BroadcastsInDim S4x1x1 (![] : Fin 0 → Fin S4x1x1.rank)
  bcast_S4x1x1_S4x8192x2048_0_1_2 : S4x1x1.BroadcastsInDim S4x8192x2048 (![0, 1, 2] : Fin 3 → Fin S4x8192x2048.rank)

variable [Facts]

def fn {F : FTy → Type} [FloatOps F] (main_arg0 : IVec S1 32) (main_arg1 : FVec F S8192x1024 .f32) (main_arg2 : FVec F S1024 .f32) (main_arg3 : FVec F S1024 .f32) (main_arg4 : FVec F S1024 .f32) (main_arg5 : FVec F S1024x8192 .f32) : IVec S8192x1024 1 × IVec S4x8192x2048 1 :=
  let main_c : IVec S_ 1 := constantI S_ 1 1#1
  let main_v0 : IVec S8192x1024 1 := broadcastInDim S8192x1024 ![] bcast_S_S8192x1024 main_c
  let main_v1 : IVec S4 32 := iotaInDim S4 32 0
  let main_v2 : IVec S4x1x1 32 := broadcastInDim S4x1x1 ![0] bcast_S4_S4x1x1_0 main_v1
  let main_v3 : IVec S_ 32 := shapeCast S_ main_arg0 shapeCasts_S1_S_
  let main_v4 : IVec S4x1x1 32 := broadcastInDim S4x1x1 ![] bcast_S_S4x1x1 main_v3
  let main_v5 : IVec S4x1x1 1 := cmpi .eq main_v2 main_v4
  let main_v6 : IVec S4x8192x2048 1 := broadcastInDim S4x8192x2048 ![0, 1, 2] bcast_S4x1x1_S4x8192x2048_0_1_2 main_v5
  (main_v0, main_v6)
-- ==== Pre_finite_args.lean ====
abbrev S4x8192x2048 : Shape := ⟨3, ![4, 8192, 2048]⟩
abbrev S3x2048 : Shape := ⟨2, ![3, 2048]⟩
abbrev S2048 : Shape := ⟨1, ![2048]⟩
abbrev S2048x1024 : Shape := ⟨2, ![2048, 1024]⟩
abbrev S8192x1024 : Shape := ⟨2, ![8192, 1024]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S3x2048 : S_.BroadcastsInDim S3x2048 (![] : Fin 0 → Fin S3x2048.rank)
  reducesTo_S3x2048_S_d0_1 : S3x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S4x8192x2048 .f32) (main_arg1 : FVec F S3x2048 .f32) (main_arg2 : FVec F S2048 .f32) (main_arg3 : FVec F S2048x1024 .f32) (main_arg4 : FVec F S8192x1024 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S3x2048 .f32 := Host.absf main_arg1
  let main_cst_0 : FVec F S_ .f32 := constant S_ .f32 0x7F800000#32
  let main_v5 : FVec F S3x2048 .f32 := broadcastInDim S3x2048 ![] bcast_S_S3x2048 main_cst_0
  let main_v6 : IVec S3x2048 1 := cmpf .olt main_v4 main_v5
  let main_c_1 : IVec S_ 1 := constantI S_ 1 1#1
  let main_v7 : IVec S_ 1 := (fun x v => Host.reduce IntOp.andi x v reducesTo_S3x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_finite_args7.lean ====
abbrev S3x8192x2048 : Shape := ⟨3, ![3, 8192, 2048]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S_ : Shape := ⟨0, ![]⟩

class Facts : Prop where
  bcast_S_S3x8192x2048 : S_.BroadcastsInDim S3x8192x2048 (![] : Fin 0 → Fin S3x8192x2048.rank)
  reducesTo_S3x8192x2048_S_d0_1_2 : S3x8192x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8x128 .f32) (main_arg5 : FVec F S2048x1024 .f32) (main_arg6 : FVec F S8192x1024 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S3x8192x2048 .f32) (main_arg1 : FVec F S2048 .f32) (main_arg2 : FVec F S2048 .f32) (main_arg3 : FVec F S8x128x128 .f32) (main_arg4 : FVec F S8x128 .f32) (main_arg5 : FVec F S2048x1024 .f32) (main_arg6 : FVec F S8192x1024 .f32) : IVec S_ 1 :=
  let main_v0 : FVec F S3x8192x2048 .f32 := Host.absf main_arg0
  let main_cst : FVec F S_ .f32 := constant S_ .f32 0x7F800000#32
  let main_v1 : FVec F S3x8192x2048 .f32 := broadcastInDim S3x8192x2048 ![] bcast_S_S3x8192x2048 main_cst
  let main_v2 : IVec S3x8192x2048 1 := cmpf .olt main_v0 main_v1
  let main_c : IVec S_ 1 := constantI S_ 1 1#1
  let main_v3 : IVec S_ 1 := (fun x v => Host.reduce IntOp.andi x v reducesTo_S3x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_arg6 main_v13 main_v16
-- ==== Pre_part_number10.lean ====
abbrev S1 : Shape := ⟨1, ![1]⟩
abbrev S8192x1024 : Shape := ⟨2, ![8192, 1024]⟩
abbrev S1024 : Shape := ⟨1, ![1024]⟩
abbrev S1024x8192 : Shape := ⟨2, ![1024, 8192]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S8192x1024 .f32) (main_arg2 : FVec F S1024 .f32) (main_arg3 : FVec F S1024 .f32) (main_arg4 : FVec F S1024 .f32) (main_arg5 : FVec F S1024x8192 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_part_number9.lean ====
abbrev S1 : Shape := ⟨1, ![1]⟩
abbrev S8192x1024 : Shape := ⟨2, ![8192, 1024]⟩
abbrev S1024x8192 : Shape := ⟨2, ![1024, 8192]⟩
abbrev S4x8192x2048 : Shape := ⟨3, ![4, 8192, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S8192x1024 .f32) (main_arg2 : FVec F S1024x8192 .f32) (main_arg3 : FVec F S4x8192x2048 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S4x8192x2048 : Shape := ⟨3, ![4, 8192, 2048]⟩
abbrev S3x2048 : Shape := ⟨2, ![3, 2048]⟩
abbrev S2048 : Shape := ⟨1, ![2048]⟩
abbrev S2048x1024 : Shape := ⟨2, ![2048, 1024]⟩
abbrev S8192x1024 : Shape := ⟨2, ![8192, 1024]⟩
abbrev S1x2048 : Shape := ⟨2, ![1, 2048]⟩
abbrev S_ : Shape := ⟨0, ![]⟩
abbrev S8x128 : Shape := ⟨2, ![8, 128]⟩
abbrev S1x512x1024 : Shape := ⟨3, ![1, 512, 1024]⟩
abbrev S512x1024 : Shape := ⟨2, ![512, 1024]⟩
abbrev S1x16x1024 : Shape := ⟨3, ![1, 16, 1024]⟩
abbrev S16x1024 : Shape := ⟨2, ![16, 1024]⟩
abbrev S1024x1024 : Shape := ⟨2, ![1024, 1024]⟩
abbrev S1x1024 : Shape := ⟨2, ![1, 1024]⟩
abbrev S4x512x1024 : Shape := ⟨3, ![4, 512, 1024]⟩
abbrev S256x1024 : Shape := ⟨2, ![256, 1024]⟩
abbrev S512x256 : Shape := ⟨2, ![512, 256]⟩
abbrev S16x256 : Shape := ⟨2, ![16, 256]⟩
abbrev S8x256 : Shape := ⟨2, ![8, 256]⟩
abbrev S1x512x256 : Shape := ⟨3, ![1, 512, 256]⟩
abbrev S1x256 : Shape := ⟨2, ![1, 256]⟩
abbrev S1x16x256 : Shape := ⟨3, ![1, 16, 256]⟩
abbrev S504x256 : Shape := ⟨2, ![504, 256]⟩
abbrev S256 : Shape := ⟨1, ![256]⟩

abbrev nBuf : Space → Nat
  | .hbm => 18
  | .vmem => 41
  | .smem => 0
  | _ => 0

abbrev bufTy : (tb : Table) → Fin (tcTables nBuf tb) → BufTy
  | .hbm, ⟨0, _⟩ => ⟨S4x8192x2048, .f32⟩
  | .hbm, ⟨1, _⟩ => ⟨S3x2048, .f32⟩
  | .hbm, ⟨2, _⟩ => ⟨S2048, .f32⟩
  | .hbm, ⟨3, _⟩ => ⟨S2048x1024, .f32⟩
  | .hbm, ⟨4, _⟩ => ⟨S8192x1024, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x1024, .bf16⟩
  | .hbm, ⟨9, _⟩ => ⟨S2048x1024, .bf16⟩
  | .hbm, ⟨10, _⟩ => ⟨S1x2048, .f32⟩
  | .hbm, ⟨11, _⟩ => ⟨S_, .f32⟩
  | .hbm, ⟨12, _⟩ => ⟨S8x128, .f32⟩
  | .hbm, ⟨13, _⟩ => ⟨S4x8192x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1x16x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x16x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x16x1024, .f32⟩
  | .local _ .vmem, ⟨18, _⟩ => ⟨S16x1024, .bf16⟩
  | .local _ .vmem, ⟨19, _⟩ => ⟨S16x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S8x128, .f32⟩
  | .local _ .vmem, ⟨31, _⟩ => ⟨S4x512x1024, .bf16⟩
  | .local _ .vmem, ⟨32, _⟩ => ⟨S4x512x1024, .bf16⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![c3_i32.toNat, v2.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S4x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== ReferenceIdeal.lean ====
abbrev S4x8192x2048 : Shape := ⟨3, ![4, 8192, 2048]⟩
abbrev S3x2048 : Shape := ⟨2, ![3, 2048]⟩
abbrev S2048 : Shape := ⟨1, ![2048]⟩
abbrev S2048x1024 : Shape := ⟨2, ![2048, 1024]⟩
abbrev S8192x1024 : Shape := ⟨2, ![8192, 1024]⟩
abbrev S1x8192x2048 : Shape := ⟨3, ![1, 8192, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩

abbrev nBuf : Space → Nat
  | .hbm => 126
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S3x2048, .f32⟩
  | .hbm, ⟨2, _⟩ => ⟨S2048, .f32⟩
  | .hbm, ⟨3, _⟩ => ⟨S2048x1024, .f32⟩
  | .hbm, ⟨4, _⟩ => ⟨S8192x1024, .f32⟩
  | .hbm, ⟨5, _⟩ => ⟨S1x8192x2048, .f32⟩
  | .hbm, ⟨6, _⟩ => ⟨S8192x2048, .f32⟩
  | .hbm, ⟨7, _⟩ => ⟨S1x8192x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S1x8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S2x2048, .f32⟩
  | .hbm, ⟨16, _⟩ => ⟨S8194x2048, .f32⟩
  | .hbm, ⟨17, _⟩ => ⟨S_, .f32⟩
  | .hbm, ⟨18, _⟩ => ⟨S2x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x1024, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S2048, .f32⟩
  | .hbm, ⟨74, _⟩ => ⟨S_, .f32⟩
  | .hbm, ⟨75, _⟩ => ⟨S8194x2048, .f32⟩
  | .hbm, ⟨76, _⟩ => ⟨S1x2048, .f32⟩
  | .hbm, ⟨77, _⟩ => ⟨S_, .f32⟩
  | .hbm, ⟨78, _⟩ => ⟨S3x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S2048, .f32⟩
  | .hbm, ⟨87, _⟩ => ⟨S_, .f32⟩
  | .hbm, ⟨88, _⟩ => ⟨S8194x2048, .f32⟩
  | .hbm, ⟨89, _⟩ => ⟨S8194x2048, .f32⟩
  | .hbm, ⟨90, _⟩ => ⟨S1x2048, .f32⟩
  | .hbm, ⟨91, _⟩ => ⟨S_, .f32⟩
  | .hbm, ⟨92, _⟩ => ⟨S3x2048, .f32⟩
  | .hbm, ⟨93, _⟩ => ⟨S3x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S_, .f32⟩
  | .hbm, ⟨98, _⟩ => ⟨S2048, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S_, .f32⟩
  | .hbm, ⟨103, _⟩ => ⟨S2048, .f32⟩
  | .hbm, ⟨104, _⟩ => ⟨S1x2048, .f32⟩
  | .hbm, ⟨105, _⟩ => ⟨S_, .f32⟩
  | .hbm, ⟨106, _⟩ => ⟨S2048, .f32⟩
  | .hbm, ⟨107, _⟩ => ⟨S1x2048, .f32⟩
  | .hbm, ⟨108, _⟩ => ⟨S_, .f32⟩
  | .hbm, ⟨109, _⟩ => ⟨S3x2048, .f32⟩
  | .hbm, ⟨110, _⟩ => ⟨S3x2048, .f32⟩
  | .hbm, ⟨111, _⟩ => ⟨S2x2048, .f32⟩
  | .hbm, ⟨112, _⟩ => ⟨S8192x2048, .f32⟩
  | .hbm, ⟨113, _⟩ => ⟨S8192x2048, .f32⟩
  | .hbm, ⟨114, _⟩ => ⟨S8192x2048, .f32⟩
  | .hbm, ⟨115, _⟩ => ⟨S8192x2048, .f32⟩
  | .hbm, ⟨116, _⟩ => ⟨S1x8192x2048, .f32⟩
  | .hbm, ⟨117, _⟩ => ⟨S1x8192x2048, .f32⟩
  | .hbm, ⟨118, _⟩ => ⟨S1x8192x2048, .f32⟩
  | .hbm, ⟨119, _⟩ => ⟨S1x8192x2048, .f32⟩
  | .hbm, ⟨120, _⟩ => ⟨S4x8192x2048, .f32⟩
  | .hbm, ⟨121, _⟩ => ⟨S4x8192x2048, .bf16⟩
  | .hbm, ⟨122, _⟩ => ⟨S1x2048, .f32⟩
  | .hbm, ⟨123, _⟩ => ⟨S1x2048, .f32⟩
  | .hbm, ⟨124, _⟩ => ⟨S1x2048, .f32⟩
  | .hbm, ⟨125, _⟩ => ⟨S1x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_1 : Ref sig .tc := ⟨.hbm, 69, rfl⟩
abbrev main_v47 : Ref sig .tc := ⟨.hbm, 70, rfl⟩
abbrev main_v48 : Ref sig .tc := ⟨.hbm, 71, rfl⟩
abbrev main_cst_2 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_8 : Ref sig .tc := ⟨.hbm, 91, rfl⟩
abbrev main_v62 : Ref sig .tc := ⟨.hbm, 92, rfl⟩
abbrev main_v63 : Ref sig .tc := ⟨.hbm, 93, rfl⟩
abbrev main_cst_9 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]
-- ==== Kernel2.lean ====
abbrev S8192x1024 : Shape := ⟨2, ![8192, 1024]⟩
abbrev S4x8192x2048 : Shape := ⟨3, ![4, 8192, 2048]⟩
abbrev S1024x8192 : Shape := ⟨2, ![1024, 8192]⟩
abbrev S2048x1024 : Shape := ⟨2, ![2048, 1024]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x8192x2048, .f32⟩
  | .hbm, ⟨2, _⟩ => ⟨S8192x1024, .bf16⟩
  | .hbm, ⟨3, _⟩ => ⟨S4x8192x2048, .bf16⟩
  | .hbm, ⟨4, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S4x8192x2048 : Shape := ⟨3, ![4, 8192, 2048]⟩
abbrev S_ : Shape := ⟨0, ![]⟩
abbrev S1024x8192 : Shape := ⟨2, ![1024, 8192]⟩
abbrev S8192x8192 : Shape := ⟨2, ![8192, 8192]⟩
abbrev S8192x2048 : Shape := ⟨2, ![8192, 2048]⟩
abbrev S1x8192x2048 : Shape := ⟨3, ![1, 8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x2048, .f32⟩
  | .hbm, ⟨2, _⟩ => ⟨S_, .f32⟩
  | .hbm, ⟨3, _⟩ => ⟨S1024x8192, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S1x8192x2048, .f32⟩
  | .hbm, ⟨12, _⟩ => ⟨S8192x2048, .f32⟩
  | .hbm, ⟨13, _⟩ => ⟨S1x8192x2048, .f32⟩
  | .hbm, ⟨14, _⟩ => ⟨S8192x2048, .f32⟩
  | .hbm, ⟨15, _⟩ => ⟨S1x8192x2048, .f32⟩
  | .hbm, ⟨16, _⟩ => ⟨S8192x2048, .f32⟩
  | .hbm, ⟨17, _⟩ => ⟨S8192x8192, .f32⟩
  | .hbm, ⟨18, _⟩ => ⟨S8192x1024, .f32⟩
  | .hbm, ⟨19, _⟩ => ⟨S1024x8192, .f32⟩
  | .hbm, ⟨20, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel3.lean ====
abbrev S8192x1024 : Shape := ⟨2, ![8192, 1024]⟩
abbrev S3x8192x2048 : Shape := ⟨3, ![3, 8192, 2048]⟩
abbrev S1024x6144 : Shape := ⟨2, ![1024, 6144]⟩
abbrev S2048x1024 : Shape := ⟨2, ![2048, 1024]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S3x8192x2048, .f32⟩
  | .hbm, ⟨2, _⟩ => ⟨S8192x1024, .bf16⟩
  | .hbm, ⟨3, _⟩ => ⟨S3x8192x2048, .bf16⟩
  | .hbm, ⟨4, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S3x8192x2048 : Shape := ⟨3, ![3, 8192, 2048]⟩
abbrev S_ : Shape := ⟨0, ![]⟩
abbrev S1024x6144 : Shape := ⟨2, ![1024, 6144]⟩
abbrev S8192x6144 : Shape := ⟨2, ![8192, 6144]⟩
abbrev S8192x4096 : Shape := ⟨2, ![8192, 4096]⟩
abbrev S8192x2048 : Shape := ⟨2, ![8192, 2048]⟩
abbrev S1x8192x2048 : Shape := ⟨3, ![1, 8192, 2048]⟩
abbrev S6144x1024 : Shape := ⟨2, ![6144, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x8192x2048, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S1x8192x2048, .f32⟩
  | .hbm, ⟨12, _⟩ => ⟨S8192x2048, .f32⟩
  | .hbm, ⟨13, _⟩ => ⟨S1x8192x2048, .f32⟩
  | .hbm, ⟨14, _⟩ => ⟨S8192x2048, .f32⟩
  | .hbm, ⟨15, _⟩ => ⟨S8192x4096, .f32⟩
  | .hbm, ⟨16, _⟩ => ⟨S_, .f32⟩
  | .hbm, ⟨17, _⟩ => ⟨S8192x6144, .f32⟩
  | .hbm, ⟨18, _⟩ => ⟨S_, .f32⟩
  | .hbm, ⟨19, _⟩ => ⟨S8192x6144, .f32⟩
  | .hbm, ⟨20, _⟩ => ⟨S8192x6144, .f32⟩
  | .hbm, ⟨21, _⟩ => ⟨S6144x1024, .f32⟩
  | .hbm, ⟨22, _⟩ => ⟨S1024x6144, .f32⟩
  | .hbm, ⟨23, _⟩ => ⟨S1024x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x8192 : Shape := ⟨2, ![1024, 8192]⟩
abbrev S4x8192x2048 : Shape := ⟨3, ![4, 8192, 2048]⟩
abbrev S1x1024 : Shape := ⟨2, ![1, 1024]⟩
abbrev S_ : Shape := ⟨0, ![]⟩
abbrev S8x128 : Shape := ⟨2, ![8, 128]⟩
abbrev S1x1024x2048 : Shape := ⟨3, ![1, 1024, 2048]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S8192x1024, .f32⟩
  | .hbm, ⟨6, _⟩ => ⟨S4x8192x2048, .f32⟩
  | .hbm, ⟨7, _⟩ => ⟨S4x8192x2048, .bf16⟩
  | .hbm, ⟨8, _⟩ => ⟨S1024x8192, .bf16⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8x128, .f32⟩
  | .hbm, ⟨13, _⟩ => ⟨S8192x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference5Ideal.lean ====
abbrev S8192x1024 : Shape := ⟨2, ![8192, 1024]⟩
abbrev S1024 : Shape := ⟨1, ![1024]⟩
abbrev S1024x8192 : Shape := ⟨2, ![1024, 8192]⟩
abbrev S4x8192x2048 : Shape := ⟨3, ![4, 8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x8192 : Shape := ⟨2, ![8192, 8192]⟩
abbrev S8192x2048 : Shape := ⟨2, ![8192, 2048]⟩
abbrev S1x8192x2048 : Shape := ⟨3, ![1, 8192, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S8192x1024, .f32⟩
  | .hbm, ⟨6, _⟩ => ⟨S4x8192x2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x8192, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S1x8192x2048, .f32⟩
  | .hbm, ⟨42, _⟩ => ⟨S8192x2048, .f32⟩
  | .hbm, ⟨43, _⟩ => ⟨S1x8192x2048, .f32⟩
  | .hbm, ⟨44, _⟩ => ⟨S8192x2048, .f32⟩
  | .hbm, ⟨45, _⟩ => ⟨S1x8192x2048, .f32⟩
  | .hbm, ⟨46, _⟩ => ⟨S8192x2048, .f32⟩
  | .hbm, ⟨47, _⟩ => ⟨S1x8192x2048, .f32⟩
  | .hbm, ⟨48, _⟩ => ⟨S8192x2048, .f32⟩
  | .hbm, ⟨49, _⟩ => ⟨S8192x8192, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S1x1024, .f32⟩
  | .hbm, ⟨92, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x6144 : Shape := ⟨2, ![1024, 6144]⟩
abbrev S3x8192x2048 : Shape := ⟨3, ![3, 8192, 2048]⟩
abbrev S1x1024 : Shape := ⟨2, ![1, 1024]⟩
abbrev S_ : Shape := ⟨0, ![]⟩
abbrev S8x128 : Shape := ⟨2, ![8, 128]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 26
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x6144, .f32⟩
  | .hbm, ⟨7, _⟩ => ⟨S8192x1024, .f32⟩
  | .hbm, ⟨8, _⟩ => ⟨S3x8192x2048, .f32⟩
  | .hbm, ⟨9, _⟩ => ⟨S3x8192x2048, .bf16⟩
  | .hbm, ⟨10, _⟩ => ⟨S1024x6144, .bf16⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S8x128, .f32⟩
  | .hbm, ⟨19, _⟩ => ⟨S1x1024, .f32⟩
  | .hbm, ⟨20, _⟩ => ⟨S8192x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8192x1024, .bf16⟩
  | .hbm, ⟨25, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨2, ![8, 6], ![false, false]⟩

def k0_cond4 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference6Ideal.lean ====
abbrev S8192x1024 : Shape := ⟨2, ![8192, 1024]⟩
abbrev S1024 : Shape := ⟨1, ![1024]⟩
abbrev S1024x6144 : Shape := ⟨2, ![1024, 6144]⟩
abbrev S3x8192x2048 : Shape := ⟨3, ![3, 8192, 2048]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x4096 : Shape := ⟨2, ![8192, 4096]⟩
abbrev S8192x2048 : Shape := ⟨2, ![8192, 2048]⟩
abbrev S1x8192x2048 : Shape := ⟨3, ![1, 8192, 2048]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x6144, .f32⟩
  | .hbm, ⟨7, _⟩ => ⟨S8192x1024, .f32⟩
  | .hbm, ⟨8, _⟩ => ⟨S3x8192x2048, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x6144, .f32⟩
  | .hbm, ⟨43, _⟩ => ⟨S8192x4096, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x8192x2048, .f32⟩
  | .hbm, ⟨48, _⟩ => ⟨S8192x2048, .f32⟩
  | .hbm, ⟨49, _⟩ => ⟨S1x8192x2048, .f32⟩
  | .hbm, ⟨50, _⟩ => ⟨S8192x2048, .f32⟩
  | .hbm, ⟨51, _⟩ => ⟨S1x8192x2048, .f32⟩
  | .hbm, ⟨52, _⟩ => ⟨S8192x2048, .f32⟩
  | .hbm, ⟨53, _⟩ => ⟨S8192x4096, .f32⟩
  | .hbm, ⟨54, _⟩ => ⟨S_, .f32⟩
  | .hbm, ⟨55, _⟩ => ⟨S8192x6144, .f32⟩
  | .hbm, ⟨56, _⟩ => ⟨S_, .f32⟩
  | .hbm, ⟨57, _⟩ => ⟨S8192x6144, .f32⟩
  | .hbm, ⟨58, _⟩ => ⟨S8192x6144, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S8192x1024, .bf16⟩
  | .hbm, ⟨112, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel7.lean ====
abbrev S3x8192x2048 : Shape := ⟨3, ![3, 8192, 2048]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S1x2048 : Shape := ⟨2, ![1, 2048]⟩
abbrev S128x8 : Shape := ⟨2, ![128, 8]⟩
abbrev S1x256x2048 : Shape := ⟨3, ![1, 256, 2048]⟩
abbrev S256x1024 : Shape := ⟨2, ![256, 1024]⟩
abbrev S3x256x2048 : Shape := ⟨3, ![3, 256, 2048]⟩
abbrev S256x2048 : Shape := ⟨2, ![256, 2048]⟩
abbrev S128x2048 : Shape := ⟨2, ![128, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩
abbrev S128 : Shape := ⟨1, ![128]⟩

abbrev nBuf : Space → Nat
  | .hbm => 18
  | .vmem => 25
  | .smem => 0
  | _ => 0

abbrev bufTy : (tb : Table) → Fin (tcTables nBuf tb) → BufTy
  | .hbm, ⟨0, _⟩ => ⟨S3x8192x2048, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S8192x1024, .f32⟩
  | .hbm, ⟨7, _⟩ => ⟨S8192x1024, .bf16⟩
  | .hbm, ⟨8, _⟩ => ⟨S2048x1024, .bf16⟩
  | .hbm, ⟨9, _⟩ => ⟨S1x2048, .f32⟩
  | .hbm, ⟨10, _⟩ => ⟨S1x2048, .f32⟩
  | .hbm, ⟨11, _⟩ => ⟨S8x128x128, .f32⟩
  | .hbm, ⟨12, _⟩ => ⟨S128x8, .f32⟩
  | .hbm, ⟨13, _⟩ => ⟨S3x8192x2048, .bf16⟩
  | .hbm, ⟨14, _⟩ => ⟨S8x128x128, .f32⟩
  | .hbm, ⟨15, _⟩ => ⟨S128x8, .f32⟩
  | .hbm, ⟨16, _⟩ => ⟨S1x2048, .f32⟩
  | .hbm, ⟨17, _⟩ => ⟨S1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S1x2048, .f32⟩
  | .local _ .vmem, ⟨10, _⟩ => ⟨S1x2048, .f32⟩
  | .local _ .vmem, ⟨11, _⟩ => ⟨S8x128x128, .f32⟩
  | .local _ .vmem, ⟨12, _⟩ => ⟨S8x128x128, .f32⟩
  | .local _ .vmem, ⟨13, _⟩ => ⟨S128x8, .f32⟩
  | .local _ .vmem, ⟨14, _⟩ => ⟨S3x256x2048, .bf16⟩
  | .local _ .vmem, ⟨15, _⟩ => ⟨S3x256x2048, .bf16⟩
  | .local _ .vmem, ⟨16, _⟩ => ⟨S8x128x128, .f32⟩
  | .local _ .vmem, ⟨17, _⟩ => ⟨S128x8, .f32⟩
  | .local _ .vmem, ⟨18, _⟩ => ⟨S1x2048, .f32⟩
  | .local _ .vmem, ⟨19, _⟩ => ⟨S1x2048, .f32⟩
  | .local _ .vmem, ⟨20, _⟩ => ⟨S256x2048, .bf16⟩
  | .local _ .vmem, ⟨21, _⟩ => ⟨S256x2048, .f32⟩
  | .local _ .vmem, ⟨22, _⟩ => ⟨S256x2048, .bf16⟩
  | .local _ .vmem, ⟨23, _⟩ => ⟨S256x2048, .f32⟩
  | .local _ .vmem, ⟨24, _⟩ => ⟨S128x2048, .f32⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v653 : BitVec 1 := Scalar.cmpi .eq arg0 c31_i32
  let v654 : BitVec 32 := Scalar.extui v653
  let c0_i32_493 : BitVec 32 := 0#32
  let v655 : BitVec 1 := Scalar.cmpi .ne v654 c0_i32_493
  v655

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Kernel7Ideal.lean ====
variable {F : FTy → Type} [FloatOps F] [Named F]
def κ : String → Option EReal := fun
  | "a" => some (((Real.sqrt 2)⁻¹ : ℝ) : EReal)
  | "b" => some (((Real.sqrt (2 * Real.pi))⁻¹ : ℝ) : EReal)
  | _ => none
-- ==== Reference7Ideal.lean ====
abbrev S3x8192x2048 : Shape := ⟨3, ![3, 8192, 2048]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S1x8192x2048 : Shape := ⟨3, ![1, 8192, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 237
  | .vmem => 0
  | .smem => 0
  | _ => 0

abbrev hbmTy0_0 (i : Nat) : BufTy := match i % 128 with
  | 0 => ⟨S3x8192x2048, .f32⟩
  | 1 => ⟨S2048, .f32⟩
  | 2 => ⟨S2048, .f32⟩
  | 3 => ⟨S8x128x128, .f32⟩
  | 4 => ⟨S8x128, .f32⟩
  | 5 => ⟨S2048x1024, .f32⟩
  | 6 => ⟨S8192x1024, .f32⟩
  | 7 => ⟨S1x8192x2048, .f32⟩
  | 8 => ⟨S8192x2048, .f32⟩
  | 9 => ⟨S1x8192x2048, .f32⟩
  | 10 => ⟨S8192x2048, .f32⟩
  | 11 => ⟨S1x8192x2048, .f32⟩
  | 12 => ⟨S8192x2048, .f32⟩
  | 13 => ⟨S_, .f32⟩
  | 14 => ⟨S8192x2048, .f32⟩
  | 15 => ⟨S8192x2048, .f32⟩
  | 16 => ⟨S8192x2048, .f32⟩
  | 17 => ⟨S_, .f32⟩
  | 18 => ⟨S_, .f32⟩
  | 19 => ⟨S_, .f32⟩
  | 20 => ⟨S_, .f32⟩
  | 21 => ⟨S8192x2048, .f32⟩
  | 22 => ⟨S8192x2048, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S8192x2048, .f32⟩
  | 32 => ⟨S8192x2048, .f32⟩
  | 33 => ⟨S8192x2048, .f32⟩
  | 34 => ⟨S8192x2048, .f32⟩
  | 35 => ⟨S8192x2048, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S8192x2048, .f32⟩
  | 42 => ⟨S_, .f32⟩
  | 43 => ⟨S_, .f32⟩
  | 44 => ⟨S_, .f32⟩
  | 45 => ⟨S_, .f32⟩
  | 46 => ⟨S8192x2048, .f32⟩
  | 47 => ⟨S8192x2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S8192x2048, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x2048, .f32⟩
  | 70 => ⟨S8192x2048, .f32⟩
  | 71 => ⟨S8192x2048, .f32⟩
  | 72 => ⟨S_, .f32⟩
  | 73 => ⟨S8192x2048, .f32⟩
  | 74 => ⟨S8192x2048, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S8192x2048, .f32⟩
  | 82 => ⟨S8192x2048, .f32⟩
  | 83 => ⟨S_, .f32⟩
  | 84 => ⟨S8192x1, .f32⟩
  | 85 => ⟨S8192x1, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x2048, .f32⟩
  | 92 => ⟨S8192x2048, .f32⟩
  | 93 => ⟨S1x2048, .f32⟩
  | 94 => ⟨S8192x2048, .f32⟩
  | 95 => ⟨S8192x2048, .f32⟩
  | 96 => ⟨S1x2048, .f32⟩
  | 97 => ⟨S8192x2048, .f32⟩
  | 98 => ⟨S8192x2048, .f32⟩
  | 99 => ⟨S64x128x8x256, .f32⟩
  | 100 => ⟨S_, .i1⟩
  | 101 => ⟨S128x128, .i1⟩
  | 102 => ⟨S128x128, .i32⟩
  | 103 => ⟨S_, .i32⟩
  | 104 => ⟨S128x128, .i32⟩
  | 105 => ⟨S128x128, .i32⟩
  | 106 => ⟨S128x128, .i32⟩
  | 107 => ⟨S128x128, .i1⟩
  | 108 => ⟨S_, .i1⟩
  | 109 => ⟨S128x128, .i1⟩
  | 110 => ⟨S128x128, .i1⟩
  | 111 => ⟨S1x128x128, .i1⟩
  | 112 => ⟨S_, .f32⟩
  | 113 => ⟨S8x128x128, .f32⟩
  | 114 => ⟨S8x128x128, .i1⟩
  | 115 => ⟨S8x128x128, .f32⟩
  | 116 => ⟨S_, .f32⟩
  | 117 => ⟨S8x128x128, .f32⟩
  | 118 => ⟨S8x64x256x128, .f32⟩
  | 119 => ⟨S64x128x8x256, .f32⟩
  | 120 => ⟨S128x8, .f32⟩
  | 121 => ⟨S1x128x8x1, .f32⟩
  | 122 => ⟨S64x128x8x256, .f32⟩
  | 123 => ⟨S64x128x8x256, .f32⟩
  | 124 => ⟨S8192x2048, .f32⟩
  | 125 => ⟨S8192x2048, .f32⟩
  | 126 => ⟨S8192x2048, .f32⟩
  | 127 => ⟨S8192x2048, .f32⟩
  | _ => ⟨S3x8192x2048, .f32⟩

abbrev hbmTy0_1 (i : Nat) : BufTy := match i % 128 with
  | 0 => ⟨S_, .f32⟩
  | 1 => ⟨S8192x2048, .f32⟩
  | 2 => ⟨S8192x2048, .f32⟩
  | 3 => ⟨S_, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S8192x2048, .f32⟩
  | 10 => ⟨S8192x2048, .f32⟩
  | 11 => ⟨S8192x2048, .f32⟩
  | 12 => ⟨S8192x1024, .f32⟩
  | 13 => ⟨S8192x2048, .f32⟩
  | 14 => ⟨S8192x2048, .f32⟩
  | 15 => ⟨S8192x2048, .f32⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S64x128x8x256, .f32⟩
  | 23 => ⟨S_, .f32⟩
  | 24 => ⟨S128x8, .f32⟩
  | 25 => ⟨S1x128x8x1, .f32⟩
  | 26 => ⟨S_, .f32⟩
  | 27 => ⟨S128x8, .f32⟩
  | 28 => ⟨S8x128, .f32⟩
  | 29 => ⟨S8x64x256x128, .f32⟩
  | 30 => ⟨S8x128x128, .f32⟩
  | 31 => ⟨S8x64x256x128, .f32⟩
  | 32 => ⟨S64x128x8x256, .f32⟩
  | 33 => ⟨S_, .f32⟩
  | 34 => ⟨S8x128x128, .f32⟩
  | 35 => ⟨S8x128x128, .f32⟩
  | 36 => ⟨S8192x2048, .f32⟩
  | 37 => ⟨S_, .f32⟩
  | 38 => ⟨S2048, .f32⟩
  | 39 => ⟨S1x2048, .f32⟩
  | 40 => ⟨S_, .f32⟩
  | 41 => ⟨S2048, .f32⟩
  | 42 => ⟨S8192x2048, .f32⟩
  | 43 => ⟨S_, .f32⟩
  | 44 => ⟨S2048, .f32⟩
  | 45 => ⟨S1x2048, .f32⟩
  | 46 => ⟨S8192x2048, .f32⟩
  | 47 => ⟨S8192x2048, .f32⟩
  | 48 => ⟨S_, .f32⟩
  | 49 => ⟨S2048, .f32⟩
  | 50 => ⟨S8192x2048, .f32⟩
  | 51 => ⟨S_, .f32⟩
  | 52 => ⟨S8192, .f32⟩
  | 53 => ⟨S8192x1, .f32⟩
  | 54 => ⟨S8192x2048, .f32⟩
  | 55 => ⟨S8192x2048, .f32⟩
  | 56 => ⟨S8192x1, .f32⟩
  | 57 => ⟨S8192x2048, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192, .f32⟩
  | 66 => ⟨S8192x2048, .f32⟩
  | 67 => ⟨S8192x2048, .f32⟩
  | 68 => ⟨S8192x2048, .f32⟩
  | 69 => ⟨S_, .f32⟩
  | 70 => ⟨S8192, .f32⟩
  | 71 => ⟨S8192x1, .f32⟩
  | 72 => ⟨S8192x2048, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S8192x2048, .f32⟩
  | 87 => ⟨S_, .f32⟩
  | 88 => ⟨S8192x2048, .f32⟩
  | 89 => ⟨S8192x2048, .f32⟩
  | 90 => ⟨S8192x2048, .f32⟩
  | 91 => ⟨S8192x2048, .f32⟩
  | 92 => ⟨S8192x2048, .f32⟩
  | 93 => ⟨S8192x2048, .f32⟩
  | 94 => ⟨S8192x2048, .f32⟩
  | 95 => ⟨S8192x2048, .f32⟩
  | 96 => ⟨S8192x2048, .f32⟩
  | 97 => ⟨S_, .f32⟩
  | 98 => ⟨S8192x2048, .f32⟩
  | 99 => ⟨S8192x2048, .f32⟩
  | 100 => ⟨S8192x2048, .f32⟩
  | 101 => ⟨S1x8192x2048, .f32⟩
  | 102 => ⟨S1x8192x2048, .f32⟩
  | 103 => ⟨S1x8192x2048, .f32⟩
  | 104 => ⟨S3x8192x2048, .f32⟩
  | 105 => ⟨S3x8192x2048, .bf16⟩
  | 106 => ⟨S128x8, .f32⟩
  | 107 => ⟨S1x2048, .f32⟩
  | 108 => ⟨S1x2048, .f32⟩
  | _ => ⟨S3x8192x2048, .f32⟩

abbrev hbmTy (i : Nat) : BufTy := match i / 128 with
  | 0 => hbmTy0_0 i
  | 1 => hbmTy0_1 i
  | _ => ⟨S3x8192x2048, .f32⟩

abbrev bufTy : (tb : Table) → Fin (tcTables nBuf tb) → BufTy
  | .hbm, ⟨i, _⟩ => hbmTy i
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_cst_10 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_cst_12 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_19 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_v72 : Ref sig .tc := ⟨.hbm, 101, rfl⟩
abbrev main_call0_v0 : Ref sig .tc := ⟨.hbm, 102, rfl⟩
abbrev main_call0_c : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_c_0 : Ref sig .tc := ⟨.hbm, 108, rfl⟩
abbrev main_call0_v5 : Ref sig .tc := ⟨.hbm, 109, rfl⟩
abbrev main_v73 : Ref sig .tc := ⟨.hbm, 110, rfl⟩
abbrev main_v74 : Ref sig .tc := ⟨.hbm, 111, rfl⟩
abbrev main_cst_20 : Ref sig .tc := ⟨.hbm, 112, rfl⟩
abbrev main_v75 : Ref sig .tc := ⟨.hbm, 113, rfl⟩
abbrev main_v76_1 : Ref sig .tc := ⟨.hbm, 114, rfl⟩
abbrev main_v76_0 : Ref sig .tc := ⟨.hbm, 115, rfl⟩
abbrev main_call1_cst : Ref sig .tc := ⟨.hbm, 116, rfl⟩
abbrev main_v76_2 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call2_v0 : Ref sig .tc := ⟨.hbm, 126, rfl⟩
abbrev main_call2_v1 : Ref sig .tc := ⟨.hbm, 127, rfl⟩
abbrev main_call2_cst : Ref sig .tc := ⟨.hbm, 128, rfl⟩
abbrev main_call2_v2 : Ref sig .tc := ⟨.hbm, 129, rfl⟩
abbrev main_call2_v3 : Ref sig .tc := ⟨.hbm, 130, rfl⟩
abbrev main_call2_cst_0 : Ref sig .tc := ⟨.hbm, 131, rfl⟩
abbrev main_call2_v4 : Ref sig .tc := ⟨.hbm, 132, rfl⟩
abbrev main_v85_2 : Ref sig .tc := ⟨.hbm, 133, rfl⟩
abbrev main_call2_cst_1 : Ref sig .tc := ⟨.hbm, 134, rfl⟩
abbrev main_call2_v6 : Ref sig .tc := ⟨.hbm, 135, rfl⟩
abbrev main_call2_v7 : Ref sig .tc := ⟨.hbm, 136, rfl⟩
abbrev main_v85_1 : Ref sig .tc := ⟨.hbm, 137, rfl⟩
abbrev main_v85_0 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_21 : Ref sig .tc := ⟨.hbm, 151, rfl⟩
abbrev main_v95 : Ref sig .tc := ⟨.hbm, 152, rfl⟩
abbrev main_v96 : Ref sig .tc := ⟨.hbm, 153, rfl⟩
abbrev main_cst_22 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_call4_cst : Ref sig .tc := ⟨.hbm, 161, rfl⟩
abbrev main_call4_v0 : Ref sig .tc := ⟨.hbm, 162, rfl⟩
abbrev main_v103 : Ref sig .tc := ⟨.hbm, 163, rfl⟩
abbrev main_v104 : Ref sig .tc := ⟨.hbm, 164, rfl⟩
abbrev main_cst_23 : Ref sig .tc := ⟨.hbm, 165, rfl⟩
abbrev main_v105 : Ref sig .tc := ⟨.hbm, 166, rfl⟩
abbrev main_v106 : Ref sig .tc := ⟨.hbm, 167, rfl⟩
abbrev main_cst_24 : Ref sig .tc := ⟨.hbm, 168, rfl⟩
abbrev main_v107 : Ref sig .tc := ⟨.hbm, 169, rfl⟩
abbrev main_v108 : Ref sig .tc := ⟨.hbm, 170, rfl⟩
abbrev main_cst_25 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_26 : Ref sig .tc := ⟨.hbm, 176, rfl⟩
abbrev main_v113 : Ref sig .tc := ⟨.hbm, 177, rfl⟩
abbrev main_v114 : Ref sig .tc := ⟨.hbm, 178, rfl⟩
abbrev main_cst_27 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_28 : Ref sig .tc := ⟨.hbm, 186, rfl⟩
abbrev main_v121 : Ref sig .tc := ⟨.hbm, 187, rfl⟩
abbrev main_v122 : Ref sig .tc := ⟨.hbm, 188, rfl⟩
abbrev main_cst_29 : Ref sig .tc := ⟨.hbm, 189, rfl⟩
abbrev main_v123 : Ref sig .tc := ⟨.hbm, 190, rfl⟩
abbrev main_v124 : Ref sig .tc := ⟨.hbm, 191, rfl⟩
abbrev main_cst_30 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_31 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_32 : Ref sig .tc := ⟨.hbm, 202, rfl⟩
abbrev main_v133 : Ref sig .tc := ⟨.hbm, 203, rfl⟩
abbrev main_v134 : Ref sig .tc := ⟨.hbm, 204, rfl⟩
abbrev main_cst_33 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_34 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_35 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩

abbrev nD : Nat := 1
abbrev τ : Topo := Topo.v7x

variable {F : FTy → Type} [FloatOps F]
-- ==== Kernel8.lean ====
abbrev S8192x1024 : Shape := ⟨2, ![8192, 1024]⟩
abbrev S1024x6144 : Shape := ⟨2, ![1024, 6144]⟩
abbrev S_ : Shape := ⟨0, ![]⟩
abbrev S8x128 : Shape := ⟨2, ![8, 128]⟩
abbrev S3x8192x2048 : Shape := ⟨3, ![3, 8192, 2048]⟩
abbrev S2048x1024 : Shape := ⟨2, ![2048, 1024]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x1024, .bf16⟩
  | .hbm, ⟨3, _⟩ => ⟨S1024x6144, .bf16⟩
  | .hbm, ⟨4, _⟩ => ⟨S_, .f32⟩
  | .hbm, ⟨5, _⟩ => ⟨S8x128, .f32⟩
  | .hbm, ⟨6, _⟩ => ⟨S3x8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1x2048x2048, .f32⟩
  | .local _ .vmem, ⟨6, _⟩ => ⟨S1x2048x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S1024x6144 : Shape := ⟨2, ![1024, 6144]⟩
abbrev S8192x6144 : Shape := ⟨2, ![8192, 6144]⟩
abbrev S8192x4096 : Shape := ⟨2, ![8192, 4096]⟩
abbrev S8192x2048 : Shape := ⟨2, ![8192, 2048]⟩
abbrev S1x8192x2048 : Shape := ⟨3, ![1, 8192, 2048]⟩
abbrev S3x8192x2048 : Shape := ⟨3, ![3, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S3x8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel9.lean ====
abbrev S1 : Shape := ⟨1, ![1]⟩
abbrev S8192x1024 : Shape := ⟨2, ![8192, 1024]⟩
abbrev S1024x8192 : Shape := ⟨2, ![1024, 8192]⟩
abbrev S4x8192x2048 : Shape := ⟨3, ![4, 8192, 2048]⟩
abbrev S_ : Shape := ⟨0, ![]⟩
abbrev S8x128 : Shape := ⟨2, ![8, 128]⟩
abbrev S1024x1024 : Shape := ⟨2, ![1024, 1024]⟩
abbrev S1024x2048 : Shape := ⟨2, ![1024, 2048]⟩
abbrev S1x1024x2048 : Shape := ⟨3, ![1, 1024, 2048]⟩

abbrev nBuf : Space → Nat
  | .hbm => 8
  | .vmem => 6
  | .smem => 1
  | _ => 0

abbrev bufTy : (tb : Table) → Fin (tcTables nBuf tb) → BufTy
  | .hbm, ⟨0, _⟩ => ⟨S8192x1024, .f32⟩
  | .hbm, ⟨1, _⟩ => ⟨S1024x8192, .f32⟩
  | .hbm, ⟨2, _⟩ => ⟨S4x8192x2048, .f32⟩
  | .hbm, ⟨3, _⟩ => ⟨S8192x1024, .bf16⟩
  | .hbm, ⟨4, _⟩ => ⟨S1024x8192, .bf16⟩
  | .hbm, ⟨5, _⟩ => ⟨S_, .f32⟩
  | .hbm, ⟨6, _⟩ => ⟨S8x128, .f32⟩
  | .hbm, ⟨7, _⟩ => ⟨S4x8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S8x128, .f32⟩
  | .local _ .vmem, ⟨4, _⟩ => ⟨S1x1024x2048, .f32⟩
  | .local _ .vmem, ⟨5, _⟩ => ⟨S1x1024x2048, .f32⟩
  | .local _ .smem, ⟨0, _⟩ => ⟨S1, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S1 : Shape := ⟨1, ![1]⟩
abbrev S8192x1024 : Shape := ⟨2, ![8192, 1024]⟩
abbrev S1024x8192 : Shape := ⟨2, ![1024, 8192]⟩
abbrev S4x8192x2048 : Shape := ⟨3, ![4, 8192, 2048]⟩
abbrev S8192x8192 : Shape := ⟨2, ![8192, 8192]⟩
abbrev S8192x2048 : Shape := ⟨2, ![8192, 2048]⟩
abbrev S1x8192x2048 : Shape := ⟨3, ![1, 8192, 2048]⟩
abbrev S4 : Shape := ⟨1, ![4]⟩
abbrev S4x1x1 : Shape := ⟨3, ![4, 1, 1]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x1024, .f32⟩
  | .hbm, ⟨2, _⟩ => ⟨S1024x8192, .f32⟩
  | .hbm, ⟨3, _⟩ => ⟨S4x8192x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S4x8192x2048, .f32⟩
  | .hbm, ⟨14, _⟩ => ⟨S4, .i32⟩
  | .hbm, ⟨15, _⟩ => ⟨S4x1x1, .i32⟩
  | .hbm, ⟨16, _⟩ => ⟨S_, .i32⟩
  | .hbm, ⟨17, _⟩ => ⟨S4x1x1, .i32⟩
  | .hbm, ⟨18, _⟩ => ⟨S4x1x1, .i1⟩
  | .hbm, ⟨19, _⟩ => ⟨S4x8192x2048, .i1⟩
  | .hbm, ⟨20, _⟩ => ⟨S4x8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel10.lean ====
abbrev S1 : Shape := ⟨1, ![1]⟩
abbrev S8192x1024 : Shape := ⟨2, ![8192, 1024]⟩
abbrev S1024 : Shape := ⟨1, ![1024]⟩
abbrev S1024x8192 : Shape := ⟨2, ![1024, 8192]⟩
abbrev S1x1024 : Shape := ⟨2, ![1, 1024]⟩
abbrev S_ : Shape := ⟨0, ![]⟩
abbrev S8x128 : Shape := ⟨2, ![8, 128]⟩
abbrev S4x8192x2048 : Shape := ⟨3, ![4, 8192, 2048]⟩
abbrev S1024x1024 : Shape := ⟨2, ![1024, 1024]⟩
abbrev S1024x2048 : Shape := ⟨2, ![1024, 2048]⟩
abbrev S1x1024x2048 : Shape := ⟨3, ![1, 1024, 2048]⟩
abbrev S1024x1 : Shape := ⟨2, ![1024, 1]⟩

abbrev nBuf : Space → Nat
  | .hbm => 13
  | .vmem => 11
  | .smem => 1
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x8192, .bf16⟩
  | .hbm, ⟨9, _⟩ => ⟨S_, .f32⟩
  | .hbm, ⟨10, _⟩ => ⟨S8x128, .f32⟩
  | .hbm, ⟨11, _⟩ => ⟨S8192x1024, .bf16⟩
  | .hbm, ⟨12, _⟩ => ⟨S4x8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2048, .bf16⟩
  | .local _ .vmem, ⟨6, _⟩ => ⟨S8x128, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x2048, .f32⟩
  | .local _ .vmem, ⟨10, _⟩ => ⟨S1x1024x2048, .f32⟩
  | .local _ .smem, ⟨0, _⟩ => ⟨S1, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1 : Shape := ⟨1, ![1]⟩
abbrev S8192x1024 : Shape := ⟨2, ![8192, 1024]⟩
abbrev S1024 : Shape := ⟨1, ![1024]⟩
abbrev S1024x8192 : Shape := ⟨2, ![1024, 8192]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x8192 : Shape := ⟨2, ![8192, 8192]⟩
abbrev S8192x2048 : Shape := ⟨2, ![8192, 2048]⟩
abbrev S1x8192x2048 : Shape := ⟨3, ![1, 8192, 2048]⟩
abbrev S4x8192x2048 : Shape := ⟨3, ![4, 8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x8192, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x8192, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S1x8192x2048, .f32⟩
  | .hbm, ⟨41, _⟩ => ⟨S4x8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel11.lean ====
abbrev S3x8192x2048 : Shape := ⟨3, ![3, 8192, 2048]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S1024 : Shape := ⟨1, ![1024]⟩
abbrev S1x2048 : Shape := ⟨2, ![1, 2048]⟩
abbrev S128x8 : Shape := ⟨2, ![128, 8]⟩
abbrev S1x1024 : Shape := ⟨2, ![1, 1024]⟩
abbrev S8192x2048 : Shape := ⟨2, ![8192, 2048]⟩
abbrev S1x512x2048 : Shape := ⟨3, ![1, 512, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 22
  | .vmem => 28
  | .smem => 0
  | _ => 0

abbrev bufTy : (tb : Table) → Fin (tcTables nBuf tb) → BufTy
  | .hbm, ⟨0, _⟩ => ⟨S3x8192x2048, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S8192x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S1x2048, .f32⟩
  | .hbm, ⟨11, _⟩ => ⟨S1x2048, .f32⟩
  | .hbm, ⟨12, _⟩ => ⟨S128x8, .f32⟩
  | .hbm, ⟨13, _⟩ => ⟨S2048x1024, .bf16⟩
  | .hbm, ⟨14, _⟩ => ⟨S1x1024, .f32⟩
  | .hbm, ⟨15, _⟩ => ⟨S1x1024, .f32⟩
  | .hbm, ⟨16, _⟩ => ⟨S8192x2048, .bf16⟩
  | .hbm, ⟨17, _⟩ => ⟨S8192x1024, .f32⟩
  | .hbm, ⟨18, _⟩ => ⟨S8192x1024, .bf16⟩
  | .hbm, ⟨19, _⟩ => ⟨S8x128, .f32⟩
  | .hbm, ⟨20, _⟩ => ⟨S1x1024, .f32⟩
  | .hbm, ⟨21, _⟩ => ⟨S1x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x8, .f32⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S8x128, .f32⟩
  | .local _ .vmem, ⟨24, _⟩ => ⟨S1x1024, .f32⟩
  | .local _ .vmem, ⟨25, _⟩ => ⟨S1x1024, .f32⟩
  | .local _ .vmem, ⟨26, _⟩ => ⟨S512x2048, .bf16⟩
  | .local _ .vmem, ⟨27, _⟩ => ⟨S512x2048, .f32⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel11Ideal.lean ====
variable {F : FTy → Type} [FloatOps F] [Named F]
def κ : String → Option EReal := fun
  | "a" => some (((Real.sqrt 2)⁻¹ : ℝ) : EReal)
  | _ => none
-- ==== Reference11Ideal.lean ====
abbrev S3x8192x2048 : Shape := ⟨3, ![3, 8192, 2048]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S1024 : Shape := ⟨1, ![1024]⟩
abbrev S1x8192x2048 : Shape := ⟨3, ![1, 8192, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S1x1024 : Shape := ⟨2, ![1, 1024]⟩

abbrev nBuf : Space → Nat
  | .hbm => 190
  | .vmem => 0
  | .smem => 0
  | _ => 0

abbrev hbmTy0_0 (i : Nat) : BufTy := match i % 128 with
  | 0 => ⟨S3x8192x2048, .f32⟩
  | 1 => ⟨S2048, .f32⟩
  | 2 => ⟨S2048, .f32⟩
  | 3 => ⟨S8x128x128, .f32⟩
  | 4 => ⟨S8x128, .f32⟩
  | 5 => ⟨S2048x1024, .f32⟩
  | 6 => ⟨S8192x1024, .f32⟩
  | 7 => ⟨S1024, .f32⟩
  | 8 => ⟨S1024, .f32⟩
  | 9 => ⟨S8192x1024, .f32⟩
  | 10 => ⟨S1x8192x2048, .f32⟩
  | 11 => ⟨S8192x2048, .f32⟩
  | 12 => ⟨S1x8192x2048, .f32⟩
  | 13 => ⟨S8192x2048, .f32⟩
  | 14 => ⟨S1x8192x2048, .f32⟩
  | 15 => ⟨S8192x2048, .f32⟩
  | 16 => ⟨S_, .f32⟩
  | 17 => ⟨S8192x2048, .f32⟩
  | 18 => ⟨S8192x2048, .f32⟩
  | 19 => ⟨S8192x2048, .f32⟩
  | 20 => ⟨S_, .f32⟩
  | 21 => ⟨S_, .f32⟩
  | 22 => ⟨S_, .f32⟩
  | 23 => ⟨S_, .f32⟩
  | 24 => ⟨S8192x2048, .f32⟩
  | 25 => ⟨S8192x2048, .f32⟩
  | 26 => ⟨S8192x2048, .f32⟩
  | 27 => ⟨S8192x2048, .f32⟩
  | 28 => ⟨S_, .f32⟩
  | 29 => ⟨S8192x2048, .f32⟩
  | 30 => ⟨S8192x2048, .f32⟩
  | 31 => ⟨S8192x2048, .f32⟩
  | 32 => ⟨S_, .f32⟩
  | 33 => ⟨S_, .f32⟩
  | 34 => ⟨S_, .f32⟩
  | 35 => ⟨S_, .f32⟩
  | 36 => ⟨S8192x2048, .f32⟩
  | 37 => ⟨S8192x2048, .f32⟩
  | 38 => ⟨S8192x2048, .f32⟩
  | 39 => ⟨S8192x2048, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S8192x2048, .f32⟩
  | 47 => ⟨S8192x2048, .f32⟩
  | 48 => ⟨S8192x2048, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S8192x2048, .f32⟩
  | 56 => ⟨S8192x2048, .f32⟩
  | 57 => ⟨S_, .f32⟩
  | 58 => ⟨S8192x1, .f32⟩
  | 59 => ⟨S8192x1, .f32⟩
  | 60 => ⟨S8192x1, .f32⟩
  | 61 => ⟨S8192x2048, .f32⟩
  | 62 => ⟨S8192x2048, .f32⟩
  | 63 => ⟨S1x2048, .f32⟩
  | 64 => ⟨S8192x2048, .f32⟩
  | 65 => ⟨S8192x2048, .f32⟩
  | 66 => ⟨S1x2048, .f32⟩
  | 67 => ⟨S8192x2048, .f32⟩
  | 68 => ⟨S8192x2048, .f32⟩
  | 69 => ⟨S64x128x8x256, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S1x128x128, .i1⟩
  | 82 => ⟨S_, .f32⟩
  | 83 => ⟨S8x128x128, .f32⟩
  | 84 => ⟨S8x128x128, .i1⟩
  | 85 => ⟨S8x128x128, .f32⟩
  | 86 => ⟨S8x64x256x128, .f32⟩
  | 87 => ⟨S64x128x8x256, .f32⟩
  | 88 => ⟨S128x8, .f32⟩
  | 89 => ⟨S1x128x8x1, .f32⟩
  | 90 => ⟨S64x128x8x256, .f32⟩
  | 91 => ⟨S64x128x8x256, .f32⟩
  | 92 => ⟨S8192x2048, .f32⟩
  | 93 => ⟨S8192x2048, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S_, .f32⟩
  | 100 => ⟨S8192x2048, .f32⟩
  | 101 => ⟨S8192x2048, .f32⟩
  | 102 => ⟨S8192x2048, .f32⟩
  | 103 => ⟨S8192x2048, .f32⟩
  | 104 => ⟨S8192x1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S8192x1024, .f32⟩
  | 125 => ⟨S8192x1024, .f32⟩
  | 126 => ⟨S1x1024, .f32⟩
  | 127 => ⟨S8192x1024, .f32⟩
  | _ => ⟨S3x8192x2048, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S_, .f32⟩
  | 7 => ⟨S8192, .f32⟩
  | 8 => ⟨S_, .f32⟩
  | 9 => ⟨S8192, .f32⟩
  | 10 => ⟨S8192, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8192, .f32⟩
  | 19 => ⟨S_, .f32⟩
  | 20 => ⟨S8192, .f32⟩
  | 21 => ⟨S8192, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1024, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S_, .f32⟩
  | 56 => ⟨S1024, .f32⟩
  | 57 => ⟨S8192x2048, .bf16⟩
  | 58 => ⟨S8192x1024, .bf16⟩
  | 59 => ⟨S8x128, .f32⟩
  | 60 => ⟨S1x1024, .f32⟩
  | 61 => ⟨S1x1024, .f32⟩
  | _ => ⟨S3x8192x2048, .f32⟩

abbrev hbmTy (i : Nat) : BufTy := match i / 128 with
  | 0 => hbmTy0_0 i
  | 1 => hbmTy0_1 i
  | _ => ⟨S3x8192x2048, .f32⟩

abbrev bufTy : (tb : Table) → Fin (tcTables nBuf tb) → BufTy
  | .hbm, ⟨i, _⟩ => hbmTy i
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_11 : Ref sig .tc := ⟨.hbm, 110, rfl⟩
abbrev main_v70 : Ref sig .tc := ⟨.hbm, 111, rfl⟩
abbrev main_v71 : Ref sig .tc := ⟨.hbm, 112, rfl⟩
abbrev main_cst_12 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_14 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_15 : Ref sig .tc := ⟨.hbm, 131, rfl⟩
abbrev main_v87 : Ref sig .tc := ⟨.hbm, 132, rfl⟩
abbrev main_v88 : Ref sig .tc := ⟨.hbm, 133, rfl⟩
abbrev main_cst_16 : Ref sig .tc := ⟨.hbm, 134, rfl⟩
abbrev main_v89 : Ref sig .tc := ⟨.hbm, 135, rfl⟩
abbrev main_cst_17 : Ref sig .tc := ⟨.hbm, 136, rfl⟩
abbrev main_v90 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_cst_19 : Ref sig .tc := ⟨.hbm, 141, rfl⟩
abbrev main_v93 : Ref sig .tc := ⟨.hbm, 142, rfl⟩
abbrev main_cst_20 : Ref sig .tc := ⟨.hbm, 143, rfl⟩
abbrev main_cst_21 : Ref sig .tc := ⟨.hbm, 144, rfl⟩
abbrev main_v94 : Ref sig .tc := ⟨.hbm, 145, rfl⟩
abbrev main_v95 : Ref sig .tc := ⟨.hbm, 146, rfl⟩
abbrev main_cst_22 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_23 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_24 : Ref sig .tc := ⟨.hbm, 158, rfl⟩
abbrev main_v105 : Ref sig .tc := ⟨.hbm, 159, rfl⟩
abbrev main_v106 : Ref sig .tc := ⟨.hbm, 160, rfl⟩
abbrev main_cst_25 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_26 : Ref sig .tc := ⟨.hbm, 167, rfl⟩
abbrev main_v112 : Ref sig .tc := ⟨.hbm, 168, rfl⟩
abbrev main_v113 : Ref sig .tc := ⟨.hbm, 169, rfl⟩
abbrev main_cst_27 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_28 : Ref sig .tc := ⟨.hbm, 180, rfl⟩
abbrev main_v123 : Ref sig .tc := ⟨.hbm, 181, rfl⟩
abbrev main_v124 : Ref sig .tc := ⟨.hbm, 182, rfl⟩
abbrev main_cst_29 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩

abbrev nD : Nat := 1
abbrev τ : Topo := Topo.v7x

variable {F : FTy → Type} [FloatOps F]
-- ==== Proof.Maths.lean ====
/- The arithmetic of the short gated convolution's backward pass over extended reals, its arrays read at row and column
   numbers: what the kernel's blocks and the reference's arrays are both compared with. -/
module

public import Idealize.ShloMosaic.PureOps.Ideal
public import Idealize.ShloMosaic.PureOps.IdealRules

@[expose] public section

noncomputable section

open scoped BigOperators

namespace Cert.GatedConv

open Idealize.ShloMosaic

/-- The scalar the kernel writes for one half. -/
abbrev half : EReal := Ideal.ofBits .f32 0x3F000000#32

/-- The logistic function as the kernel writes it. -/
def sg (z : EReal) : EReal := half * Ideal.tanh (half * z) + half

/-- A column of rows moved down by `k`, zeros coming in at the top. -/
def back (k : ℕ) (f : ℕ → EReal) (r : ℕ) : EReal := if r < k then 0 else f (r - k)

/-- The arrays of the backward pass by row and column number: the four parts of the projection, the three taps, the
    bias, the output weight and the incoming gradient. -/
structure Arrays where
  p : ℕ → ℕ → ℕ → EReal
  w : ℕ → ℕ → EReal
  b : ℕ → EReal
  wo : ℕ → Fin 1024 → EReal
  ct : ℕ → Fin 1024 → EReal

namespace Arrays
variable (A : Arrays)

/-- The gradient at the mixer's gated output: the incoming gradient times the output weight's rows. -/
def dy (r e : ℕ) : EReal := ∑ d : Fin 1024, A.ct r d * A.wo e d
/-- The gated input of the convolution. -/
def cx (r e : ℕ) : EReal := A.p 1 r e * A.p 2 r e
/-- The gated input `k` rows earlier. -/
def cxb (k r e : ℕ) : EReal := back k (fun s => A.cx s e) r
/-- The convolution with its bias. -/
def conv (r e : ℕ) : EReal := A.b e + A.w 2 e * A.cx r e + A.w 0 e * A.cxb 2 r e + A.w 1 e * A.cxb 1 r e
/-- The silu of the gate. -/
def sz (r e : ℕ) : EReal := A.p 3 r e * sg (A.p 3 r e)
/-- The gradient at the convolution's output. -/
def dcv (r e : ℕ) : EReal := A.dy r e * A.sz r e * A.p 0 r e
/-- The gradient at the gated input: the taps run backwards. -/
def dcx (r e : ℕ) : EReal := A.w 2 e * A.dcv r e + A.w 1 e * A.dcv (r + 1) e + A.w 0 e * A.dcv (r + 2) e
/-- The gradient of the projection's part `q`. -/
def dp (q r e : ℕ) : EReal :=
  if q = 0 then A.dy r e * A.sz r e * A.conv r e
  else if q = 1 then A.dcx r e * A.p 2 r e
  else if q = 2 then A.dcx r e * A.p 1 r e
  else A.dy r e * A.p 0 r e * A.conv r e * (sg (A.p 3 r e) * (1 + A.p 3 r e * (1 - sg (A.p 3 r e))))
/-- What row `r` adds to the gradient of tap `k` (0, 1, 2) or of the bias (3). -/
def term (k r e : ℕ) : EReal :=
  if k = 0 then A.dcv r e * A.cxb 2 r e
  else if k = 1 then A.dcv r e * A.cxb 1 r e
  else if k = 2 then A.dcv r e * A.cx r e
  else A.dcv r e

end Arrays

end Cert.GatedConv
-- ==== Proof.Sigmoid.lean ====
/- The logistic function written through the hyperbolic tangent, and the derivative of silu, on extended reals. -/
module

public import proofs.«01_k».proof.Proof.Maths
public import Idealize.ShloMosaic.Lib.IdealHost

@[expose] public section

noncomputable section

namespace Cert.GatedConv

open Idealize.ShloMosaic

theorem half_eq : half = ((1 / 2 : ℝ) : EReal) := by
  simp [half, Ideal.ofBits, Ideal.ieee, -EReal.coe_mul]; norm_num

theorem sg_real (x : ℝ) : sg (x : EReal) = ((1 / (1 + Real.exp (-x)) : ℝ) : EReal) := by
  rw [sg, half_eq, ← EReal.coe_mul, Ideal.tanh_coe, ← EReal.coe_mul, ← EReal.coe_add]
  congr 1
  have hp := Real.exp_pos (x / 2)
  have hx : Real.exp (-x) = (Real.exp (x / 2))⁻¹ * (Real.exp (x / 2))⁻¹ := by
    rw [← Real.exp_neg, ← Real.exp_add]; congr 1; ring
  rw [Real.tanh_eq_sinh_div_cosh, Real.sinh_eq, Real.cosh_eq, hx, show (1 / 2 : ℝ) * x = x / 2 by ring, Real.exp_neg]
  field_simp
  ring

theorem sg_top : sg ⊤ = 1 := by
  rw [sg, half_eq, EReal.coe_mul_top_of_pos (by norm_num), Ideal.tanh_top, mul_one, ← EReal.coe_add]
  norm_num

theorem sg_bot : sg ⊥ = 0 := by
  rw [sg, half_eq, EReal.coe_mul_bot_of_pos (by norm_num), Ideal.tanh_bot]
  rw [show (-1 : EReal) = ((-1 : ℝ) : EReal) by norm_num, ← EReal.coe_mul, ← EReal.coe_add]
  norm_num

theorem sg_eq (z : EReal) : Ideal.div 1 (1 + Ideal.exp (-z)) = sg z := by
  induction z with
  | bot => rw [sg_bot, EReal.neg_bot, Ideal.exp_top, EReal.add_top_of_ne_bot (by decide)]; simp [Ideal.div]
  | top => rw [sg_top, EReal.neg_top, Ideal.exp_bot]; simp [Ideal.div]
  | coe x =>
    rw [sg_real, ← EReal.coe_neg, Ideal.exp_coe]
    have : (1 + Real.exp (-x)) ≠ 0 := by positivity
    rw [show (1 : EReal) = ((1 : ℝ) : EReal) from rfl, ← EReal.coe_add, Ideal.div,
      if_neg (by exact_mod_cast this), ← EReal.coe_inv, ← EReal.coe_mul]
    congr 1

/-- The extended real is a real number. -/
def Real' (x : EReal) : Prop := ∃ r : ℝ, x = (r : EReal)

namespace Real'
theorem add {x y : EReal} : Real' x → Real' y → Real' (x + y) := by
  rintro ⟨a, rfl⟩ ⟨b, rfl⟩; exact ⟨a + b, (EReal.coe_add a b).symm⟩
theorem mul {x y : EReal} : Real' x → Real' y → Real' (x * y) := by
  rintro ⟨a, rfl⟩ ⟨b, rfl⟩; exact ⟨a * b, (EReal.coe_mul a b).symm⟩
theorem zero : Real' 0 := ⟨0, rfl⟩
theorem sum {ι : Type} (s : Finset ι) (f : ι → EReal) (h : ∀ i, Real' (f i)) : Real' (∑ i ∈ s, f i) := by
  classical
  induction s using Finset.induction_on with
  | empty => simpa using zero
  | insert a s ha ih => rw [Finset.sum_insert ha]; exact (h a).add ih
end Real'

/-- The derivative of silu two ways: the factored one, and the sum the product rule gives. -/
theorem dsilu {a z : EReal} (ha : Real' a) (hz : Real' z) :
    a * sg z + z * a * (sg z * (1 - sg z)) = a * (sg z * (1 + z * (1 - sg z))) := by
  obtain ⟨a, rfl⟩ := ha
  obtain ⟨z, rfl⟩ := hz
  rw [sg_real, show (1 : EReal) = ((1 : ℝ) : EReal) from rfl]
  simp only [← EReal.coe_mul, ← EReal.coe_add, ← EReal.coe_sub]
  congr 1
  ring

namespace Arrays
variable {A : Arrays}

/-- Every entry is a real number. -/
structure Finite (A : Arrays) : Prop where
  p : ∀ q r e, Real' (A.p q r e)
  w : ∀ k e, Real' (A.w k e)
  b : ∀ e, Real' (A.b e)
  wo : ∀ e d, Real' (A.wo e d)
  ct : ∀ r d, Real' (A.ct r d)

variable (h : A.Finite)
include h

theorem Finite.dy (r e : ℕ) : Real' (A.dy r e) := Real'.sum _ _ fun d => (h.ct r d).mul (h.wo e d)
theorem Finite.cx (r e : ℕ) : Real' (A.cx r e) := (h.p 1 r e).mul (h.p 2 r e)
theorem Finite.cxb (k r e : ℕ) : Real' (A.cxb k r e) := by
  unfold Arrays.cxb back
  split
  · exact Real'.zero
  · exact h.cx _ _
theorem Finite.conv (r e : ℕ) : Real' (A.conv r e) :=
  (((h.b e).add ((h.w 2 e).mul (h.cx r e))).add ((h.w 0 e).mul (h.cxb 2 r e))).add ((h.w 1 e).mul (h.cxb 1 r e))

end Arrays

end Cert.GatedConv
-- ==== Proof.Norm.lean ====
/- The gradient of the RMS norm with its scale and shift: one row's formula two ways, and the terms its column sums add up. -/
module

public import proofs.«01_k».proof.Proof.Sigmoid

@[expose] public section

noncomputable section

namespace Cert.Norm

open Idealize.ShloMosaic
open Cert.GatedConv (Real')

/-- The constants of the norm: the row length, the number added under the root, one, and minus a half. -/
abbrev len : EReal := Ideal.ofBits .f32 0x44800000#32
abbrev eps : EReal := Ideal.ofBits .f32 0x358637BD#32
abbrev one : EReal := Ideal.ofBits .f32 0x3F800000#32
abbrev mhalf : EReal := Ideal.ofBits .f32 0xBF000000#32

theorem len_eq : len = ((1024 : ℝ) : EReal) := by
  simp [len, Ideal.ofBits, Ideal.ieee, -EReal.coe_mul]; norm_num

theorem mhalf_eq : mhalf = ((-1 / 2 : ℝ) : EReal) := by
  simp [mhalf, Ideal.ofBits, Ideal.ieee, -EReal.coe_mul]; norm_num

theorem one_eq : one = ((1 : ℝ) : EReal) := by
  simp [one, Ideal.ofBits, Ideal.ieee, -EReal.coe_mul]; norm_num

theorem eps_pos : ∃ e : ℝ, 0 < e ∧ eps = (e : EReal) := by
  refine ⟨_, ?_, by simp only [eps, Ideal.ofBits, Ideal.ieee]; rfl⟩
  simp

/-- The rows the backward norm works on: its input, the gradient of its result, the gradient to add to, the gain and the scale. -/
structure Rows where
  x : ℕ → Fin 1024 → EReal
  dh : ℕ → Fin 1024 → EReal
  dxin : ℕ → Fin 1024 → EReal
  g : Fin 1024 → EReal
  sc : Fin 1024 → EReal

namespace Rows
variable (A : Rows)

/-- The mean square of a row and the small constant. -/
def ms (s : ℕ) : EReal := Ideal.div (∑ d, A.x s d * A.x s d) len + eps
def r (s : ℕ) : EReal := Ideal.rsqrt (A.ms s)
def xn (s : ℕ) (d : Fin 1024) : EReal := A.x s d * A.r s
def da (s : ℕ) (d : Fin 1024) : EReal := A.dh s d * (one + A.sc d)
def dy (s : ℕ) (d : Fin 1024) : EReal := A.da s d * A.g d

/-- The input's gradient, as the kernel writes it. -/
def dx (s : ℕ) (d : Fin 1024) : EReal :=
  A.dxin s d + A.r s * (A.dy s d - A.xn s d * Ideal.div (∑ e, A.dy s e * A.xn s e) len)

/-- The terms of the column sums for the scale and the gain. -/
def tsc (s : ℕ) (d : Fin 1024) : EReal := A.dh s d * (A.xn s d * A.g d)
def tg (s : ℕ) (d : Fin 1024) : EReal := A.da s d * A.xn s d

/-- The gradient of the mean square with its weight, as the chain rule gives it. -/
def q (s : ℕ) : EReal := Ideal.div ((∑ e, A.x s e * A.dy s e) * (mhalf * Ideal.div (A.r s) (A.ms s))) len

/-- Every entry the input's gradient depends on is a real number. -/
structure Finite : Prop where
  x : ∀ s d, Real' (A.x s d)
  dh : ∀ s d, Real' (A.dh s d)
  g : ∀ d, Real' (A.g d)
  sc : ∀ d, Real' (A.sc d)

end Rows

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem Rows.dx_eq (A : Rows) (h : A.Finite) (s : ℕ) (d : Fin 1024) :
    A.dxin s d + A.dy s d * A.r s + A.x s d * A.q s + A.q s * A.x s d = A.dx s d := by
  choose X hX using h.x s
  choose H hH using h.dh s
  choose G hG using h.g
  choose C hC using h.sc
  obtain ⟨e, he, hee⟩ := eps_pos
  have hms : A.ms s = (((∑ d, X d * X d) / 1024 + e : ℝ) : EReal) := by
    unfold Rows.ms
    rw [hee, len_eq]
    simp only [hX, ← EReal.coe_mul]
    rw [coe_sum, div_coe _ _ (by norm_num), ← EReal.coe_add]
  generalize hM : (∑ d, X d * X d) / 1024 + e = M at hms
  have hMp : 0 < M := by
    rw [← hM]
    exact add_pos_of_nonneg_of_pos (div_nonneg (Finset.sum_nonneg fun i _ => mul_self_nonneg _) (by norm_num)) he
  have hr : A.r s = (((Real.sqrt M)⁻¹ : ℝ) : EReal) := by
    unfold Rows.r
    rw [hms, Ideal.rsqrt_coe, if_neg (not_lt.2 hMp.le), if_neg hMp.ne']
  have hRM : (Real.sqrt M)⁻¹ / M = (Real.sqrt M)⁻¹ ^ 3 := by
    have hs : Real.sqrt M ≠ 0 := (Real.sqrt_pos.2 hMp).ne'
    have h2 : M = Real.sqrt M * Real.sqrt M := (Real.mul_self_sqrt hMp.le).symm
    rw [div_eq_iff hMp.ne']
    calc (Real.sqrt M)⁻¹ = (Real.sqrt M)⁻¹ ^ 3 * (Real.sqrt M * Real.sqrt M) := by field_simp
      _ = _ := by rw [← h2]
  generalize hR : (Real.sqrt M)⁻¹ = R at hr hRM
  have hdy : ∀ d, A.dy s d = ((H d * (1 + C d) * G d : ℝ) : EReal) := by
    intro d
    unfold Rows.dy Rows.da
    rw [hH, hC, hG, one_eq, ← EReal.coe_add, ← EReal.coe_mul, ← EReal.coe_mul]
  generalize hD : (fun d => H d * (1 + C d) * G d) = D at hdy
  have hdy' : ∀ d, A.dy s d = (D d : EReal) := fun d => by rw [hdy, ← hD]
  have hq : A.q s = (((∑ e, X e * D e) * (-1 / 2 * R ^ 3) / 1024 : ℝ) : EReal) := by
    unfold Rows.q
    rw [hms, hr, len_eq, mhalf_eq]
    simp only [hX, hdy', ← EReal.coe_mul]
    rw [coe_sum, div_coe _ _ hMp.ne', hRM, ← EReal.coe_mul, ← EReal.coe_mul, div_coe _ _ (by norm_num)]
  have hS : ∑ e, D e * (X e * R) = (∑ e, X e * D e) * R := by
    rw [Finset.sum_mul]
    exact Finset.sum_congr rfl fun e _ => by ring
  unfold Rows.dx Rows.xn
  rw [add_assoc, add_assoc, hq, hr, len_eq]
  simp only [hX, hdy', ← EReal.coe_mul]
  rw [coe_sum, hS, div_coe _ _ (by norm_num), ← EReal.coe_mul, ← EReal.coe_sub, ← EReal.coe_mul, ← EReal.coe_add, ← EReal.coe_add]
  congr 2
  ring

end Cert.Norm
-- ==== Proof.DhAPay.lean ====
/- What each stored value of the kernel for part a's norm is at an index, and the last point's results as the backward norm's formulas. -/
module

public import proofs.«01_k».proof.Proof.Gen.Kernel5Ideal.Skeleton
public import proofs.«01_k».proof.Proof.Norm
public import Idealize.ShloMosaic.Lib.Pointwise

@[expose] public section

set_option maxRecDepth 16384

noncomputable section

namespace Cert.Kernel5Ideal.Dh

open Idealize.ShloMosaic Idealize.ShloMosaic.TcCoe Idealize.ShloMosaic.Tactic
open Cert.Kernel5Ideal Cert.Kernel5Ideal.Gen
open Cert.Norm (Rows len eps one)

theorem pay1 (y : S1x1024.Idx) : k0_pay1 (F := Ideal) y = 0 := by
  pointwise [k0_pay1]

theorem pay2 (y : S1x1024.Idx) : k0_pay2 (F := Ideal) y = 0 := by
  pointwise [k0_pay2]

theorem pay3 (y : S1x1024.Idx) : k0_pay3 (F := Ideal) y = 0 := by
  pointwise [k0_pay3]

theorem pay4 (a : Vec Ideal S1x1024x2048 .bf16) (b : Vec Ideal S1024x2048 .bf16) (r d : Fin 1024) :
    k0_pay4 (F := Ideal) a b (ix2 r d) = ∑ k : Fin 2048, a (ix3 0 r k) * b (ix2 d k) := by
  pointwise [k0_pay4]

theorem pay5 (v : Vec Ideal S1024x1024 .f32) (a : Vec Ideal S1x1024x2048 .bf16) (b : Vec Ideal S1024x2048 .bf16) (r d : Fin 1024) :
    k0_pay5 (F := Ideal) v a b (ix2 r d) = v (ix2 r d) + ∑ k : Fin 2048, a (ix3 0 r k) * b (ix2 d k) := by
  pointwise [k0_pay5]

theorem pay8 (v : Vec Ideal S1x1024 .f32) (y : S1x1024.Idx) : k0_pay8 (F := Ideal) v y = v y := by
  pointwise [k0_pay8]

theorem pay9 (x : Vec Ideal S1024x1024 .f32) (r : Fin 1024) :
    k0_pay9 (F := Ideal) x (ix2 r 0) = Ideal.rsqrt (Ideal.div (∑ d : Fin 1024, x (ix2 r d) * x (ix2 r d)) len + eps) := by
  pointwise [k0_pay9]

theorem pay10 (x : Vec Ideal S1024x1024 .f32) (r d : Fin 1024) :
    k0_pay10 (F := Ideal) x (ix2 r d) = x (ix2 r d) * k0_pay9 (F := Ideal) x (ix2 r 0) := by
  pointwise [k0_pay10]

theorem pay11 (v : Vec Ideal S1024x1024 .f32) (o : Vec Ideal S1x1024 .f32) (d : Fin 1024) :
    k0_pay11 (F := Ideal) v o (ix2 0 d) = o (ix2 0 d) + ∑ r : Fin 1024, v (ix2 r d) := by
  pointwise [k0_pay11]

theorem pay12 (v : Vec Ideal S1024x1024 .f32) (g : Vec Ideal S1x1024 .f32) (x : Vec Ideal S1024x1024 .f32) (o : Vec Ideal S1x1024 .f32) (d : Fin 1024) :
    k0_pay12 (F := Ideal) v g x o (ix2 0 d)
      = o (ix2 0 d) + ∑ r : Fin 1024, v (ix2 r d) * (k0_pay10 (F := Ideal) x (ix2 r d) * g (ix2 0 d)) := by
  pointwise [k0_pay12, k0_pay8]

theorem pay13 (v : Vec Ideal S1024x1024 .f32) (s : Vec Ideal S1x1024 .f32) (r d : Fin 1024) :
    k0_pay13 (F := Ideal) v s (ix2 r d) = v (ix2 r d) * (one + s (ix2 0 d)) := by
  pointwise [k0_pay13]

theorem pay6 (xn da : Vec Ideal S1024x1024 .f32) (o : Vec Ideal S1x1024 .f32) (d : Fin 1024) :
    k0_pay6 (F := Ideal) xn da o (ix2 0 d) = o (ix2 0 d) + ∑ r : Fin 1024, da (ix2 r d) * xn (ix2 r d) := by
  pointwise [k0_pay6]

theorem pay7 (g : Vec Ideal S1x1024 .f32) (rs : Vec Ideal S1024x1 .f32) (xn da dxin : Vec Ideal S1024x1024 .f32) (r d : Fin 1024) :
    k0_pay7 (F := Ideal) g rs xn da dxin (ix2 r d)
      = dxin (ix2 r d) + rs (ix2 r 0) * (da (ix2 r d) * g (ix2 0 d)
          - xn (ix2 r d) * Ideal.div (∑ e : Fin 1024, da (ix2 r e) * g (ix2 0 e) * xn (ix2 r e)) len) := by
  pointwise [k0_pay7]

/-! ### The last point of a block of rows: its results from the accumulated product -/

variable (A : Rows) (v x dxin : Vec Ideal S1024x1024 .f32) (g sc o : Vec Ideal S1x1024 .f32) (s : ℕ)

theorem rs_of (r : Fin 1024) (hx : ∀ d, x (ix2 r d) = A.x s d) : k0_pay9 (F := Ideal) x (ix2 r 0) = A.r s := by
  simp only [pay9, hx]
  rfl

theorem xn_of (r d : Fin 1024) (hx : ∀ d, x (ix2 r d) = A.x s d) : k0_pay10 (F := Ideal) x (ix2 r d) = A.xn s d := by
  rw [pay10, rs_of A x s r hx, hx]
  rfl

theorem da_of (r d : Fin 1024) (hv : v (ix2 r d) = A.dh s d) (hs : ∀ d, sc (ix2 0 d) = A.sc d) :
    k0_pay13 (F := Ideal) v sc (ix2 r d) = A.da s d := by
  rw [pay13, hv, hs]
  rfl

theorem dx_of (r d : Fin 1024) (hx : ∀ d, x (ix2 r d) = A.x s d) (hv : ∀ d, v (ix2 r d) = A.dh s d)
    (hg : ∀ d, g (ix2 0 d) = A.g d) (hs : ∀ d, sc (ix2 0 d) = A.sc d) (hd : dxin (ix2 r d) = A.dxin s d) :
    k0_pay7 (F := Ideal) (k0_pay8 g) (k0_pay9 x) (k0_pay10 x) (k0_pay13 v sc) dxin (ix2 r d) = A.dx s d := by
  simp only [pay7, pay8, rs_of A x s r hx, fun d => xn_of A x s r d hx, fun d => da_of A v sc s r d (hv d) hs, hg, hd]
  rfl

variable (b : ℕ)

theorem sh_of (d : Fin 1024) (hv : ∀ r d : Fin 1024, v (ix2 r d) = A.dh (b + r) d) :
    k0_pay11 (F := Ideal) v o (ix2 0 d) = o (ix2 0 d) + ∑ r : Fin 1024, A.dh (b + r) d := by
  simp only [pay11, hv]

theorem sc_of (d : Fin 1024) (hx : ∀ r d : Fin 1024, x (ix2 r d) = A.x (b + r) d) (hv : ∀ r d : Fin 1024, v (ix2 r d) = A.dh (b + r) d)
    (hg : ∀ d, g (ix2 0 d) = A.g d) :
    k0_pay12 (F := Ideal) v g x o (ix2 0 d) = o (ix2 0 d) + ∑ r : Fin 1024, A.tsc (b + r) d := by
  rw [pay12]
  refine congrArg₂ (· + ·) rfl (Finset.sum_congr rfl fun r _ => ?_)
  rw [hv, hg, xn_of A x (b + r) r d (hx r)]
  rfl

theorem g_of (d : Fin 1024) (hx : ∀ r d : Fin 1024, x (ix2 r d) = A.x (b + r) d) (hv : ∀ r d : Fin 1024, v (ix2 r d) = A.dh (b + r) d)
    (hs : ∀ d, sc (ix2 0 d) = A.sc d) :
    k0_pay6 (F := Ideal) (k0_pay10 x) (k0_pay13 v sc) o (ix2 0 d) = o (ix2 0 d) + ∑ r : Fin 1024, A.tg (b + r) d := by
  rw [pay6]
  refine congrArg₂ (· + ·) rfl (Finset.sum_congr rfl fun r _ => ?_)
  rw [da_of A v sc (b + r) r d (hv r d) hs, xn_of A x (b + r) r d (hx r)]
  rfl

end Cert.Kernel5Ideal.Dh
-- ==== Proof.Rows.lean ====
/- The rows of the backward norm taken from the arrays: the product of the gradient parts with the weights gives the gradient of the norm's result. -/
module

public import proofs.«01_k».proof.Proof.Norm
public import Idealize.ShloMosaic.Lib.Pointwise

@[expose] public section

noncomputable section

namespace Cert.Norm

open Idealize.ShloMosaic Idealize.ShloMosaic.Tactic
open Cert.GatedConv (Real')

abbrev SX : Shape := ⟨2, ![8192, 1024]⟩
abbrev SV : Shape := ⟨1, ![1024]⟩
abbrev SP (nq : ℕ) : Shape := ⟨3, ![nq, 8192, 2048]⟩
abbrev SW (E : ℕ) : Shape := ⟨2, ![1024, E]⟩

section
variable {nq E : ℕ} (dp : Vec Ideal (SP nq) .f32) (w : Vec Ideal (SW E) .f32)

/-- One column's contribution to the product of the gradient parts, side by side, with the transposed weights; zero outside the arrays. -/
def dterm (s : ℕ) (d : Fin 1024) (e : ℕ) : EReal :=
  if h : s < 8192 ∧ e < E ∧ e / 2048 < nq then
    dp (ix3 ⟨e / 2048, h.2.2⟩ ⟨s, h.1⟩ ⟨e % 2048, Nat.mod_lt _ (by norm_num)⟩) * w (ix2 d ⟨e, h.2.1⟩) else 0

theorem dterm_at (s : Fin 8192) (d : Fin 1024) (e : Fin E) (h : e.val / 2048 < nq) :
    dterm dp w s d e = dp (ix3 ⟨e / 2048, h⟩ s ⟨e % 2048, Nat.mod_lt _ (by norm_num)⟩) * w (ix2 d e) :=
  dif_pos ⟨s.isLt, e.isLt, h⟩

/-- The same with the part and the column within it given. -/
theorem dterm_part (s : ℕ) (hs : s < 8192) (d : Fin 1024) (q : Fin nq) (k : Fin 2048) (h : 2048 * q.val + k < E) (e : ℕ) (he : e = 2048 * q.val + k) :
    dterm dp w s d e = dp (ix3 q ⟨s, hs⟩ k) * w (ix2 d ⟨2048 * q.val + k, h⟩) := by
  subst he
  have h1 : (2048 * q.val + k.val) / 2048 = q.val := by omega
  have h2 : (2048 * q.val + k.val) % 2048 = k.val := by omega
  refine (dif_pos ⟨hs, h, by rw [h1]; exact q.isLt⟩).trans ?_
  congr 3
  · exact Fin.ext h1
  · exact Fin.ext h2

theorem dterm_real (hdp : ∀ i, Real' (dp i)) (hw : ∀ i, Real' (w i)) (s : ℕ) (d : Fin 1024) (e : ℕ) : Real' (dterm dp w s d e) := by
  unfold dterm
  split
  · exact (hdp _).mul (hw _)
  · exact Real'.zero

/-- The rows the backward norm works on, from the arrays. -/
def rows (x dxin : Vec Ideal SX .f32) (g sc : Vec Ideal SV .f32) : Rows where
  x s d := if h : s < 8192 then x (ix2 ⟨s, h⟩ d) else 0
  dxin s d := if h : s < 8192 then dxin (ix2 ⟨s, h⟩ d) else 0
  dh s d := ∑ e ∈ Finset.range E, dterm dp w s d e
  g d := g (ix1 d)
  sc d := sc (ix1 d)

variable (x dxin : Vec Ideal SX .f32) (g sc : Vec Ideal SV .f32)

theorem rows_x (s : Fin 8192) (d : Fin 1024) : (rows dp w x dxin g sc).x s d = x (ix2 s d) := dif_pos s.isLt
theorem rows_dxin (s : Fin 8192) (d : Fin 1024) : (rows dp w x dxin g sc).dxin s d = dxin (ix2 s d) := dif_pos s.isLt

theorem rows_finite (hx : ∀ i, Real' (x i)) (hg : ∀ i, Real' (g i)) (hs : ∀ i, Real' (sc i)) (hw : ∀ i, Real' (w i))
    (hdp : ∀ i, Real' (dp i)) : (rows dp w x dxin g sc).Finite where
  x s d := by
    dsimp only [rows]
    split
    · exact hx _
    · exact Real'.zero
  dh s d := Real'.sum (Finset.range E) _ fun e => dterm_real dp w hdp hw s d e
  g d := hg _
  sc d := hs _

end

/-- The norm's input when a gated branch is added to the stream first. -/
def gated (x : Vec Ideal SX .f32) (gate : Vec Ideal SV .f32) (br : Vec Ideal SX .f32) : Vec Ideal SX .f32 :=
  fun i => x i + gate (ix1 (i 1)) * br i

theorem gated_real (x : Vec Ideal SX .f32) (gate : Vec Ideal SV .f32) (br : Vec Ideal SX .f32) (hx : ∀ i, Real' (x i))
    (hg : ∀ i, Real' (gate i)) (hb : ∀ i, Real' (br i)) (i : SX.Idx) : Real' (gated x gate br i) :=
  (hx i).add ((hg _).mul (hb i))

/-- The terms of the column sums for the gate. -/
def Rows.tgate (A : Rows) (br : Vec Ideal SX .f32) (s : ℕ) (d : Fin 1024) : EReal :=
  A.dx s d * if h : s < 8192 then br (ix2 ⟨s, h⟩ d) else 0

theorem Rows.tgate_at (A : Rows) (br : Vec Ideal SX .f32) (s : Fin 8192) (d : Fin 1024) : A.tgate br s d = A.dx s d * br (ix2 s d) :=
  congrArg (A.dx s d * ·) (dif_pos s.isLt)

/-- A sum over the first blocks of rows and the next block. -/
theorem blocks_step (b : ℕ) (f : ℕ → EReal) (i : ℕ) :
    ∑ s ∈ Finset.range (b * (i + 1)), f s = ∑ s ∈ Finset.range (b * i), f s + ∑ r : Fin b, f (b * i + r) := by
  rw [Nat.mul_add, Nat.mul_one, Finset.sum_range_add, Finset.sum_range (fun x => f (b * i + x))]

end Cert.Norm
-- ==== Proof.DhA.lean ====
/- The gradient of part a's normalised input, carried back through the norm: the kernel's result arrays as the backward norm's formulas. -/
module

public import proofs.«01_k».proof.Proof.Gen.Kernel5Ideal.Value
public import proofs.«01_k».proof.Proof.DhAPay
public import proofs.«01_k».proof.Proof.Rows
public import Idealize.ShloMosaic.Lib.Pipeline.ValueKit.Point
public import Idealize.ShloMosaic.Lib.Pipeline.ValueKit.Acc

@[expose] public section

set_option maxRecDepth 16384

noncomputable section

namespace Cert.Kernel5Ideal.Dh

open Idealize.ShloMosaic Idealize.ShloMosaic.TcCoe Idealize.ShloMosaic.Tactic
open Idealize.ShloMosaic.Pipeline (Dat)
open Cert.Kernel5Ideal Cert.Kernel5Ideal.Gen
open Cert.Norm

theorem idx0 : ∀ t : Fin cfg0.N, win0_0.index t = ![t.val % 4, t.val / 4, 0] := (by decide +kernel : ∀ t : Fin grid0.N, _)
theorem idx1 : ∀ t : Fin cfg0.N, win0_1.index t = ![0, t.val % 4] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 4, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

variable (m : (ℓ : Loc nD τ sig) → Buf (Elt Ideal) ℓ)

abbrev ax (c : Dev nD) : Vec Ideal S8192x1024 .f32 := m ((c : Thread nD τ).loc main_arg0)
abbrev ag (c : Dev nD) : Vec Ideal S1024 .f32 := m ((c : Thread nD τ).loc main_arg1)
abbrev asc (c : Dev nD) : Vec Ideal S1024 .f32 := m ((c : Thread nD τ).loc main_arg2)
abbrev aw (c : Dev nD) : Vec Ideal S1024x8192 .f32 := m ((c : Thread nD τ).loc main_arg4)
abbrev adx (c : Dev nD) : Vec Ideal S8192x1024 .f32 := m ((c : Thread nD τ).loc main_arg5)
abbrev adp (c : Dev nD) : Vec Ideal S4x8192x2048 .f32 := m ((c : Thread nD τ).loc main_arg6)

/-- The rows of the backward norm, from the kernel's arrays. -/
abbrev A (c : Dev nD) : Rows := rows (adp m c) (aw m c) (ax m c) (adx m c) (ag m c) (asc m c)

/-! ### The blocks a grid point reads -/

abbrev blk0 (c : Dev nD) (t : Fin cfg0.N) : Vec Ideal S1x1024x2048 .bf16 := iblk m c 0 t
abbrev blk1 (c : Dev nD) (t : Fin cfg0.N) : Vec Ideal S1024x2048 .bf16 := iblk m c 1 t
abbrev blk3 (c : Dev nD) (t : Fin cfg0.N) : Vec Ideal S1024x1024 .f32 := iblk m c 3 t
abbrev blk4 (c : Dev nD) (t : Fin cfg0.N) : Vec Ideal S1024x1024 .f32 := iblk m c 4 t
abbrev blk5 (c : Dev nD) (t : Fin cfg0.N) : Vec Ideal S1x1024 .f32 := iblk m c 5 t
abbrev blk6 (c : Dev nD) (t : Fin cfg0.N) : Vec Ideal S1x1024 .f32 := iblk m c 6 t

theorem blk (c : Dev nD) (t : Fin cfg0.N) (r d : Fin 1024) (k : Fin 2048) :
    blk0 m c t (ix3 0 r k) * blk1 m c t (ix2 d k) = dterm (adp m c) (aw m c) (1024 * (t.val / 4) + r) d (2048 * (t.val % 4) + k) := by
  have ht : t.val < 32 := lt_of_lt_of_eq t.isLt N_0
  refine Eq.trans ?_ (dterm_part (adp m c) (aw m c) _ (by omega) d ⟨t.val % 4, by omega⟩ k (by show 2048 * (t.val % 4) + k.val < 8192; omega) _ rfl).symm
  refine congrArg₂ (· * ·) ?_ ?_
  · blk_ext! [iblk, V, idx0 t]
  · blk_ext! [iblk, V, idx1 t]

theorem x_blk (c : Dev nD) (t : Fin cfg0.N) (r d : Fin 1024) : blk3 m c t (ix2 r d) = (A m c).x (1024 * (t.val / 4) + r) d := by
  have ht : t.val < 32 := lt_of_lt_of_eq t.isLt N_0
  refine Eq.trans ?_ (rows_x (adp m c) (aw m c) (ax m c) (adx m c) (ag m c) (asc m c) ⟨1024 * (t.val / 4) + r, by omega⟩ d).symm
  blk_ext! [iblk, V, idx3 t]

theorem dxin_blk (c : Dev nD) (t : Fin cfg0.N) (r d : Fin 1024) : blk4 m c t (ix2 r d) = (A m c).dxin (1024 * (t.val / 4) + r) d := by
  have ht : t.val < 32 := lt_of_lt_of_eq t.isLt N_0
  refine Eq.trans ?_ (rows_dxin (adp m c) (aw m c) (ax m c) (adx m c) (ag m c) (asc m c) ⟨1024 * (t.val / 4) + r, by omega⟩ d).symm
  blk_ext! [iblk, V, idx4 t]

theorem g_blk (c : Dev nD) (t : Fin cfg0.N) (d : Fin 1024) : blk5 m c t (ix2 0 d) = (A m c).g d := by
  show _ = ag m c (ix1 d)
  blk_ext! [iblk, V, idx5 t]

theorem sc_blk (c : Dev nD) (t : Fin cfg0.N) (d : Fin 1024) : blk6 m c t (ix2 0 d) = (A m c).sc d := by
  show _ = asc m c (ix1 d)
  blk_ext! [iblk, V, idx6 t]

/-! ### One grid point -/

/-- A sum over a block's columns, at the arrays' coordinates. -/
theorem cols (c : Dev nD) (t : Fin cfg0.N) (r d : Fin 1024) :
    ∑ k : Fin 2048, blk0 m c t (ix3 0 r k) * blk1 m c t (ix2 d k)
      = ∑ k : Fin 2048, dterm (adp m c) (aw m c) (1024 * (t.val / 4) + r) d (2048 * (t.val % 4) + k) :=
  Finset.sum_congr rfl fun k _ => blk m c t r d k

/-- The accumulator after a point, and the point before it. -/
abbrev acc (c : Dev nD) (n : ℕ) (hn : n < cfg0.N) : Vec Ideal S1024x1024 .f32 := (outsAt0 m c n hn).2.2.2.2

theorem pred_lt (t : Fin cfg0.N) : t.val - 1 < cfg0.N := Nat.lt_of_le_of_lt (Nat.sub_le _ _) t.isLt

theorem acc_first (c : Dev nD) (t : Fin cfg0.N) (h : t.val % 4 = 0) (r d : Fin 1024) :
    acc m c t.val t.isLt (ix2 r d) = ∑ k : Fin 2048, dterm (adp m c) (aw m c) (1024 * (t.val / 4) + r) d (2048 * (t.val % 4) + k) := by
  by_cases h0 : t.val % 32 = 0
  · unfold acc
    rw [outsAt0_A m c t h0 h (by omega) (by omega)]
    frame_out
    rw [pay4]
    exact cols m c t r d
  · unfold acc
    rw [outsAt0_D m c t h0 h (by omega) (by omega)]
    frame_out
    rw [pay4]
    exact cols m c t r d

theorem acc_next (c : Dev nD) (t : Fin cfg0.N) (h : ¬ t.val % 4 = 0) (r d : Fin 1024) :
    acc m c t.val t.isLt (ix2 r d) = acc m c (t.val - 1) (pred_lt t) (ix2 r d)
      + ∑ k : Fin 2048, dterm (adp m c) (aw m c) (1024 * (t.val / 4) + r) d (2048 * (t.val % 4) + k) := by
  by_cases h3 : t.val % 4 = 3
  · unfold acc
    rw [outsAt0_C m c t (by omega) h (by omega) h3]
    frame_out
    rw [pay5]
    exact congrArg₂ (· + ·) (congrFun (Memref.IsWhole.read_unread (Memref.isWhole_whole cc0_scratch0) _) (ix2 r d)) (cols m c t r d)
  · unfold acc
    rw [outsAt0_B m c t (by omega) h (by omega) h3]
    frame_out
    rw [pay5]
    exact congrArg₂ (· + ·) (congrFun (Memref.IsWhole.read_unread (Memref.isWhole_whole cc0_scratch0) _) (ix2 r d)) (cols m c t r d)

/-- The accumulator after each point: the product over the columns met so far. -/
theorem point (c : Dev nD) : ∀ (n : ℕ) (hn : n < cfg0.N) (r d : Fin 1024),
    acc m c n hn (ix2 r d) = ∑ e ∈ Finset.range (2048 * (n % 4 + 1)), dterm (adp m c) (aw m c) (1024 * (n / 4) + r) d e := by
  intro n
  induction n with
  | zero =>
    intro hn r d
    refine (acc_first m c ⟨0, hn⟩ rfl r d).trans ?_
    rw [blocks_step]
    simp
  | succ n ih =>
    intro hn r d
    by_cases h0 : (n + 1) % 4 = 0
    · refine (acc_first m c ⟨n + 1, hn⟩ h0 r d).trans ?_
      rw [blocks_step]
      simp [h0]
    · refine (acc_next m c ⟨n + 1, hn⟩ h0 r d).trans ?_
      have e1 : (n + 1) % 4 = n % 4 + 1 := by omega
      have e2 : (n + 1) / 4 = n / 4 := by omega
      show acc m c n _ (ix2 r d) + ∑ k : Fin 2048, dterm (adp m c) (aw m c) (1024 * ((n + 1) / 4) + r) d (2048 * ((n + 1) % 4) + k) = _
      rw [ih, e1, e2, blocks_step _ _ (n % 4 + 1)]

theorem point_last (c : Dev nD) (t : Fin cfg0.N) (h : t.val % 4 = 3) (r d : Fin 1024) :
    acc m c t.val t.isLt (ix2 r d) = (A m c).dh (1024 * (t.val / 4) + r) d := by
  refine (point m c t.val t.isLt r d).trans ?_
  rw [h]
  rfl

theorem out7 (c : Dev nD) (t : Fin cfg0.N) (h : t.val % 4 = 3) (r d : Fin 1024) :
    (outsAt0 m c t.val t.isLt).1 (ix2 r d) = (A m c).dx (1024 * (t.val / 4) + r) d := by
  have hv := point_last m c t h
  unfold acc at hv
  rw [outsAt0_C m c t (by omega) (by omega) (by omega) h] at hv ⊢
  frame_out at hv
  frame_out
  exact dx_of (A m c) _ _ _ _ _ _ r d (x_blk m c t r) (hv r) (g_blk m c t) (sc_blk m c t) (dxin_blk m c t r d)

theorem out8 (c : Dev nD) (t : Fin cfg0.N) (h : t.val % 4 = 3) (d : Fin 1024) :
    (outsAt0 m c t.val t.isLt).2.1 (ix2 0 d) = (outsAt0 m c (t.val - 1) (pred_lt t)).2.1 (ix2 0 d)
      + ∑ r : Fin 1024, (A m c).dh (1024 * (t.val / 4) + r) d := by
  have hv := point_last m c t h
  unfold acc at hv
  rw [outsAt0_C m c t (by omega) (by omega) (by omega) h] at hv ⊢
  frame_out at hv
  frame_out
  exact sh_of (A m c) _ _ _ d hv

theorem out9 (c : Dev nD) (t : Fin cfg0.N) (h : t.val % 4 = 3) (d : Fin 1024) :
    (outsAt0 m c t.val t.isLt).2.2.1 (ix2 0 d) = (outsAt0 m c (t.val - 1) (pred_lt t)).2.2.1 (ix2 0 d)
      + ∑ r : Fin 1024, (A m c).tsc (1024 * (t.val / 4) + r) d := by
  have hv := point_last m c t h
  unfold acc at hv
  rw [outsAt0_C m c t (by omega) (by omega) (by omega) h] at hv ⊢
  frame_out at hv
  frame_out
  exact sc_of (A m c) _ _ _ _ _ d (x_blk m c t) hv (g_blk m c t)

theorem out10 (c : Dev nD) (t : Fin cfg0.N) (h : t.val % 4 = 3) (d : Fin 1024) :
    (outsAt0 m c t.val t.isLt).2.2.2.1 (ix2 0 d) = (outsAt0 m c (t.val - 1) (pred_lt t)).2.2.2.1 (ix2 0 d)
      + ∑ r : Fin 1024, (A m c).tg (1024 * (t.val / 4) + r) d := by
  have hv := point_last m c t h
  unfold acc at hv
  rw [outsAt0_C m c t (by omega) (by omega) (by omega) h] at hv ⊢
  frame_out at hv
  frame_out
  exact g_of (A m c) _ _ _ _ _ d (x_blk m c t) hv (sc_blk m c t)

/-- The column sums after the first point are zero. -/
theorem zero (c : Dev nD) (t : Fin cfg0.N) (h : t.val = 0) (d : Fin 1024) :
    (outsAt0 m c t.val t.isLt).2.1 (ix2 0 d) = 0 ∧ (outsAt0 m c t.val t.isLt).2.2.1 (ix2 0 d) = 0
      ∧ (outsAt0 m c t.val t.isLt).2.2.2.1 (ix2 0 d) = 0 := by
  rw [outsAt0_A m c t (by omega) (by omega) (by omega) (by omega)]
  refine ⟨?_, ?_, ?_⟩
  · frame_out
    exact pay1 _
  · frame_out
    exact pay2 _
  · frame_out
    exact pay3 _

/-- They stay the same at every other point but the last of a block of rows. -/
theorem keep (c : Dev nD) (t : Fin cfg0.N) (h : ¬ t.val = 0) (h3 : ¬ t.val % 4 = 3) :
    (outsAt0 m c t.val t.isLt).2.1 = (outsAt0 m c (t.val - 1) (pred_lt t)).2.1
      ∧ (outsAt0 m c t.val t.isLt).2.2.1 = (outsAt0 m c (t.val - 1) (pred_lt t)).2.2.1
      ∧ (outsAt0 m c t.val t.isLt).2.2.2.1 = (outsAt0 m c (t.val - 1) (pred_lt t)).2.2.2.1 := by
  have ht : t.val < 32 := lt_of_lt_of_eq t.isLt N_0
  by_cases h0 : t.val % 4 = 0
  · rw [outsAt0_D m c t (by omega) h0 (by omega) h3]
    exact ⟨rfl, rfl, rfl⟩
  · rw [outsAt0_B m c t (by omega) h0 (by omega) h3]
    exact ⟨rfl, rfl, rfl⟩

/-- The column sums after each point: over the blocks of rows finished so far. -/
theorem sums (c : Dev nD) (d : Fin 1024) : ∀ (n : ℕ) (hn : n < cfg0.N),
    (outsAt0 m c n hn).2.1 (ix2 0 d) = ∑ s ∈ Finset.range (1024 * ((n + 1) / 4)), (A m c).dh s d
      ∧ (outsAt0 m c n hn).2.2.1 (ix2 0 d) = ∑ s ∈ Finset.range (1024 * ((n + 1) / 4)), (A m c).tsc s d
      ∧ (outsAt0 m c n hn).2.2.2.1 (ix2 0 d) = ∑ s ∈ Finset.range (1024 * ((n + 1) / 4)), (A m c).tg s d := by
  intro n
  induction n with
  | zero =>
    intro hn
    obtain ⟨h1, h2, h3⟩ := zero m c ⟨0, hn⟩ rfl d
    exact ⟨h1.trans (by simp), h2.trans (by simp), h3.trans (by simp)⟩
  | succ n ih =>
    intro hn
    obtain ⟨i1, i2, i3⟩ := ih (by omega)
    by_cases h3 : (n + 1) % 4 = 3
    · have e : (n + 1 + 1) / 4 = (n + 1) / 4 + 1 := by omega
      rw [e, blocks_step, blocks_step, blocks_step]
      exact ⟨(out8 m c ⟨n + 1, hn⟩ h3 d).trans (congrArg₂ (· + ·) i1 rfl), (out9 m c ⟨n + 1, hn⟩ h3 d).trans (congrArg₂ (· + ·) i2 rfl),
        (out10 m c ⟨n + 1, hn⟩ h3 d).trans (congrArg₂ (· + ·) i3 rfl)⟩
    · have e : (n + 1 + 1) / 4 = (n + 1) / 4 := by omega
      rw [e]
      obtain ⟨k1, k2, k3⟩ := keep m c ⟨n + 1, hn⟩ (by simp) h3
      exact ⟨(congrFun k1 _).trans i1, (congrFun k2 _).trans i2, (congrFun k3 _).trans i3⟩

/-! ### The result arrays -/

theorem final7 (c : Dev nD) : (dats m 0 c).arrAt 7 cfg0.N = (fun y => (A m c).dx (y 0).val (y 1) : Vec Ideal S8192x1024 .f32) := by
  refine (dats m 0 c).arrAt_eq_of_covers 7 _ (by decide +kernel) fun t hf y => ?_
  have hl : t.val % 4 = 3 := (flush0_7 t).mp hf
  blk_simp
  rw [after0_7]
  idx_vars y
  refine (out7 m c t hl y0 y1).trans ?_
  refine congrArg₂ (A m c).dx ?_ ?_
  · rw [idx7 t]
    exact congrArg (· + y0.val) (Nat.mul_comm _ _)
  · exact (Fin.ext (by blk_simp [idx7 t]) : _ = y1).symm

/-- The column sums at the last point are over all rows. -/
theorem sums_last (c : Dev nD) (d : Fin 1024) (t : Fin cfg0.N) (h : t.val % 32 = 31) :
    (outsAt0 m c t.val t.isLt).2.1 (ix2 0 d) = ∑ s ∈ Finset.range 8192, (A m c).dh s d
      ∧ (outsAt0 m c t.val t.isLt).2.2.1 (ix2 0 d) = ∑ s ∈ Finset.range 8192, (A m c).tsc s d
      ∧ (outsAt0 m c t.val t.isLt).2.2.2.1 (ix2 0 d) = ∑ s ∈ Finset.range 8192, (A m c).tg s d := by
  have ht : t.val < 32 := lt_of_lt_of_eq t.isLt N_0
  have hs := sums m c d t.val t.isLt
  rw [show 1024 * ((t.val + 1) / 4) = 8192 by omega] at hs
  exact hs

theorem final8 (c : Dev nD) : (dats m 0 c).arrAt 8 cfg0.N = (fun y => ∑ s ∈ Finset.range 8192, (A m c).dh s (y 1) : Vec Ideal S1x1024 .f32) := by
  refine (dats m 0 c).arrAt_eq_of_covers 8 _ (by decide +kernel) fun t hf y => ?_
  have hl : t.val % 32 = 31 := (flush0_8 t).mp hf
  blk_simp
  rw [after0_8]
  idx_vars y
  refine (congrArg _ (congrFun (congrArg ix2 (Subsingleton.elim y0 0)) y1)).trans ?_
  refine (sums_last m c y1 t hl).1.trans ?_
  have e1 : ((win0_8.blk t).view.emb (ix2 y0 y1) 1 : Fin 1024) = y1 := Fin.ext (by blk_simp [idx8 t])
  show _ = ∑ s ∈ Finset.range 8192, (A m c).dh s ((win0_8.blk t).view.emb (ix2 y0 y1) 1)
  exact Finset.sum_congr rfl fun s _ => congrArg _ e1.symm

theorem final9 (c : Dev nD) : (dats m 0 c).arrAt 9 cfg0.N = (fun y => ∑ s ∈ Finset.range 8192, (A m c).tsc s (y 1) : Vec Ideal S1x1024 .f32) := by
  refine (dats m 0 c).arrAt_eq_of_covers 9 _ (by decide +kernel) fun t hf y => ?_
  have hl : t.val % 32 = 31 := (flush0_9 t).mp hf
  blk_simp
  rw [after0_9]
  idx_vars y
  refine (congrArg _ (congrFun (congrArg ix2 (Subsingleton.elim y0 0)) y1)).trans ?_
  refine (sums_last m c y1 t hl).2.1.trans ?_
  have e1 : ((win0_9.blk t).view.emb (ix2 y0 y1) 1 : Fin 1024) = y1 := Fin.ext (by blk_simp [idx9 t])
  show _ = ∑ s ∈ Finset.range 8192, (A m c).tsc s ((win0_9.blk t).view.emb (ix2 y0 y1) 1)
  exact Finset.sum_congr rfl fun s _ => congrArg _ e1.symm

theorem final10 (c : Dev nD) : (dats m 0 c).arrAt 10 cfg0.N = (fun y => ∑ s ∈ Finset.range 8192, (A m c).tg s (y 1) : Vec Ideal S1x1024 .f32) := by
  refine (dats m 0 c).arrAt_eq_of_covers 10 _ (by decide +kernel) fun t hf y => ?_
  have hl : t.val % 32 = 31 := (flush0_10 t).mp hf
  blk_simp
  rw [after0_10]
  idx_vars y
  refine (congrArg _ (congrFun (congrArg ix2 (Subsingleton.elim y0 0)) y1)).trans ?_
  refine (sums_last m c y1 t hl).2.2.trans ?_
  have e1 : ((win0_10.blk t).view.emb (ix2 y0 y1) 1 : Fin 1024) = y1 := Fin.ext (by blk_simp [idx10 t])
  show _ = ∑ s ∈ Finset.range 8192, (A m c).tg s ((win0_10.blk t).view.emb (ix2 y0 y1) 1)
  exact Finset.sum_congr rfl fun s _ => congrArg _ e1.symm

end Cert.Kernel5Ideal.Dh
-- ==== Proof.NormDx.lean ====
/- The two forms of the norm's input gradient are equal at every entry, infinite ones included. -/
module

public import proofs.«01_k».proof.Proof.Norm

@[expose] public section

noncomputable section

namespace Cert.Norm

open Idealize.ShloMosaic
open Cert.GatedConv (Real')

theorem add_self_eq (a : EReal) : a + a = ((2 : ℝ) : EReal) * a := by
  induction a with
  | bot => rw [EReal.coe_mul_bot_of_pos (by norm_num)]; rfl
  | top => rw [EReal.coe_mul_top_of_pos (by norm_num)]; rfl
  | coe x => rw [← EReal.coe_add, ← EReal.coe_mul, two_mul]

/-- A positive real factor distributes over a sum. -/
theorem mul_add_pos {ρ : ℝ} (h : 0 < ρ) (a b : EReal) : (ρ : EReal) * (a + b) = ρ * a + ρ * b :=
  EReal.left_distrib_of_nonneg_of_ne_top (by exact_mod_cast h.le) (EReal.coe_ne_top _) a b

theorem mul_sum_pos {ι : Type} {ρ : ℝ} (h : 0 < ρ) (s : Finset ι) (f : ι → EReal) : (ρ : EReal) * ∑ i ∈ s, f i = ∑ i ∈ s, (ρ : EReal) * f i := by
  classical
  induction s using Finset.induction_on with
  | empty => simp
  | insert a s ha ih => rw [Finset.sum_insert ha, Finset.sum_insert ha, mul_add_pos h, ih]

theorem sq_nonneg' (a : EReal) : 0 ≤ a * a := by
  induction a with
  | bot => rw [EReal.bot_mul_bot]; exact le_top
  | top => rw [EReal.top_mul_top]; exact le_top
  | coe x => rw [← EReal.coe_mul]; exact_mod_cast mul_self_nonneg x

theorem div_len (a : EReal) : Ideal.div a len = a * ((1 / 1024 : ℝ) : EReal) := by
  rw [len_eq, Ideal.div, if_neg (by exact_mod_cast (by norm_num : (1024 : ℝ) ≠ 0)), ← EReal.coe_inv, one_div]

/-- A row's mean square is a positive real number, or some entry is infinite and the mean square is. -/
theorem Rows.ms_cases (A : Rows) (s : ℕ) : (∃ M : ℝ, 0 < M ∧ A.ms s = (M : EReal) ∧ ∀ d, Real' (A.x s d)) ∨ A.ms s = ⊤ := by
  obtain ⟨e, he, hee⟩ := eps_pos
  by_cases h : ∀ d, Real' (A.x s d)
  · left
    choose X hX using h
    refine ⟨(∑ d, X d * X d) / 1024 + e, ?_, ?_, fun d => ⟨X d, hX d⟩⟩
    · exact add_pos_of_nonneg_of_pos (div_nonneg (Finset.sum_nonneg fun i _ => mul_self_nonneg _) (by norm_num)) he
    · unfold Rows.ms
      rw [hee, len_eq]
      simp only [hX, ← EReal.coe_mul]
      rw [coe_sum, div_coe _ _ (by norm_num), ← EReal.coe_add]
  · right
    obtain ⟨d, hd⟩ := not_forall.1 h
    have ht : A.x s d * A.x s d = ⊤ := by
      generalize A.x s d = a at hd
      induction a with
      | bot => exact EReal.bot_mul_bot
      | top => exact EReal.top_mul_top
      | coe x => exact absurd ⟨x, rfl⟩ hd
    have hs : ∑ d, A.x s d * A.x s d = ⊤ := by
      refine top_le_iff.1 ?_
      rw [← ht]
      exact Finset.single_le_sum (f := fun d => A.x s d * A.x s d) (fun i _ => sq_nonneg' _) (Finset.mem_univ d)
    unfold Rows.ms
    rw [hs, div_len, EReal.top_mul_coe_of_pos (by norm_num), hee, EReal.top_add_coe]

theorem Rows.dx_all (A : Rows) (s : ℕ) (d : Fin 1024) :
    A.dxin s d + A.dy s d * A.r s + A.x s d * A.q s + A.q s * A.x s d = A.dx s d := by
  have key : A.dy s d * A.r s + (A.x s d * A.q s + A.q s * A.x s d)
      = A.r s * (A.dy s d - A.xn s d * Ideal.div (∑ e, A.dy s e * A.xn s e) len) := by
    rcases A.ms_cases s with ⟨M, hM, hms, hx⟩ | hms
    · obtain ⟨X, hX⟩ := hx d
      have hr : A.r s = (((Real.sqrt M)⁻¹ : ℝ) : EReal) := by
        unfold Rows.r
        rw [hms, Ideal.rsqrt_coe, if_neg (not_lt.2 hM.le), if_neg hM.ne']
      have hRM : (Real.sqrt M)⁻¹ / M = (Real.sqrt M)⁻¹ ^ 3 := by
        have hs : Real.sqrt M ≠ 0 := (Real.sqrt_pos.2 hM).ne'
        have h2 : M = Real.sqrt M * Real.sqrt M := (Real.mul_self_sqrt hM.le).symm
        rw [div_eq_iff hM.ne']
        calc (Real.sqrt M)⁻¹ = (Real.sqrt M)⁻¹ ^ 3 * (Real.sqrt M * Real.sqrt M) := by field_simp
          _ = _ := by rw [← h2]
      have hRp : 0 < (Real.sqrt M)⁻¹ := inv_pos.2 (Real.sqrt_pos.2 hM)
      generalize (Real.sqrt M)⁻¹ = R at hr hRM hRp
      have hS : ∑ e, A.dy s e * A.xn s e = (R : EReal) * ∑ e, A.x s e * A.dy s e := by
        rw [mul_sum_pos hRp]
        refine Finset.sum_congr rfl fun e _ => ?_
        unfold Rows.xn
        rw [hr, mul_comm (A.dy s e), mul_assoc, mul_comm (A.x s e), mul_assoc, mul_comm (A.dy s e)]
      have hq : A.q s = (∑ e, A.x s e * A.dy s e) * ((-1 / 2 * R ^ 3 / 1024 : ℝ) : EReal) := by
        unfold Rows.q
        rw [hms, hr, mhalf_eq, div_coe _ _ hM.ne', hRM, ← EReal.coe_mul, div_len, mul_assoc, ← EReal.coe_mul]
        congr 2
        ring
      rw [hS, hq]
      unfold Rows.xn
      generalize ∑ e, A.x s e * A.dy s e = S
      rw [hX, hr, div_len, sub_eq_add_neg, mul_add_pos hRp, mul_comm (A.dy s d)]
      refine congrArg₂ (· + ·) rfl ?_
      rw [mul_comm (S * _) (X : EReal), add_self_eq]
      have e1 : ((2 : ℝ) : EReal) * ((X : EReal) * (S * ((-1 / 2 * R ^ 3 / 1024 : ℝ) : EReal))) = S * ((-(X * R ^ 3 / 1024) : ℝ) : EReal) := by
        rw [mul_left_comm (X : EReal) S, mul_left_comm _ S, ← EReal.coe_mul, ← EReal.coe_mul]
        congr 2
        ring
      rw [e1, ← EReal.neg_mul, mul_comm (R : EReal) S, mul_assoc S, mul_left_comm _ S, mul_left_comm _ S, ← EReal.coe_mul, ← EReal.coe_mul, ← EReal.coe_neg,
        ← EReal.coe_mul, ← EReal.coe_mul]
      congr 2
      ring
    · have hr : A.r s = 0 := by unfold Rows.r; rw [hms]; rfl
      have hq : A.q s = 0 := by
        unfold Rows.q
        rw [hms, hr, show Ideal.div 0 ⊤ = 0 by rw [Ideal.div, if_neg (by simp), zero_mul], mul_zero, mul_zero, div_len, zero_mul]
      rw [hr, hq, mul_zero, mul_zero, zero_mul, zero_mul, add_zero, add_zero]
  rw [add_assoc, add_assoc, key]
  rfl

end Cert.Norm
-- ==== Proof.DhARef.lean ====
/- The reference's gradients through part a's norm, as the formulas of the backward norm's rows. -/
module

public import proofs.«01_k».proof.Proof.Gen.Reference5Ideal.Read
public import proofs.«01_k».proof.Proof.Rows
public import proofs.«01_k».proof.Proof.NormDx

@[expose] public section

set_option maxRecDepth 16384

noncomputable section

namespace Cert.Reference5Ideal.Dh

open Idealize.ShloMosaic Idealize.ShloMosaic.Tactic Cert.Reference5Ideal Cert.Reference5Ideal.Read
open Cert.Norm

theorem ix3_congr {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

variable (x : Vec Ideal S8192x1024 .f32) (g sc : Vec Ideal S1024 .f32) (w : Vec Ideal S1024x8192 .f32) (dxin : Vec Ideal S8192x1024 .f32)
  (dp : Vec Ideal S4x8192x2048 .f32)

abbrev A : Rows := rows dp w x dxin g sc

theorem cat_at (s e : Fin 8192) : val_main_v37 (F := Ideal) dp (ix2 s e) = dp (ix3 ⟨e / 2048, by omega⟩ s ⟨e % 2048, by omega⟩) := by
  pointwise [val_main_v37, val_main_v36, val_main_v35, val_main_v34, val_main_v33, val_main_v32, val_main_v31, val_main_v30, val_main_v29]
  by_cases h0 : e.val < 2048
  · rw [dif_pos h0]
    exact congrArg dp (ix3_congr (by show 0 = e.val / 2048; omega) rfl (by show e.val = e.val % 2048; omega))
  rw [dif_neg h0]
  by_cases h1 : e.val - 2048 < 2048
  · rw [dif_pos h1]
    exact congrArg dp (ix3_congr (by show 1 = e.val / 2048; omega) rfl (by show e.val - 2048 = e.val % 2048; omega))
  rw [dif_neg h1]
  by_cases h2 : e.val - 2048 - 2048 < 2048
  · rw [dif_pos h2]
    exact congrArg dp (ix3_congr (by show 2 = e.val / 2048; omega) rfl (by show e.val - 2048 - 2048 = e.val % 2048; omega))
  rw [dif_neg h2]
  exact congrArg dp (ix3_congr (by show 3 = e.val / 2048; omega) rfl (by show e.val - 2048 - 2048 - 2048 = e.val % 2048; omega))

theorem dh_at (s : Fin 8192) (d : Fin 1024) : val_main_v38 (F := Ideal) w dp (ix2 s d) = (A x g sc w dxin dp).dh s d := by
  pointwise [val_main_v38]
  refine Eq.trans (Finset.sum_congr rfl fun e _ => ?_) (Finset.sum_range (fun e => dterm dp w s d e)).symm
  rw [cat_at]
  exact (dterm_at dp w s d e (by omega)).symm

theorem ms_at (s : Fin 8192) : val_main_v6 (F := Ideal) x (ix2 s 0) = (A x g sc w dxin dp).ms s := by
  pointwise [val_main_v6, val_main_v5, val_main_cst_1, val_main_v4, val_main_v3, val_main_cst_0, val_main_v2, val_main_v1, val_main_cst, val_main_v0]
  simp only [Rows.ms, rows_x]

theorem r_at (s : Fin 8192) : val_main_v7 (F := Ideal) x (ix2 s 0) = (A x g sc w dxin dp).r s := by
  pointwise [val_main_v7]
  rw [ms_at x g sc w dxin dp]
  rfl

theorem xn_at (s : Fin 8192) (d : Fin 1024) : val_main_v12 (F := Ideal) x (ix2 s d) = (A x g sc w dxin dp).xn s d := by
  pointwise [val_main_v12, val_main_v11]
  rw [r_at x g sc w dxin dp]
  simp only [Rows.xn, rows_x]

theorem da_at (s : Fin 8192) (d : Fin 1024) : val_main_v46 (F := Ideal) sc w dp (ix2 s d) = (A x g sc w dxin dp).da s d := by
  pointwise [val_main_v46, val_main_v45, val_main_v18, val_main_v17, val_main_v16, val_main_cst_3]
  rw [dh_at x g sc w dxin dp]
  simp only [Rows.da, one_eq]
  rfl

theorem dy_at (s : Fin 8192) (d : Fin 1024) : val_main_v52 (F := Ideal) g sc w dp (ix2 s d) = (A x g sc w dxin dp).dy s d := by
  pointwise [val_main_v52, val_main_v51, val_main_v13]
  rw [da_at x g sc w dxin dp]
  rfl

theorem q_at (s : Fin 8192) (d : Fin 1024) : val_main_v64 (F := Ideal) x g sc w dp (ix2 s d) = (A x g sc w dxin dp).q s := by
  pointwise [val_main_v64, val_main_v63, val_main_cst_12, val_main_v62, val_main_v61, val_main_cst_11, val_main_v60, val_main_v56, val_main_v55, val_main_cst_10, val_main_v54, val_main_v10, val_main_v9, val_main_cst_2, val_main_v8]
  rw [Fin.sum_univ_one]
  simp only [dy_at x g sc w dxin dp, r_at x g sc w dxin dp, ms_at x g sc w dxin dp]
  simp only [Rows.q, rows_x]

theorem dx_eq (s : Fin 8192) (d : Fin 1024) :
    val_main_v68 (F := Ideal) x g sc w dxin dp (ix2 s d) = (A x g sc w dxin dp).dx s d := by
  refine Eq.trans ?_ ((A x g sc w dxin dp).dx_all s d)
  pointwise [val_main_v68, val_main_v67, val_main_v66, val_main_v65, val_main_v59, val_main_v58, val_main_v57]
  rw [q_at x g sc w dxin dp, dy_at x g sc w dxin dp, r_at x g sc w dxin dp, rows_x, rows_dxin]

theorem sh_eq (d : Fin 1024) : val_main_v69 (F := Ideal) w dp (ix2 0 d) = ∑ s ∈ Finset.range 8192, (A x g sc w dxin dp).dh s d := by
  rw [Finset.sum_range]
  pointwise [val_main_v69, val_main_v41, val_main_cst_5, val_main_v40, val_main_v39, val_main_cst_4]
  rw [Fin.sum_univ_one]
  exact Finset.sum_congr rfl fun s _ => dh_at x g sc w dxin dp s d

theorem tsc_at (s : Fin 8192) (d : Fin 1024) : val_main_v42 (F := Ideal) x g w dp (ix2 s d) = (A x g sc w dxin dp).tsc s d := by
  pointwise [val_main_v42, val_main_v15, val_main_v14, val_main_v13]
  rw [dh_at x g sc w dxin dp, xn_at x g sc w dxin dp]
  exact mul_comm _ _

theorem sc_eq (d : Fin 1024) : val_main_v70 (F := Ideal) x g w dp (ix2 0 d) = ∑ s ∈ Finset.range 8192, (A x g sc w dxin dp).tsc s d := by
  rw [Finset.sum_range]
  pointwise [val_main_v70, val_main_v47, val_main_cst_7, val_main_v44, val_main_v43, val_main_cst_6]
  rw [Fin.sum_univ_one]
  exact Finset.sum_congr rfl fun s _ => tsc_at x g sc w dxin dp s d

theorem tg_at (s : Fin 8192) (d : Fin 1024) : val_main_v48 (F := Ideal) x sc w dp (ix2 s d) = (A x g sc w dxin dp).tg s d := by
  pointwise [val_main_v48]
  rw [da_at x g sc w dxin dp, xn_at x g sc w dxin dp]
  exact mul_comm _ _

theorem g_eq (d : Fin 1024) : val_main_v71 (F := Ideal) x sc w dp (ix2 0 d) = ∑ s ∈ Finset.range 8192, (A x g sc w dxin dp).tg s d := by
  rw [Finset.sum_range]
  pointwise [val_main_v71, val_main_v53, val_main_cst_9, val_main_v50, val_main_v49, val_main_cst_8]
  rw [Fin.sum_univ_one]
  exact Finset.sum_congr rfl fun s _ => tg_at x g sc w dxin dp s d

end Cert.Reference5Ideal.Dh
-- ==== Proof.DhAValue.lean ====
/- The value claim of the gradient of the first layer's input and its reference's frame. -/
module

public import proofs.«01_k».proof.Defs
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.DhA
public import proofs.«01_k».proof.Proof.DhARef

@[expose] public section

set_option maxRecDepth 16384
set_option maxHeartbeats 4000000

noncomputable section

namespace Cert.Proof

open Idealize.ShloMosaic Idealize.ShloMosaic.TcCoe Idealize.SL.Sem

theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem value5 : Cert.algebraic_Kernel5Ideal_Reference5Ideal := by
  intro m g m' g' _ hm
  refine ⟨fun c => (fun y => (Kernel5Ideal.Dh.A m c).dx (y 0).val (y 1) : Vec Ideal Kernel5Ideal.S8192x1024 .f32),
    fun c => (fun y => ∑ s ∈ Finset.range 8192, (Kernel5Ideal.Dh.A m c).dh s (y 1) : Vec Ideal Kernel5Ideal.S1x1024 .f32),
    fun c => (fun y => ∑ s ∈ Finset.range 8192, (Kernel5Ideal.Dh.A m c).tsc s (y 1) : Vec Ideal Kernel5Ideal.S1x1024 .f32),
    fun c => (fun y => ∑ s ∈ Finset.range 8192, (Kernel5Ideal.Dh.A m c).tg s (y 1) : Vec Ideal Kernel5Ideal.S1x1024 .f32), ?_, ?_⟩
  · refine (θ_run Cert.Kernel5Ideal.defs _ _).mono (fun r h c => ?_) (Cert.Kernel5Ideal.Value.run_blocks (F := Ideal) m g)
    obtain ⟨h0, h1, h2, h3, hr⟩ := h c
    exact ⟨h0.trans (Kernel5Ideal.Dh.final7 m c), h1.trans (Kernel5Ideal.Dh.final8 m c), h2.trans (Kernel5Ideal.Dh.final9 m c), h3.trans (Kernel5Ideal.Dh.final10 m c), hr⟩
  · refine (θ_run Cert.Reference5Ideal.defs _ _).mono (fun r h c => ?_) (Cert.Reference5Ideal.Value.run (F := Ideal) m' g')
    obtain ⟨h0, h1, h2, h3, hr⟩ := h c
    obtain ⟨a0, a1, a2, a3, a4, a5, a6⟩ := hm c
    refine ⟨h0.trans ?_, h1.trans ?_, h2.trans ?_, h3.trans ?_, hr⟩
    · rw [Reference5Ideal.Read.val_main_v68_eq, a0, a1, a2, a4, a5, a6]
      funext y
      idx_vars y
      exact Reference5Ideal.Dh.dx_eq (Kernel5Ideal.Dh.ax m c) (Kernel5Ideal.Dh.ag m c) (Kernel5Ideal.Dh.asc m c) (Kernel5Ideal.Dh.aw m c) (Kernel5Ideal.Dh.adx m c) (Kernel5Ideal.Dh.adp m c) y0 y1
    · rw [Reference5Ideal.Read.val_main_v69_eq, a4, a6]
      funext y
      idx_vars y
      obtain rfl : y0 = 0 := Subsingleton.elim _ _
      exact Reference5Ideal.Dh.sh_eq (Kernel5Ideal.Dh.ax m c) (Kernel5Ideal.Dh.ag m c) (Kernel5Ideal.Dh.asc m c) (Kernel5Ideal.Dh.aw m c) (Kernel5Ideal.Dh.adx m c) (Kernel5Ideal.Dh.adp m c) y1
    · rw [Reference5Ideal.Read.val_main_v70_eq, a0, a1, a4, a6]
      funext y
      idx_vars y
      obtain rfl : y0 = 0 := Subsingleton.elim _ _
      exact Reference5Ideal.Dh.sc_eq (Kernel5Ideal.Dh.ax m c) (Kernel5Ideal.Dh.ag m c) (Kernel5Ideal.Dh.asc m c) (Kernel5Ideal.Dh.aw m c) (Kernel5Ideal.Dh.adx m c) (Kernel5Ideal.Dh.adp m c) y1
    · rw [Reference5Ideal.Read.val_main_v71_eq, a0, a2, a4, a6]
      funext y
      idx_vars y
      obtain rfl : y0 = 0 := Subsingleton.elim _ _
      exact Reference5Ideal.Dh.g_eq (Kernel5Ideal.Dh.ax m c) (Kernel5Ideal.Dh.ag m c) (Kernel5Ideal.Dh.asc m c) (Kernel5Ideal.Dh.aw m c) (Kernel5Ideal.Dh.adx m c) (Kernel5Ideal.Dh.adp m c) y1

end Cert.Proof

end
-- ==== Proof.ProjB.lean ====
/- The projection of the second layer: the kernel's result array and the reference's, as one sum. -/
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit.Point

@[expose] public section

set_option maxRecDepth 16384

noncomputable section

namespace Cert.Kernel8Ideal.Pr

open Idealize.ShloMosaic Idealize.ShloMosaic.TcCoe Idealize.ShloMosaic.Tactic
open Idealize.ShloMosaic.Pipeline (Dat)
open Cert.Kernel8Ideal Cert.Kernel8Ideal.Gen

/-- The product of the rows with the three column blocks of the weights, one block after the other. -/
abbrev prod (x0 : Vec Ideal S8192x1024 .f32) (x1 : Vec Ideal S1024x6144 .f32) : Vec Ideal S3x8192x2048 .f32 :=
  fun y => ∑ k : Fin 1024, x0 (ix2 (y 1) k) * x1 (ix2 k ⟨2048 * (y 0).val + (y 2).val, by
    have h0 : (y 0).val < 3 := (y 0).isLt
    have h2 : (y 2).val < 2048 := (y 2).isLt
    omega⟩)

theorem pay1 (a : Vec Ideal S2048x1024 .bf16) (b : Vec Ideal S1024x2048 .bf16) (z : Fin 1) (r : Fin 2048) (e : Fin 2048) :
    k0_pay1 (F := Ideal) a b (ix3 z r e) = ∑ k : Fin 1024, a (ix2 r k) * b (ix2 k e) := by
  pointwise [k0_pay1]

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx3 : ∀ t : Fin cfg0.N, win0_3.index t = ![t.val % 3, t.val / 3, 0] := (by decide +kernel : ∀ t : Fin grid0.N, _)

variable (m : (ℓ : Loc nD τ sig) → Buf (Elt Ideal) ℓ)

abbrev x0 (c : Dev nD) : Vec Ideal S8192x1024 .f32 := m ((c : Thread nD τ).loc main_arg0)
abbrev x1 (c : Dev nD) : Vec Ideal S1024x6144 .f32 := m ((c : Thread nD τ).loc main_arg1)

/-- The two blocks a grid point reads. -/
abbrev blk0 (c : Dev nD) (t : Fin cfg0.N) : Vec Ideal S2048x1024 .bf16 := iblk m c 0 t
abbrev blk1 (c : Dev nD) (t : Fin cfg0.N) : Vec Ideal S1024x2048 .bf16 := iblk m c 1 t

/-- The rows a grid point's block holds, at the array's coordinates. -/
theorem blk0_at (c : Dev nD) (t : Fin cfg0.N) (r : Fin 2048) (k : Fin 1024) (s : Fin 8192) (hs : s.val = 2048 * (t.val / 3) + r.val) :
    blk0 m c t (ix2 r k) = x0 m c (ix2 s k) := by
  have ht : t.val < 12 := lt_of_lt_of_eq t.isLt N_0
  rw [show s = ⟨2048 * (t.val / 3) + r.val, by omega⟩ from Fin.ext hs]
  blk_ext! [iblk, V, idx0 t]

/-- The weights a grid point's block holds, at the array's coordinates. -/
theorem blk1_at (c : Dev nD) (t : Fin cfg0.N) (k : Fin 1024) (e : Fin 2048) (q : Fin 6144) (hq : q.val = 2048 * (t.val % 3) + e.val) :
    blk1 m c t (ix2 k e) = x1 m c (ix2 k q) := by
  rw [show q = ⟨2048 * (t.val % 3) + e.val, by omega⟩ from Fin.ext hq]
  blk_ext! [iblk, V, idx1 t]

theorem final (c : Dev nD) : (dats m 0 c).arrAt 3 cfg0.N = prod (x0 m c) (x1 m c) := by
  refine (dats m 0 c).arrAt_eq_of_covers 3 _ (by decide +kernel) fun t hf y => ?_
  have ht : t.val < 12 := lt_of_lt_of_eq t.isLt N_0
  blk_simp
  rw [after0_3]
  frame_out
  idx_vars y
  refine (pay1 (blk0 m c t) (blk1 m c t) y0 y1 y2).trans ?_
  have z0 : y0.val = 0 := by omega
  have e0 : (((win0_3.blk t).view.emb (ix3 y0 y1 y2) 0 : Fin _) : ℕ) = t.val % 3 := by
    blk_simp [idx3 t]
  have e1 : (((win0_3.blk t).view.emb (ix3 y0 y1 y2) 1 : Fin _) : ℕ) = 2048 * (t.val / 3) + y1.val := by
    blk_simp [idx3 t]
    exact congrArg (· + y1.val) (Nat.mul_comm _ _)
  have e2 : (((win0_3.blk t).view.emb (ix3 y0 y1 y2) 2 : Fin _) : ℕ) = y2.val := by blk_simp [idx3 t]
  refine Finset.sum_congr rfl fun k _ => ?_
  exact congrArg₂ (· * ·) (blk0_at m c t y1 k _ e1) (blk1_at m c t k y2 _ (by
    show 2048 * ((win0_3.blk t).view.emb (ix3 y0 y1 y2) 0).val + ((win0_3.blk t).view.emb (ix3 y0 y1 y2) 2).val = _
    rw [e0, e2]))

end Cert.Kernel8Ideal.Pr

namespace Cert.Reference8Ideal.Pr

open Idealize.ShloMosaic Idealize.ShloMosaic.Tactic Cert.Reference8Ideal Cert.Reference8Ideal.Read
open Cert.Kernel8Ideal.Pr (prod)

theorem v0_at (x0 : Vec Ideal S8192x1024 .f32) (x1 : Vec Ideal S1024x6144 .f32) (s : Fin 8192) (q : Fin 6144) :
    val_main_v0 (F := Ideal) x0 x1 (ix2 s q) = ∑ k : Fin 1024, x0 (ix2 s k) * x1 (ix2 k q) := by
  pointwise [val_main_v0]

theorem v0_at' (x0 : Vec Ideal S8192x1024 .f32) (x1 : Vec Ideal S1024x6144 .f32) (j : S8192x6144.Idx) (s : Fin 8192) (q : Fin 6144)
    (h0 : (j 0).val = s.val) (h1 : (j 1).val = q.val) :
    val_main_v0 (F := Ideal) x0 x1 j = ∑ k : Fin 1024, x0 (ix2 s k) * x1 (ix2 k q) := by
  obtain rfl : j = ix2 s q := by
    funext a
    fin_cases a
    · exact Fin.ext h0
    · exact Fin.ext h1
  exact v0_at x0 x1 s q

theorem val_eq (x0 : Vec Ideal S8192x1024 .f32) (x1 : Vec Ideal S1024x6144 .f32) :
    val_main_v8 (F := Ideal) x0 x1 = prod x0 x1 := by
  funext y
  idx_vars y
  fin_cases y0
  · pointwise [val_main_v8, val_main_v7, val_main_v6, val_main_v5, val_main_v4, val_main_v3, val_main_v2, val_main_v1]
    exact v0_at' x0 x1 _ y1 ⟨2048 * 0 + y2.val, by omega⟩ rfl (by simp)
  · pointwise [val_main_v8, val_main_v7, val_main_v6, val_main_v5, val_main_v4, val_main_v3, val_main_v2, val_main_v1]
    exact v0_at' x0 x1 _ y1 ⟨2048 * 1 + y2.val, by omega⟩ rfl (by simp)
  · pointwise [val_main_v8, val_main_v7, val_main_v6, val_main_v5, val_main_v4, val_main_v3, val_main_v2, val_main_v1]
    exact v0_at' x0 x1 _ y1 ⟨2048 * 2 + y2.val, by omega⟩ rfl (by simp)

end Cert.Reference8Ideal.Pr

end
-- ==== Proof.ProjBValue.lean ====
/- The value claim of the second layer's projection and its reference's frame. -/
module

public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.ProjB

@[expose] public section

set_option maxRecDepth 16384
set_option maxHeartbeats 4000000

noncomputable section

namespace Cert.Proof

open Idealize.ShloMosaic Idealize.ShloMosaic.TcCoe Idealize.SL.Sem

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem value8 : Cert.algebraic_Kernel8Ideal_Reference8Ideal := by
  intro m g m' g' _ hm
  refine ⟨fun c => Kernel8Ideal.Pr.prod (Kernel8Ideal.Pr.x0 m c) (Kernel8Ideal.Pr.x1 m c), ?_, ?_⟩
  · refine (θ_run Cert.Kernel8Ideal.defs _ _).mono (fun r h c => ?_) (Cert.Kernel8Ideal.Value.run_blocks (F := Ideal) m g)
    obtain ⟨h0, hr⟩ := h c
    exact ⟨h0.trans (Kernel8Ideal.Pr.final m c), hr⟩
  · refine (θ_run Cert.Reference8Ideal.defs _ _).mono (fun r h c => ?_) (Cert.Reference8Ideal.Value.run (F := Ideal) m' g')
    obtain ⟨h0, hr⟩ := h c
    obtain ⟨a0, a1⟩ := hm c
    refine ⟨h0.trans ?_, hr⟩
    rw [Reference8Ideal.Read.val_main_v8_eq, a0, a1]
    exact Reference8Ideal.Pr.val_eq _ _

end Cert.Proof

end
-- ==== Proof.DhBPay.lean ====
/- What each stored value of the kernel for part b's norm is at an index, and the last point's results as the backward norm's formulas. -/
module

public import proofs.«01_k».proof.Proof.Gen.Kernel6Ideal.Skeleton
public import proofs.«01_k».proof.Proof.Norm
public import Idealize.ShloMosaic.Lib.Pointwise

@[expose] public section

set_option maxRecDepth 16384

noncomputable section

namespace Cert.Kernel6Ideal.Dh

open Idealize.ShloMosaic Idealize.ShloMosaic.TcCoe Idealize.ShloMosaic.Tactic
open Cert.Kernel6Ideal Cert.Kernel6Ideal.Gen
open Cert.Norm (Rows len eps one)

theorem pay1 (y : S1x1024.Idx) : k0_pay1 (F := Ideal) y = 0 := by
  pointwise [k0_pay1]

theorem pay2 (y : S1x1024.Idx) : k0_pay2 (F := Ideal) y = 0 := by
  pointwise [k0_pay2]

theorem pay3 (y : S1x1024.Idx) : k0_pay3 (F := Ideal) y = 0 := by
  pointwise [k0_pay3]

theorem pay4 (y : S1x1024.Idx) : k0_pay4 (F := Ideal) y = 0 := by
  pointwise [k0_pay4]

theorem pay5 (a : Vec Ideal S1x1024x1024 .bf16) (b : Vec Ideal S1024x1024 .bf16) (r d : Fin 1024) :
    k0_pay5 (F := Ideal) a b (ix2 r d) = ∑ k : Fin 1024, a (ix3 0 r k) * b (ix2 d k) := by
  pointwise [k0_pay5]

theorem pay6 (v : Vec Ideal S1024x1024 .f32) (a : Vec Ideal S1x1024x1024 .bf16) (b : Vec Ideal S1024x1024 .bf16) (r d : Fin 1024) :
    k0_pay6 (F := Ideal) v a b (ix2 r d) = v (ix2 r d) + ∑ k : Fin 1024, a (ix3 0 r k) * b (ix2 d k) := by
  pointwise [k0_pay6]

theorem pay7 (v : Vec Ideal S1x1024 .f32) (y : S1x1024.Idx) : k0_pay7 (F := Ideal) v y = v y := by
  pointwise [k0_pay7]

theorem pay9 (x : Vec Ideal S1024x1024 .f32) (r : Fin 1024) :
    k0_pay9 (F := Ideal) x (ix2 r 0) = Ideal.rsqrt (Ideal.div (∑ d : Fin 1024, x (ix2 r d) * x (ix2 r d)) len + eps) := by
  pointwise [k0_pay9, k0_pay8]

theorem pay10 (x : Vec Ideal S1024x1024 .f32) (r d : Fin 1024) :
    k0_pay10 (F := Ideal) x (ix2 r d) = x (ix2 r d) * k0_pay9 (F := Ideal) x (ix2 r 0) := by
  pointwise [k0_pay10, k0_pay8]

theorem pay11 (v : Vec Ideal S1024x1024 .f32) (o : Vec Ideal S1x1024 .f32) (d : Fin 1024) :
    k0_pay11 (F := Ideal) v o (ix2 0 d) = o (ix2 0 d) + ∑ r : Fin 1024, v (ix2 r d) := by
  pointwise [k0_pay11]

theorem pay12 (v : Vec Ideal S1024x1024 .f32) (g : Vec Ideal S1x1024 .f32) (x : Vec Ideal S1024x1024 .f32) (o : Vec Ideal S1x1024 .f32) (d : Fin 1024) :
    k0_pay12 (F := Ideal) v g x o (ix2 0 d)
      = o (ix2 0 d) + ∑ r : Fin 1024, v (ix2 r d) * (k0_pay10 (F := Ideal) x (ix2 r d) * g (ix2 0 d)) := by
  pointwise [k0_pay12, k0_pay7]

theorem pay13 (v : Vec Ideal S1024x1024 .f32) (s : Vec Ideal S1x1024 .f32) (r d : Fin 1024) :
    k0_pay13 (F := Ideal) v s (ix2 r d) = v (ix2 r d) * (one + s (ix2 0 d)) := by
  pointwise [k0_pay13]

theorem pay14 (xn da : Vec Ideal S1024x1024 .f32) (o : Vec Ideal S1x1024 .f32) (d : Fin 1024) :
    k0_pay14 (F := Ideal) xn da o (ix2 0 d) = o (ix2 0 d) + ∑ r : Fin 1024, da (ix2 r d) * xn (ix2 r d) := by
  pointwise [k0_pay14]

theorem pay15 (g : Vec Ideal S1x1024 .f32) (rs : Vec Ideal S1024x1 .f32) (xn da dxin : Vec Ideal S1024x1024 .f32) (r d : Fin 1024) :
    k0_pay15 (F := Ideal) g rs xn da dxin (ix2 r d)
      = dxin (ix2 r d) + rs (ix2 r 0) * (da (ix2 r d) * g (ix2 0 d)
          - xn (ix2 r d) * Ideal.div (∑ e : Fin 1024, da (ix2 r e) * g (ix2 0 e) * xn (ix2 r e)) len) := by
  pointwise [k0_pay15]

theorem pay16 (g : Vec Ideal S1x1024 .f32) (rs : Vec Ideal S1024x1 .f32) (xn da dxin : Vec Ideal S1024x1024 .f32) (o : Vec Ideal S1x1024 .f32)
    (br : Vec Ideal S1024x1024 .f32) (d : Fin 1024) :
    k0_pay16 (F := Ideal) g rs xn da dxin o br (ix2 0 d)
      = o (ix2 0 d) + ∑ r : Fin 1024, k0_pay15 (F := Ideal) g rs xn da dxin (ix2 r d) * br (ix2 r d) := by
  pointwise [k0_pay16]

theorem pay17 (g : Vec Ideal S1x1024 .f32) (rs : Vec Ideal S1024x1 .f32) (xn da dxin : Vec Ideal S1024x1024 .f32) (gate : Vec Ideal S1x1024 .f32)
    (r d : Fin 1024) :
    k0_pay17 (F := Ideal) g rs xn da dxin gate (ix2 r d) = gate (ix2 0 d) * k0_pay15 (F := Ideal) g rs xn da dxin (ix2 r d) := by
  pointwise [k0_pay17]

/-! ### The last point of a block of rows: its results from the accumulated product -/

variable (A : Rows) (v x dxin : Vec Ideal S1024x1024 .f32) (g sc o : Vec Ideal S1x1024 .f32) (s : ℕ)

theorem rs_of (r : Fin 1024) (hx : ∀ d, x (ix2 r d) = A.x s d) : k0_pay9 (F := Ideal) x (ix2 r 0) = A.r s := by
  simp only [pay9, hx]
  rfl

theorem xn_of (r d : Fin 1024) (hx : ∀ d, x (ix2 r d) = A.x s d) : k0_pay10 (F := Ideal) x (ix2 r d) = A.xn s d := by
  rw [pay10, rs_of A x s r hx, hx]
  rfl

theorem da_of (r d : Fin 1024) (hv : v (ix2 r d) = A.dh s d) (hs : ∀ d, sc (ix2 0 d) = A.sc d) :
    k0_pay13 (F := Ideal) v sc (ix2 r d) = A.da s d := by
  rw [pay13, hv, hs]
  rfl

theorem dx_of (r d : Fin 1024) (hx : ∀ d, x (ix2 r d) = A.x s d) (hv : ∀ d, v (ix2 r d) = A.dh s d)
    (hg : ∀ d, g (ix2 0 d) = A.g d) (hs : ∀ d, sc (ix2 0 d) = A.sc d) (hd : dxin (ix2 r d) = A.dxin s d) :
    k0_pay15 (F := Ideal) (k0_pay7 g) (k0_pay9 x) (k0_pay10 x) (k0_pay13 v sc) dxin (ix2 r d) = A.dx s d := by
  simp only [pay15, pay7, rs_of A x s r hx, fun d => xn_of A x s r d hx, fun d => da_of A v sc s r d (hv d) hs, hg, hd]
  rfl

variable (b : ℕ)

theorem sh_of (d : Fin 1024) (hv : ∀ r d : Fin 1024, v (ix2 r d) = A.dh (b + r) d) :
    k0_pay11 (F := Ideal) v o (ix2 0 d) = o (ix2 0 d) + ∑ r : Fin 1024, A.dh (b + r) d := by
  simp only [pay11, hv]

theorem sc_of (d : Fin 1024) (hx : ∀ r d : Fin 1024, x (ix2 r d) = A.x (b + r) d) (hv : ∀ r d : Fin 1024, v (ix2 r d) = A.dh (b + r) d)
    (hg : ∀ d, g (ix2 0 d) = A.g d) :
    k0_pay12 (F := Ideal) v g x o (ix2 0 d) = o (ix2 0 d) + ∑ r : Fin 1024, A.tsc (b + r) d := by
  rw [pay12]
  refine congrArg₂ (· + ·) rfl (Finset.sum_congr rfl fun r _ => ?_)
  rw [hv, hg, xn_of A x (b + r) r d (hx r)]
  rfl

theorem g_of (d : Fin 1024) (hx : ∀ r d : Fin 1024, x (ix2 r d) = A.x (b + r) d) (hv : ∀ r d : Fin 1024, v (ix2 r d) = A.dh (b + r) d)
    (hs : ∀ d, sc (ix2 0 d) = A.sc d) :
    k0_pay14 (F := Ideal) (k0_pay10 x) (k0_pay13 v sc) o (ix2 0 d) = o (ix2 0 d) + ∑ r : Fin 1024, A.tg (b + r) d := by
  rw [pay14]
  refine congrArg₂ (· + ·) rfl (Finset.sum_congr rfl fun r _ => ?_)
  rw [da_of A v sc (b + r) r d (hv r d) hs, xn_of A x (b + r) r d (hx r)]
  rfl

end Cert.Kernel6Ideal.Dh
-- ==== Proof.DhB.lean ====
/- The gradient of part b's normalised input, carried back through the norm: the kernel's result arrays as the backward norm's formulas. -/
module

public import proofs.«01_k».proof.Proof.Gen.Kernel6Ideal.Value
public import proofs.«01_k».proof.Proof.DhBPay
public import proofs.«01_k».proof.Proof.Rows
public import Idealize.ShloMosaic.Lib.Pipeline.ValueKit.Point
public import Idealize.ShloMosaic.Lib.Pipeline.ValueKit.Acc

@[expose] public section

set_option maxRecDepth 16384

noncomputable section

namespace Cert.Kernel6Ideal.Dh

open Idealize.ShloMosaic Idealize.ShloMosaic.TcCoe Idealize.ShloMosaic.Tactic
open Idealize.ShloMosaic.Pipeline (Dat)
open Cert.Kernel6Ideal Cert.Kernel6Ideal.Gen
open Cert.Norm

theorem idx0 : ∀ t : Fin cfg0.N, win0_0.index t = ![t.val % 6 / 2, t.val / 6, t.val % 6 % 2] := (by decide +kernel : ∀ t : Fin grid0.N, _)
theorem idx1 : ∀ t : Fin cfg0.N, win0_1.index t = ![0, t.val % 6] := (by decide +kernel : ∀ t : Fin grid0.N, _)
theorem idx3 : ∀ t : Fin cfg0.N, win0_3.index t = ![t.val / 6, 0] := (by decide +kernel : ∀ t : Fin grid0.N, _)
theorem idx4 : ∀ t : Fin cfg0.N, win0_4.index t = ![t.val / 6, 0] := (by decide +kernel : ∀ t : Fin grid0.N, _)
theorem idx7 : ∀ t : Fin cfg0.N, win0_7.index t = ![t.val / 6, 0] := (by decide +kernel : ∀ t : Fin grid0.N, _)
theorem idx9 : ∀ t : Fin cfg0.N, win0_9.index t = ![t.val / 6, 0] := (by decide +kernel : ∀ t : Fin grid0.N, _)
theorem idx13 : ∀ t : Fin cfg0.N, win0_13.index t = ![t.val / 6, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx8 : ∀ t : Fin cfg0.N, win0_8.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx14 : ∀ t : Fin cfg0.N, win0_14.index t = ![0, 0] := (by decide +kernel : ∀ t : Fin grid0.N, _)

variable (m : (ℓ : Loc nD τ sig) → Buf (Elt Ideal) ℓ)

abbrev ax (c : Dev nD) : Vec Ideal S8192x1024 .f32 := m ((c : Thread nD τ).loc main_arg0)
abbrev agate (c : Dev nD) : Vec Ideal S1024 .f32 := m ((c : Thread nD τ).loc main_arg1)
abbrev abr (c : Dev nD) : Vec Ideal S8192x1024 .f32 := m ((c : Thread nD τ).loc main_arg2)
abbrev ag (c : Dev nD) : Vec Ideal S1024 .f32 := m ((c : Thread nD τ).loc main_arg3)
abbrev asc (c : Dev nD) : Vec Ideal S1024 .f32 := m ((c : Thread nD τ).loc main_arg4)
abbrev aw (c : Dev nD) : Vec Ideal S1024x6144 .f32 := m ((c : Thread nD τ).loc main_arg6)
abbrev adx (c : Dev nD) : Vec Ideal S8192x1024 .f32 := m ((c : Thread nD τ).loc main_arg7)
abbrev adp (c : Dev nD) : Vec Ideal S3x8192x2048 .f32 := m ((c : Thread nD τ).loc main_arg8)

/-- The norm's input: the stream with the gated branch added. -/
abbrev axin (c : Dev nD) : Vec Ideal S8192x1024 .f32 := gated (ax m c) (agate m c) (abr m c)

/-- The rows of the backward norm, from the kernel's arrays. -/
abbrev A (c : Dev nD) : Rows := rows (adp m c) (aw m c) (axin m c) (adx m c) (ag m c) (asc m c)

/-! ### The blocks a grid point reads -/

abbrev blk0 (c : Dev nD) (t : Fin cfg0.N) : Vec Ideal S1x1024x1024 .bf16 := iblk m c 0 t
abbrev blk1 (c : Dev nD) (t : Fin cfg0.N) : Vec Ideal S1024x1024 .bf16 := iblk m c 1 t
abbrev blk3 (c : Dev nD) (t : Fin cfg0.N) : Vec Ideal S1024x1024 .f32 := iblk m c 3 t
abbrev blk4 (c : Dev nD) (t : Fin cfg0.N) : Vec Ideal S1024x1024 .f32 := iblk m c 4 t
abbrev blk5 (c : Dev nD) (t : Fin cfg0.N) : Vec Ideal S1x1024 .f32 := iblk m c 5 t
abbrev blk6 (c : Dev nD) (t : Fin cfg0.N) : Vec Ideal S1x1024 .f32 := iblk m c 6 t
abbrev blk7 (c : Dev nD) (t : Fin cfg0.N) : Vec Ideal S1024x1024 .f32 := iblk m c 7 t
abbrev blk8 (c : Dev nD) (t : Fin cfg0.N) : Vec Ideal S1x1024 .f32 := iblk m c 8 t

theorem blk (c : Dev nD) (t : Fin cfg0.N) (r d : Fin 1024) (k : Fin 1024) :
    blk0 m c t (ix3 0 r k) * blk1 m c t (ix2 d k) = dterm (adp m c) (aw m c) (1024 * (t.val / 6) + r) d (1024 * (t.val % 6) + k) := by
  have ht : t.val < 48 := lt_of_lt_of_eq t.isLt N_0
  have he : 1024 * (t.val % 6) + k.val = 2048 * (t.val % 6 / 2) + (1024 * (t.val % 6 % 2) + k.val) := by omega
  refine Eq.trans ?_ (dterm_part (adp m c) (aw m c) _ (by omega) d ⟨t.val % 6 / 2, by omega⟩ ⟨1024 * (t.val % 6 % 2) + k.val, by omega⟩
    (by show 2048 * (t.val % 6 / 2) + (1024 * (t.val % 6 % 2) + k.val) < 6144; omega) _ he).symm
  refine congrArg₂ (· * ·) ?_ ?_
  · blk_ext! [iblk, V, idx0 t]
  · blk_ext! [iblk, V, idx1 t]

theorem x_blk (c : Dev nD) (t : Fin cfg0.N) (r d : Fin 1024) : blk3 m c t (ix2 r d) = (A m c).x (1024 * (t.val / 6) + r) d := by
  have ht : t.val < 48 := lt_of_lt_of_eq t.isLt N_0
  refine Eq.trans ?_ (rows_x (adp m c) (aw m c) (axin m c) (adx m c) (ag m c) (asc m c) ⟨1024 * (t.val / 6) + r, by omega⟩ d).symm
  have hi : ((win0_3.blk t).view.emb (ix2 r d) : S8192x1024.Idx) = ix2 ⟨1024 * (t.val / 6) + r, by omega⟩ d := by
    refine funext fun a => Fin.ext ?_
    match a with
    | 0 =>
      blk_simp [idx3 t]
      exact congrArg (· + r.val) (Nat.mul_comm _ _)
    | 1 => blk_simp [idx3 t]
  refine Eq.trans ?_ (congrArg (axin m c) hi)
  blk_simp [iblk, V]
  entry_read
  pointwise
  rfl

theorem dxin_blk (c : Dev nD) (t : Fin cfg0.N) (r d : Fin 1024) : blk4 m c t (ix2 r d) = (A m c).dxin (1024 * (t.val / 6) + r) d := by
  have ht : t.val < 48 := lt_of_lt_of_eq t.isLt N_0
  refine Eq.trans ?_ (rows_dxin (adp m c) (aw m c) (axin m c) (adx m c) (ag m c) (asc m c) ⟨1024 * (t.val / 6) + r, by omega⟩ d).symm
  blk_ext! [iblk, V, idx4 t]

theorem g_blk (c : Dev nD) (t : Fin cfg0.N) (d : Fin 1024) : blk5 m c t (ix2 0 d) = (A m c).g d := by
  show _ = ag m c (ix1 d)
  blk_ext! [iblk, V, idx5 t]

theorem sc_blk (c : Dev nD) (t : Fin cfg0.N) (d : Fin 1024) : blk6 m c t (ix2 0 d) = (A m c).sc d := by
  show _ = asc m c (ix1 d)
  blk_ext! [iblk, V, idx6 t]

theorem br_blk (c : Dev nD) (t : Fin cfg0.N) (r d : Fin 1024) (hs : 1024 * (t.val / 6) + r.val < 8192) :
    blk7 m c t (ix2 r d) = abr m c (ix2 ⟨1024 * (t.val / 6) + r, hs⟩ d) := by
  blk_ext! [iblk, V, idx7 t]

theorem gate_blk (c : Dev nD) (t : Fin cfg0.N) (d : Fin 1024) : blk8 m c t (ix2 0 d) = agate m c (ix1 d) := by
  blk_ext! [iblk, V, idx8 t]

/-! ### One grid point -/

/-- A sum over a block's columns, at the arrays' coordinates. -/
theorem cols (c : Dev nD) (t : Fin cfg0.N) (r d : Fin 1024) :
    ∑ k : Fin 1024, blk0 m c t (ix3 0 r k) * blk1 m c t (ix2 d k)
      = ∑ k : Fin 1024, dterm (adp m c) (aw m c) (1024 * (t.val / 6) + r) d (1024 * (t.val % 6) + k) :=
  Finset.sum_congr rfl fun k _ => blk m c t r d k

/-- The accumulator after a point, and the point before it. -/
abbrev acc (c : Dev nD) (n : ℕ) (hn : n < cfg0.N) : Vec Ideal S1024x1024 .f32 := (outsAt0 m c n hn).2.2.2.2.2.2

theorem pred_lt (t : Fin cfg0.N) : t.val - 1 < cfg0.N := Nat.lt_of_le_of_lt (Nat.sub_le _ _) t.isLt

theorem acc_first (c : Dev nD) (t : Fin cfg0.N) (h : t.val % 6 = 0) (r d : Fin 1024) :
    acc m c t.val t.isLt (ix2 r d) = ∑ k : Fin 1024, dterm (adp m c) (aw m c) (1024 * (t.val / 6) + r) d (1024 * (t.val % 6) + k) := by
  by_cases h0 : t.val % 48 = 0
  · unfold acc
    rw [outsAt0_A m c t h0 h (by omega) (by omega)]
    frame_out
    rw [pay5]
    exact cols m c t r d
  · unfold acc
    rw [outsAt0_D m c t h0 h (by omega) (by omega)]
    frame_out
    rw [pay5]
    exact cols m c t r d

theorem acc_next (c : Dev nD) (t : Fin cfg0.N) (h : ¬ t.val % 6 = 0) (r d : Fin 1024) :
    acc m c t.val t.isLt (ix2 r d) = acc m c (t.val - 1) (pred_lt t) (ix2 r d)
      + ∑ k : Fin 1024, dterm (adp m c) (aw m c) (1024 * (t.val / 6) + r) d (1024 * (t.val % 6) + k) := by
  by_cases h3 : t.val % 6 = 5
  · unfold acc
    rw [outsAt0_C m c t (by omega) h (by omega) h3]
    frame_out
    rw [pay6]
    exact congrArg₂ (· + ·) (congrFun (Memref.IsWhole.read_unread (Memref.isWhole_whole cc0_scratch0) _) (ix2 r d)) (cols m c t r d)
  · unfold acc
    rw [outsAt0_B m c t (by omega) h (by omega) h3]
    frame_out
    rw [pay6]
    exact congrArg₂ (· + ·) (congrFun (Memref.IsWhole.read_unread (Memref.isWhole_whole cc0_scratch0) _) (ix2 r d)) (cols m c t r d)

/-- The accumulator after each point: the product over the columns met so far. -/
theorem point (c : Dev nD) : ∀ (n : ℕ) (hn : n < cfg0.N) (r d : Fin 1024),
    acc m c n hn (ix2 r d) = ∑ e ∈ Finset.range (1024 * (n % 6 + 1)), dterm (adp m c) (aw m c) (1024 * (n / 6) + r) d e := by
  intro n
  induction n with
  | zero =>
    intro hn r d
    refine (acc_first m c ⟨0, hn⟩ rfl r d).trans ?_
    rw [blocks_step]
    simp
  | succ n ih =>
    intro hn r d
    by_cases h0 : (n + 1) % 6 = 0
    · refine (acc_first m c ⟨n + 1, hn⟩ h0 r d).trans ?_
      rw [blocks_step]
      simp [h0]
    · refine (acc_next m c ⟨n + 1, hn⟩ h0 r d).trans ?_
      have e1 : (n + 1) % 6 = n % 6 + 1 := by omega
      have e2 : (n + 1) / 6 = n / 6 := by omega
      show acc m c n _ (ix2 r d) + ∑ k : Fin 1024, dterm (adp m c) (aw m c) (1024 * ((n + 1) / 6) + r) d (1024 * ((n + 1) % 6) + k) = _
      rw [ih, e1, e2, blocks_step _ _ (n % 6 + 1)]

theorem point_last (c : Dev nD) (t : Fin cfg0.N) (h : t.val % 6 = 5) (r d : Fin 1024) :
    acc m c t.val t.isLt (ix2 r d) = (A m c).dh (1024 * (t.val / 6) + r) d := by
  refine (point m c t.val t.isLt r d).trans ?_
  rw [h]
  rfl

theorem out9 (c : Dev nD) (t : Fin cfg0.N) (h : t.val % 6 = 5) (r d : Fin 1024) :
    (outsAt0 m c t.val t.isLt).1 (ix2 r d) = (A m c).dx (1024 * (t.val / 6) + r) d := by
  have hv := point_last m c t h
  unfold acc at hv
  rw [outsAt0_C m c t (by omega) (by omega) (by omega) h] at hv ⊢
  frame_out at hv
  frame_out
  exact dx_of (A m c) _ _ _ _ _ _ r d (x_blk m c t r) (hv r) (g_blk m c t) (sc_blk m c t) (dxin_blk m c t r d)

theorem out10 (c : Dev nD) (t : Fin cfg0.N) (h : t.val % 6 = 5) (d : Fin 1024) :
    (outsAt0 m c t.val t.isLt).2.1 (ix2 0 d) = (outsAt0 m c (t.val - 1) (pred_lt t)).2.1 (ix2 0 d)
      + ∑ r : Fin 1024, (A m c).dh (1024 * (t.val / 6) + r) d := by
  have hv := point_last m c t h
  unfold acc at hv
  rw [outsAt0_C m c t (by omega) (by omega) (by omega) h] at hv ⊢
  frame_out at hv
  frame_out
  exact sh_of (A m c) _ _ _ d hv

theorem out11 (c : Dev nD) (t : Fin cfg0.N) (h : t.val % 6 = 5) (d : Fin 1024) :
    (outsAt0 m c t.val t.isLt).2.2.1 (ix2 0 d) = (outsAt0 m c (t.val - 1) (pred_lt t)).2.2.1 (ix2 0 d)
      + ∑ r : Fin 1024, (A m c).tsc (1024 * (t.val / 6) + r) d := by
  have hv := point_last m c t h
  unfold acc at hv
  rw [outsAt0_C m c t (by omega) (by omega) (by omega) h] at hv ⊢
  frame_out at hv
  frame_out
  exact sc_of (A m c) _ _ _ _ _ d (x_blk m c t) hv (g_blk m c t)

theorem out12 (c : Dev nD) (t : Fin cfg0.N) (h : t.val % 6 = 5) (d : Fin 1024) :
    (outsAt0 m c t.val t.isLt).2.2.2.1 (ix2 0 d) = (outsAt0 m c (t.val - 1) (pred_lt t)).2.2.2.1 (ix2 0 d)
      + ∑ r : Fin 1024, (A m c).tg (1024 * (t.val / 6) + r) d := by
  have hv := point_last m c t h
  unfold acc at hv
  rw [outsAt0_C m c t (by omega) (by omega) (by omega) h] at hv ⊢
  frame_out at hv
  frame_out
  exact g_of (A m c) _ _ _ _ _ d (x_blk m c t) hv (sc_blk m c t)

theorem out13 (c : Dev nD) (t : Fin cfg0.N) (h : t.val % 6 = 5) (r d : Fin 1024) :
    (outsAt0 m c t.val t.isLt).2.2.2.2.1 (ix2 r d) = agate m c (ix1 d) * (A m c).dx (1024 * (t.val / 6) + r) d := by
  have hv := point_last m c t h
  unfold acc at hv
  rw [outsAt0_C m c t (by omega) (by omega) (by omega) h] at hv ⊢
  frame_out at hv
  frame_out
  rw [pay17]
  exact congrArg₂ (· * ·) (gate_blk m c t d) (dx_of (A m c) _ _ _ _ _ _ r d (x_blk m c t r) (hv r) (g_blk m c t) (sc_blk m c t) (dxin_blk m c t r d))

theorem out14 (c : Dev nD) (t : Fin cfg0.N) (h : t.val % 6 = 5) (d : Fin 1024) :
    (outsAt0 m c t.val t.isLt).2.2.2.2.2.1 (ix2 0 d) = (outsAt0 m c (t.val - 1) (pred_lt t)).2.2.2.2.2.1 (ix2 0 d)
      + ∑ r : Fin 1024, (A m c).tgate (abr m c) (1024 * (t.val / 6) + r) d := by
  have ht : t.val < 48 := lt_of_lt_of_eq t.isLt N_0
  have hv := point_last m c t h
  unfold acc at hv
  rw [outsAt0_C m c t (by omega) (by omega) (by omega) h] at hv ⊢
  frame_out at hv
  frame_out
  rw [pay16]
  refine congrArg₂ (· + ·) rfl (Finset.sum_congr rfl fun r _ => ?_)
  refine Eq.trans ?_ ((A m c).tgate_at (abr m c) ⟨1024 * (t.val / 6) + r, by omega⟩ d).symm
  exact congrArg₂ (· * ·) (dx_of (A m c) _ _ _ _ _ _ r d (x_blk m c t r) (hv r) (g_blk m c t) (sc_blk m c t) (dxin_blk m c t r d))
    (br_blk m c t r d (by omega))

/-- The column sums after the first point are zero. -/
theorem zero (c : Dev nD) (t : Fin cfg0.N) (h : t.val = 0) (d : Fin 1024) :
    (outsAt0 m c t.val t.isLt).2.1 (ix2 0 d) = 0 ∧ (outsAt0 m c t.val t.isLt).2.2.1 (ix2 0 d) = 0
      ∧ (outsAt0 m c t.val t.isLt).2.2.2.1 (ix2 0 d) = 0 ∧ (outsAt0 m c t.val t.isLt).2.2.2.2.2.1 (ix2 0 d) = 0 := by
  rw [outsAt0_A m c t (by omega) (by omega) (by omega) (by omega)]
  refine ⟨?_, ?_, ?_, ?_⟩
  · frame_out
    exact pay1 _
  · frame_out
    exact pay2 _
  · frame_out
    exact pay3 _
  · frame_out
    exact pay4 _

/-- They stay the same at every other point but the last of a block of rows. -/
theorem keep (c : Dev nD) (t : Fin cfg0.N) (h : ¬ t.val = 0) (h3 : ¬ t.val % 6 = 5) :
    (outsAt0 m c t.val t.isLt).2.1 = (outsAt0 m c (t.val - 1) (pred_lt t)).2.1
      ∧ (outsAt0 m c t.val t.isLt).2.2.1 = (outsAt0 m c (t.val - 1) (pred_lt t)).2.2.1
      ∧ (outsAt0 m c t.val t.isLt).2.2.2.1 = (outsAt0 m c (t.val - 1) (pred_lt t)).2.2.2.1
      ∧ (outsAt0 m c t.val t.isLt).2.2.2.2.2.1 = (outsAt0 m c (t.val - 1) (pred_lt t)).2.2.2.2.2.1 := by
  have ht : t.val < 48 := lt_of_lt_of_eq t.isLt N_0
  by_cases h0 : t.val % 6 = 0
  · rw [outsAt0_D m c t (by omega) h0 (by omega) h3]
    exact ⟨rfl, rfl, rfl, rfl⟩
  · rw [outsAt0_B m c t (by omega) h0 (by omega) h3]
    exact ⟨rfl, rfl, rfl, rfl⟩

/-- The column sums after each point: over the blocks of rows finished so far. -/
theorem sums (c : Dev nD) (d : Fin 1024) : ∀ (n : ℕ) (hn : n < cfg0.N),
    (outsAt0 m c n hn).2.1 (ix2 0 d) = ∑ s ∈ Finset.range (1024 * ((n + 1) / 6)), (A m c).dh s d
      ∧ (outsAt0 m c n hn).2.2.1 (ix2 0 d) = ∑ s ∈ Finset.range (1024 * ((n + 1) / 6)), (A m c).tsc s d
      ∧ (outsAt0 m c n hn).2.2.2.1 (ix2 0 d) = ∑ s ∈ Finset.range (1024 * ((n + 1) / 6)), (A m c).tg s d
      ∧ (outsAt0 m c n hn).2.2.2.2.2.1 (ix2 0 d) = ∑ s ∈ Finset.range (1024 * ((n + 1) / 6)), (A m c).tgate (abr m c) s d := by
  intro n
  induction n with
  | zero =>
    intro hn
    obtain ⟨h1, h2, h3, h4⟩ := zero m c ⟨0, hn⟩ rfl d
    exact ⟨h1.trans (by simp), h2.trans (by simp), h3.trans (by simp), h4.trans (by simp)⟩
  | succ n ih =>
    intro hn
    obtain ⟨i1, i2, i3, i4⟩ := ih (by omega)
    by_cases h3 : (n + 1) % 6 = 5
    · have e : (n + 1 + 1) / 6 = (n + 1) / 6 + 1 := by omega
      rw [e, blocks_step, blocks_step, blocks_step, blocks_step]
      exact ⟨(out10 m c ⟨n + 1, hn⟩ h3 d).trans (congrArg₂ (· + ·) i1 rfl), (out11 m c ⟨n + 1, hn⟩ h3 d).trans (congrArg₂ (· + ·) i2 rfl),
        (out12 m c ⟨n + 1, hn⟩ h3 d).trans (congrArg₂ (· + ·) i3 rfl), (out14 m c ⟨n + 1, hn⟩ h3 d).trans (congrArg₂ (· + ·) i4 rfl)⟩
    · have e : (n + 1 + 1) / 6 = (n + 1) / 6 := by omega
      rw [e]
      obtain ⟨k1, k2, k3, k4⟩ := keep m c ⟨n + 1, hn⟩ (by simp) h3
      exact ⟨(congrFun k1 _).trans i1, (congrFun k2 _).trans i2, (congrFun k3 _).trans i3, (congrFun k4 _).trans i4⟩

/-! ### The result arrays -/

theorem final9 (c : Dev nD) : (dats m 0 c).arrAt 9 cfg0.N = (fun y => (A m c).dx (y 0).val (y 1) : Vec Ideal S8192x1024 .f32) := by
  refine (dats m 0 c).arrAt_eq_of_covers 9 _ (by decide +kernel) fun t hf y => ?_
  have hl : t.val % 6 = 5 := (flush0_9 t).mp hf
  blk_simp
  rw [after0_9]
  idx_vars y
  refine (out9 m c t hl y0 y1).trans ?_
  refine congrArg₂ (A m c).dx ?_ ?_
  · rw [idx9 t]
    exact congrArg (· + y0.val) (Nat.mul_comm _ _)
  · exact (Fin.ext (by blk_simp [idx9 t]) : _ = y1).symm

/-- The column sums at the last point are over all rows. -/
theorem sums_last (c : Dev nD) (d : Fin 1024) (t : Fin cfg0.N) (h : t.val % 48 = 47) :
    (outsAt0 m c t.val t.isLt).2.1 (ix2 0 d) = ∑ s ∈ Finset.range 8192, (A m c).dh s d
      ∧ (outsAt0 m c t.val t.isLt).2.2.1 (ix2 0 d) = ∑ s ∈ Finset.range 8192, (A m c).tsc s d
      ∧ (outsAt0 m c t.val t.isLt).2.2.2.1 (ix2 0 d) = ∑ s ∈ Finset.range 8192, (A m c).tg s d
      ∧ (outsAt0 m c t.val t.isLt).2.2.2.2.2.1 (ix2 0 d) = ∑ s ∈ Finset.range 8192, (A m c).tgate (abr m c) s d := by
  have ht : t.val < 48 := lt_of_lt_of_eq t.isLt N_0
  have hs := sums m c d t.val t.isLt
  rw [show 1024 * ((t.val + 1) / 6) = 8192 by omega] at hs
  exact hs

theorem final10 (c : Dev nD) : (dats m 0 c).arrAt 10 cfg0.N = (fun y => ∑ s ∈ Finset.range 8192, (A m c).dh s (y 1) : Vec Ideal S1x1024 .f32) := by
  refine (dats m 0 c).arrAt_eq_of_covers 10 _ (by decide +kernel) fun t hf y => ?_
  have hl : t.val % 48 = 47 := (flush0_10 t).mp hf
  blk_simp
  rw [after0_10]
  idx_vars y
  refine (congrArg _ (congrFun (congrArg ix2 (Subsingleton.elim y0 0)) y1)).trans ?_
  refine (sums_last m c y1 t hl).1.trans ?_
  have e1 : ((win0_10.blk t).view.emb (ix2 y0 y1) 1 : Fin 1024) = y1 := Fin.ext (by blk_simp [idx10 t])
  show _ = ∑ s ∈ Finset.range 8192, (A m c).dh s ((win0_10.blk t).view.emb (ix2 y0 y1) 1)
  exact Finset.sum_congr rfl fun s _ => congrArg _ e1.symm

theorem final11 (c : Dev nD) : (dats m 0 c).arrAt 11 cfg0.N = (fun y => ∑ s ∈ Finset.range 8192, (A m c).tsc s (y 1) : Vec Ideal S1x1024 .f32) := by
  refine (dats m 0 c).arrAt_eq_of_covers 11 _ (by decide +kernel) fun t hf y => ?_
  have hl : t.val % 48 = 47 := (flush0_11 t).mp hf
  blk_simp
  rw [after0_11]
  idx_vars y
  refine (congrArg _ (congrFun (congrArg ix2 (Subsingleton.elim y0 0)) y1)).trans ?_
  refine (sums_last m c y1 t hl).2.1.trans ?_
  have e1 : ((win0_11.blk t).view.emb (ix2 y0 y1) 1 : Fin 1024) = y1 := Fin.ext (by blk_simp [idx11 t])
  show _ = ∑ s ∈ Finset.range 8192, (A m c).tsc s ((win0_11.blk t).view.emb (ix2 y0 y1) 1)
  exact Finset.sum_congr rfl fun s _ => congrArg _ e1.symm

theorem final12 (c : Dev nD) : (dats m 0 c).arrAt 12 cfg0.N = (fun y => ∑ s ∈ Finset.range 8192, (A m c).tg s (y 1) : Vec Ideal S1x1024 .f32) := by
  refine (dats m 0 c).arrAt_eq_of_covers 12 _ (by decide +kernel) fun t hf y => ?_
  have hl : t.val % 48 = 47 := (flush0_12 t).mp hf
  blk_simp
  rw [after0_12]
  idx_vars y
  refine (congrArg _ (congrFun (congrArg ix2 (Subsingleton.elim y0 0)) y1)).trans ?_
  refine (sums_last m c y1 t hl).2.2.1.trans ?_
  have e1 : ((win0_12.blk t).view.emb (ix2 y0 y1) 1 : Fin 1024) = y1 := Fin.ext (by blk_simp [idx12 t])
  show _ = ∑ s ∈ Finset.range 8192, (A m c).tg s ((win0_12.blk t).view.emb (ix2 y0 y1) 1)
  exact Finset.sum_congr rfl fun s _ => congrArg _ e1.symm

theorem final13 (c : Dev nD) : (dats m 0 c).arrAt 13 cfg0.N = (fun y => agate m c (ix1 (y 1)) * (A m c).dx (y 0).val (y 1) : Vec Ideal S8192x1024 .bf16) := by
  refine (dats m 0 c).arrAt_eq_of_covers 13 _ (by decide +kernel) fun t hf y => ?_
  have hl : t.val % 6 = 5 := (flush0_13 t).mp hf
  blk_simp
  rw [after0_13]
  idx_vars y
  refine (out13 m c t hl y0 y1).trans ?_
  have e1 : ((win0_13.blk t).view.emb (ix2 y0 y1) 1 : Fin 1024) = y1 := Fin.ext (by blk_simp [idx13 t])
  refine congrArg₂ (· * ·) (congrArg (fun d => agate m c (ix1 d)) e1.symm) (congrArg₂ (A m c).dx ?_ e1.symm)
  rw [idx13 t]
  exact congrArg (· + y0.val) (Nat.mul_comm _ _)

theorem final14 (c : Dev nD) : (dats m 0 c).arrAt 14 cfg0.N = (fun y => ∑ s ∈ Finset.range 8192, (A m c).tgate (abr m c) s (y 1) : Vec Ideal S1x1024 .f32) := by
  refine (dats m 0 c).arrAt_eq_of_covers 14 _ (by decide +kernel) fun t hf y => ?_
  have hl : t.val % 48 = 47 := (flush0_14 t).mp hf
  blk_simp
  rw [after0_14]
  idx_vars y
  refine (congrArg _ (congrFun (congrArg ix2 (Subsingleton.elim y0 0)) y1)).trans ?_
  refine (sums_last m c y1 t hl).2.2.2.trans ?_
  have e1 : ((win0_14.blk t).view.emb (ix2 y0 y1) 1 : Fin 1024) = y1 := Fin.ext (by blk_simp [idx14 t])
  show _ = ∑ s ∈ Finset.range 8192, (A m c).tgate (abr m c) s ((win0_14.blk t).view.emb (ix2 y0 y1) 1)
  exact Finset.sum_congr rfl fun s _ => congrArg _ e1.symm

end Cert.Kernel6Ideal.Dh
-- ==== Proof.DhBRef.lean ====
/- The reference's gradients through part b's norm and its gated input, as the formulas of the backward norm's rows. -/
module

public import proofs.«01_k».proof.Proof.Gen.Reference6Ideal.Read
public import proofs.«01_k».proof.Proof.Rows
public import proofs.«01_k».proof.Proof.NormDx

@[expose] public section

set_option maxRecDepth 16384

noncomputable section

namespace Cert.Reference6Ideal.Dh

open Idealize.ShloMosaic Idealize.ShloMosaic.Tactic Cert.Reference6Ideal Cert.Reference6Ideal.Read
open Cert.Norm

theorem ix3_congr {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

variable (x : Vec Ideal S8192x1024 .f32) (gate : Vec Ideal S1024 .f32) (br : Vec Ideal S8192x1024 .f32) (g sc : Vec Ideal S1024 .f32)
  (w : Vec Ideal S1024x6144 .f32) (dxin : Vec Ideal S8192x1024 .f32) (dp : Vec Ideal S3x8192x2048 .f32)

abbrev A : Rows := rows dp w (gated x gate br) dxin g sc

theorem cat_at (s : Fin 8192) (e : Fin 6144) : val_main_v42 (F := Ideal) dp (ix2 s e) = dp (ix3 ⟨e / 2048, by omega⟩ s ⟨e % 2048, by omega⟩) := by
  pointwise [val_main_v42, val_main_v41, val_main_cst_5, val_main_v40, val_main_cst_4, val_main_v39, val_main_v38, val_main_v37, val_main_v36, val_main_v35, val_main_v34, val_main_v33]
  by_cases h0 : e.val < 2048
  · rw [dif_neg (by omega), dif_pos (show e.val < 4096 by omega), dif_pos h0, zero_add]
    exact congrArg dp (ix3_congr (by show 0 = e.val / 2048; omega) rfl (by show e.val = e.val % 2048; omega))
  by_cases h1 : e.val < 4096
  · rw [dif_neg (by omega), dif_pos h1, dif_neg h0, zero_add]
    exact congrArg dp (ix3_congr (by show 1 = e.val / 2048; omega) rfl (by show e.val - 2048 = e.val % 2048; omega))
  rw [dif_pos (show 4096 ≤ e.val ∧ e.val - 4096 < 2048 by omega), dif_neg h1, add_zero]
  exact congrArg dp (ix3_congr (by show 2 = e.val / 2048; omega) rfl (by show e.val - 4096 = e.val % 2048; omega))

theorem dh_at (s : Fin 8192) (d : Fin 1024) : val_main_v43 (F := Ideal) w dp (ix2 s d) = (A x gate br g sc w dxin dp).dh s d := by
  pointwise [val_main_v43]
  refine Eq.trans (Finset.sum_congr rfl fun e _ => ?_) (Finset.sum_range (fun e => dterm dp w s d e)).symm
  rw [cat_at]
  exact (dterm_at dp w s d e (by omega)).symm

theorem x_at (s : Fin 8192) (d : Fin 1024) : val_main_v3 (F := Ideal) x gate br (ix2 s d) = gated x gate br (ix2 s d) := by
  pointwise [val_main_v3, val_main_v2, val_main_v1, val_main_v0]
  rfl

theorem ms_at (s : Fin 8192) : val_main_v10 (F := Ideal) x gate br (ix2 s 0) = (A x gate br g sc w dxin dp).ms s := by
  pointwise [val_main_v10, val_main_v9, val_main_cst_1, val_main_v8, val_main_v7, val_main_cst_0, val_main_v6, val_main_v5, val_main_cst, val_main_v4]
  simp only [x_at, Rows.ms, rows_x]

theorem r_at (s : Fin 8192) : val_main_v11 (F := Ideal) x gate br (ix2 s 0) = (A x gate br g sc w dxin dp).r s := by
  pointwise [val_main_v11]
  rw [ms_at x gate br g sc w dxin dp]
  rfl

theorem xn_at (s : Fin 8192) (d : Fin 1024) : val_main_v16 (F := Ideal) x gate br (ix2 s d) = (A x gate br g sc w dxin dp).xn s d := by
  pointwise [val_main_v16, val_main_v15]
  rw [r_at x gate br g sc w dxin dp, x_at]
  simp only [Rows.xn, rows_x]

theorem da_at (s : Fin 8192) (d : Fin 1024) : val_main_v51 (F := Ideal) sc w dp (ix2 s d) = (A x gate br g sc w dxin dp).da s d := by
  pointwise [val_main_v51, val_main_v50, val_main_v22, val_main_v21, val_main_v20, val_main_cst_3]
  rw [dh_at x gate br g sc w dxin dp]
  simp only [Rows.da, one_eq]
  rfl

theorem dy_at (s : Fin 8192) (d : Fin 1024) : val_main_v57 (F := Ideal) g sc w dp (ix2 s d) = (A x gate br g sc w dxin dp).dy s d := by
  pointwise [val_main_v57, val_main_v56, val_main_v17]
  rw [da_at x gate br g sc w dxin dp]
  rfl

theorem q_at (s : Fin 8192) (d : Fin 1024) : val_main_v69 (F := Ideal) x gate br g sc w dp (ix2 s d) = (A x gate br g sc w dxin dp).q s := by
  pointwise [val_main_v69, val_main_v68, val_main_cst_14, val_main_v67, val_main_v66, val_main_cst_13, val_main_v65, val_main_v61, val_main_v60, val_main_cst_12, val_main_v59, val_main_v14, val_main_v13, val_main_cst_2, val_main_v12]
  rw [Fin.sum_univ_one]
  simp only [x_at, dy_at x gate br g sc w dxin dp, r_at x gate br g sc w dxin dp, ms_at x gate br g sc w dxin dp]
  simp only [Rows.q, rows_x]

theorem dx_eq (s : Fin 8192) (d : Fin 1024) :
    val_main_v73 (F := Ideal) x gate br g sc w dxin dp (ix2 s d) = (A x gate br g sc w dxin dp).dx s d := by
  refine Eq.trans ?_ ((A x gate br g sc w dxin dp).dx_all s d)
  pointwise [val_main_v73, val_main_v72, val_main_v71, val_main_v70, val_main_v64, val_main_v63, val_main_v62]
  rw [q_at x gate br g sc w dxin dp, dy_at x gate br g sc w dxin dp, r_at x gate br g sc w dxin dp, x_at, rows_x, rows_dxin]

theorem sh_eq (d : Fin 1024) : val_main_v81 (F := Ideal) w dp (ix2 0 d) = ∑ s ∈ Finset.range 8192, (A x gate br g sc w dxin dp).dh s d := by
  rw [Finset.sum_range]
  pointwise [val_main_v81, val_main_v46, val_main_cst_7, val_main_v45, val_main_v44, val_main_cst_6]
  rw [Fin.sum_univ_one]
  exact Finset.sum_congr rfl fun s _ => dh_at x gate br g sc w dxin dp s d

theorem tsc_at (s : Fin 8192) (d : Fin 1024) : val_main_v47 (F := Ideal) x gate br g w dp (ix2 s d) = (A x gate br g sc w dxin dp).tsc s d := by
  pointwise [val_main_v47, val_main_v19, val_main_v18, val_main_v17]
  rw [dh_at x gate br g sc w dxin dp, xn_at x gate br g sc w dxin dp]
  exact mul_comm _ _

theorem sc_eq (d : Fin 1024) : val_main_v82 (F := Ideal) x gate br g w dp (ix2 0 d) = ∑ s ∈ Finset.range 8192, (A x gate br g sc w dxin dp).tsc s d := by
  rw [Finset.sum_range]
  pointwise [val_main_v82, val_main_v52, val_main_cst_9, val_main_v49, val_main_v48, val_main_cst_8]
  rw [Fin.sum_univ_one]
  exact Finset.sum_congr rfl fun s _ => tsc_at x gate br g sc w dxin dp s d

theorem tg_at (s : Fin 8192) (d : Fin 1024) : val_main_v53 (F := Ideal) x gate br sc w dp (ix2 s d) = (A x gate br g sc w dxin dp).tg s d := by
  pointwise [val_main_v53]
  rw [da_at x gate br g sc w dxin dp, xn_at x gate br g sc w dxin dp]
  exact mul_comm _ _

theorem g_eq (d : Fin 1024) : val_main_v83 (F := Ideal) x gate br sc w dp (ix2 0 d) = ∑ s ∈ Finset.range 8192, (A x gate br g sc w dxin dp).tg s d := by
  rw [Finset.sum_range]
  pointwise [val_main_v83, val_main_v58, val_main_cst_11, val_main_v55, val_main_v54, val_main_cst_10]
  rw [Fin.sum_univ_one]
  exact Finset.sum_congr rfl fun s _ => tg_at x gate br g sc w dxin dp s d

theorem br_eq (s : Fin 8192) (d : Fin 1024) :
    val_main_v84 (F := Ideal) x gate br g sc w dxin dp (ix2 s d) = gate (ix1 d) * (A x gate br g sc w dxin dp).dx s d := by
  pointwise [val_main_v84, val_main_v76, val_main_v75, val_main_v74, val_main_v0]
  rw [dx_eq x gate br g sc w dxin dp]

theorem tgate_at (s : Fin 8192) (d : Fin 1024) :
    val_main_v77 (F := Ideal) x gate br g sc w dxin dp (ix2 s d) = (A x gate br g sc w dxin dp).tgate br s d := by
  pointwise [val_main_v77, val_main_v74]
  rw [dx_eq x gate br g sc w dxin dp]
  exact ((A x gate br g sc w dxin dp).tgate_at br s d).symm

theorem gate_eq (d : Fin 1024) :
    val_main_v85 (F := Ideal) x gate br g sc w dxin dp (ix2 0 d) = ∑ s ∈ Finset.range 8192, (A x gate br g sc w dxin dp).tgate br s d := by
  rw [Finset.sum_range]
  pointwise [val_main_v85, val_main_v80, val_main_cst_16, val_main_v79, val_main_v78, val_main_cst_15]
  rw [Fin.sum_univ_one]
  exact Finset.sum_congr rfl fun s _ => tgate_at x gate br g sc w dxin dp s d

end Cert.Reference6Ideal.Dh
-- ==== Proof.DhBValue.lean ====
/- The value claim of the gradient of the second layer's input and its reference's frame. -/
module

public import proofs.«01_k».proof.Defs
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.DhB
public import proofs.«01_k».proof.Proof.DhBRef

@[expose] public section

set_option maxRecDepth 16384
set_option maxHeartbeats 4000000

noncomputable section

namespace Cert.Proof

open Idealize.ShloMosaic Idealize.ShloMosaic.TcCoe Idealize.SL.Sem

theorem frame_reference6 : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

theorem value6 : Cert.algebraic_Kernel6Ideal_Reference6Ideal := by
  intro m g m' g' _ hm
  refine ⟨fun c => (fun y => (Kernel6Ideal.Dh.A m c).dx (y 0).val (y 1) : Vec Ideal Kernel6Ideal.S8192x1024 .f32),
    fun c => (fun y => ∑ s ∈ Finset.range 8192, (Kernel6Ideal.Dh.A m c).dh s (y 1) : Vec Ideal Kernel6Ideal.S1x1024 .f32),
    fun c => (fun y => ∑ s ∈ Finset.range 8192, (Kernel6Ideal.Dh.A m c).tsc s (y 1) : Vec Ideal Kernel6Ideal.S1x1024 .f32),
    fun c => (fun y => ∑ s ∈ Finset.range 8192, (Kernel6Ideal.Dh.A m c).tg s (y 1) : Vec Ideal Kernel6Ideal.S1x1024 .f32),
    fun c => (fun y => Kernel6Ideal.Dh.agate m c (ix1 (y 1)) * (Kernel6Ideal.Dh.A m c).dx (y 0).val (y 1) : Vec Ideal Kernel6Ideal.S8192x1024 .bf16),
    fun c => (fun y => ∑ s ∈ Finset.range 8192, (Kernel6Ideal.Dh.A m c).tgate (Kernel6Ideal.Dh.abr m c) s (y 1) : Vec Ideal Kernel6Ideal.S1x1024 .f32), ?_, ?_⟩
  · refine (θ_run Cert.Kernel6Ideal.defs _ _).mono (fun r h c => ?_) (Cert.Kernel6Ideal.Value.run_blocks (F := Ideal) m g)
    obtain ⟨h0, h1, h2, h3, h4, h5, hr⟩ := h c
    exact ⟨h0.trans (Kernel6Ideal.Dh.final9 m c), h1.trans (Kernel6Ideal.Dh.final10 m c), h2.trans (Kernel6Ideal.Dh.final11 m c), h3.trans (Kernel6Ideal.Dh.final12 m c), h4.trans (Kernel6Ideal.Dh.final13 m c), h5.trans (Kernel6Ideal.Dh.final14 m c), hr⟩
  · refine (θ_run Cert.Reference6Ideal.defs _ _).mono (fun r h c => ?_) (Cert.Reference6Ideal.Value.run (F := Ideal) m' g')
    obtain ⟨h0, h1, h2, h3, h4, h5, hr⟩ := h c
    obtain ⟨a0, a1, a2, a3, a4, a5, a6, a7, a8⟩ := hm c
    refine ⟨h0.trans ?_, h1.trans ?_, h2.trans ?_, h3.trans ?_, h4.trans ?_, h5.trans ?_, hr⟩
    · rw [Reference6Ideal.Read.val_main_v73_eq, a0, a1, a2, a3, a4, a6, a7, a8]
      funext y
      idx_vars y
      exact Reference6Ideal.Dh.dx_eq (Kernel6Ideal.Dh.ax m c) (Kernel6Ideal.Dh.agate m c) (Kernel6Ideal.Dh.abr m c) (Kernel6Ideal.Dh.ag m c) (Kernel6Ideal.Dh.asc m c) (Kernel6Ideal.Dh.aw m c) (Kernel6Ideal.Dh.adx m c) (Kernel6Ideal.Dh.adp m c) y0 y1
    · rw [Reference6Ideal.Read.val_main_v81_eq, a6, a8]
      funext y
      idx_vars y
      obtain rfl : y0 = 0 := Subsingleton.elim _ _
      exact Reference6Ideal.Dh.sh_eq (Kernel6Ideal.Dh.ax m c) (Kernel6Ideal.Dh.agate m c) (Kernel6Ideal.Dh.abr m c) (Kernel6Ideal.Dh.ag m c) (Kernel6Ideal.Dh.asc m c) (Kernel6Ideal.Dh.aw m c) (Kernel6Ideal.Dh.adx m c) (Kernel6Ideal.Dh.adp m c) y1
    · rw [Reference6Ideal.Read.val_main_v82_eq, a0, a1, a2, a3, a6, a8]
      funext y
      idx_vars y
      obtain rfl : y0 = 0 := Subsingleton.elim _ _
      exact Reference6Ideal.Dh.sc_eq (Kernel6Ideal.Dh.ax m c) (Kernel6Ideal.Dh.agate m c) (Kernel6Ideal.Dh.abr m c) (Kernel6Ideal.Dh.ag m c) (Kernel6Ideal.Dh.asc m c) (Kernel6Ideal.Dh.aw m c) (Kernel6Ideal.Dh.adx m c) (Kernel6Ideal.Dh.adp m c) y1
    · rw [Reference6Ideal.Read.val_main_v83_eq, a0, a1, a2, a4, a6, a8]
      funext y
      idx_vars y
      obtain rfl : y0 = 0 := Subsingleton.elim _ _
      exact Reference6Ideal.Dh.g_eq (Kernel6Ideal.Dh.ax m c) (Kernel6Ideal.Dh.agate m c) (Kernel6Ideal.Dh.abr m c) (Kernel6Ideal.Dh.ag m c) (Kernel6Ideal.Dh.asc m c) (Kernel6Ideal.Dh.aw m c) (Kernel6Ideal.Dh.adx m c) (Kernel6Ideal.Dh.adp m c) y1
    · rw [Reference6Ideal.Read.val_main_v84_eq, a0, a1, a2, a3, a4, a6, a7, a8]
      funext y
      idx_vars y
      exact Reference6Ideal.Dh.br_eq (Kernel6Ideal.Dh.ax m c) (Kernel6Ideal.Dh.agate m c) (Kernel6Ideal.Dh.abr m c) (Kernel6Ideal.Dh.ag m c) (Kernel6Ideal.Dh.asc m c) (Kernel6Ideal.Dh.aw m c) (Kernel6Ideal.Dh.adx m c) (Kernel6Ideal.Dh.adp m c) y0 y1
    · rw [Reference6Ideal.Read.val_main_v85_eq, a0, a1, a2, a3, a4, a6, a7, a8]
      funext y
      idx_vars y
      obtain rfl : y0 = 0 := Subsingleton.elim _ _
      exact Reference6Ideal.Dh.gate_eq (Kernel6Ideal.Dh.ax m c) (Kernel6Ideal.Dh.agate m c) (Kernel6Ideal.Dh.abr m c) (Kernel6Ideal.Dh.ag m c) (Kernel6Ideal.Dh.asc m c) (Kernel6Ideal.Dh.aw m c) (Kernel6Ideal.Dh.adx m c) (Kernel6Ideal.Dh.adp m c) y1

end Cert.Proof

end
-- ==== Proof.Chunk.lean ====
/- One column chunk of the kernel's body read at a row and a column: each value it stores is the arithmetic of
   `Cert.GatedConv` at the array's row and column, whatever tile the chunk belongs to. -/
module

public import proofs.«01_k».proof.Proof.Gen.KernelIdeal.Skeleton
public import proofs.«01_k».proof.Proof.Maths
public import Idealize.ShloMosaic.Lib.Pointwise

@[expose] public section

set_option maxRecDepth 16384

noncomputable section

namespace Cert.KernelIdeal.Bwd

open Idealize.ShloMosaic Cert.KernelIdeal Cert.KernelIdeal.Gen Cert.GatedConv

/-- The blocks one chunk loads. -/
structure Loads (F : FTy → Type) where
  wt : Vec F S256x1024 .bf16
  ct : Vec F S512x1024 .bf16
  ctn : Vec F S16x1024 .bf16
  bg : Vec F S1x512x256 .f32
  cg : Vec F S1x512x256 .f32
  xi : Vec F S1x512x256 .f32
  z : Vec F S1x512x256 .f32
  w0 : Vec F S1x256 .f32
  w1 : Vec F S1x256 .f32
  w2 : Vec F S1x256 .f32
  b : Vec F S1x256 .f32
  cgp : Vec F S1x16x256 .f32
  xip : Vec F S1x16x256 .f32
  zn : Vec F S1x16x256 .f32
  bgn : Vec F S1x16x256 .f32
  fst : BitVec 1
  lst : BitVec 1

namespace Loads
variable {F : FTy → Type} [FloatOps F] (L : Loads F)

def dy : FVec F S512x256 .f32 := k0_pay7 L.wt L.ct
def tz : FVec F S512x256 .f32 := k0_pay21 (k0_pay12 L.z)
def cx : FVec F S512x256 .f32 := k0_pay16 L.cg L.xi
def conv : FVec F S512x256 .f32 :=
  k0_pay20 (k0_pay13 L.w0) (k0_pay14 L.w1) (k0_pay15 L.w2) L.cx L.fst L.cgp L.xip L.b
def dcv : FVec F S512x256 .f32 := k0_pay27 L.dy (k0_pay9 L.bg) (k0_pay12 L.z) L.tz k0_pay22
def aft : FVec F S8x256 .f32 := k0_pay29 L.lst (k0_pay28 (k0_pay8 L.wt L.ctn) L.zn) L.bgn
/-- The block stored for the projection's part 3. -/
def d3 : FVec F S1x512x256 .bf16 := k0_pay25 L.dy (k0_pay9 L.bg) (k0_pay12 L.z) L.conv L.tz k0_pay22
/-- The block stored for the projection's part 0. -/
def d0 : FVec F S1x512x256 .bf16 := k0_pay26 L.dy (k0_pay12 L.z) L.conv L.tz k0_pay22
/-- The block stored for the projection's part 1. -/
def d1 : FVec F S1x512x256 .bf16 :=
  k0_pay36 (k0_pay11 L.xi) (k0_pay13 L.w0) (k0_pay14 L.w1) L.dcv L.aft (k0_pay34 (k0_pay15 L.w2) L.dcv) 511#32
/-- The block stored for the projection's part 2. -/
def d2 : FVec F S1x512x256 .bf16 :=
  k0_pay37 (k0_pay10 L.cg) (k0_pay13 L.w0) (k0_pay14 L.w1) L.dcv L.aft (k0_pay34 (k0_pay15 L.w2) L.dcv) 511#32
/-- The bias gradient's block with this chunk's rows added. -/
def ab (o : Vec F S1x256 .f32) : FVec F S1x256 .f32 := k0_pay30 L.dcv o
/-- Tap 2's gradient block with this chunk's rows added. -/
def a2 (o : Vec F S1x256 .f32) : FVec F S1x256 .f32 := k0_pay31 L.cx L.dcv o
/-- Tap 1's gradient block with this chunk's rows added. -/
def a1 (o : Vec F S1x256 .f32) : FVec F S1x256 .f32 :=
  k0_pay32 (k0_pay18 L.cx L.fst L.cgp L.xip) L.dcv o
/-- Tap 0's gradient block with this chunk's rows added. -/
def a0 (o : Vec F S1x256 .f32) : FVec F S1x256 .f32 :=
  k0_pay33 (k0_pay19 L.cx L.fst L.cgp L.xip) L.dcv o

end Loads

/-- The loaded blocks are the arrays' at row `R` and column `C` on, with the rows just before and just after where
    there are any. -/
structure At (L : Loads Ideal) (A : Arrays) (R C : ℕ) : Prop where
  wt : ∀ (c : Fin 256) (d : Fin 1024), L.wt (ix2 c d) = A.wo (C + c) d
  ct : ∀ (r : Fin 512) (d : Fin 1024), L.ct (ix2 r d) = A.ct (R + r) d
  bg : ∀ (r : Fin 512) (c : Fin 256), L.bg (ix3 0 r c) = A.p 0 (R + r) (C + c)
  cg : ∀ (r : Fin 512) (c : Fin 256), L.cg (ix3 0 r c) = A.p 1 (R + r) (C + c)
  xi : ∀ (r : Fin 512) (c : Fin 256), L.xi (ix3 0 r c) = A.p 2 (R + r) (C + c)
  z : ∀ (r : Fin 512) (c : Fin 256), L.z (ix3 0 r c) = A.p 3 (R + r) (C + c)
  w0 : ∀ c : Fin 256, L.w0 (ix2 0 c) = A.w 0 (C + c)
  w1 : ∀ c : Fin 256, L.w1 (ix2 0 c) = A.w 1 (C + c)
  w2 : ∀ c : Fin 256, L.w2 (ix2 0 c) = A.w 2 (C + c)
  b : ∀ c : Fin 256, L.b (ix2 0 c) = A.b (C + c)
  fst : (R = 0 ∧ L.fst = 0#1) ∨ (16 ≤ R ∧ L.fst = 1#1 ∧ ∀ (r : Fin 16) (c : Fin 256),
    L.cgp (ix3 0 r c) = A.p 1 (R - 16 + r) (C + c) ∧ L.xip (ix3 0 r c) = A.p 2 (R - 16 + r) (C + c))
  lst : ((∀ r e, R + 512 ≤ r → A.p 0 r e = 0) ∧ L.lst = 0#1) ∨ (L.lst = 1#1 ∧
    (∀ (r : Fin 16) (c : Fin 256), L.zn (ix3 0 r c) = A.p 3 (R + 512 + r) (C + c)
      ∧ L.bgn (ix3 0 r c) = A.p 0 (R + 512 + r) (C + c))
    ∧ ∀ (r : Fin 16) (d : Fin 1024), L.ctn (ix2 r d) = A.ct (R + 512 + r) d)

section
variable {L : Loads Ideal} {A : Arrays} {R C : ℕ} (h : At L A R C)
include h

theorem dy_apply (r : Fin 512) (c : Fin 256) : L.dy (ix2 r c) = A.dy (R + r) (C + c) := by
  pointwise [Loads.dy, k0_pay7, k0_pay6]
  exact Finset.sum_congr rfl fun d _ => by rw [h.ct, h.wt]

theorem tz_apply (r : Fin 512) (c : Fin 256) : L.tz (ix2 r c) = Ideal.tanh (half * A.p 3 (R + r) (C + c)) := by
  pointwise [Loads.tz, k0_pay21, k0_pay12]
  rw [h.z]

theorem cx_apply (r : Fin 512) (c : Fin 256) : L.cx (ix2 r c) = A.cx (R + r) (C + c) := by
  pointwise [Loads.cx, k0_pay16, k0_pay10, k0_pay11]
  rw [h.cg, h.xi, Arrays.cx]

theorem bg_apply (r : Fin 512) (c : Fin 256) : k0_pay9 L.bg (ix2 r c) = A.p 0 (R + r) (C + c) := by
  pointwise [k0_pay9]
  exact h.bg r c

theorem z_apply (r : Fin 512) (c : Fin 256) : k0_pay12 L.z (ix2 r c) = A.p 3 (R + r) (C + c) := by
  pointwise [k0_pay12]
  exact h.z r c

end

theorem slt_bit (k : ℕ) (hk : k < 8) (n : Fin 8) :
    IntOp.cmpi .slt (BitVec.ofNat 32 n.val) (BitVec.ofNat 32 k) = if n.val < k then 1#1 else 0#1 :=
  (by decide +kernel : ∀ (k n : Fin 8),
    IntOp.cmpi .slt (BitVec.ofNat 32 n.val) (BitVec.ofNat 32 k.val) = if n.val < k.val then 1#1 else 0#1) ⟨k, hk⟩ n

theorem sge_bit (k : ℕ) (hk : k < 8) (n : Fin 8) :
    IntOp.cmpi .sge (BitVec.ofNat 32 n.val) (BitVec.ofNat 32 k) = if k ≤ n.val then 1#1 else 0#1 :=
  (by decide +kernel : ∀ (k n : Fin 8),
    IntOp.cmpi .sge (BitVec.ofNat 32 n.val) (BitVec.ofNat 32 k.val) = if k.val ≤ n.val then 1#1 else 0#1) ⟨k, hk⟩ n

section
variable {L : Loads Ideal} {A : Arrays} {R C : ℕ} (h : At L A R C)
include h

theorem back_aux (k : ℕ) (h0 : 0 < k) (hk : k < 8) (r : Fin 512) (c : Fin 256) :
    (if _ : r.val < 8 then
      Scalar.select (IntOp.cmpi .slt (BitVec.ofNat 32 r.val) (BitVec.ofNat 32 k))
        (Scalar.select L.fst (L.cgp (ix3 0 ⟨8 + (r.val + 8 - k) % 8, by omega⟩ c)
          * L.xip (ix3 0 ⟨8 + (r.val + 8 - k) % 8, by omega⟩ c)) 0)
        (L.cx (ix2 ⟨(r.val + 512 - k) % 512, by omega⟩ c))
    else L.cx (ix2 ⟨(8 + (r.val - 8) + 512 - k) % 512, by omega⟩ c)) = A.cxb k (R + r.val) (C + c.val) := by
  have hr := r.isLt
  by_cases hlt : r.val < k
  · rw [dif_pos (by omega), slt_bit k hk ⟨r.val, by omega⟩, if_pos hlt, ValueIdx.select_one]
    unfold Arrays.cxb back
    rcases h.fst with ⟨hR, hf⟩ | ⟨hR, hf, hl⟩
    · rw [hf, ValueIdx.select_zero, if_pos (by omega)]
    · rw [hf, ValueIdx.select_one, if_neg (by omega), (hl _ _).1, (hl _ _).2]
      show _ = A.p 1 (R + r.val - k) _ * A.p 2 (R + r.val - k) _
      have e : R - 16 + (8 + (r.val + 8 - k) % 8) = R + r.val - k := by omega
      simp only [e]
  · have e : (if _ : r.val < 8 then
        Scalar.select (IntOp.cmpi .slt (BitVec.ofNat 32 r.val) (BitVec.ofNat 32 k))
          (Scalar.select L.fst (L.cgp (ix3 0 ⟨8 + (r.val + 8 - k) % 8, by omega⟩ c)
            * L.xip (ix3 0 ⟨8 + (r.val + 8 - k) % 8, by omega⟩ c)) 0)
          (L.cx (ix2 ⟨(r.val + 512 - k) % 512, by omega⟩ c))
      else L.cx (ix2 ⟨(8 + (r.val - 8) + 512 - k) % 512, by omega⟩ c)) = L.cx (ix2 ⟨r.val - k, by omega⟩ c) := by
      by_cases h8 : r.val < 8
      · rw [dif_pos h8, slt_bit k hk ⟨r.val, h8⟩, if_neg hlt, ValueIdx.select_zero]
        have e : (r.val + 512 - k) % 512 = r.val - k := by omega
        simp only [e]
      · rw [dif_neg h8]
        have e : (8 + (r.val - 8) + 512 - k) % 512 = r.val - k := by omega
        simp only [e]
    rw [e, cx_apply h]
    unfold Arrays.cxb back
    rw [if_neg (by omega)]
    have e : R + (r.val - k) = R + r.val - k := by omega
    simp only [e]

theorem cxb2_apply (r : Fin 512) (c : Fin 256) :
    k0_pay19 L.cx L.fst L.cgp L.xip (ix2 r c) = A.cxb 2 (R + r) (C + c) := by
  pointwise [k0_pay19, k0_pay17]
  exact back_aux h 2 (by omega) (by omega) r c

theorem cxb1_apply (r : Fin 512) (c : Fin 256) :
    k0_pay18 L.cx L.fst L.cgp L.xip (ix2 r c) = A.cxb 1 (R + r) (C + c) := by
  pointwise [k0_pay18, k0_pay17]
  exact back_aux h 1 (by omega) (by omega) r c

theorem dcv_apply (r : Fin 512) (c : Fin 256) : L.dcv (ix2 r c) = A.dcv (R + r) (C + c) := by
  unfold Loads.dcv
  pointwise [k0_pay27, k0_pay24, k0_pay23, k0_pay22]
  rw [dy_apply h, z_apply h, bg_apply h, tz_apply h]
  rfl

theorem aft_apply (k : Fin 8) (c : Fin 256) : L.aft (ix2 k c) = A.dcv (R + 512 + k) (C + c) := by
  unfold Loads.aft
  pointwise [k0_pay29, k0_pay28, k0_pay8, k0_pay6]
  have hk := k.isLt
  rcases h.lst with ⟨hz, hl⟩ | ⟨hl, hp, hc⟩
  · rw [hl, ValueIdx.select_zero, Arrays.dcv, hz _ _ (by omega), mul_zero]
  · rw [hl, ValueIdx.select_one, (hp _ _).1, (hp _ _).2]
    exact congrArg (· * _) (congrArg (· * _) (Finset.sum_congr rfl fun d _ => by rw [hc, h.wt]))

theorem fwd_aux (k q : ℕ) (h0 : 0 < k) (hk : k + q = 8) (hq : 0 < q) (r : Fin 512) (c : Fin 256) :
    (if _ : r.val < 504 then L.dcv (ix2 ⟨(r.val + 512 - (504 + q)) % 512, by omega⟩ c)
      else Scalar.select (IntOp.cmpi .sge (BitVec.ofNat 32 (r.val - 504)) (BitVec.ofNat 32 q))
        (L.aft (ix2 ⟨(r.val - 504 + 8 - q) % 8, by omega⟩ c))
        (L.dcv (ix2 ⟨(504 + (r.val - 504) + 512 - (504 + q)) % 512, by omega⟩ c))) = A.dcv (R + r.val + k) (C + c.val) := by
  have hr := r.isLt
  by_cases h8 : r.val < 504
  · rw [dif_pos h8, dcv_apply h]
    have e : R + (r.val + 512 - (504 + q)) % 512 = R + r.val + k := by omega
    simp only [e]
  · rw [dif_neg h8, sge_bit q (by omega) ⟨r.val - 504, by omega⟩]
    by_cases hlt : q ≤ r.val - 504
    · rw [if_pos hlt, ValueIdx.select_one, aft_apply h]
      have e : R + 512 + (r.val - 504 + 8 - q) % 8 = R + r.val + k := by omega
      simp only [e]
    · rw [if_neg hlt, ValueIdx.select_zero, dcv_apply h]
      have e : R + (504 + (r.val - 504) + 512 - (504 + q)) % 512 = R + r.val + k := by omega
      simp only [e]

theorem dcx_apply (r : Fin 512) (c : Fin 256) :
    k0_pay35 (k0_pay13 L.w0) (k0_pay14 L.w1) L.dcv L.aft (k0_pay34 (k0_pay15 L.w2) L.dcv) 511#32 (ix2 r c) = A.dcx (R + r) (C + c) := by
  pointwise [k0_pay35, k0_pay13, k0_pay14, k0_pay34, k0_pay15]
  rw [h.w2, h.w1, h.w0, dcv_apply h]
  exact congrArg₂ (· + ·) (congrArg (_ + ·) (congrArg (_ * ·) (fwd_aux h 1 7 (by omega) rfl (by omega) r c)))
    (congrArg (_ * ·) (fwd_aux h 2 6 (by omega) rfl (by omega) r c))

theorem conv_apply (r : Fin 512) (c : Fin 256) : L.conv (ix2 r c) = A.conv (R + r) (C + c) := by
  unfold Loads.conv
  pointwise [k0_pay20, k0_pay13, k0_pay14, k0_pay15]
  rw [h.b, h.w2, h.w1, h.w0, cx_apply h, cxb2_apply h, cxb1_apply h, Arrays.conv]

theorem d3_apply (r : Fin 512) (c : Fin 256) : L.d3 (ix3 0 r c) = A.dp 3 (R + r) (C + c) := by
  unfold Loads.d3
  pointwise [k0_pay25, k0_pay23, k0_pay22]
  rw [dy_apply h, z_apply h, bg_apply h, tz_apply h, conv_apply h]
  rfl
theorem d0_apply (r : Fin 512) (c : Fin 256) : L.d0 (ix3 0 r c) = A.dp 0 (R + r) (C + c) := by
  unfold Loads.d0
  pointwise [k0_pay26, k0_pay24, k0_pay23, k0_pay22]
  rw [dy_apply h, z_apply h, tz_apply h, conv_apply h]
  rfl
theorem d1_apply (r : Fin 512) (c : Fin 256) : L.d1 (ix3 0 r c) = A.dp 1 (R + r) (C + c) := by
  unfold Loads.d1
  pointwise [k0_pay36, k0_pay11]
  rw [dcx_apply h, h.xi]
  rfl
theorem d2_apply (r : Fin 512) (c : Fin 256) : L.d2 (ix3 0 r c) = A.dp 2 (R + r) (C + c) := by
  unfold Loads.d2
  pointwise [k0_pay37, k0_pay10]
  rw [dcx_apply h, h.cg]
  rfl
theorem ab_apply (o : Vec Ideal S1x256 .f32) (c : Fin 256) :
    L.ab o (ix2 0 c) = o (ix2 0 c) + ∑ r : Fin 512, A.term 3 (R + r) (C + c) := by
  pointwise [Loads.ab, k0_pay30]
  exact congrArg (o (ix2 0 c) + ·) (Finset.sum_congr rfl fun r _ => by rw [dcv_apply h]; rfl)
theorem a2_apply (o : Vec Ideal S1x256 .f32) (c : Fin 256) :
    L.a2 o (ix2 0 c) = o (ix2 0 c) + ∑ r : Fin 512, A.term 2 (R + r) (C + c) := by
  pointwise [Loads.a2, k0_pay31]
  exact congrArg (o (ix2 0 c) + ·) (Finset.sum_congr rfl fun r _ => by rw [dcv_apply h, cx_apply h]; rfl)
theorem a1_apply (o : Vec Ideal S1x256 .f32) (c : Fin 256) :
    L.a1 o (ix2 0 c) = o (ix2 0 c) + ∑ r : Fin 512, A.term 1 (R + r) (C + c) := by
  pointwise [Loads.a1, k0_pay32]
  exact congrArg (o (ix2 0 c) + ·) (Finset.sum_congr rfl fun r _ => by rw [dcv_apply h, cxb1_apply h]; rfl)
theorem a0_apply (o : Vec Ideal S1x256 .f32) (c : Fin 256) :
    L.a0 o (ix2 0 c) = o (ix2 0 c) + ∑ r : Fin 512, A.term 0 (R + r) (C + c) := by
  pointwise [Loads.a0, k0_pay33]
  exact congrArg (o (ix2 0 c) + ·) (Finset.sum_congr rfl fun r _ => by rw [dcv_apply h, cxb2_apply h]; rfl)
end

end Cert.KernelIdeal.Bwd
-- ==== Proof.Block.lean ====
/- What one grid point leaves in each output's block: the arithmetic of `Cert.GatedConv` at the block's rows and
   columns. -/
module

public import proofs.«01_k».proof.Proof.Gen.KernelIdeal.Frame
public import proofs.«01_k».proof.Proof.Chunk
public import Idealize.ShloMosaic.Lib.Pipeline.ValueKit.Tiles

@[expose] public section

set_option maxRecDepth 16384

noncomputable section

namespace Cert.KernelIdeal.Bwd

open Idealize.ShloMosaic Idealize.ShloMosaic.TcCoe Idealize.ShloMosaic.Tactic
open Cert.KernelIdeal Cert.KernelIdeal.Gen Cert.GatedConv

/-- The blocks of a grid point are the arrays' at row `R` and column `C` on. -/
structure Blk (i : grid0.Coords) (x0 x1 x2 x3 : Vec Ideal S1x512x1024 .f32) (x4 : Vec Ideal S512x1024 .bf16)
    (x5 x6 x7 x8 : Vec Ideal S1x16x1024 .f32) (x9 : Vec Ideal S16x1024 .bf16) (x10 : Vec Ideal S1024x1024 .bf16)
    (x11 x12 x13 x14 : Vec Ideal S1x1024 .f32) (A : Arrays) (R C : ℕ) : Prop where
  p0 : ∀ (r : Fin 512) (c : Fin 1024), x0 (ix3 0 r c) = A.p 0 (R + r) (C + c)
  p1 : ∀ (r : Fin 512) (c : Fin 1024), x1 (ix3 0 r c) = A.p 1 (R + r) (C + c)
  p2 : ∀ (r : Fin 512) (c : Fin 1024), x2 (ix3 0 r c) = A.p 2 (R + r) (C + c)
  p3 : ∀ (r : Fin 512) (c : Fin 1024), x3 (ix3 0 r c) = A.p 3 (R + r) (C + c)
  ct : ∀ (r : Fin 512) (d : Fin 1024), x4 (ix2 r d) = A.ct (R + r) d
  wo : ∀ (c : Fin 1024) (d : Fin 1024), x10 (ix2 c d) = A.wo (C + c) d
  w0 : ∀ c : Fin 1024, x11 (ix2 0 c) = A.w 0 (C + c)
  w1 : ∀ c : Fin 1024, x12 (ix2 0 c) = A.w 1 (C + c)
  w2 : ∀ c : Fin 1024, x13 (ix2 0 c) = A.w 2 (C + c)
  b : ∀ c : Fin 1024, x14 (ix2 0 c) = A.b (C + c)
  fst : (R = 0 ∧ (i 1).val = 0) ∨ (16 ≤ R ∧ 0 < (i 1).val ∧ ∀ (r : Fin 16) (c : Fin 1024),
    x5 (ix3 0 r c) = A.p 1 (R - 16 + r) (C + c) ∧ x6 (ix3 0 r c) = A.p 2 (R - 16 + r) (C + c))
  lst : ((∀ r e, R + 512 ≤ r → A.p 0 r e = 0) ∧ (i 1).val = 15) ∨ ((i 1).val < 15 ∧
    (∀ (r : Fin 16) (c : Fin 1024), x8 (ix3 0 r c) = A.p 3 (R + 512 + r) (C + c)
      ∧ x7 (ix3 0 r c) = A.p 0 (R + 512 + r) (C + c))
    ∧ ∀ (r : Fin 16) (d : Fin 1024), x9 (ix2 r d) = A.ct (R + 512 + r) d)

section
variable {κ : Kind} {sp : Space} {n m : ℕ}

end

theorem sgt_i (n : Fin 16) : Scalar.cmpi .sgt (BitVec.ofNat 32 n.val) 0#32 = if n.val = 0 then 0#1 else 1#1 :=
  (by decide +kernel : ∀ n : Fin 16,
    Scalar.cmpi .sgt (BitVec.ofNat 32 n.val) 0#32 = if n.val = 0 then 0#1 else 1#1) n

theorem slt_i (n : Fin 16) : Scalar.cmpi .slt (BitVec.ofNat 32 n.val) 15#32 = if n.val < 15 then 1#1 else 0#1 :=
  (by decide +kernel : ∀ n : Fin 16,
    Scalar.cmpi .slt (BitVec.ofNat 32 n.val) 15#32 = if n.val < 15 then 1#1 else 0#1) n

section
variable (c : Dev nD) (i : grid0.Coords) (arg2 : Memref sig .tc .vmem S1x512x1024 .f32) (harg2 : arg2.IsWhole)
   (arg3 : Memref sig .tc .vmem S1x512x1024 .f32) (harg3 : arg3.IsWhole) (arg4 : Memref sig .tc .vmem S1x512x1024 .f32)
   (harg4 : arg4.IsWhole) (arg5 : Memref sig .tc .vmem S1x512x1024 .f32) (harg5 : arg5.IsWhole)
   (arg6 : Memref sig .tc .vmem S512x1024 .bf16) (harg6 : arg6.IsWhole) (arg7 : Memref sig .tc .vmem S1x16x1024 .f32)
   (harg7 : arg7.IsWhole) (arg8 : Memref sig .tc .vmem S1x16x1024 .f32) (harg8 : arg8.IsWhole)
   (arg9 : Memref sig .tc .vmem S1x16x1024 .f32) (harg9 : arg9.IsWhole) (arg10 : Memref sig .tc .vmem S1x16x1024 .f32)
   (harg10 : arg10.IsWhole) (arg11 : Memref sig .tc .vmem S16x1024 .bf16) (harg11 : arg11.IsWhole)
   (arg12 : Memref sig .tc .vmem S1024x1024 .bf16) (harg12 : arg12.IsWhole) (arg13 : Memref sig .tc .vmem S1x1024 .f32)
   (harg13 : arg13.IsWhole) (arg14 : Memref sig .tc .vmem S1x1024 .f32) (harg14 : arg14.IsWhole)
   (arg15 : Memref sig .tc .vmem S1x1024 .f32) (harg15 : arg15.IsWhole) (arg16 : Memref sig .tc .vmem S1x1024 .f32)
   (harg16 : arg16.IsWhole) (arg17 : Memref sig .tc .vmem S8x128 .f32) (harg17 : arg17.IsWhole)
   (arg18 : Memref sig .tc .vmem S4x512x1024 .bf16) (harg18 : arg18.IsWhole)
   (arg19 : Memref sig .tc .vmem S1x1024 .f32) (harg19 : arg19.IsWhole) (arg20 : Memref sig .tc .vmem S1x1024 .f32)
   (harg20 : arg20.IsWhole) (arg21 : Memref sig .tc .vmem S1x1024 .f32) (harg21 : arg21.IsWhole)
   (arg22 : Memref sig .tc .vmem S1x1024 .f32) (harg22 : arg22.IsWhole)
variable (x0 : Vec Ideal S1x512x1024 .f32) (x1 : Vec Ideal S1x512x1024 .f32) (x2 : Vec Ideal S1x512x1024 .f32)
   (x3 : Vec Ideal S1x512x1024 .f32) (x4 : Vec Ideal S512x1024 .bf16) (x5 : Vec Ideal S1x16x1024 .f32)
   (x6 : Vec Ideal S1x16x1024 .f32) (x7 : Vec Ideal S1x16x1024 .f32) (x8 : Vec Ideal S1x16x1024 .f32)
   (x9 : Vec Ideal S16x1024 .bf16) (x10 : Vec Ideal S1024x1024 .bf16) (x11 : Vec Ideal S1x1024 .f32)
   (x12 : Vec Ideal S1x1024 .f32) (x13 : Vec Ideal S1x1024 .f32) (x14 : Vec Ideal S1x1024 .f32)
   (x15 : Vec Ideal S8x128 .f32)
variable (xo17 xo18 xo19 xo20 : Vec Ideal S1x1024 .f32)

/-- What the chunk at column `o` of the blocks loads. -/
def loads (o : ℕ) (ha : ∀ a, (![o, 0] : Fin 2 → ℕ) a + S256x1024.size a ≤ S1024x1024.size a)
    (hb : ∀ a, (![0, 0, o] : Fin 3 → ℕ) a + S1x512x256.size a ≤ S1x512x1024.size a)
    (hw : ∀ a, (![0, o] : Fin 2 → ℕ) a + S1x256.size a ≤ S1x1024.size a)
    (hh : ∀ a, (![0, 0, o] : Fin 3 → ℕ) a + S1x16x256.size a ≤ S1x16x1024.size a) : Loads Ideal where
  wt := View.readAt (Elt Ideal) arg12.view (Rect.unit (s := S1024x1024) ![o, 0] S256x1024.size ha).toLoadRect (harg12.unread x10)
  ct := View.readAt (Elt Ideal) arg6.view (Rect.unit (s := S512x1024) ![0, 0] S512x1024.size inb_S512x1024_S512x1024_0_0).toLoadRect (harg6.unread x4)
  ctn := View.readAt (Elt Ideal) arg11.view (Rect.unit (s := S16x1024) ![0, 0] S16x1024.size inb_S16x1024_S16x1024_0_0).toLoadRect (harg11.unread x9)
  bg := View.readAt (Elt Ideal) arg2.view (Rect.unit (s := S1x512x1024) ![0, 0, o] S1x512x256.size hb).toLoadRect (harg2.unread x0)
  cg := View.readAt (Elt Ideal) arg3.view (Rect.unit (s := S1x512x1024) ![0, 0, o] S1x512x256.size hb).toLoadRect (harg3.unread x1)
  xi := View.readAt (Elt Ideal) arg4.view (Rect.unit (s := S1x512x1024) ![0, 0, o] S1x512x256.size hb).toLoadRect (harg4.unread x2)
  z := View.readAt (Elt Ideal) arg5.view (Rect.unit (s := S1x512x1024) ![0, 0, o] S1x512x256.size hb).toLoadRect (harg5.unread x3)
  w0 := View.readAt (Elt Ideal) arg13.view (Rect.unit (s := S1x1024) ![0, o] S1x256.size hw).toLoadRect (harg13.unread x11)
  w1 := View.readAt (Elt Ideal) arg14.view (Rect.unit (s := S1x1024) ![0, o] S1x256.size hw).toLoadRect (harg14.unread x12)
  w2 := View.readAt (Elt Ideal) arg15.view (Rect.unit (s := S1x1024) ![0, o] S1x256.size hw).toLoadRect (harg15.unread x13)
  b := View.readAt (Elt Ideal) arg16.view (Rect.unit (s := S1x1024) ![0, o] S1x256.size hw).toLoadRect (harg16.unread x14)
  cgp := View.readAt (Elt Ideal) arg7.view (Rect.unit (s := S1x16x1024) ![0, 0, o] S1x16x256.size hh).toLoadRect (harg7.unread x5)
  xip := View.readAt (Elt Ideal) arg8.view (Rect.unit (s := S1x16x1024) ![0, 0, o] S1x16x256.size hh).toLoadRect (harg8.unread x6)
  zn := View.readAt (Elt Ideal) arg10.view (Rect.unit (s := S1x16x1024) ![0, 0, o] S1x16x256.size hh).toLoadRect (harg10.unread x8)
  bgn := View.readAt (Elt Ideal) arg9.view (Rect.unit (s := S1x16x1024) ![0, 0, o] S1x16x256.size hh).toLoadRect (harg9.unread x7)
  fst := Scalar.cmpi .sgt (BitVec.ofNat 32 (i 1).val) 0#32
  lst := Scalar.cmpi .slt (BitVec.ofNat 32 (i 1).val) 15#32

variable {A : Arrays} {R C : ℕ} (h : Blk i x0 x1 x2 x3 x4 x5 x6 x7 x8 x9 x10 x11 x12 x13 x14 A R C)
include h

theorem loads_at (o : ℕ) (ho : o + 256 ≤ 1024) (ha hb hw hh) :
    At (loads i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 o ha hb hw hh) A R (C + o) := by
  have hi : (i 1).val < 16 := (i 1).isLt
  constructor
  · intro c d
    simp only [loads, View.readAt_eq_ld, Memref.IsWhole.read_unread]
    pointwise
    rw [h.wo]
    simp only [Nat.add_assoc]
  · intro r d
    simp only [loads, View.readAt_eq_ld, Memref.IsWhole.read_unread]
    pointwise
    exact h.ct r d
  iterate 4
    · intro r c
      simp only [loads, View.readAt_eq_ld, Memref.IsWhole.read_unread]
      pointwise
      first | rw [h.p0] | rw [h.p1] | rw [h.p2] | rw [h.p3]
      simp only [Nat.add_assoc]
  iterate 4
    · intro c
      simp only [loads, View.readAt_eq_ld, Memref.IsWhole.read_unread]
      pointwise
      first | rw [h.w0] | rw [h.w1] | rw [h.w2] | rw [h.b]
      simp only [Nat.add_assoc]
  · rcases h.fst with ⟨h1, h2⟩ | ⟨h1, h2, h3⟩
    · refine Or.inl ⟨h1, (sgt_i ⟨_, hi⟩).trans (if_pos h2)⟩
    · refine Or.inr ⟨h1, (sgt_i ⟨_, hi⟩).trans (if_neg (Nat.ne_of_gt h2)), fun r c => ⟨?_, ?_⟩⟩
      · simp only [loads, View.readAt_eq_ld, Memref.IsWhole.read_unread]
        pointwise
        rw [(h3 _ _).1]
        simp only [Nat.add_assoc]
      · simp only [loads, View.readAt_eq_ld, Memref.IsWhole.read_unread]
        pointwise
        rw [(h3 _ _).2]
        simp only [Nat.add_assoc]
  · rcases h.lst with ⟨h1, h2⟩ | ⟨h1, h2, h3⟩
    · refine Or.inl ⟨h1, (slt_i ⟨_, hi⟩).trans (if_neg (by simp only; omega))⟩
    · refine Or.inr ⟨(slt_i ⟨_, hi⟩).trans (if_pos h1), fun r c => ⟨?_, ?_⟩, fun r d => ?_⟩
      · simp only [loads, View.readAt_eq_ld, Memref.IsWhole.read_unread]
        pointwise
        rw [(h2 _ _).1]
        simp only [Nat.add_assoc]
      · simp only [loads, View.readAt_eq_ld, Memref.IsWhole.read_unread]
        pointwise
        rw [(h2 _ _).2]
        simp only [Nat.add_assoc]
      · simp only [loads, View.readAt_eq_ld, Memref.IsWhole.read_unread]
        pointwise
        exact h3 r d

omit h in
/-- A block of 256 columns of one part, placed in the block of the four parts. -/
theorem tile16 (q : ℕ) (o : ℕ) (w v : Vec Ideal S1x512x256 .bf16) (e : w = v)
    (hw : ∀ (r : Fin 512) (c : Fin 256), v (ix3 0 r c) = A.dp q (R + r) (C + o + c)) (y : S4x512x1024.Idx) :
    View.TileAt y ![q, 0, o] ![1, 512, 256] w (A.dp (y 0).val (R + (y 1).val) (C + (y 2).val)) := by
  subst e
  intro u hx
  have h0 : (y 0).val = q + (u 0).val := hx 0
  have h1 : (y 1).val = 0 + (u 1).val := hx 1
  have h2 : (y 2).val = o + (u 2).val := hx 2
  idx_vars u
  have hu : u0 = 0 := Subsingleton.elim _ _
  subst hu
  rw [hw, h0, h1, h2]
  simp [ix3, Nat.add_assoc]

omit h in
/-- A block of 256 columns of an accumulator, placed in its row. -/
theorem tileAcc (k : ℕ) (o : ℕ) (w : Vec Ideal S1x256 .f32) {L : Loads Ideal} (_ : At L A R (C + o))
    (f : Loads Ideal → Vec Ideal S1x256 .f32 → FVec Ideal S1x256 .f32) (acc : Vec Ideal S1x256 .f32) (e : w = f L acc) (prev : ℕ → EReal)
    (hw : ∀ c : Fin 256, f L acc (ix2 0 c) = prev (o + c) + ∑ r : Fin 512, A.term k (R + r) (C + o + c)) (y : S1x1024.Idx) :
    View.TileAt y ![0, o] ![1, 256] w (prev (y 1).val + ∑ r : Fin 512, A.term k (R + r) (C + (y 1).val)) := by
  subst e
  intro u hx
  have h1 : (y 1).val = o + (u 1).val := hx 1
  idx_vars u
  have hu : u0 = 0 := Subsingleton.elim _ _
  subst hu
  rw [hw, h1]
  simp [ix2, Nat.add_assoc]

omit h in
theorem cons_tile {y : S1x1024.Idx} {v : EReal} (o : ℕ) (inb : ∀ a, (![0, o] : Fin 2 → ℕ) a + (![1, 256] : Fin 2 → ℕ) a ≤ S1x1024.size a)
    (w : Vec Ideal S1x256 .f32) (L : List (View.Piece (Elt Ideal) S1x1024 .f32))
    (h1 : View.TileAt (Val := Elt Ideal) (e := .f32) y ![0, o] ![1, 256] w v)
    (h2 : ¬ (o ≤ (y 1).val ∧ (y 1).val < o + 256) → View.canon L y = v) :
    View.canon ((⟨Rect.unit (s := S1x1024) ![0, o] ![1, 256] inb, w⟩ : View.Piece (Elt Ideal) S1x1024 .f32) :: L) y = v := by
  by_cases hm : y ∈ (Rect.unit (s := S1x1024) ![0, o] ![1, 256] inb).set
  · obtain ⟨x, rfl⟩ := (Rect.unit (s := S1x1024) ![0, o] ![1, 256] inb).exists_idx_of_mem hm
    rw [show (Rect.unit (s := S1x1024) ![0, o] ![1, 256] inb).idx x = (Rect.unit (s := S1x1024) ![0, o] ![1, 256] inb).emb x from rfl,
      View.canon_cons_emb]
    exact h1 x fun a => Rect.idx_unit_val _ _ inb x a
  · refine (View.canon_cons_of_not_mem (⟨Rect.unit (s := S1x1024) ![0, o] ![1, 256] inb, w⟩ : View.Piece (Elt Ideal) S1x1024 .f32) L hm).trans ?_
    refine h2 fun hh => hm (Rect.mem_set_unit.mpr fun a => ?_)
    have h0 : (y 0).val < 1 := (y 0).isLt
    fin_cases a
    · exact ⟨Nat.zero_le _, h0⟩
    · exact hh

omit h in
theorem zero_base (inb) (w : Vec Ideal S1x1024 .f32) (hw : ∀ y, w y = 0) (y : S1x1024.Idx) (_ : 0 ≤ (y 1).val) :
    View.canon [(⟨Rect.unit (s := S1x1024) ![0, 0] S1x1024.size inb, w⟩ : View.Piece (Elt Ideal) S1x1024 .f32)] y = (0 : EReal) := by
  rw [View.canon_cons_unit_lit _ _ _ (by intro a; fin_cases a <;> rfl)]
  exact hw y

omit h in
theorem zero_cons (o : ℕ) (inb) (w : Vec Ideal S1x256 .f32) (L : List (View.Piece (Elt Ideal) S1x1024 .f32))
    (hz : ∀ y : S1x1024.Idx, o ≤ (y 1).val → View.canon L y = (0 : EReal)) (y : S1x1024.Idx) (hy : o + 256 ≤ (y 1).val) :
    View.canon ((⟨Rect.unit (s := S1x1024) ![0, o] S1x256.size inb, w⟩ : View.Piece (Elt Ideal) S1x1024 .f32) :: L) y = (0 : EReal) := by
  refine cons_tile o inb w L (fun x hx => ?_) fun _ => hz y (by omega)
  have h1 : (y 1).val = o + (x 1).val := hx 1
  have h2 : (x 1).val < 256 := (x 1).isLt
  omega

omit h in
theorem zero_read {κ : Kind} {sp : Space} (v : View sig κ sp S1x1024 .f32) (o : ℕ) (inb) (L : List (View.Piece (Elt Ideal) S1x1024 .f32))
    (hz : ∀ y : S1x1024.Idx, o ≤ (y 1).val → View.canon L y = (0 : EReal)) (c : Fin 256) :
    v.readCov L (Rect.unit (s := S1x1024) ![0, o] S1x256.size inb).toLoadRect (ix2 0 c) = (0 : EReal) := by
  rw [View.readCov_eq_canon']
  refine hz _ ?_
  have := Rect.idx_unit_val (s := S1x1024) ![0, o] S1x256.size inb (ix2 0 c) 1
  exact (Nat.le_add_right o c.val).trans (le_of_eq this.symm)

omit h in
theorem pay2_zero (y) : (k0_pay2 (F := Ideal)) y = (0 : EReal) := by pointwise [k0_pay2]
omit h in
theorem pay3_zero (y) : (k0_pay3 (F := Ideal)) y = (0 : EReal) := by pointwise [k0_pay3]
omit h in
theorem pay4_zero (y) : (k0_pay4 (F := Ideal)) y = (0 : EReal) := by pointwise [k0_pay4]
omit h in
theorem pay5_zero (y) : (k0_pay5 (F := Ideal)) y = (0 : EReal) := by pointwise [k0_pay5]

theorem out16_B (hc0 : ¬ cond0_0 i) (y : S4x512x1024.Idx) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 xo17 xo18 xo19 xo20 y = A.dp (y 0).val (R + (y 1).val) (C + (y 2).val) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20)]
  refine View.canon_eq_of_allAt _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20 y) ?_
  unfold kernelRun0_B
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine View.allAt_cons_unit _ _ _ _ _ (tile16 2 768 _ _ ?_ (fun r c => d2_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 768 _ _ ?_ (fun r c => d1_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 768 _ _ ?_ (fun r c => d0_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 768 _ _ ?_ (fun r c => d3_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 2 512 _ _ ?_ (fun r c => d2_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 512 _ _ ?_ (fun r c => d1_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 512 _ _ ?_ (fun r c => d0_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 512 _ _ ?_ (fun r c => d3_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 2 256 _ _ ?_ (fun r c => d2_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 256 _ _ ?_ (fun r c => d1_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 256 _ _ ?_ (fun r c => d0_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 256 _ _ ?_ (fun r c => d3_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 2 0 _ _ ?_ (fun r c => d2_apply a0 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 0 _ _ ?_ (fun r c => d1_apply a0 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 0 _ _ ?_ (fun r c => d0_apply a0 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 0 _ _ ?_ (fun r c => d3_apply a0 r c) y) ?_
  · simp only [Loads.d0, Loads.d1, Loads.d2, Loads.d3, Loads.dcv, Loads.aft, Loads.dy, Loads.tz, Loads.cx, Loads.conv, loads]
    try (unfold_payloads; rfl)
  exact View.allAt_nil _ _

theorem out16_A (hc0 : cond0_0 i) (y : S4x512x1024.Idx) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 y = A.dp (y 0).val (R + (y 1).val) (C + (y 2).val) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15)]
  refine View.canon_eq_of_allAt _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 y) ?_
  unfold kernelRun0_A
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine View.allAt_cons_unit _ _ _ _ _ (tile16 2 768 _ _ ?_ (fun r c => d2_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 768 _ _ ?_ (fun r c => d1_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 768 _ _ ?_ (fun r c => d0_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 768 _ _ ?_ (fun r c => d3_apply a3 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 2 512 _ _ ?_ (fun r c => d2_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 512 _ _ ?_ (fun r c => d1_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 512 _ _ ?_ (fun r c => d0_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 512 _ _ ?_ (fun r c => d3_apply a2 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 2 256 _ _ ?_ (fun r c => d2_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 256 _ _ ?_ (fun r c => d1_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 256 _ _ ?_ (fun r c => d0_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 256 _ _ ?_ (fun r c => d3_apply a1 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 2 0 _ _ ?_ (fun r c => d2_apply a0 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 1 0 _ _ ?_ (fun r c => d1_apply a0 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 0 0 _ _ ?_ (fun r c => d0_apply a0 r c) y) ?_
  · simp only [Loads.d0, Loads.d1, Loads.d2, Loads.d3, Loads.dcv, Loads.aft, Loads.dy, Loads.tz, Loads.cx, Loads.conv, loads]
    try (unfold_payloads; rfl)
  refine View.allAt_cons_unit _ _ _ _ _ (tile16 3 0 _ _ ?_ (fun r c => d3_apply a0 r c) y) ?_
  · simp only [Loads.d0, Loads.d1, Loads.d2, Loads.d3, Loads.dcv, Loads.aft, Loads.dy, Loads.tz, Loads.cx, Loads.conv, loads]
    try (unfold_payloads; rfl)
  exact View.allAt_nil _ _

theorem out17_B (hc0 : ¬ cond0_0 i) (prev : ℕ → EReal) (hp : ∀ n : Fin 1024, xo17 (ix2 0 n) = prev n) (y : S1x1024.Idx) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 xo17 xo18 xo19 xo20 y
      = prev (y 1).val + ∑ r : Fin 512, A.term 0 (R + r) (C + (y 1).val) := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20)]
  refine View.canon_eq_of_allAt _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20 y) ?_
  unfold kernelRun0_B
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine View.allAt_cons_unit _ _ _ _ _ (tileAcc 0 768 _ a3 Loads.a0 (View.readAt (Elt Ideal) arg19.view (Rect.unit (s := S1x1024) ![0, 768] S1x256.size inb_S1x1024_S1x256_0_768).toLoadRect (harg19.unread xo17)) ?_ prev (fun c => (a0_apply a3 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 0 512 _ a2 Loads.a0 (View.readAt (Elt Ideal) arg19.view (Rect.unit (s := S1x1024) ![0, 512] S1x256.size inb_S1x1024_S1x256_0_512).toLoadRect (harg19.unread xo17)) ?_ prev (fun c => (a0_apply a2 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 0 256 _ a1 Loads.a0 (View.readAt (Elt Ideal) arg19.view (Rect.unit (s := S1x1024) ![0, 256] S1x256.size inb_S1x1024_S1x256_0_256).toLoadRect (harg19.unread xo17)) ?_ prev (fun c => (a0_apply a1 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 0 0 _ a0 Loads.a0 (View.readAt (Elt Ideal) arg19.view (Rect.unit (s := S1x1024) ![0, 0] S1x256.size inb_S1x1024_S1x256_0_0).toLoadRect (harg19.unread xo17)) ?_ prev (fun c => (a0_apply a0 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  exact View.allAt_nil _ _

theorem out17_A (hc0 : cond0_0 i) (y : S1x1024.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 y = ∑ r : Fin 512, A.term 0 (R + r) (C + (y 1).val) := by
  rw [← zero_add (∑ r : Fin 512, _)]
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15)]
  unfold kernelRun0_A
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine cons_tile 768 _ _ _ ?_ fun n3 => ?_
  · generalize hacc : View.readCov (Val := Elt Ideal) arg19.view _ _ = acc
    have hz : ∀ c : Fin 256, acc (ix2 0 c) = (0 : EReal) := fun c => by
      rw [← hacc]
      exact zero_read _ 768 _ _ (zero_cons 512 _ _ _ (zero_cons 256 _ _ _ (zero_cons 0 _ _ _ (zero_base _ _ pay2_zero)))) c
    clear hacc
    refine tileAcc 0 768 _ a3 Loads.a0 acc ?_ (fun _ => 0) (fun c => (a0_apply a3 acc c).trans (congrArg (· + _) (hz c))) y
    simp only [Loads.a0, Loads.a1, Loads.a2, Loads.ab, Loads.dcv, Loads.dy, Loads.tz, Loads.cx, loads]
    try (unfold_payloads; rfl)
  refine cons_tile 512 _ _ _ ?_ fun n2 => ?_
  · generalize hacc : View.readCov (Val := Elt Ideal) arg19.view _ _ = acc
    have hz : ∀ c : Fin 256, acc (ix2 0 c) = (0 : EReal) := fun c => by
      rw [← hacc]
      exact zero_read _ 512 _ _ (zero_cons 256 _ _ _ (zero_cons 0 _ _ _ (zero_base _ _ pay2_zero))) c
    clear hacc
    refine tileAcc 0 512 _ a2 Loads.a0 acc ?_ (fun _ => 0) (fun c => (a0_apply a2 acc c).trans (congrArg (· + _) (hz c))) y
    simp only [Loads.a0, Loads.a1, Loads.a2, Loads.ab, Loads.dcv, Loads.dy, Loads.tz, Loads.cx, loads]
    try (unfold_payloads; rfl)
  refine cons_tile 256 _ _ _ ?_ fun n1 => ?_
  · generalize hacc : View.readCov (Val := Elt Ideal) arg19.view _ _ = acc
    have hz : ∀ c : Fin 256, acc (ix2 0 c) = (0 : EReal) := fun c => by
      rw [← hacc]
      exact zero_read _ 256 _ _ (zero_cons 0 _ _ _ (zero_base _ _ pay2_zero)) c
    clear hacc
    refine tileAcc 0 256 _ a1 Loads.a0 acc ?_ (fun _ => 0) (fun c => (a0_apply a1 acc c).trans (congrArg (· + _) (hz c))) y
    simp only [Loads.a0, Loads.a1, Loads.a2, Loads.ab, Loads.dcv, Loads.dy, Loads.tz, Loads.cx, loads]
    try (unfold_payloads; rfl)
  refine cons_tile 0 _ _ _ ?_ fun n0 => ?_
  · generalize hacc : View.readCov (Val := Elt Ideal) arg19.view _ _ = acc
    have hz : ∀ c : Fin 256, acc (ix2 0 c) = (0 : EReal) := fun c => by
      rw [← hacc]
      exact zero_read _ 0 _ _ (zero_base _ _ pay2_zero) c
    clear hacc
    refine tileAcc 0 0 _ a0 Loads.a0 acc ?_ (fun _ => 0) (fun c => (a0_apply a0 acc c).trans (congrArg (· + _) (hz c))) y
    simp only [Loads.a0, Loads.a1, Loads.a2, Loads.ab, Loads.dcv, Loads.dy, Loads.tz, Loads.cx, loads]
    try (unfold_payloads; rfl)
  have hy : (y 1).val < 1024 := (y 1).isLt
  omega

theorem out18_B (hc0 : ¬ cond0_0 i) (prev : ℕ → EReal) (hp : ∀ n : Fin 1024, xo18 (ix2 0 n) = prev n) (y : S1x1024.Idx) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 xo17 xo18 xo19 xo20 y
      = prev (y 1).val + ∑ r : Fin 512, A.term 1 (R + r) (C + (y 1).val) := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20)]
  refine View.canon_eq_of_allAt _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20 y) ?_
  unfold kernelRun0_B
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine View.allAt_cons_unit _ _ _ _ _ (tileAcc 1 768 _ a3 Loads.a1 (View.readAt (Elt Ideal) arg20.view (Rect.unit (s := S1x1024) ![0, 768] S1x256.size inb_S1x1024_S1x256_0_768).toLoadRect (harg20.unread xo18)) ?_ prev (fun c => (a1_apply a3 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 1 512 _ a2 Loads.a1 (View.readAt (Elt Ideal) arg20.view (Rect.unit (s := S1x1024) ![0, 512] S1x256.size inb_S1x1024_S1x256_0_512).toLoadRect (harg20.unread xo18)) ?_ prev (fun c => (a1_apply a2 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 1 256 _ a1 Loads.a1 (View.readAt (Elt Ideal) arg20.view (Rect.unit (s := S1x1024) ![0, 256] S1x256.size inb_S1x1024_S1x256_0_256).toLoadRect (harg20.unread xo18)) ?_ prev (fun c => (a1_apply a1 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 1 0 _ a0 Loads.a1 (View.readAt (Elt Ideal) arg20.view (Rect.unit (s := S1x1024) ![0, 0] S1x256.size inb_S1x1024_S1x256_0_0).toLoadRect (harg20.unread xo18)) ?_ prev (fun c => (a1_apply a0 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  exact View.allAt_nil _ _

theorem out18_A (hc0 : cond0_0 i) (y : S1x1024.Idx) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 y = ∑ r : Fin 512, A.term 1 (R + r) (C + (y 1).val) := by
  rw [← zero_add (∑ r : Fin 512, _)]
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15)]
  unfold kernelRun0_A
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine cons_tile 768 _ _ _ ?_ fun n3 => ?_
  · generalize hacc : View.readCov (Val := Elt Ideal) arg20.view _ _ = acc
    have hz : ∀ c : Fin 256, acc (ix2 0 c) = (0 : EReal) := fun c => by
      rw [← hacc]
      exact zero_read _ 768 _ _ (zero_cons 512 _ _ _ (zero_cons 256 _ _ _ (zero_cons 0 _ _ _ (zero_base _ _ pay3_zero)))) c
    clear hacc
    refine tileAcc 1 768 _ a3 Loads.a1 acc ?_ (fun _ => 0) (fun c => (a1_apply a3 acc c).trans (congrArg (· + _) (hz c))) y
    simp only [Loads.a0, Loads.a1, Loads.a2, Loads.ab, Loads.dcv, Loads.dy, Loads.tz, Loads.cx, loads]
    try (unfold_payloads; rfl)
  refine cons_tile 512 _ _ _ ?_ fun n2 => ?_
  · generalize hacc : View.readCov (Val := Elt Ideal) arg20.view _ _ = acc
    have hz : ∀ c : Fin 256, acc (ix2 0 c) = (0 : EReal) := fun c => by
      rw [← hacc]
      exact zero_read _ 512 _ _ (zero_cons 256 _ _ _ (zero_cons 0 _ _ _ (zero_base _ _ pay3_zero))) c
    clear hacc
    refine tileAcc 1 512 _ a2 Loads.a1 acc ?_ (fun _ => 0) (fun c => (a1_apply a2 acc c).trans (congrArg (· + _) (hz c))) y
    simp only [Loads.a0, Loads.a1, Loads.a2, Loads.ab, Loads.dcv, Loads.dy, Loads.tz, Loads.cx, loads]
    try (unfold_payloads; rfl)
  refine cons_tile 256 _ _ _ ?_ fun n1 => ?_
  · generalize hacc : View.readCov (Val := Elt Ideal) arg20.view _ _ = acc
    have hz : ∀ c : Fin 256, acc (ix2 0 c) = (0 : EReal) := fun c => by
      rw [← hacc]
      exact zero_read _ 256 _ _ (zero_cons 0 _ _ _ (zero_base _ _ pay3_zero)) c
    clear hacc
    refine tileAcc 1 256 _ a1 Loads.a1 acc ?_ (fun _ => 0) (fun c => (a1_apply a1 acc c).trans (congrArg (· + _) (hz c))) y
    simp only [Loads.a0, Loads.a1, Loads.a2, Loads.ab, Loads.dcv, Loads.dy, Loads.tz, Loads.cx, loads]
    try (unfold_payloads; rfl)
  refine cons_tile 0 _ _ _ ?_ fun n0 => ?_
  · generalize hacc : View.readCov (Val := Elt Ideal) arg20.view _ _ = acc
    have hz : ∀ c : Fin 256, acc (ix2 0 c) = (0 : EReal) := fun c => by
      rw [← hacc]
      exact zero_read _ 0 _ _ (zero_base _ _ pay3_zero) c
    clear hacc
    refine tileAcc 1 0 _ a0 Loads.a1 acc ?_ (fun _ => 0) (fun c => (a1_apply a0 acc c).trans (congrArg (· + _) (hz c))) y
    simp only [Loads.a0, Loads.a1, Loads.a2, Loads.ab, Loads.dcv, Loads.dy, Loads.tz, Loads.cx, loads]
    try (unfold_payloads; rfl)
  have hy : (y 1).val < 1024 := (y 1).isLt
  omega

theorem out19_B (hc0 : ¬ cond0_0 i) (prev : ℕ → EReal) (hp : ∀ n : Fin 1024, xo19 (ix2 0 n) = prev n) (y : S1x1024.Idx) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 xo17 xo18 xo19 xo20 y
      = prev (y 1).val + ∑ r : Fin 512, A.term 2 (R + r) (C + (y 1).val) := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20)]
  refine View.canon_eq_of_allAt _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20 y) ?_
  unfold kernelRun0_B
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine View.allAt_cons_unit _ _ _ _ _ (tileAcc 2 768 _ a3 Loads.a2 (View.readAt (Elt Ideal) arg21.view (Rect.unit (s := S1x1024) ![0, 768] S1x256.size inb_S1x1024_S1x256_0_768).toLoadRect (harg21.unread xo19)) ?_ prev (fun c => (a2_apply a3 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 2 512 _ a2 Loads.a2 (View.readAt (Elt Ideal) arg21.view (Rect.unit (s := S1x1024) ![0, 512] S1x256.size inb_S1x1024_S1x256_0_512).toLoadRect (harg21.unread xo19)) ?_ prev (fun c => (a2_apply a2 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 2 256 _ a1 Loads.a2 (View.readAt (Elt Ideal) arg21.view (Rect.unit (s := S1x1024) ![0, 256] S1x256.size inb_S1x1024_S1x256_0_256).toLoadRect (harg21.unread xo19)) ?_ prev (fun c => (a2_apply a1 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 2 0 _ a0 Loads.a2 (View.readAt (Elt Ideal) arg21.view (Rect.unit (s := S1x1024) ![0, 0] S1x256.size inb_S1x1024_S1x256_0_0).toLoadRect (harg21.unread xo19)) ?_ prev (fun c => (a2_apply a0 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  exact View.allAt_nil _ _

theorem out19_A (hc0 : cond0_0 i) (y : S1x1024.Idx) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 y = ∑ r : Fin 512, A.term 2 (R + r) (C + (y 1).val) := by
  rw [← zero_add (∑ r : Fin 512, _)]
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15)]
  unfold kernelRun0_A
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine cons_tile 768 _ _ _ ?_ fun n3 => ?_
  · generalize hacc : View.readCov (Val := Elt Ideal) arg21.view _ _ = acc
    have hz : ∀ c : Fin 256, acc (ix2 0 c) = (0 : EReal) := fun c => by
      rw [← hacc]
      exact zero_read _ 768 _ _ (zero_cons 512 _ _ _ (zero_cons 256 _ _ _ (zero_cons 0 _ _ _ (zero_base _ _ pay4_zero)))) c
    clear hacc
    refine tileAcc 2 768 _ a3 Loads.a2 acc ?_ (fun _ => 0) (fun c => (a2_apply a3 acc c).trans (congrArg (· + _) (hz c))) y
    simp only [Loads.a0, Loads.a1, Loads.a2, Loads.ab, Loads.dcv, Loads.dy, Loads.tz, Loads.cx, loads]
    try (unfold_payloads; rfl)
  refine cons_tile 512 _ _ _ ?_ fun n2 => ?_
  · generalize hacc : View.readCov (Val := Elt Ideal) arg21.view _ _ = acc
    have hz : ∀ c : Fin 256, acc (ix2 0 c) = (0 : EReal) := fun c => by
      rw [← hacc]
      exact zero_read _ 512 _ _ (zero_cons 256 _ _ _ (zero_cons 0 _ _ _ (zero_base _ _ pay4_zero))) c
    clear hacc
    refine tileAcc 2 512 _ a2 Loads.a2 acc ?_ (fun _ => 0) (fun c => (a2_apply a2 acc c).trans (congrArg (· + _) (hz c))) y
    simp only [Loads.a0, Loads.a1, Loads.a2, Loads.ab, Loads.dcv, Loads.dy, Loads.tz, Loads.cx, loads]
    try (unfold_payloads; rfl)
  refine cons_tile 256 _ _ _ ?_ fun n1 => ?_
  · generalize hacc : View.readCov (Val := Elt Ideal) arg21.view _ _ = acc
    have hz : ∀ c : Fin 256, acc (ix2 0 c) = (0 : EReal) := fun c => by
      rw [← hacc]
      exact zero_read _ 256 _ _ (zero_cons 0 _ _ _ (zero_base _ _ pay4_zero)) c
    clear hacc
    refine tileAcc 2 256 _ a1 Loads.a2 acc ?_ (fun _ => 0) (fun c => (a2_apply a1 acc c).trans (congrArg (· + _) (hz c))) y
    simp only [Loads.a0, Loads.a1, Loads.a2, Loads.ab, Loads.dcv, Loads.dy, Loads.tz, Loads.cx, loads]
    try (unfold_payloads; rfl)
  refine cons_tile 0 _ _ _ ?_ fun n0 => ?_
  · generalize hacc : View.readCov (Val := Elt Ideal) arg21.view _ _ = acc
    have hz : ∀ c : Fin 256, acc (ix2 0 c) = (0 : EReal) := fun c => by
      rw [← hacc]
      exact zero_read _ 0 _ _ (zero_base _ _ pay4_zero) c
    clear hacc
    refine tileAcc 2 0 _ a0 Loads.a2 acc ?_ (fun _ => 0) (fun c => (a2_apply a0 acc c).trans (congrArg (· + _) (hz c))) y
    simp only [Loads.a0, Loads.a1, Loads.a2, Loads.ab, Loads.dcv, Loads.dy, Loads.tz, Loads.cx, loads]
    try (unfold_payloads; rfl)
  have hy : (y 1).val < 1024 := (y 1).isLt
  omega

theorem out20_B (hc0 : ¬ cond0_0 i) (prev : ℕ → EReal) (hp : ∀ n : Fin 1024, xo20 (ix2 0 n) = prev n) (y : S1x1024.Idx) :
    out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 xo17 xo18 xo19 xo20 y
      = prev (y 1).val + ∑ r : Fin 512, A.term 3 (R + r) (C + (y 1).val) := by
  unfold out0_B_20
  rw [View.read_writes_eq_canon _ _ _ (cover0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20)]
  refine View.canon_eq_of_allAt _ _ _ (cover0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15 xo17 xo18 xo19 xo20 y) ?_
  unfold kernelRun0_B
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine View.allAt_cons_unit _ _ _ _ _ (tileAcc 3 768 _ a3 Loads.ab (View.readAt (Elt Ideal) arg22.view (Rect.unit (s := S1x1024) ![0, 768] S1x256.size inb_S1x1024_S1x256_0_768).toLoadRect (harg22.unread xo20)) ?_ prev (fun c => (ab_apply a3 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 3 512 _ a2 Loads.ab (View.readAt (Elt Ideal) arg22.view (Rect.unit (s := S1x1024) ![0, 512] S1x256.size inb_S1x1024_S1x256_0_512).toLoadRect (harg22.unread xo20)) ?_ prev (fun c => (ab_apply a2 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 3 256 _ a1 Loads.ab (View.readAt (Elt Ideal) arg22.view (Rect.unit (s := S1x1024) ![0, 256] S1x256.size inb_S1x1024_S1x256_0_256).toLoadRect (harg22.unread xo20)) ?_ prev (fun c => (ab_apply a1 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  refine View.allAt_cons_unit _ _ _ _ _ (tileAcc 3 0 _ a0 Loads.ab (View.readAt (Elt Ideal) arg22.view (Rect.unit (s := S1x1024) ![0, 0] S1x256.size inb_S1x1024_S1x256_0_0).toLoadRect (harg22.unread xo20)) ?_ prev (fun c => (ab_apply a0 _ c).trans (congrArg (· + _) ?_)) y) ?_
  · simp only [Loads.a0, Loads.a1, Loads.a2, Loads.ab, Loads.dcv, Loads.dy, Loads.tz, Loads.cx, loads]
    try (unfold_payloads; rfl)
  · simp only [View.readAt_eq_ld, Memref.IsWhole.read_unread]
    pointwise
    exact hp _
  exact View.allAt_nil _ _

theorem out20_A (hc0 : cond0_0 i) (y : S1x1024.Idx) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
      x0 x1 x2 x3 x4 x5 x6 x7 x8 x9 x10 x11 x12 x13 x14 x15 y = ∑ r : Fin 512, A.term 3 (R + r) (C + (y 1).val) := by
  rw [← zero_add (∑ r : Fin 512, _)]
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0
    x0 x1 x2 x3 x4 x5 x6 x7 x8 x9 x10 x11 x12 x13 x14 x15)]
  unfold kernelRun0_A
  dsimp only
  sl_unfold_words
  have a3 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 768 (by decide) inb_S1024x1024_S256x1024_768_0 inb_S1x512x1024_S1x512x256_0_0_768 inb_S1x1024_S1x256_0_768 inb_S1x16x1024_S1x16x256_0_0_768
  have a2 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 512 (by decide) inb_S1024x1024_S256x1024_512_0 inb_S1x512x1024_S1x512x256_0_0_512 inb_S1x1024_S1x256_0_512 inb_S1x16x1024_S1x16x256_0_0_512
  have a1 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 256 (by decide) inb_S1024x1024_S256x1024_256_0 inb_S1x512x1024_S1x512x256_0_0_256 inb_S1x1024_S1x256_0_256 inb_S1x16x1024_S1x16x256_0_0_256
  have a0 := loads_at i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 h 0 (by decide) inb_S1024x1024_S256x1024_0_0 inb_S1x512x1024_S1x512x256_0_0_0 inb_S1x1024_S1x256_0_0 inb_S1x16x1024_S1x16x256_0_0_0
  refine cons_tile 768 _ _ _ ?_ fun n3 => ?_
  · generalize hacc : View.readCov (Val := Elt Ideal) arg22.view _ _ = acc
    have hz : ∀ c : Fin 256, acc (ix2 0 c) = (0 : EReal) := fun c => by
      rw [← hacc]
      exact zero_read _ 768 _ _ (zero_cons 512 _ _ _ (zero_cons 256 _ _ _ (zero_cons 0 _ _ _ (zero_base _ _ pay5_zero)))) c
    clear hacc
    refine tileAcc 3 768 _ a3 Loads.ab acc ?_ (fun _ => 0) (fun c => (ab_apply a3 acc c).trans (congrArg (· + _) (hz c))) y
    simp only [Loads.a0, Loads.a1, Loads.a2, Loads.ab, Loads.dcv, Loads.dy, Loads.tz, Loads.cx, loads]
    try (unfold_payloads; rfl)
  refine cons_tile 512 _ _ _ ?_ fun n2 => ?_
  · generalize hacc : View.readCov (Val := Elt Ideal) arg22.view _ _ = acc
    have hz : ∀ c : Fin 256, acc (ix2 0 c) = (0 : EReal) := fun c => by
      rw [← hacc]
      exact zero_read _ 512 _ _ (zero_cons 256 _ _ _ (zero_cons 0 _ _ _ (zero_base _ _ pay5_zero))) c
    clear hacc
    refine tileAcc 3 512 _ a2 Loads.ab acc ?_ (fun _ => 0) (fun c => (ab_apply a2 acc c).trans (congrArg (· + _) (hz c))) y
    simp only [Loads.a0, Loads.a1, Loads.a2, Loads.ab, Loads.dcv, Loads.dy, Loads.tz, Loads.cx, loads]
    try (unfold_payloads; rfl)
  refine cons_tile 256 _ _ _ ?_ fun n1 => ?_
  · generalize hacc : View.readCov (Val := Elt Ideal) arg22.view _ _ = acc
    have hz : ∀ c : Fin 256, acc (ix2 0 c) = (0 : EReal) := fun c => by
      rw [← hacc]
      exact zero_read _ 256 _ _ (zero_cons 0 _ _ _ (zero_base _ _ pay5_zero)) c
    clear hacc
    refine tileAcc 3 256 _ a1 Loads.ab acc ?_ (fun _ => 0) (fun c => (ab_apply a1 acc c).trans (congrArg (· + _) (hz c))) y
    simp only [Loads.a0, Loads.a1, Loads.a2, Loads.ab, Loads.dcv, Loads.dy, Loads.tz, Loads.cx, loads]
    try (unfold_payloads; rfl)
  refine cons_tile 0 _ _ _ ?_ fun n0 => ?_
  · generalize hacc : View.readCov (Val := Elt Ideal) arg22.view _ _ = acc
    have hz : ∀ c : Fin 256, acc (ix2 0 c) = (0 : EReal) := fun c => by
      rw [← hacc]
      exact zero_read _ 0 _ _ (zero_base _ _ pay5_zero) c
    clear hacc
    refine tileAcc 3 0 _ a0 Loads.ab acc ?_ (fun _ => 0) (fun c => (ab_apply a0 acc c).trans (congrArg (· + _) (hz c))) y
    simp only [Loads.a0, Loads.a1, Loads.a2, Loads.ab, Loads.dcv, Loads.dy, Loads.tz, Loads.cx, loads]
    try (unfold_payloads; rfl)
  have hy : (y 1).val < 1024 := (y 1).isLt
  omega

end

end Cert.KernelIdeal.Bwd
-- ==== Proof.Ref.lean ====
/- The reference's results read at an index: the arithmetic of `Cert.GatedConv` on its arguments' entries. -/
module

public import proofs.«01_k».proof.Proof.Gen.ReferenceIdeal.Read
public import proofs.«01_k».proof.Proof.Sigmoid
public import Idealize.ShloMosaic.Lib.Pointwise

@[expose] public section

set_option maxRecDepth 16384

noncomputable section

namespace Cert.ReferenceIdeal.Bwd

open Idealize.ShloMosaic Cert.ReferenceIdeal Cert.ReferenceIdeal.Read Cert.GatedConv

/-- The arguments' entries by row and column number, zero past the end. -/
def arrays (x0 : Vec Ideal S4x8192x2048 .f32) (x1 : Vec Ideal S3x2048 .f32) (x2 : Vec Ideal S2048 .f32)
    (x3 : Vec Ideal S2048x1024 .f32) (x4 : Vec Ideal S8192x1024 .f32) : Arrays where
  p q r e := if h : q < 4 ∧ r < 8192 ∧ e < 2048 then x0 (ix3 ⟨q, h.1⟩ ⟨r, h.2.1⟩ ⟨e, h.2.2⟩) else 0
  w k e := if h : k < 3 ∧ e < 2048 then x1 (ix2 ⟨k, h.1⟩ ⟨e, h.2⟩) else 0
  b e := if h : e < 2048 then x2 (ix1 ⟨e, h⟩) else 0
  wo e d := if h : e < 2048 then x3 (ix2 ⟨e, h⟩ d) else 0
  ct r d := if h : r < 8192 then x4 (ix2 ⟨r, h⟩ d) else 0

section
variable (x0 : Vec Ideal S4x8192x2048 .f32) (x1 : Vec Ideal S3x2048 .f32) (x2 : Vec Ideal S2048 .f32)
  (x3 : Vec Ideal S2048x1024 .f32) (x4 : Vec Ideal S8192x1024 .f32)

theorem p_at (q : Fin 4) (r : Fin 8192) (e : Fin 2048) : (arrays x0 x1 x2 x3 x4).p q r e = x0 (ix3 q r e) :=
  dif_pos ⟨q.isLt, r.isLt, e.isLt⟩
theorem w_at (k : Fin 3) (e : Fin 2048) : (arrays x0 x1 x2 x3 x4).w k e = x1 (ix2 k e) := dif_pos ⟨k.isLt, e.isLt⟩
theorem b_at (e : Fin 2048) : (arrays x0 x1 x2 x3 x4).b e = x2 (ix1 e) := dif_pos e.isLt
theorem wo_at (e : Fin 2048) (d : Fin 1024) : (arrays x0 x1 x2 x3 x4).wo e d = x3 (ix2 e d) := dif_pos e.isLt
theorem ct_at (r : Fin 8192) (d : Fin 1024) : (arrays x0 x1 x2 x3 x4).ct r d = x4 (ix2 r d) := dif_pos r.isLt

theorem v8_at (r : Fin 8192) (e : Fin 2048) : val_main_v8 (F := Ideal) x0 (ix2 r e) = (arrays x0 x1 x2 x3 x4).cx r e := by
  pointwise [val_main_v8, val_main_v3, val_main_v5, val_main_v2, val_main_v4]
  exact congrArg₂ (· * ·) (p_at x0 x1 x2 x3 x4 1 r e).symm (p_at x0 x1 x2 x3 x4 2 r e).symm

theorem v22_at (r : Fin 8192) (e : Fin 2048) : val_main_v22 (F := Ideal) x0 (ix2 r e) = (arrays x0 x1 x2 x3 x4).cxb 2 r e := by
  pointwise [val_main_v22, val_main_v10, val_main_v9, val_main_cst]
  unfold Arrays.cxb back
  split
  · rfl
  · exact v8_at x0 x1 x2 x3 x4 _ e

theorem v29_at (r : Fin 8192) (e : Fin 2048) : val_main_v29 (F := Ideal) x0 (ix2 r e) = (arrays x0 x1 x2 x3 x4).cxb 1 r e := by
  pointwise [val_main_v29, val_main_v10, val_main_v9, val_main_cst]
  unfold Arrays.cxb back
  by_cases h : r.val < 1
  · rw [dif_pos (by omega), if_pos h]
  · rw [dif_neg (by omega), if_neg h, v8_at x0 x1 x2 x3 x4]
    have e1 : 1 + r.val - 2 = r.val - 1 := by omega
    simp only [e1]

theorem v38_at (r : Fin 8192) (e : Fin 2048) : val_main_v38 (F := Ideal) x3 x4 (ix2 r e) = (arrays x0 x1 x2 x3 x4).dy r e := by
  pointwise [val_main_v38]
  exact Finset.sum_congr rfl fun d _ => by rw [ct_at x0 x1 x2 x3 x4, wo_at x0 x1 x2 x3 x4]

theorem v33_at (r : Fin 8192) (e : Fin 2048) : val_main_v33 (F := Ideal) x0 x1 x2 (ix2 r e) = (arrays x0 x1 x2 x3 x4).conv r e := by
  pointwise [val_main_v33, val_main_v26, val_main_v32, val_main_v31, val_main_v30, val_main_v28, val_main_v27, val_main_v25,
    val_main_v24, val_main_v23, val_main_v21, val_main_v20, val_main_v19, val_main_v18, val_main_v17, val_main_v16,
    val_main_v15, val_main_v14, val_main_v13, val_main_v12]
  rw [v8_at x0 x1 x2 x3 x4, v22_at x0 x1 x2 x3 x4, v29_at x0 x1 x2 x3 x4, Arrays.conv, b_at]
  rw [← w_at x0 x1 x2 x3 x4, ← w_at x0 x1 x2 x3 x4, ← w_at x0 x1 x2 x3 x4]
  rfl

theorem v34_2_at (r : Fin 8192) (e : Fin 2048) : val_main_v34_2 (F := Ideal) x0 (ix2 r e) = sg ((arrays x0 x1 x2 x3 x4).p 3 r e) := by
  pointwise [val_main_v34_2, val_main_call0_v4, val_main_call0_cst_0, val_main_call0_v3, val_main_call0_v2, val_main_call0_cst,
    val_main_call0_v1, val_main_call0_v0, val_main_v7, val_main_v6]
  rw [sg_eq]
  exact congrArg sg (p_at x0 x1 x2 x3 x4 3 r e).symm

theorem v39_at (r : Fin 8192) (e : Fin 2048) : val_main_v39 (F := Ideal) x0 x3 x4 (ix2 r e) = (arrays x0 x1 x2 x3 x4).dcv r e := by
  pointwise [val_main_v39, val_main_v35, val_main_v34_0, val_main_v7, val_main_v6, val_main_v1, val_main_v0]
  rw [v34_2_at x0 x1 x2 x3 x4, v38_at x0 x1 x2 x3 x4, Arrays.dcv, Arrays.sz]
  have e3 : x0 (ix3 3 r e) = (arrays x0 x1 x2 x3 x4).p 3 r e := (p_at x0 x1 x2 x3 x4 3 r e).symm
  have e0 : x0 (ix3 0 r e) = (arrays x0 x1 x2 x3 x4).p 0 r e := (p_at x0 x1 x2 x3 x4 0 r e).symm
  rw [e3, e0, mul_comm, ← mul_assoc]

theorem dcv_end (r e : ℕ) (hr : 8192 ≤ r) : (arrays x0 x1 x2 x3 x4).dcv r e = 0 := by
  have h0 : (arrays x0 x1 x2 x3 x4).p 0 r e = 0 := dif_neg fun h => absurd h.2.1 (by omega)
  rw [Arrays.dcv, h0, mul_zero]

theorem v78_at (r : Fin 8192) (e : Fin 2048) : val_main_v78 (F := Ideal) x0 x1 x3 x4 (ix2 r e) = (arrays x0 x1 x2 x3 x4).dcx r e := by
  pointwise [val_main_v78, val_main_v77, val_main_v60, val_main_v59, val_main_v50, val_main_v68, val_main_v67, val_main_v54,
    val_main_v53, val_main_v45, val_main_v44, val_main_v14, val_main_v13, val_main_v12, val_main_v30, val_main_v28, val_main_v27,
    val_main_v23, val_main_v21, val_main_v20, val_main_cst_3, val_main_cst_7]
  rw [v39_at x0 x1 x2 x3 x4, Arrays.dcx, add_assoc]
  have hr := r.isLt
  refine congrArg₂ (· + ·) (congrArg (· * _) (w_at x0 x1 x2 x3 x4 2 e).symm) (congrArg₂ (· + ·) ?_ ?_)
  · by_cases h : r.val + 1 < 8192
    · rw [dif_pos (by omega), v39_at x0 x1 x2 x3 x4]
      have e1 : 2 + r.val - 1 = r.val + 1 := by omega
      simp only [e1]
      exact congrArg (· * _) (w_at x0 x1 x2 x3 x4 1 e).symm
    · rw [dif_neg (by omega), dcv_end x0 x1 x2 x3 x4 _ _ (by omega), mul_zero]
  · by_cases h : r.val + 2 < 8192
    · rw [dif_pos (by omega), v39_at x0 x1 x2 x3 x4]
      have e1 : 2 + r.val = r.val + 2 := by omega
      simp only [e1]
      exact congrArg (· * _) (w_at x0 x1 x2 x3 x4 0 e).symm
    · rw [dif_neg (by omega), dcv_end x0 x1 x2 x3 x4 _ _ (by omega), mul_zero]

theorem v79_at (r : Fin 8192) (e : Fin 2048) : val_main_v79 (F := Ideal) x0 x1 x3 x4 (ix2 r e) = (arrays x0 x1 x2 x3 x4).dp 2 r e := by
  pointwise [val_main_v79, val_main_v3, val_main_v2]
  rw [v78_at x0 x1 x2 x3 x4, mul_comm]
  exact congrArg (_ * ·) (p_at x0 x1 x2 x3 x4 1 r e).symm

theorem v80_at (r : Fin 8192) (e : Fin 2048) : val_main_v80 (F := Ideal) x0 x1 x3 x4 (ix2 r e) = (arrays x0 x1 x2 x3 x4).dp 1 r e := by
  pointwise [val_main_v80, val_main_v5, val_main_v4]
  rw [v78_at x0 x1 x2 x3 x4]
  exact congrArg (_ * ·) (p_at x0 x1 x2 x3 x4 2 r e).symm

theorem v41_at (r : Fin 8192) (e : Fin 2048) : val_main_v41 (F := Ideal) x0 x1 x2 x3 x4 (ix2 r e) = (arrays x0 x1 x2 x3 x4).dp 0 r e := by
  pointwise [val_main_v41, val_main_v34_0, val_main_v40, val_main_v7, val_main_v6]
  rw [v34_2_at x0 x1 x2 x3 x4, v38_at x0 x1 x2 x3 x4, v33_at x0 x1 x2 x3 x4, mul_left_comm, ← mul_assoc]
  exact congrArg (· * _) (congrArg (_ * ·) (congrArg (· * _) (p_at x0 x1 x2 x3 x4 3 r e).symm))

theorem v43_at (hA : (arrays x0 x1 x2 x3 x4).Finite) (r : Fin 8192) (e : Fin 2048) :
    val_main_v43 (F := Ideal) x0 x1 x2 x3 x4 (ix2 r e) = (arrays x0 x1 x2 x3 x4).dp 3 r e := by
  pointwise [val_main_v43, val_main_call1_v0, val_main_call1_v1, val_main_call1_v2, val_main_v42, val_main_v40, val_main_v7,
    val_main_v6, val_main_v1, val_main_v0, val_main_v34_1, val_main_call0_v7, val_main_call0_v6, val_main_call0_cst_1]
  rw [v34_2_at x0 x1 x2 x3 x4, v38_at x0 x1 x2 x3 x4, v33_at x0 x1 x2 x3 x4]
  have e3 : x0 (ix3 3 r e) = (arrays x0 x1 x2 x3 x4).p 3 r e := (p_at x0 x1 x2 x3 x4 3 r e).symm
  have e0 : x0 (ix3 0 r e) = (arrays x0 x1 x2 x3 x4).p 0 r e := (p_at x0 x1 x2 x3 x4 0 r e).symm
  rw [e3, e0]
  refine (dsilu (((hA.dy r e).mul (hA.conv r e)).mul (hA.p 0 r e)) (hA.p 3 r e)).trans ?_
  exact congrArg (· * _) (mul_right_comm _ _ _)

theorem v86_at (hA : (arrays x0 x1 x2 x3 x4).Finite) (q : Fin 4) (r : Fin 8192) (e : Fin 2048) :
    val_main_v86 (F := Ideal) x0 x1 x2 x3 x4 (ix3 q r e) = (arrays x0 x1 x2 x3 x4).dp q r e := by
  pointwise [val_main_v86, val_main_v85, val_main_v81, val_main_v82, val_main_v83, val_main_v84]
  rw [v41_at, v80_at x0 x1 x2 x3 x4, v79_at x0 x1 x2 x3 x4, v43_at x0 x1 x2 x3 x4 hA]
  fin_cases q <;> rfl

theorem term0_at (e : Fin 2048) : val_main_v87 (F := Ideal) x0 x3 x4 (ix2 0 e) = ∑ r : Fin 8192, (arrays x0 x1 x2 x3 x4).term 0 r e := by
  pointwise [val_main_v87, val_main_v75, val_main_v74, val_main_v63, val_main_v52, val_main_v51, val_main_v62, val_main_v61, val_main_cst_1, val_main_cst_2, val_main_cst_4, val_main_cst_5, val_main_cst_6, val_main_cst_8,
    val_main_cst_9, val_main_cst_10, val_main_cst_11, val_main_cst_12, val_main_cst_13, val_main_v58, val_main_v57, val_main_v56, val_main_v55]
  simp only [Finset.univ_unique, Finset.sum_singleton]
  refine Finset.sum_congr rfl fun r _ => ?_
  rw [v39_at x0 x1 x2 x3 x4, v22_at x0 x1 x2 x3 x4]
  rfl

theorem term1_at (e : Fin 2048) : val_main_v88 (F := Ideal) x0 x3 x4 (ix2 0 e) = ∑ r : Fin 8192, (arrays x0 x1 x2 x3 x4).term 1 r e := by
  pointwise [val_main_v88, val_main_v75, val_main_v74, val_main_v63, val_main_v52, val_main_v51, val_main_v62, val_main_v61, val_main_cst_1, val_main_cst_2, val_main_cst_4, val_main_cst_5, val_main_cst_6, val_main_cst_8,
    val_main_cst_9, val_main_cst_10, val_main_cst_11, val_main_cst_12, val_main_cst_13, val_main_v49, val_main_v48, val_main_v47, val_main_v46]
  simp only [Finset.univ_unique, Finset.sum_singleton]
  refine Finset.sum_congr rfl fun r _ => ?_
  rw [v39_at x0 x1 x2 x3 x4, v29_at x0 x1 x2 x3 x4]
  rfl

theorem term2_at (e : Fin 2048) : val_main_v89 (F := Ideal) x0 x3 x4 (ix2 0 e) = ∑ r : Fin 8192, (arrays x0 x1 x2 x3 x4).term 2 r e := by
  pointwise [val_main_v89, val_main_v75, val_main_v74, val_main_v63, val_main_v52, val_main_v51, val_main_v62, val_main_v61, val_main_cst_1, val_main_cst_2, val_main_cst_4, val_main_cst_5, val_main_cst_6, val_main_cst_8,
    val_main_cst_9, val_main_cst_10, val_main_cst_11, val_main_cst_12, val_main_cst_13, val_main_v73, val_main_v72, val_main_v71, val_main_v70, val_main_v69]
  simp only [Finset.univ_unique, Finset.sum_singleton]
  refine Finset.sum_congr rfl fun r _ => ?_
  rw [v39_at x0 x1 x2 x3 x4, v8_at x0 x1 x2 x3 x4]
  rfl

theorem term3_at (e : Fin 2048) : val_main_v90 (F := Ideal) x0 x3 x4 (ix2 0 e) = ∑ r : Fin 8192, (arrays x0 x1 x2 x3 x4).term 3 r e := by
  pointwise [val_main_v90, val_main_v66, val_main_v65, val_main_v64, val_main_cst_9, val_main_cst_10]
  simp only [Finset.univ_unique, Finset.sum_singleton]
  refine Finset.sum_congr rfl fun r _ => ?_
  exact v39_at x0 x1 x2 x3 x4 r e

end

end Cert.ReferenceIdeal.Bwd
-- ==== Proof.Point.lean ====
/- The blocks a grid point reads, at the arrays' coordinates. -/
module

public import proofs.«01_k».proof.Proof.Block
public import proofs.«01_k».proof.Proof.Ref
public import proofs.«01_k».proof.Proof.Gen.KernelIdeal.Value
public import Idealize.ShloMosaic.Lib.Pipeline.ValueKit.Point

@[expose] public section

set_option maxRecDepth 16384

noncomputable section

namespace Cert.KernelIdeal.Bwd

open Idealize.ShloMosaic Idealize.ShloMosaic.TcCoe Idealize.ShloMosaic.Tactic
open Idealize.ShloMosaic.Pipeline (Dat)
open Cert.KernelIdeal Cert.KernelIdeal.Gen Cert.GatedConv
open Cert.ReferenceIdeal.Bwd (arrays p_at w_at b_at wo_at ct_at)

theorem idx0 : ∀ t : Fin cfg0.N, win0_0.index t = ![0, t.val % 16, t.val / 16] := (by decide +kernel : ∀ t : Fin grid0.N, _)
theorem idx1 : ∀ t : Fin cfg0.N, win0_1.index t = ![1, t.val % 16, t.val / 16] := (by decide +kernel : ∀ t : Fin grid0.N, _)
theorem idx2 : ∀ t : Fin cfg0.N, win0_2.index t = ![2, t.val % 16, t.val / 16] := (by decide +kernel : ∀ t : Fin grid0.N, _)
theorem idx3 : ∀ t : Fin cfg0.N, win0_3.index t = ![3, t.val % 16, t.val / 16] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![1, 32 * (t.val % 16) - 1, t.val / 16] := (by decide +kernel : ∀ t : Fin grid0.N, _)
theorem idx6 : ∀ t : Fin cfg0.N, win0_6.index t = ![2, 32 * (t.val % 16) - 1, t.val / 16] := (by decide +kernel : ∀ t : Fin grid0.N, _)
theorem idx7 : ∀ t : Fin cfg0.N, win0_7.index t = ![0, min (32 * (t.val % 16 + 1)) 511, t.val / 16] := (by decide +kernel : ∀ t : Fin grid0.N, _)
theorem idx8 : ∀ t : Fin cfg0.N, win0_8.index t = ![3, min (32 * (t.val % 16 + 1)) 511, t.val / 16] := (by decide +kernel : ∀ t : Fin grid0.N, _)
theorem idx9 : ∀ t : Fin cfg0.N, win0_9.index t = ![min (32 * (t.val % 16 + 1)) 511, 0] := (by decide +kernel : ∀ t : Fin grid0.N, _)
theorem idx10 : ∀ t : Fin cfg0.N, win0_10.index t = ![t.val / 16, 0] := (by decide +kernel : ∀ t : Fin grid0.N, _)
theorem idx11 : ∀ t : Fin cfg0.N, win0_11.index t = ![0, t.val / 16] := (by decide +kernel : ∀ t : Fin grid0.N, _)
theorem idx12 : ∀ t : Fin cfg0.N, win0_12.index t = ![0, t.val / 16] := (by decide +kernel : ∀ t : Fin grid0.N, _)
theorem idx13 : ∀ t : Fin cfg0.N, win0_13.index t = ![0, t.val / 16] := (by decide +kernel : ∀ t : Fin grid0.N, _)
theorem idx14 : ∀ t : Fin cfg0.N, win0_14.index t = ![0, t.val / 16] := (by decide +kernel : ∀ t : Fin grid0.N, _)
theorem coord1 : ∀ t : Fin cfg0.N, (grid0.coords t 1).val = t.val % 16 := (by decide +kernel : ∀ t : Fin grid0.N, _)

variable (m : (ℓ : Loc nD τ sig) → Buf (Elt Ideal) ℓ)

/-- The arrays the kernel is given on device `c`. -/
abbrev KA (c : Dev nD) : Arrays :=
  arrays (m ((c : Thread nD τ).loc main_arg0)) (m ((c : Thread nD τ).loc main_arg1)) (m ((c : Thread nD τ).loc main_arg2))
    (m ((c : Thread nD τ).loc main_arg3)) (m ((c : Thread nD τ).loc main_arg4))

set_option maxHeartbeats 4000000 in
theorem blk_at (c : Dev nD) (t : Fin cfg0.N) :
    Blk (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (KA m c) (512 * (t.val % 16)) (1024 * (t.val / 16)) := by
  have ht : t.val < 32 := lt_of_lt_of_eq t.isLt N_0
  constructor
  · intro r e
    refine Eq.trans ?_ (p_at _ _ _ _ _ 0 ⟨512 * (t.val % 16) + r, by omega⟩ ⟨1024 * (t.val / 16) + e, by omega⟩).symm
    blk_ext! [iblk, V, idx0 t]
  · intro r e
    refine Eq.trans ?_ (p_at _ _ _ _ _ 1 ⟨512 * (t.val % 16) + r, by omega⟩ ⟨1024 * (t.val / 16) + e, by omega⟩).symm
    blk_ext! [iblk, V, idx1 t]
  · intro r e
    refine Eq.trans ?_ (p_at _ _ _ _ _ 2 ⟨512 * (t.val % 16) + r, by omega⟩ ⟨1024 * (t.val / 16) + e, by omega⟩).symm
    blk_ext! [iblk, V, idx2 t]
  · intro r e
    refine Eq.trans ?_ (p_at _ _ _ _ _ 3 ⟨512 * (t.val % 16) + r, by omega⟩ ⟨1024 * (t.val / 16) + e, by omega⟩).symm
    blk_ext! [iblk, V, idx3 t]
  · intro r d
    refine Eq.trans ?_ (ct_at _ _ _ _ _ ⟨512 * (t.val % 16) + r, by omega⟩ d).symm
    blk_ext! [iblk, V, idx4 t]
  · intro e d
    refine Eq.trans ?_ (wo_at _ _ _ _ _ ⟨1024 * (t.val / 16) + e, by omega⟩ d).symm
    blk_ext! [iblk, V, idx10 t]
  · intro e
    refine Eq.trans ?_ (w_at _ _ _ _ _ 0 ⟨1024 * (t.val / 16) + e, by omega⟩).symm
    blk_ext! [iblk, V, idx11 t]
  · intro e
    refine Eq.trans ?_ (w_at _ _ _ _ _ 1 ⟨1024 * (t.val / 16) + e, by omega⟩).symm
    blk_ext! [iblk, V, idx12 t]
  · intro e
    refine Eq.trans ?_ (w_at _ _ _ _ _ 2 ⟨1024 * (t.val / 16) + e, by omega⟩).symm
    blk_ext! [iblk, V, idx13 t]
  · intro e
    refine Eq.trans ?_ (b_at _ _ _ _ _ ⟨1024 * (t.val / 16) + e, by omega⟩).symm
    blk_ext! [iblk, V, idx14 t]
  · rw [coord1 t]
    by_cases h0 : t.val % 16 = 0
    · exact Or.inl ⟨by omega, h0⟩
    · refine Or.inr ⟨by omega, by omega, fun r e => ⟨?_, ?_⟩⟩
      · refine Eq.trans ?_ (p_at _ _ _ _ _ 1 ⟨512 * (t.val % 16) - 16 + r, by omega⟩ ⟨1024 * (t.val / 16) + e, by omega⟩).symm
        blk_ext! [iblk, V, idx5 t]
      · refine Eq.trans ?_ (p_at _ _ _ _ _ 2 ⟨512 * (t.val % 16) - 16 + r, by omega⟩ ⟨1024 * (t.val / 16) + e, by omega⟩).symm
        blk_ext! [iblk, V, idx6 t]
  · rw [coord1 t]
    by_cases h0 : t.val % 16 = 15
    · exact Or.inl ⟨fun r e hr => dif_neg fun hh => absurd hh.2.1 (by omega), h0⟩
    · refine Or.inr ⟨by omega, fun r e => ⟨?_, ?_⟩, fun r d => ?_⟩
      · refine Eq.trans ?_ (p_at _ _ _ _ _ 3 ⟨512 * (t.val % 16) + 512 + r, by omega⟩ ⟨1024 * (t.val / 16) + e, by omega⟩).symm
        blk_ext! [iblk, V, idx8 t]
      · refine Eq.trans ?_ (p_at _ _ _ _ _ 0 ⟨512 * (t.val % 16) + 512 + r, by omega⟩ ⟨1024 * (t.val / 16) + e, by omega⟩).symm
        blk_ext! [iblk, V, idx7 t]
      · refine Eq.trans ?_ (ct_at _ _ _ _ _ ⟨512 * (t.val % 16) + 512 + r, by omega⟩ d).symm
        blk_ext! [iblk, V, idx9 t]

end Cert.KernelIdeal.Bwd
-- ==== Proof.Final.lean ====
/- What the kernel's result arrays end holding. -/
module

public import proofs.«01_k».proof.Proof.Point

@[expose] public section

set_option maxRecDepth 16384

noncomputable section

namespace Cert.KernelIdeal.Bwd

open Idealize.ShloMosaic Idealize.ShloMosaic.TcCoe Idealize.ShloMosaic.Tactic
open Idealize.ShloMosaic.Pipeline (Dat)
open Cert.KernelIdeal Cert.KernelIdeal.Gen Cert.GatedConv

theorem idx16 : ∀ t : Fin cfg0.N, win0_16.index t = ![0, t.val % 16, t.val / 16] := (by decide +kernel : ∀ t : Fin grid0.N, _)
theorem idx17 : ∀ t : Fin cfg0.N, win0_17.index t = ![0, t.val / 16] := (by decide +kernel : ∀ t : Fin grid0.N, _)
theorem idx18 : ∀ t : Fin cfg0.N, win0_18.index t = ![0, t.val / 16] := (by decide +kernel : ∀ t : Fin grid0.N, _)
theorem idx19 : ∀ t : Fin cfg0.N, win0_19.index t = ![0, t.val / 16] := (by decide +kernel : ∀ t : Fin grid0.N, _)
theorem idx20 : ∀ t : Fin cfg0.N, win0_20.index t = ![0, t.val / 16] := (by decide +kernel : ∀ t : Fin grid0.N, _)

variable (m : (ℓ : Loc nD τ sig) → Buf (Elt Ideal) ℓ)

/-- The gradient of the four parts, as one array. -/
abbrev gradP (c : Dev nD) : Vec Ideal S4x8192x2048 .bf16 := fun y => (KA m c).dp (y 0).val (y 1).val (y 2).val

/-- The sum over all rows of a tap's (or the bias's) term. -/
abbrev gradW (k : ℕ) (c : Dev nD) : Vec Ideal S1x2048 .f32 := fun y => ∑ r : Fin 8192, (KA m c).term k r (y 1).val

set_option maxHeartbeats 4000000 in
theorem step16_A (c : Dev nD) (t : Fin cfg0.N) (h0 : t.val % 16 = 0) (y : S4x512x1024.Idx) :
    (outsAt0 m c t.val t.isLt).1 y = (KA m c).dp (y 0).val (512 * (t.val % 16) + (y 1).val) (1024 * (t.val / 16) + (y 2).val) :=
  by rw [outsAt0_A m c t h0]; exact
    (out16_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (h := blk_at m c t) ((hcond0_0 t).mpr h0) y)

set_option maxHeartbeats 4000000 in
theorem step16_B (c : Dev nD) (t : Fin cfg0.N) (h0 : ¬ t.val % 16 = 0) (y : S4x512x1024.Idx) :
    (outsAt0 m c t.val t.isLt).1 y = (KA m c).dp (y 0).val (512 * (t.val % 16) + (y 1).val) (1024 * (t.val / 16) + (y 2).val) :=
  by rw [outsAt0_B m c t h0]; exact
    (out16_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
      (h := blk_at m c t) (fun h => h0 ((hcond0_0 t).mp h)) y)

theorem step17_A (c : Dev nD) (t : Fin cfg0.N) (h0 : t.val % 16 = 0) (y : S1x1024.Idx) :
    (outsAt0 m c t.val t.isLt).2.1 y = ∑ r : Fin 512, (KA m c).term 0 (512 * (t.val % 16) + r) (1024 * (t.val / 16) + (y 1).val) :=
  (congrFun (congrArg (fun z => z.2.1) (outsAt0_A m c t h0)) y).trans
    (out17_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (h := blk_at m c t) ((hcond0_0 t).mpr h0) y)

theorem step17_B (c : Dev nD) (t : Fin cfg0.N) (h0 : ¬ t.val % 16 = 0) (prev : ℕ → EReal) (hp : ∀ n : Fin 1024, (outsAt0 m c (t.val - 1) (Nat.lt_of_le_of_lt (Nat.sub_le _ _) t.isLt)).2.1 (ix2 0 n) = prev n) (y : S1x1024.Idx) :
    (outsAt0 m c t.val t.isLt).2.1 y = prev (y 1).val + ∑ r : Fin 512, (KA m c).term 0 (512 * (t.val % 16) + r) (1024 * (t.val / 16) + (y 1).val) :=
  (congrFun (congrArg (fun z => z.2.1) (outsAt0_B m c t h0)) y).trans
    (out17_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
      (h := blk_at m c t) (fun h => h0 ((hcond0_0 t).mp h)) prev hp y)

theorem step18_A (c : Dev nD) (t : Fin cfg0.N) (h0 : t.val % 16 = 0) (y : S1x1024.Idx) :
    (outsAt0 m c t.val t.isLt).2.2.1 y = ∑ r : Fin 512, (KA m c).term 1 (512 * (t.val % 16) + r) (1024 * (t.val / 16) + (y 1).val) :=
  (congrFun (congrArg (fun z => z.2.2.1) (outsAt0_A m c t h0)) y).trans
    (out18_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (h := blk_at m c t) ((hcond0_0 t).mpr h0) y)

theorem step18_B (c : Dev nD) (t : Fin cfg0.N) (h0 : ¬ t.val % 16 = 0) (prev : ℕ → EReal) (hp : ∀ n : Fin 1024, (outsAt0 m c (t.val - 1) (Nat.lt_of_le_of_lt (Nat.sub_le _ _) t.isLt)).2.2.1 (ix2 0 n) = prev n) (y : S1x1024.Idx) :
    (outsAt0 m c t.val t.isLt).2.2.1 y = prev (y 1).val + ∑ r : Fin 512, (KA m c).term 1 (512 * (t.val % 16) + r) (1024 * (t.val / 16) + (y 1).val) :=
  (congrFun (congrArg (fun z => z.2.2.1) (outsAt0_B m c t h0)) y).trans
    (out18_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
      (h := blk_at m c t) (fun h => h0 ((hcond0_0 t).mp h)) prev hp y)

theorem step19_A (c : Dev nD) (t : Fin cfg0.N) (h0 : t.val % 16 = 0) (y : S1x1024.Idx) :
    (outsAt0 m c t.val t.isLt).2.2.2.1 y = ∑ r : Fin 512, (KA m c).term 2 (512 * (t.val % 16) + r) (1024 * (t.val / 16) + (y 1).val) :=
  (congrFun (congrArg (fun z => z.2.2.2.1) (outsAt0_A m c t h0)) y).trans
    (out19_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (h := blk_at m c t) ((hcond0_0 t).mpr h0) y)

theorem step19_B (c : Dev nD) (t : Fin cfg0.N) (h0 : ¬ t.val % 16 = 0) (prev : ℕ → EReal) (hp : ∀ n : Fin 1024, (outsAt0 m c (t.val - 1) (Nat.lt_of_le_of_lt (Nat.sub_le _ _) t.isLt)).2.2.2.1 (ix2 0 n) = prev n) (y : S1x1024.Idx) :
    (outsAt0 m c t.val t.isLt).2.2.2.1 y = prev (y 1).val + ∑ r : Fin 512, (KA m c).term 2 (512 * (t.val % 16) + r) (1024 * (t.val / 16) + (y 1).val) :=
  (congrFun (congrArg (fun z => z.2.2.2.1) (outsAt0_B m c t h0)) y).trans
    (out19_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
      (h := blk_at m c t) (fun h => h0 ((hcond0_0 t).mp h)) prev hp y)

theorem step20_A (c : Dev nD) (t : Fin cfg0.N) (h0 : t.val % 16 = 0) (y : S1x1024.Idx) :
    (outsAt0 m c t.val t.isLt).2.2.2.2 y = ∑ r : Fin 512, (KA m c).term 3 (512 * (t.val % 16) + r) (1024 * (t.val / 16) + (y 1).val) :=
  (congrFun (congrArg (fun z => z.2.2.2.2) (outsAt0_A m c t h0)) y).trans
    (out20_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (h := blk_at m c t) ((hcond0_0 t).mpr h0) y)

theorem step20_B (c : Dev nD) (t : Fin cfg0.N) (h0 : ¬ t.val % 16 = 0) (prev : ℕ → EReal) (hp : ∀ n : Fin 1024, (outsAt0 m c (t.val - 1) (Nat.lt_of_le_of_lt (Nat.sub_le _ _) t.isLt)).2.2.2.2 (ix2 0 n) = prev n) (y : S1x1024.Idx) :
    (outsAt0 m c t.val t.isLt).2.2.2.2 y = prev (y 1).val + ∑ r : Fin 512, (KA m c).term 3 (512 * (t.val % 16) + r) (1024 * (t.val / 16) + (y 1).val) :=
  (congrFun (congrArg (fun z => z.2.2.2.2) (outsAt0_B m c t h0)) y).trans
    (out20_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
      (h := blk_at m c t) (fun h => h0 ((hcond0_0 t).mp h)) prev hp y)

theorem point16 (c : Dev nD) (t : Fin cfg0.N) (y : S4x512x1024.Idx) :
    (outsAt0 m c t.val t.isLt).1 y
      = (KA m c).dp (y 0).val (512 * (t.val % 16) + (y 1).val) (1024 * (t.val / 16) + (y 2).val) := by
  by_cases h0 : t.val % 16 = 0
  · exact step16_A m c t h0 y
  · exact step16_B m c t h0 y

theorem final16 (c : Dev nD) : (dats m 0 c).arrAt 16 cfg0.N = gradP m c := by
  refine (dats m 0 c).arrAt_eq_of_covers 16 _ (by decide +kernel) fun t hf y => ?_
  blk_simp
  rw [after0_16]
  refine (point16 m c t y).trans ?_
  have e0 : (((win0_16.blk t).view.emb y 0 : Fin _) : ℕ) = (y 0).val := by
    blk_simp [idx16 t]
  have e1 : (((win0_16.blk t).view.emb y 1 : Fin _) : ℕ) = 512 * (t.val % 16) + (y 1).val := by
    blk_simp [idx16 t]
    exact congrArg (· + (y 1).val) (Nat.mul_comm _ _)
  have e2 : (((win0_16.blk t).view.emb y 2 : Fin _) : ℕ) = 1024 * (t.val / 16) + (y 2).val := by
    blk_simp [idx16 t]
    exact congrArg (· + (y 2).val) (Nat.mul_comm _ _)
  show _ = (KA m c).dp ((win0_16.blk t).view.emb y 0).val ((win0_16.blk t).view.emb y 1).val
    ((win0_16.blk t).view.emb y 2).val
  rw [e0, e1, e2]

theorem rows_step (f : ℕ → EReal) (i : ℕ) :
    ∑ s ∈ Finset.range (512 * (i + 1)), f s = ∑ s ∈ Finset.range (512 * i), f s + ∑ r : Fin 512, f (512 * i + r) := by
  rw [Nat.mul_add, Nat.mul_one, Finset.sum_range_add, Finset.sum_range (fun x => f (512 * i + x))]

theorem point17 (c : Dev nD) : ∀ (n : ℕ) (hn : n < cfg0.N) (y : S1x1024.Idx),
    (outsAt0 m c n hn).2.1 y
      = ∑ s ∈ Finset.range (512 * (n % 16 + 1)), (KA m c).term 0 s (1024 * (n / 16) + (y 1).val) := by
  intro n
  induction n with
  | zero =>
    intro hn y
    refine (step17_A m c ⟨0, hn⟩ rfl y).trans ?_
    rw [rows_step]
    simp
  | succ n ih =>
    intro hn y
    by_cases h0 : (n + 1) % 16 = 0
    · refine (step17_A m c ⟨n + 1, hn⟩ h0 y).trans ?_
      rw [rows_step]
      simp [h0]
    · refine (step17_B m c ⟨n + 1, hn⟩ h0 (fun e => ∑ s ∈ Finset.range (512 * (n % 16 + 1)),
        (KA m c).term 0 s (1024 * (n / 16) + e)) (fun e => ih _ (ix2 0 e)) y).trans ?_
      have e1 : (n + 1) % 16 = n % 16 + 1 := by omega
      have e2 : (n + 1) / 16 = n / 16 := by omega
      rw [e1, e2, rows_step _ (n % 16 + 1)]

theorem final17 (c : Dev nD) : (dats m 0 c).arrAt 17 cfg0.N = gradW m 0 c := by
  refine (dats m 0 c).arrAt_eq_of_covers 17 _ (by decide +kernel) fun t hf y => ?_
  have hl : t.val % 16 = 15 := (flush0_17 t).mp hf
  blk_simp
  rw [after0_17]
  refine (point17 m c t.val t.isLt y).trans ?_
  rw [hl]
  refine (Finset.sum_range _).trans ?_
  have e1 : (((win0_17.blk t).view.emb y 1 : Fin _) : ℕ) = 1024 * (t.val / 16) + (y 1).val := by
    blk_simp [idx17 t]
    exact congrArg (· + (y 1).val) (Nat.mul_comm _ _)
  show _ = ∑ r : Fin 8192, (KA m c).term 0 r ((win0_17.blk t).view.emb y 1).val
  rw [e1]

theorem point18 (c : Dev nD) : ∀ (n : ℕ) (hn : n < cfg0.N) (y : S1x1024.Idx),
    (outsAt0 m c n hn).2.2.1 y
      = ∑ s ∈ Finset.range (512 * (n % 16 + 1)), (KA m c).term 1 s (1024 * (n / 16) + (y 1).val) := by
  intro n
  induction n with
  | zero =>
    intro hn y
    refine (step18_A m c ⟨0, hn⟩ rfl y).trans ?_
    rw [rows_step]
    simp
  | succ n ih =>
    intro hn y
    by_cases h0 : (n + 1) % 16 = 0
    · refine (step18_A m c ⟨n + 1, hn⟩ h0 y).trans ?_
      rw [rows_step]
      simp [h0]
    · refine (step18_B m c ⟨n + 1, hn⟩ h0 (fun e => ∑ s ∈ Finset.range (512 * (n % 16 + 1)),
        (KA m c).term 1 s (1024 * (n / 16) + e)) (fun e => ih _ (ix2 0 e)) y).trans ?_
      have e1 : (n + 1) % 16 = n % 16 + 1 := by omega
      have e2 : (n + 1) / 16 = n / 16 := by omega
      rw [e1, e2, rows_step _ (n % 16 + 1)]

theorem final18 (c : Dev nD) : (dats m 0 c).arrAt 18 cfg0.N = gradW m 1 c := by
  refine (dats m 0 c).arrAt_eq_of_covers 18 _ (by decide +kernel) fun t hf y => ?_
  have hl : t.val % 16 = 15 := (flush0_18 t).mp hf
  blk_simp
  rw [after0_18]
  refine (point18 m c t.val t.isLt y).trans ?_
  rw [hl]
  refine (Finset.sum_range _).trans ?_
  have e1 : (((win0_18.blk t).view.emb y 1 : Fin _) : ℕ) = 1024 * (t.val / 16) + (y 1).val := by
    blk_simp [idx18 t]
    exact congrArg (· + (y 1).val) (Nat.mul_comm _ _)
  show _ = ∑ r : Fin 8192, (KA m c).term 1 r ((win0_18.blk t).view.emb y 1).val
  rw [e1]

theorem point19 (c : Dev nD) : ∀ (n : ℕ) (hn : n < cfg0.N) (y : S1x1024.Idx),
    (outsAt0 m c n hn).2.2.2.1 y
      = ∑ s ∈ Finset.range (512 * (n % 16 + 1)), (KA m c).term 2 s (1024 * (n / 16) + (y 1).val) := by
  intro n
  induction n with
  | zero =>
    intro hn y
    refine (step19_A m c ⟨0, hn⟩ rfl y).trans ?_
    rw [rows_step]
    simp
  | succ n ih =>
    intro hn y
    by_cases h0 : (n + 1) % 16 = 0
    · refine (step19_A m c ⟨n + 1, hn⟩ h0 y).trans ?_
      rw [rows_step]
      simp [h0]
    · refine (step19_B m c ⟨n + 1, hn⟩ h0 (fun e => ∑ s ∈ Finset.range (512 * (n % 16 + 1)),
        (KA m c).term 2 s (1024 * (n / 16) + e)) (fun e => ih _ (ix2 0 e)) y).trans ?_
      have e1 : (n + 1) % 16 = n % 16 + 1 := by omega
      have e2 : (n + 1) / 16 = n / 16 := by omega
      rw [e1, e2, rows_step _ (n % 16 + 1)]

theorem final19 (c : Dev nD) : (dats m 0 c).arrAt 19 cfg0.N = gradW m 2 c := by
  refine (dats m 0 c).arrAt_eq_of_covers 19 _ (by decide +kernel) fun t hf y => ?_
  have hl : t.val % 16 = 15 := (flush0_19 t).mp hf
  blk_simp
  rw [after0_19]
  refine (point19 m c t.val t.isLt y).trans ?_
  rw [hl]
  refine (Finset.sum_range _).trans ?_
  have e1 : (((win0_19.blk t).view.emb y 1 : Fin _) : ℕ) = 1024 * (t.val / 16) + (y 1).val := by
    blk_simp [idx19 t]
    exact congrArg (· + (y 1).val) (Nat.mul_comm _ _)
  show _ = ∑ r : Fin 8192, (KA m c).term 2 r ((win0_19.blk t).view.emb y 1).val
  rw [e1]

theorem point20 (c : Dev nD) : ∀ (n : ℕ) (hn : n < cfg0.N) (y : S1x1024.Idx),
    (outsAt0 m c n hn).2.2.2.2 y
      = ∑ s ∈ Finset.range (512 * (n % 16 + 1)), (KA m c).term 3 s (1024 * (n / 16) + (y 1).val) := by
  intro n
  induction n with
  | zero =>
    intro hn y
    refine (step20_A m c ⟨0, hn⟩ rfl y).trans ?_
    rw [rows_step]
    simp
  | succ n ih =>
    intro hn y
    by_cases h0 : (n + 1) % 16 = 0
    · refine (step20_A m c ⟨n + 1, hn⟩ h0 y).trans ?_
      rw [rows_step]
      simp [h0]
    · refine (step20_B m c ⟨n + 1, hn⟩ h0 (fun e => ∑ s ∈ Finset.range (512 * (n % 16 + 1)),
        (KA m c).term 3 s (1024 * (n / 16) + e)) (fun e => ih _ (ix2 0 e)) y).trans ?_
      have e1 : (n + 1) % 16 = n % 16 + 1 := by omega
      have e2 : (n + 1) / 16 = n / 16 := by omega
      rw [e1, e2, rows_step _ (n % 16 + 1)]

theorem final20 (c : Dev nD) : (dats m 0 c).arrAt 20 cfg0.N = gradW m 3 c := by
  refine (dats m 0 c).arrAt_eq_of_covers 20 _ (by decide +kernel) fun t hf y => ?_
  have hl : t.val % 16 = 15 := (flush0_20 t).mp hf
  blk_simp
  rw [after0_20]
  refine (point20 m c t.val t.isLt y).trans ?_
  rw [hl]
  refine (Finset.sum_range _).trans ?_
  have e1 : (((win0_20.blk t).view.emb y 1 : Fin _) : ℕ) = 1024 * (t.val / 16) + (y 1).val := by
    blk_simp [idx20 t]
    exact congrArg (· + (y 1).val) (Nat.mul_comm _ _)
  show _ = ∑ r : Fin 8192, (KA m c).term 3 r ((win0_20.blk t).view.emb y 1).val
  rw [e1]

end Cert.KernelIdeal.Bwd
-- ==== Proof.Finite.lean ====
/- What the precondition says: every entry of every argument is a real number. -/
module

public import proofs.«01_k».proof.Proof.Ref
public import proofs.«01_k».proof.Pre_finite_args
public import Idealize.ShloMosaic.Lib.ReduceAll
public import Idealize.ShloMosaic.Lib.Pointwise

@[expose] public section

noncomputable section

namespace Cert.GatedConv

open Idealize.ShloMosaic Idealize.ShloMosaic.TcCoe

theorem real_of_abs_lt {x : EReal} (h : Ideal.cmp .olt (max x (-x)) (Ideal.ofBits .f32 0x7F800000#32) = 1#1) : Real' x := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | bot => simp at hlt
  | top => simp at hlt
  | coe r => exact ⟨r, rfl⟩

/-- `all(|x| < ∞)` came out one: every entry is real. -/
theorem real_of_all {s u v : Shape} [Subsingleton v.Idx] {axes : List (Fin s.rank)} {d : Fin u.rank → Fin s.rank} (x : Vec Ideal s .f32) (hb : u.BroadcastsInDim s d) (init : IVec v 1)
    (hr : s.ReducesTo axes v) (hv : 0 < v.numel) (j : v.Idx)
    (e : Host.reduce IntOp.andi (cmpf .olt (Host.absf x) (broadcastInDim s d hb (constant (F := Ideal) u .f32 0x7F800000#32))) init hr hv j = 1#1)
    (i : s.Idx) : Real' (x i) :=
  real_of_abs_lt (Host.reduce_andi_all _ _ _ _ j e i)

/-- The shape relations the precondition's operations take. -/
theorem pre_facts : Cert.Pre_finite_args.Facts where
  bcast_S_S4x8192x2048 := by decide
  reducesTo_S4x8192x2048_S_d0_1_2 := by decide
  h_S_ := by decide
  bcast_S_S3x2048 := by decide
  reducesTo_S3x2048_S_d0_1 := by decide
  bcast_S_S2048 := by decide
  reducesTo_S2048_S_d0 := by decide
  bcast_S_S2048x1024 := by decide
  reducesTo_S2048x1024_S_d0_1 := by decide
  bcast_S_S8192x1024 := by decide
  reducesTo_S8192x1024_S_d0_1 := by decide

open Cert.ReferenceIdeal.Bwd in
theorem finite_of_pre [hP : Cert.Pre_finite_args.Facts] (x0 : Vec Ideal Pre_finite_args.S4x8192x2048 .f32)
    (x1 : Vec Ideal Pre_finite_args.S3x2048 .f32) (x2 : Vec Ideal Pre_finite_args.S2048 .f32)
    (x3 : Vec Ideal Pre_finite_args.S2048x1024 .f32) (x4 : Vec Ideal Pre_finite_args.S8192x1024 .f32)
    (h : Pre_finite_args.fn (F := Ideal) x0 x1 x2 x3 x4 = fun _ => 1#1) : (arrays x0 x1 x2 x3 x4).Finite := by
  have hs : Subsingleton Pre_finite_args.S_.Idx := ⟨fun a b => funext fun i => i.elim0⟩
  have e := congrFun h (fun i => i.elim0)
  unfold Pre_finite_args.fn Pre_finite_args.fn_part1 at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have r0 := real_of_all x0 _ _ _ _ _ h0
  have r1 := real_of_all x1 _ _ _ _ _ h1
  have r2 := real_of_all x2 _ _ _ _ _ h2
  have r3 := real_of_all x3 _ _ _ _ _ h3
  have r4 := real_of_all x4 _ _ _ _ _ h4
  constructor
  · intro q r e; dsimp only [arrays]; split
    · exact r0 _
    · exact Real'.zero
  · intro k e; dsimp only [arrays]; split
    · exact r1 _
    · exact Real'.zero
  · intro e; dsimp only [arrays]; split
    · exact r2 _
    · exact Real'.zero
  · intro e d; dsimp only [arrays]; split
    · exact r3 _
    · exact Real'.zero
  · intro r d; dsimp only [arrays]; split
    · exact r4 _
    · exact Real'.zero

end Cert.GatedConv
-- ==== Proof.DwA.lean ====
/- The weight gradient of part a's input product: the kernel's result array and the reference's, as one sum. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.Kernel2Ideal.Dw

open Idealize.ShloMosaic Idealize.ShloMosaic.TcCoe Idealize.ShloMosaic.Tactic
open Idealize.ShloMosaic.Pipeline (Dat)
open Cert.Kernel2Ideal Cert.Kernel2Ideal.Gen

/-- One row's contribution to the product of the transposed first array with the second, zero outside the arrays. -/
def term (x0 : Vec Ideal S8192x1024 .f32) (x1 : Vec Ideal S4x8192x2048 .f32) (s r q e : ℕ) : EReal :=
  if h : s < 8192 ∧ r < 1024 ∧ q < 4 ∧ e < 2048 then x0 (ix2 ⟨s, h.1⟩ ⟨r, h.2.1⟩) * x1 (ix3 ⟨q, h.2.2.1⟩ ⟨s, h.1⟩ ⟨e, h.2.2.2⟩) else 0

theorem term_at (x0 : Vec Ideal S8192x1024 .f32) (x1 : Vec Ideal S4x8192x2048 .f32) (s : Fin 8192) (r : Fin 1024) (q : Fin 4) (e : Fin 2048) : term x0 x1 s r q e = x0 (ix2 s r) * x1 (ix3 q s e) := dif_pos ⟨s.isLt, r.isLt, q.isLt, e.isLt⟩

/-- The product of the transposed first array with the second. -/
abbrev prod (x0 : Vec Ideal S8192x1024 .f32) (x1 : Vec Ideal S4x8192x2048 .f32) : Vec Ideal S1024x8192 .bf16 :=
  fun y => ∑ s : Fin 8192, term x0 x1 s (y 0).val ((y 1).val / 2048) ((y 1).val % 2048)

theorem pay1 (a : Vec Ideal S2048x1024 .bf16) (b : Vec Ideal S1x2048x2048 .bf16) (r : Fin 1024) (e : Fin 2048) :
    k0_pay1 (F := Ideal) a b (ix2 r e) = ∑ k : Fin 2048, a (ix2 k r) * b (ix3 0 k e) := by
  pointwise [k0_pay1]

theorem pay2 (v : Vec Ideal S1024x2048 .f32) (a : Vec Ideal S2048x1024 .bf16) (b : Vec Ideal S1x2048x2048 .bf16) (r : Fin 1024) (e : Fin 2048) :
    k0_pay2 (F := Ideal) v a b (ix2 r e) = v (ix2 r e) + ∑ k : Fin 2048, a (ix2 k r) * b (ix3 0 k e) := by
  pointwise [k0_pay2]

theorem pay3 (v : Vec Ideal S1024x2048 .f32) (y : S1024x2048.Idx) : k0_pay3 (F := Ideal) v y = v y := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![0, t.val / 4] := (by decide +kernel : ∀ t : Fin grid0.N, _)

variable (m : (ℓ : Loc nD τ sig) → Buf (Elt Ideal) ℓ)

abbrev x0 (c : Dev nD) : Vec Ideal S8192x1024 .f32 := m ((c : Thread nD τ).loc main_arg0)
abbrev x1 (c : Dev nD) : Vec Ideal S4x8192x2048 .f32 := m ((c : Thread nD τ).loc main_arg1)

/-- The two blocks a grid point reads. -/
abbrev blk0 (c : Dev nD) (t : Fin cfg0.N) : Vec Ideal S2048x1024 .bf16 := iblk m c 0 t
abbrev blk1 (c : Dev nD) (t : Fin cfg0.N) : Vec Ideal S1x2048x2048 .bf16 := iblk m c 1 t

/-- The products a grid point's blocks give, at the arrays' coordinates. -/
theorem blk (c : Dev nD) (t : Fin cfg0.N) (s : Fin 2048) (r : Fin 1024) (e : Fin 2048) :
    blk0 m c t (ix2 s r) * blk1 m c t (ix3 0 s e)
      = (term (x0 m c) (x1 m c) (2048 * (t.val % 4) + s) r (t.val / 4) e) := by
  have ht : t.val < 16 := lt_of_lt_of_eq t.isLt N_0
  refine Eq.trans ?_ (term_at (x0 m c) (x1 m c) ⟨2048 * (t.val % 4) + s, by omega⟩ r ⟨t.val / 4, by omega⟩ e).symm
  refine congrArg₂ (· * ·) ?_ ?_
  · blk_ext! [iblk, V, idx0 t]
  · blk_ext! [iblk, V, idx1 t]

theorem step_A (c : Dev nD) (t : Fin cfg0.N) (h0 : t.val % 4 = 0) (r : Fin 1024) (e : Fin 2048) :
    (outsAt0 m c t.val t.isLt).2 (ix2 r e)
      = ∑ s : Fin 2048, (term (x0 m c) (x1 m c) (2048 * (t.val % 4) + s) r (t.val / 4) e) := by
  rw [outsAt0_A m c t h0 (by omega) (by omega)]
  frame_out
  rw [pay1]
  exact Finset.sum_congr rfl fun s _ => blk m c t s r e

theorem step_B (c : Dev nD) (t : Fin cfg0.N) (h0 : ¬ t.val % 4 = 0) (r : Fin 1024) (e : Fin 2048) :
    (outsAt0 m c t.val t.isLt).2 (ix2 r e)
      = (outsAt0 m c (t.val - 1) (Nat.lt_of_le_of_lt (Nat.sub_le _ _) t.isLt)).2 (ix2 r e)
        + ∑ s : Fin 2048, (term (x0 m c) (x1 m c) (2048 * (t.val % 4) + s) r (t.val / 4) e) := by
  by_cases h3 : t.val % 4 = 3
  · rw [outsAt0_C m c t h0 (by omega) h3]
    frame_out
    rw [pay2]
    exact congrArg₂ (· + ·) (congrFun (Memref.IsWhole.read_unread (Memref.isWhole_whole cc0_scratch0) _) (ix2 r e)) (Finset.sum_congr rfl fun s _ => blk m c t s r e)
  · rw [outsAt0_B m c t h0 (by omega) h3]
    frame_out
    rw [pay2]
    exact congrArg₂ (· + ·) (congrFun (Memref.IsWhole.read_unread (Memref.isWhole_whole cc0_scratch0) _) (ix2 r e)) (Finset.sum_congr rfl fun s _ => blk m c t s r e)

theorem out_C (c : Dev nD) (t : Fin cfg0.N) (h3 : t.val % 4 = 3) (y : S1024x2048.Idx) :
    (outsAt0 m c t.val t.isLt).1 y = (outsAt0 m c t.val t.isLt).2 y := by
  rw [outsAt0_C m c t (by omega) (by omega) h3]
  frame_out
  rw [pay3]

theorem rows_step (f : ℕ → EReal) (i : ℕ) :
    ∑ s ∈ Finset.range (2048 * (i + 1)), f s = ∑ s ∈ Finset.range (2048 * i), f s + ∑ r : Fin 2048, f (2048 * i + r) := by
  rw [Nat.mul_add, Nat.mul_one, Finset.sum_range_add, Finset.sum_range (fun x => f (2048 * i + x))]

theorem point (c : Dev nD) : ∀ (n : ℕ) (hn : n < cfg0.N) (r : Fin 1024) (e : Fin 2048),
    (outsAt0 m c n hn).2 (ix2 r e)
      = ∑ s ∈ Finset.range (2048 * (n % 4 + 1)), term (x0 m c) (x1 m c) s r (n / 4) e := by
  intro n
  induction n with
  | zero =>
    intro hn r e
    refine (step_A m c ⟨0, hn⟩ rfl r e).trans ?_
    rw [rows_step]
    simp
  | succ n ih =>
    intro hn r e
    by_cases h0 : (n + 1) % 4 = 0
    · refine (step_A m c ⟨n + 1, hn⟩ h0 r e).trans ?_
      rw [rows_step]
      simp [h0]
    · refine (step_B m c ⟨n + 1, hn⟩ h0 r e).trans ?_
      have e1 : (n + 1) % 4 = n % 4 + 1 := by omega
      have e2 : (n + 1) / 4 = n / 4 := by omega
      show (outsAt0 m c n _).2 (ix2 r e) + ∑ s : Fin 2048, term (x0 m c) (x1 m c) (2048 * ((n + 1) % 4) + s) r ((n + 1) / 4) e = _
      rw [ih, e1, e2, rows_step _ (n % 4 + 1)]

theorem final (c : Dev nD) : (dats m 0 c).arrAt 2 cfg0.N = prod (x0 m c) (x1 m c) := by
  refine (dats m 0 c).arrAt_eq_of_covers 2 _ (by decide +kernel) fun t hf y => ?_
  have hl : t.val % 4 = 3 := (flush0_2 t).mp hf
  blk_simp
  rw [after0_2]
  refine (out_C m c t hl y).trans ?_
  idx_vars y
  refine (point m c t.val t.isLt y0 y1).trans ?_
  rw [hl]
  refine (Finset.sum_range _).trans ?_
  have e0 : (((win0_2.blk t).view.emb (ix2 y0 y1) 0 : Fin _) : ℕ) = y0.val := by blk_simp [idx2 t]
  have e1 : (((win0_2.blk t).view.emb (ix2 y0 y1) 1 : Fin _) : ℕ) = 2048 * (t.val / 4) + y1.val := by
    blk_simp [idx2 t]
    exact congrArg (· + y1.val) (Nat.mul_comm _ _)
  show _ = ∑ s : Fin 8192, term (x0 m c) (x1 m c) s ((win0_2.blk t).view.emb (ix2 y0 y1) 0).val
    (((win0_2.blk t).view.emb (ix2 y0 y1) 1).val / 2048) (((win0_2.blk t).view.emb (ix2 y0 y1) 1).val % 2048)
  rw [e0, e1, show (2048 * (t.val / 4) + y1.val) / 2048 = t.val / 4 by omega, show (2048 * (t.val / 4) + y1.val) % 2048 = y1.val by omega]

end Cert.Kernel2Ideal.Dw

namespace Cert.Reference2Ideal.Dw

open Idealize.ShloMosaic Idealize.ShloMosaic.Tactic Cert.Reference2Ideal Cert.Reference2Ideal.Read
open Cert.Kernel2Ideal.Dw (term term_at prod)

theorem ix3_congr {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

theorem cat_at (x1 : Vec Ideal S4x8192x2048 .f32) (s e : Fin 8192) :
    val_main_v14 (F := Ideal) x1 (ix2 s e) = x1 (ix3 ⟨e / 2048, by omega⟩ s ⟨e % 2048, by omega⟩) := by
  pointwise [val_main_v14, val_main_v13, val_main_v12, val_main_v11, val_main_v10, val_main_v9, val_main_v8, val_main_v7, val_main_v6]
  by_cases h0 : e.val < 2048
  · rw [dif_pos h0]
    exact congrArg x1 (ix3_congr (by show 0 = e.val / 2048; omega) rfl (by show e.val = e.val % 2048; omega))
  rw [dif_neg h0]
  by_cases h1 : e.val - 2048 < 2048
  · rw [dif_pos h1]
    exact congrArg x1 (ix3_congr (by show 1 = e.val / 2048; omega) rfl (by show e.val - 2048 = e.val % 2048; omega))
  rw [dif_neg h1]
  by_cases h2 : e.val - 2048 - 2048 < 2048
  · rw [dif_pos h2]
    exact congrArg x1 (ix3_congr (by show 2 = e.val / 2048; omega) rfl (by show e.val - 2048 - 2048 = e.val % 2048; omega))
  rw [dif_neg h2]
  exact congrArg x1 (ix3_congr (by show 3 = e.val / 2048; omega) rfl (by show e.val - 2048 - 2048 - 2048 = e.val % 2048; omega))

theorem val_eq (x0 : Vec Ideal S8192x1024 .f32) (x1 : Vec Ideal S4x8192x2048 .f32) :
    val_main_v17 (F := Ideal) x0 x1 = prod x0 x1 := by
  funext y
  idx_vars y
  pointwise [val_main_v17, val_main_v16, val_main_v15]
  refine Finset.sum_congr rfl fun s _ => ?_
  rw [cat_at, mul_comm]
  exact (term_at x0 x1 s y0 ⟨y1 / 2048, by omega⟩ ⟨y1 % 2048, by omega⟩).symm

end Cert.Reference2Ideal.Dw

end
-- ==== Proof.DwB.lean ====
/- The weight gradient of part b's input product: the kernel's result array and the reference's, as one sum. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.Kernel3Ideal.Dw

open Idealize.ShloMosaic Idealize.ShloMosaic.TcCoe Idealize.ShloMosaic.Tactic
open Idealize.ShloMosaic.Pipeline (Dat)
open Cert.Kernel3Ideal Cert.Kernel3Ideal.Gen

/-- One row's contribution to the product of the transposed first array with the second, zero outside the arrays. -/
def term (x0 : Vec Ideal S8192x1024 .f32) (x1 : Vec Ideal S3x8192x2048 .f32) (s r q e : ℕ) : EReal :=
  if h : s < 8192 ∧ r < 1024 ∧ q < 3 ∧ e < 2048 then x0 (ix2 ⟨s, h.1⟩ ⟨r, h.2.1⟩) * x1 (ix3 ⟨q, h.2.2.1⟩ ⟨s, h.1⟩ ⟨e, h.2.2.2⟩) else 0

theorem term_at (x0 : Vec Ideal S8192x1024 .f32) (x1 : Vec Ideal S3x8192x2048 .f32) (s : Fin 8192) (r : Fin 1024) (q : Fin 3) (e : Fin 2048) : term x0 x1 s r q e = x0 (ix2 s r) * x1 (ix3 q s e) := dif_pos ⟨s.isLt, r.isLt, q.isLt, e.isLt⟩

/-- The product of the transposed first array with the second. -/
abbrev prod (x0 : Vec Ideal S8192x1024 .f32) (x1 : Vec Ideal S3x8192x2048 .f32) : Vec Ideal S1024x6144 .bf16 :=
  fun y => ∑ s : Fin 8192, term x0 x1 s (y 0).val ((y 1).val / 2048) ((y 1).val % 2048)

theorem pay1 (a : Vec Ideal S2048x1024 .bf16) (b : Vec Ideal S1x2048x2048 .bf16) (r : Fin 1024) (e : Fin 2048) :
    k0_pay1 (F := Ideal) a b (ix2 r e) = ∑ k : Fin 2048, a (ix2 k r) * b (ix3 0 k e) := by
  pointwise [k0_pay1]

theorem pay2 (v : Vec Ideal S1024x2048 .f32) (a : Vec Ideal S2048x1024 .bf16) (b : Vec Ideal S1x2048x2048 .bf16) (r : Fin 1024) (e : Fin 2048) :
    k0_pay2 (F := Ideal) v a b (ix2 r e) = v (ix2 r e) + ∑ k : Fin 2048, a (ix2 k r) * b (ix3 0 k e) := by
  pointwise [k0_pay2]

theorem pay3 (v : Vec Ideal S1024x2048 .f32) (y : S1024x2048.Idx) : k0_pay3 (F := Ideal) v y = v y := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![0, t.val / 4] := (by decide +kernel : ∀ t : Fin grid0.N, _)

variable (m : (ℓ : Loc nD τ sig) → Buf (Elt Ideal) ℓ)

abbrev x0 (c : Dev nD) : Vec Ideal S8192x1024 .f32 := m ((c : Thread nD τ).loc main_arg0)
abbrev x1 (c : Dev nD) : Vec Ideal S3x8192x2048 .f32 := m ((c : Thread nD τ).loc main_arg1)

/-- The two blocks a grid point reads. -/
abbrev blk0 (c : Dev nD) (t : Fin cfg0.N) : Vec Ideal S2048x1024 .bf16 := iblk m c 0 t
abbrev blk1 (c : Dev nD) (t : Fin cfg0.N) : Vec Ideal S1x2048x2048 .bf16 := iblk m c 1 t

/-- The products a grid point's blocks give, at the arrays' coordinates. -/
theorem blk (c : Dev nD) (t : Fin cfg0.N) (s : Fin 2048) (r : Fin 1024) (e : Fin 2048) :
    blk0 m c t (ix2 s r) * blk1 m c t (ix3 0 s e)
      = (term (x0 m c) (x1 m c) (2048 * (t.val % 4) + s) r (t.val / 4) e) := by
  have ht : t.val < 12 := lt_of_lt_of_eq t.isLt N_0
  refine Eq.trans ?_ (term_at (x0 m c) (x1 m c) ⟨2048 * (t.val % 4) + s, by omega⟩ r ⟨t.val / 4, by omega⟩ e).symm
  refine congrArg₂ (· * ·) ?_ ?_
  · blk_ext! [iblk, V, idx0 t]
  · blk_ext! [iblk, V, idx1 t]

theorem step_A (c : Dev nD) (t : Fin cfg0.N) (h0 : t.val % 4 = 0) (r : Fin 1024) (e : Fin 2048) :
    (outsAt0 m c t.val t.isLt).2 (ix2 r e)
      = ∑ s : Fin 2048, (term (x0 m c) (x1 m c) (2048 * (t.val % 4) + s) r (t.val / 4) e) := by
  rw [outsAt0_A m c t h0 (by omega) (by omega)]
  frame_out
  rw [pay1]
  exact Finset.sum_congr rfl fun s _ => blk m c t s r e

theorem step_B (c : Dev nD) (t : Fin cfg0.N) (h0 : ¬ t.val % 4 = 0) (r : Fin 1024) (e : Fin 2048) :
    (outsAt0 m c t.val t.isLt).2 (ix2 r e)
      = (outsAt0 m c (t.val - 1) (Nat.lt_of_le_of_lt (Nat.sub_le _ _) t.isLt)).2 (ix2 r e)
        + ∑ s : Fin 2048, (term (x0 m c) (x1 m c) (2048 * (t.val % 4) + s) r (t.val / 4) e) := by
  by_cases h3 : t.val % 4 = 3
  · rw [outsAt0_C m c t h0 (by omega) h3]
    frame_out
    rw [pay2]
    exact congrArg₂ (· + ·) (congrFun (Memref.IsWhole.read_unread (Memref.isWhole_whole cc0_scratch0) _) (ix2 r e)) (Finset.sum_congr rfl fun s _ => blk m c t s r e)
  · rw [outsAt0_B m c t h0 (by omega) h3]
    frame_out
    rw [pay2]
    exact congrArg₂ (· + ·) (congrFun (Memref.IsWhole.read_unread (Memref.isWhole_whole cc0_scratch0) _) (ix2 r e)) (Finset.sum_congr rfl fun s _ => blk m c t s r e)

theorem out_C (c : Dev nD) (t : Fin cfg0.N) (h3 : t.val % 4 = 3) (y : S1024x2048.Idx) :
    (outsAt0 m c t.val t.isLt).1 y = (outsAt0 m c t.val t.isLt).2 y := by
  rw [outsAt0_C m c t (by omega) (by omega) h3]
  frame_out
  rw [pay3]

theorem rows_step (f : ℕ → EReal) (i : ℕ) :
    ∑ s ∈ Finset.range (2048 * (i + 1)), f s = ∑ s ∈ Finset.range (2048 * i), f s + ∑ r : Fin 2048, f (2048 * i + r) := by
  rw [Nat.mul_add, Nat.mul_one, Finset.sum_range_add, Finset.sum_range (fun x => f (2048 * i + x))]

theorem point (c : Dev nD) : ∀ (n : ℕ) (hn : n < cfg0.N) (r : Fin 1024) (e : Fin 2048),
    (outsAt0 m c n hn).2 (ix2 r e)
      = ∑ s ∈ Finset.range (2048 * (n % 4 + 1)), term (x0 m c) (x1 m c) s r (n / 4) e := by
  intro n
  induction n with
  | zero =>
    intro hn r e
    refine (step_A m c ⟨0, hn⟩ rfl r e).trans ?_
    rw [rows_step]
    simp
  | succ n ih =>
    intro hn r e
    by_cases h0 : (n + 1) % 4 = 0
    · refine (step_A m c ⟨n + 1, hn⟩ h0 r e).trans ?_
      rw [rows_step]
      simp [h0]
    · refine (step_B m c ⟨n + 1, hn⟩ h0 r e).trans ?_
      have e1 : (n + 1) % 4 = n % 4 + 1 := by omega
      have e2 : (n + 1) / 4 = n / 4 := by omega
      show (outsAt0 m c n _).2 (ix2 r e) + ∑ s : Fin 2048, term (x0 m c) (x1 m c) (2048 * ((n + 1) % 4) + s) r ((n + 1) / 4) e = _
      rw [ih, e1, e2, rows_step _ (n % 4 + 1)]

theorem final (c : Dev nD) : (dats m 0 c).arrAt 2 cfg0.N = prod (x0 m c) (x1 m c) := by
  refine (dats m 0 c).arrAt_eq_of_covers 2 _ (by decide +kernel) fun t hf y => ?_
  have hl : t.val % 4 = 3 := (flush0_2 t).mp hf
  blk_simp
  rw [after0_2]
  refine (out_C m c t hl y).trans ?_
  idx_vars y
  refine (point m c t.val t.isLt y0 y1).trans ?_
  rw [hl]
  refine (Finset.sum_range _).trans ?_
  have e0 : (((win0_2.blk t).view.emb (ix2 y0 y1) 0 : Fin _) : ℕ) = y0.val := by blk_simp [idx2 t]
  have e1 : (((win0_2.blk t).view.emb (ix2 y0 y1) 1 : Fin _) : ℕ) = 2048 * (t.val / 4) + y1.val := by
    blk_simp [idx2 t]
    exact congrArg (· + y1.val) (Nat.mul_comm _ _)
  show _ = ∑ s : Fin 8192, term (x0 m c) (x1 m c) s ((win0_2.blk t).view.emb (ix2 y0 y1) 0).val
    (((win0_2.blk t).view.emb (ix2 y0 y1) 1).val / 2048) (((win0_2.blk t).view.emb (ix2 y0 y1) 1).val % 2048)
  rw [e0, e1, show (2048 * (t.val / 4) + y1.val) / 2048 = t.val / 4 by omega, show (2048 * (t.val / 4) + y1.val) % 2048 = y1.val by omega]

end Cert.Kernel3Ideal.Dw

namespace Cert.Reference3Ideal.Dw

open Idealize.ShloMosaic Idealize.ShloMosaic.Tactic Cert.Reference3Ideal Cert.Reference3Ideal.Read
open Cert.Kernel3Ideal.Dw (term term_at prod)

theorem ix3_congr {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

theorem cat_at (x1 : Vec Ideal S3x8192x2048 .f32) (s : Fin 8192) (e : Fin 6144) :
    val_main_v15 (F := Ideal) x1 (ix2 s e) = x1 (ix3 ⟨e / 2048, by omega⟩ s ⟨e % 2048, by omega⟩) := by
  pointwise [val_main_v15, val_main_v14, val_main_v13, val_main_v12, val_main_v11, val_main_v10, val_main_v9, val_main_v8, val_main_v7, val_main_v6, val_main_cst_0, val_main_cst_1]
  by_cases h0 : e.val < 2048
  · rw [dif_neg (by omega), dif_pos (by omega), dif_pos h0, zero_add]
    exact congrArg x1 (ix3_congr (by show 0 = e.val / 2048; omega) rfl (by show e.val = e.val % 2048; omega))
  · by_cases h1 : e.val < 4096
    · rw [dif_neg (by omega), dif_pos h1, dif_neg h0, zero_add]
      exact congrArg x1 (ix3_congr (by show 1 = e.val / 2048; omega) rfl (by show e.val - 2048 = e.val % 2048; omega))
    · rw [dif_pos (by omega), dif_neg h1, add_zero]
      exact congrArg x1 (ix3_congr (by show 2 = e.val / 2048; omega) rfl (by show e.val - 4096 = e.val % 2048; omega))

theorem val_eq (x0 : Vec Ideal S8192x1024 .f32) (x1 : Vec Ideal S3x8192x2048 .f32) :
    val_main_v18 (F := Ideal) x0 x1 = prod x0 x1 := by
  funext y
  idx_vars y
  pointwise [val_main_v18, val_main_v17, val_main_v16]
  refine Finset.sum_congr rfl fun s _ => ?_
  rw [cat_at, mul_comm]
  exact (term_at x0 x1 s y0 ⟨y1 / 2048, by omega⟩ ⟨y1 % 2048, by omega⟩).symm

end Cert.Reference3Ideal.Dw

end
-- ==== Proof.DwOut.lean ====
/- The weight gradient of an output product: the kernel's result array and the reference's, as one sum. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.Kernel4Ideal.Dw

open Idealize.ShloMosaic Idealize.ShloMosaic.TcCoe Idealize.ShloMosaic.Tactic
open Idealize.ShloMosaic.Pipeline (Dat)
open Cert.Kernel4Ideal Cert.Kernel4Ideal.Gen

/-- One row's contribution to the product of the transposed first array with the second, zero outside the arrays. -/
def term (x0 : Vec Ideal S8192x2048 .f32) (x1 : Vec Ideal S8192x1024 .f32) (s r q e : ℕ) : EReal :=
  if h : s < 8192 ∧ 1024 * q + r < 2048 ∧ e < 1024 then x0 (ix2 ⟨s, h.1⟩ ⟨1024 * q + r, h.2.1⟩) * x1 (ix2 ⟨s, h.1⟩ ⟨e, h.2.2⟩) else 0

theorem term_at (x0 : Vec Ideal S8192x2048 .f32) (x1 : Vec Ideal S8192x1024 .f32) (s : Fin 8192) (r : Fin 1024) (q : Fin 2) (e : Fin 1024) : term x0 x1 s r q e = x0 (ix2 s ⟨1024 * q + r, by omega⟩) * x1 (ix2 s e) := dif_pos ⟨s.isLt, by omega, e.isLt⟩

/-- The product of the transposed first array with the second. -/
abbrev prod (x0 : Vec Ideal S8192x2048 .f32) (x1 : Vec Ideal S8192x1024 .f32) : Vec Ideal S2048x1024 .bf16 :=
  fun y => ∑ s : Fin 8192, term x0 x1 s ((y 0).val % 1024) ((y 0).val / 1024) (y 1).val

theorem pay1 (a : Vec Ideal S2048x1024 .bf16) (b : Vec Ideal S2048x1024 .bf16) (r : Fin 1024) (e : Fin 1024) :
    k0_pay1 (F := Ideal) a b (ix2 r e) = ∑ k : Fin 2048, a (ix2 k r) * b (ix2 k e) := by
  pointwise [k0_pay1]

theorem pay2 (v : Vec Ideal S1024x1024 .f32) (a : Vec Ideal S2048x1024 .bf16) (b : Vec Ideal S2048x1024 .bf16) (r : Fin 1024) (e : Fin 1024) :
    k0_pay2 (F := Ideal) v a b (ix2 r e) = v (ix2 r e) + ∑ k : Fin 2048, a (ix2 k r) * b (ix2 k e) := by
  pointwise [k0_pay2]

theorem pay3 (v : Vec Ideal S1024x1024 .f32) (y : S1024x1024.Idx) : k0_pay3 (F := Ideal) v y = v y := by
  pointwise [k0_pay3]

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

variable (m : (ℓ : Loc nD τ sig) → Buf (Elt Ideal) ℓ)

abbrev x0 (c : Dev nD) : Vec Ideal S8192x2048 .f32 := m ((c : Thread nD τ).loc main_arg0)
abbrev x1 (c : Dev nD) : Vec Ideal S8192x1024 .f32 := m ((c : Thread nD τ).loc main_arg1)

/-- The two blocks a grid point reads. -/
abbrev blk0 (c : Dev nD) (t : Fin cfg0.N) : Vec Ideal S2048x1024 .bf16 := iblk m c 0 t
abbrev blk1 (c : Dev nD) (t : Fin cfg0.N) : Vec Ideal S2048x1024 .bf16 := iblk m c 1 t

/-- The products a grid point's blocks give, at the arrays' coordinates. -/
theorem blk (c : Dev nD) (t : Fin cfg0.N) (s : Fin 2048) (r : Fin 1024) (e : Fin 1024) :
    blk0 m c t (ix2 s r) * blk1 m c t (ix2 s e)
      = (term (x0 m c) (x1 m c) (2048 * (t.val % 4) + s) r (t.val / 4) e) := by
  have ht : t.val < 8 := lt_of_lt_of_eq t.isLt N_0
  refine Eq.trans ?_ (term_at (x0 m c) (x1 m c) ⟨2048 * (t.val % 4) + s, by omega⟩ r ⟨t.val / 4, by omega⟩ e).symm
  refine congrArg₂ (· * ·) ?_ ?_
  · blk_ext! [iblk, V, idx0 t]
  · blk_ext! [iblk, V, idx1 t]

theorem step_A (c : Dev nD) (t : Fin cfg0.N) (h0 : t.val % 4 = 0) (r : Fin 1024) (e : Fin 1024) :
    (outsAt0 m c t.val t.isLt).2 (ix2 r e)
      = ∑ s : Fin 2048, (term (x0 m c) (x1 m c) (2048 * (t.val % 4) + s) r (t.val / 4) e) := by
  rw [outsAt0_A m c t h0 (by omega) (by omega)]
  frame_out
  rw [pay1]
  exact Finset.sum_congr rfl fun s _ => blk m c t s r e

theorem step_B (c : Dev nD) (t : Fin cfg0.N) (h0 : ¬ t.val % 4 = 0) (r : Fin 1024) (e : Fin 1024) :
    (outsAt0 m c t.val t.isLt).2 (ix2 r e)
      = (outsAt0 m c (t.val - 1) (Nat.lt_of_le_of_lt (Nat.sub_le _ _) t.isLt)).2 (ix2 r e)
        + ∑ s : Fin 2048, (term (x0 m c) (x1 m c) (2048 * (t.val % 4) + s) r (t.val / 4) e) := by
  by_cases h3 : t.val % 4 = 3
  · rw [outsAt0_C m c t h0 (by omega) h3]
    frame_out
    rw [pay2]
    exact congrArg₂ (· + ·) (congrFun (Memref.IsWhole.read_unread (Memref.isWhole_whole cc0_scratch0) _) (ix2 r e)) (Finset.sum_congr rfl fun s _ => blk m c t s r e)
  · rw [outsAt0_B m c t h0 (by omega) h3]
    frame_out
    rw [pay2]
    exact congrArg₂ (· + ·) (congrFun (Memref.IsWhole.read_unread (Memref.isWhole_whole cc0_scratch0) _) (ix2 r e)) (Finset.sum_congr rfl fun s _ => blk m c t s r e)

theorem out_C (c : Dev nD) (t : Fin cfg0.N) (h3 : t.val % 4 = 3) (y : S1024x1024.Idx) :
    (outsAt0 m c t.val t.isLt).1 y = (outsAt0 m c t.val t.isLt).2 y := by
  rw [outsAt0_C m c t (by omega) (by omega) h3]
  frame_out
  rw [pay3]

theorem rows_step (f : ℕ → EReal) (i : ℕ) :
    ∑ s ∈ Finset.range (2048 * (i + 1)), f s = ∑ s ∈ Finset.range (2048 * i), f s + ∑ r : Fin 2048, f (2048 * i + r) := by
  rw [Nat.mul_add, Nat.mul_one, Finset.sum_range_add, Finset.sum_range (fun x => f (2048 * i + x))]

theorem point (c : Dev nD) : ∀ (n : ℕ) (hn : n < cfg0.N) (r : Fin 1024) (e : Fin 1024),
    (outsAt0 m c n hn).2 (ix2 r e)
      = ∑ s ∈ Finset.range (2048 * (n % 4 + 1)), term (x0 m c) (x1 m c) s r (n / 4) e := by
  intro n
  induction n with
  | zero =>
    intro hn r e
    refine (step_A m c ⟨0, hn⟩ rfl r e).trans ?_
    rw [rows_step]
    simp
  | succ n ih =>
    intro hn r e
    by_cases h0 : (n + 1) % 4 = 0
    · refine (step_A m c ⟨n + 1, hn⟩ h0 r e).trans ?_
      rw [rows_step]
      simp [h0]
    · refine (step_B m c ⟨n + 1, hn⟩ h0 r e).trans ?_
      have e1 : (n + 1) % 4 = n % 4 + 1 := by omega
      have e2 : (n + 1) / 4 = n / 4 := by omega
      show (outsAt0 m c n _).2 (ix2 r e) + ∑ s : Fin 2048, term (x0 m c) (x1 m c) (2048 * ((n + 1) % 4) + s) r ((n + 1) / 4) e = _
      rw [ih, e1, e2, rows_step _ (n % 4 + 1)]

theorem final (c : Dev nD) : (dats m 0 c).arrAt 2 cfg0.N = prod (x0 m c) (x1 m c) := by
  refine (dats m 0 c).arrAt_eq_of_covers 2 _ (by decide +kernel) fun t hf y => ?_
  have hl : t.val % 4 = 3 := (flush0_2 t).mp hf
  blk_simp
  rw [after0_2]
  refine (out_C m c t hl y).trans ?_
  idx_vars y
  refine (point m c t.val t.isLt y0 y1).trans ?_
  rw [hl]
  refine (Finset.sum_range _).trans ?_
  have e0 : (((win0_2.blk t).view.emb (ix2 y0 y1) 0 : Fin _) : ℕ) = 1024 * (t.val / 4) + y0.val := by
    blk_simp [idx2 t]
    exact congrArg (· + y0.val) (Nat.mul_comm _ _)
  have e1 : (((win0_2.blk t).view.emb (ix2 y0 y1) 1 : Fin _) : ℕ) = y1.val := by blk_simp [idx2 t]
  show _ = ∑ s : Fin 8192, term (x0 m c) (x1 m c) s (((win0_2.blk t).view.emb (ix2 y0 y1) 0).val % 1024)
    (((win0_2.blk t).view.emb (ix2 y0 y1) 0).val / 1024) ((win0_2.blk t).view.emb (ix2 y0 y1) 1).val
  rw [e0, e1, show (1024 * (t.val / 4) + y0.val) / 1024 = t.val / 4 by omega, show (1024 * (t.val / 4) + y0.val) % 1024 = y0.val by omega]

end Cert.Kernel4Ideal.Dw

namespace Cert.Reference4Ideal.Dw

open Idealize.ShloMosaic Idealize.ShloMosaic.Tactic Cert.Reference4Ideal Cert.Reference4Ideal.Read
open Cert.Kernel4Ideal.Dw (term term_at prod)

theorem val_eq (x0 : Vec Ideal S8192x2048 .f32) (x1 : Vec Ideal S8192x1024 .f32) :
    val_main_v4 (F := Ideal) x0 x1 = prod x0 x1 := by
  funext y
  idx_vars y
  pointwise [val_main_v4, val_main_v3, val_main_v2]
  refine Finset.sum_congr rfl fun s _ => ?_
  rw [mul_comm]
  refine Eq.trans ?_ (term_at x0 x1 s ⟨y0 % 1024, by omega⟩ ⟨y0 / 1024, by omega⟩ y1).symm
  exact congrArg (· * _) (congrArg x0 (congrArg (ix2 s) (Fin.ext (Nat.div_add_mod y0.val 1024).symm)))

end Cert.Reference4Ideal.Dw

end
-- ==== Proof.Gmlp.lean ====
/- The gated mixer's backward pass over extended reals, its arrays read at row and column numbers, and the identities between
   the formulas the kernel writes and those the chain rule gives. -/
module

public import proofs.«01_k».proof.Proof.Norm

@[expose] public section

noncomputable section

open scoped BigOperators

namespace Cert.Gmlp

open Idealize.ShloMosaic
open Cert.GatedConv (Real' half half_eq sg sg_real dsilu)
open Cert.Norm (mhalf mhalf_eq coe_sum div_coe)

/-- The constants: the reciprocals of the roots of two and of two pi, the row length and the number added under the root. -/
abbrev ra : EReal := (((Real.sqrt 2)⁻¹ : ℝ) : EReal)
abbrev rb : EReal := (((Real.sqrt (2 * Real.pi))⁻¹ : ℝ) : EReal)
abbrev rc : EReal := ((2 * (Real.sqrt Real.pi)⁻¹ : ℝ) : EReal)
abbrev len : EReal := Ideal.ofBits .f32 0x45000000#32
abbrev eps : EReal := Ideal.ofBits .f32 0x3727C5AC#32

theorem len_eq : len = ((2048 : ℝ) : EReal) := by
  simp [len, Ideal.ofBits, Ideal.ieee, -EReal.coe_mul]; norm_num

theorem eps_pos : ∃ e : ℝ, 0 < e ∧ eps = (e : EReal) := by
  refine ⟨_, ?_, by simp only [eps, Ideal.ofBits, Ideal.ieee]; rfl⟩
  simp

/-- The normal distribution function and density, gelu, and its derivative, as the kernel writes them. -/
def cdf (x : EReal) : EReal := half * (1 + Ideal.erf (x * ra))
def pdf (x : EReal) : EReal := Ideal.exp (mhalf * x * x) * rb
def gelu (x : EReal) : EReal := x * cdf x
def dgelu (x : EReal) : EReal := cdf x + x * pdf x

/-- A column's group, a row's place in its chunk, and a group's column. -/
def gr (e : Fin 2048) : Fin 8 := ⟨e.val / 256, by omega⟩
def ri (s : ℕ) : Fin 128 := ⟨s % 128, by omega⟩
def col (g : Fin 8) (c : Fin 256) : Fin 2048 := ⟨256 * g.val + c.val, by omega⟩

/-- The arrays: the three parts of the projection, the incoming gradient, the output weight, the norm's gain and bias, the
    mixing matrices and their biases. -/
structure Arr where
  pu : ℕ → Fin 2048 → EReal
  pv : ℕ → Fin 2048 → EReal
  z : ℕ → Fin 2048 → EReal
  ct : ℕ → Fin 1024 → EReal
  wo : Fin 2048 → Fin 1024 → EReal
  lg : Fin 2048 → EReal
  lb : Fin 2048 → EReal
  ws : Fin 8 → Fin 128 → Fin 128 → EReal
  bs : Fin 8 → Fin 128 → EReal

namespace Arr
variable (A : Arr)

def u (s : ℕ) (e : Fin 2048) : EReal := gelu (A.pu s e)
def v (s : ℕ) (e : Fin 2048) : EReal := gelu (A.pv s e)
def mu (s : ℕ) : EReal := Ideal.div (∑ e, A.v s e) len
def vc (s : ℕ) (e : Fin 2048) : EReal := A.v s e - A.mu s
def var (s : ℕ) : EReal := Ideal.div (∑ e, A.vc s e * A.vc s e) len + eps
def rs (s : ℕ) : EReal := Ideal.rsqrt (A.var s)
def vh (s : ℕ) (e : Fin 2048) : EReal := A.vc s e * A.rs s
def vn (s : ℕ) (e : Fin 2048) : EReal := A.vh s e * A.lg e + A.lb e
/-- The mixing matrices' lower triangles. -/
def tri (g : Fin 8) (i j : Fin 128) : EReal := if j.val ≤ i.val then A.ws g i j else 0
def mix (s : ℕ) (e : Fin 2048) : EReal :=
  ∑ j : Fin 128, A.tri (gr e) (ri s) j * A.vn (128 * (s / 128) + j.val) e + A.bs (gr e) (ri s)
def dy (s : ℕ) (e : Fin 2048) : EReal := ∑ d, A.ct s d * A.wo e d
def ds (s : ℕ) (e : Fin 2048) : EReal := A.dy s e * (A.z s e * sg (A.z s e))
def dm (s : ℕ) (e : Fin 2048) : EReal := A.ds s e * A.u s e
def dvn (s : ℕ) (e : Fin 2048) : EReal :=
  ∑ i : Fin 128, A.tri (gr e) i (ri s) * A.dm (128 * (s / 128) + i.val) e
def dvh (s : ℕ) (e : Fin 2048) : EReal := A.dvn s e * A.lg e
/-- The gradient at the normed gelu's argument before its derivative. -/
def dv (s : ℕ) (e : Fin 2048) : EReal :=
  A.rs s * (A.dvh s e - Ideal.div (∑ k, A.dvh s k) len - A.vh s e * Ideal.div (∑ k, A.dvh s k * A.vh s k) len)
/-- The gradients of the projection's three parts. -/
def dp0 (s : ℕ) (e : Fin 2048) : EReal := A.ds s e * A.mix s e * dgelu (A.pu s e)
def dp1 (s : ℕ) (e : Fin 2048) : EReal := A.dv s e * dgelu (A.pv s e)
def dp2 (s : ℕ) (e : Fin 2048) : EReal :=
  A.dy s e * (A.u s e * A.mix s e) * (sg (A.z s e) * (1 + A.z s e * (1 - sg (A.z s e))))
/-- One chunk's contribution to the mixing matrices' gradient, and the gradients of the parameters. -/
def wterm (n : ℕ) (g : Fin 8) (i j : Fin 128) : EReal :=
  ∑ c : Fin 256, A.dm (128 * n + i.val) (col g c) * A.vn (128 * n + j.val) (col g c)
def dws (g : Fin 8) (i j : Fin 128) : EReal := if j.val ≤ i.val then ∑ n : Fin 64, A.wterm n.val g i j else 0
def dbs (i : Fin 128) (g : Fin 8) : EReal := ∑ c : Fin 256, ∑ n : Fin 64, A.dm (128 * n.val + i.val) (col g c)
def dlg (e : Fin 2048) : EReal := ∑ s : Fin 8192, A.dvn s.val e * A.vh s.val e
def dlb (e : Fin 2048) : EReal := ∑ s : Fin 8192, A.dvn s.val e

/-- Every entry is a real number. -/
structure Finite : Prop where
  pu : ∀ s e, Real' (A.pu s e)
  pv : ∀ s e, Real' (A.pv s e)
  z : ∀ s e, Real' (A.z s e)
  ct : ∀ s d, Real' (A.ct s d)
  wo : ∀ e d, Real' (A.wo e d)
  lg : ∀ e, Real' (A.lg e)
  lb : ∀ e, Real' (A.lb e)
  ws : ∀ g i j, Real' (A.ws g i j)
  bs : ∀ g i, Real' (A.bs g i)

end Arr

theorem ra_sq : (Real.sqrt 2)⁻¹ * (Real.sqrt 2)⁻¹ = (1 / 2 : ℝ) := by
  rw [← mul_inv, Real.mul_self_sqrt (by norm_num)]; norm_num

theorem rbc : 2 * (Real.sqrt Real.pi)⁻¹ * (1 / 2) * (Real.sqrt 2)⁻¹ = (Real.sqrt (2 * Real.pi))⁻¹ := by
  rw [Real.sqrt_mul (by norm_num), mul_inv]; ring

/-- Gelu as the host writes it, through the complementary error function. -/
theorem gelu_ref (x : EReal) : half * x * Ideal.erfc (-x * ra) = gelu x := by
  rw [EReal.neg_mul, Ideal.erfc_neg, gelu, cdf, mul_comm half x, mul_assoc]

theorem cdf_coe (x : ℝ) : ∃ c : ℝ, cdf (x : EReal) = (c : EReal) := by
  unfold cdf
  rw [← EReal.coe_mul, Ideal.erf_coe, half_eq, show (1 : EReal) = ((1 : ℝ) : EReal) from rfl, ← EReal.coe_add, ← EReal.coe_mul]
  exact ⟨_, rfl⟩

theorem gelu_real {x : EReal} (h : Real' x) : Real' (gelu x) := by
  obtain ⟨x, rfl⟩ := h
  obtain ⟨c, hc⟩ := cdf_coe x
  exact ⟨x * c, by rw [gelu, hc, EReal.coe_mul]⟩

theorem sg_real' {x : EReal} (h : Real' x) : Real' (sg x) := by
  obtain ⟨x, rfl⟩ := h
  exact ⟨_, sg_real x⟩

/-- Gelu's derivative applied to a gradient, as the chain rule gives it. -/
theorem dgelu_ref {g x : EReal} (hg : Real' g) (hx : Real' x) :
    -((-rc * (half * x * g)) * Ideal.exp (-(-x * ra * (-x * ra))) * ra) + half * (g * Ideal.erfc (-x * ra)) = g * dgelu x := by
  obtain ⟨g, rfl⟩ := hg
  obtain ⟨x, rfl⟩ := hx
  have he : Ideal.exp (mhalf * (x : EReal) * x) = ((Real.exp (-(x * x) / 2) : ℝ) : EReal) := by
    rw [mhalf_eq, ← EReal.coe_mul, ← EReal.coe_mul, Ideal.exp_coe]
    congr 2; ring
  have he' : Ideal.exp (-(-(x : EReal) * ra * (-(x : EReal) * ra))) = ((Real.exp (-(x * x) / 2) : ℝ) : EReal) := by
    rw [← EReal.coe_neg, ← EReal.coe_mul, ← EReal.coe_mul, ← EReal.coe_neg, Ideal.exp_coe]
    congr 2
    calc -(-x * (Real.sqrt 2)⁻¹ * (-x * (Real.sqrt 2)⁻¹)) = -(x * x * ((Real.sqrt 2)⁻¹ * (Real.sqrt 2)⁻¹)) := by ring
      _ = _ := by rw [ra_sq]; ring
  rw [EReal.neg_mul (x : EReal) ra, Ideal.erfc_neg] at *
  rw [dgelu, cdf, pdf, he, he', half_eq, show (x : EReal) * ra = ((x * (Real.sqrt 2)⁻¹ : ℝ) : EReal) from (EReal.coe_mul _ _).symm, Ideal.erf_coe]
  generalize Real.exp (-(x * x) / 2) = E
  rw [show (1 : EReal) = ((1 : ℝ) : EReal) from rfl]
  simp only [← EReal.coe_neg, ← EReal.coe_mul, ← EReal.coe_add]
  congr 1
  rw [← rbc]
  ring

namespace Arr
variable {A : Arr}

theorem Finite.dy (h : A.Finite) (s e) : Real' (A.dy s e) := Real'.sum _ _ fun d => (h.ct s d).mul (h.wo e d)
theorem Finite.u (h : A.Finite) (s e) : Real' (A.u s e) := gelu_real (h.pu s e)
theorem Finite.v (h : A.Finite) (s e) : Real' (A.v s e) := gelu_real (h.pv s e)
theorem Finite.ds (h : A.Finite) (s e) : Real' (A.ds s e) := (h.dy s e).mul ((h.z s e).mul (sg_real' (h.z s e)))
theorem Finite.dm (h : A.Finite) (s e) : Real' (A.dm s e) := (h.ds s e).mul (h.u s e)
theorem Finite.tri (h : A.Finite) (g i j) : Real' (A.tri g i j) := by
  unfold Arr.tri; split
  · exact h.ws g i j
  · exact Real'.zero
theorem Finite.dvn (h : A.Finite) (s e) : Real' (A.dvn s e) := Real'.sum _ _ fun i => (h.tri _ _ _).mul (h.dm _ _)
theorem Finite.dvh (h : A.Finite) (s e) : Real' (A.dvh s e) := (h.dvn s e).mul (h.lg e)

/-- What a row's mean, variance and reciprocal deviation are over the reals. -/
theorem Finite.row (h : A.Finite) (s : ℕ) : ∃ (C : Fin 2048 → ℝ) (M R : ℝ), (∀ e, A.vc s e = (C e : EReal)) ∧ ∑ e, C e = 0
    ∧ A.var s = (M : EReal) ∧ M ≠ 0 ∧ A.rs s = (R : EReal) ∧ R / M = R ^ 3 := by
  choose V hV using h.v s
  obtain ⟨e, he, hee⟩ := eps_pos
  have hmu : A.mu s = (((∑ e, V e) / 2048 : ℝ) : EReal) := by
    unfold Arr.mu; rw [len_eq]; simp only [hV]; rw [coe_sum, div_coe _ _ (by norm_num)]
  have hvc : ∀ e, A.vc s e = ((V e - (∑ e, V e) / 2048 : ℝ) : EReal) := fun e => by
    unfold Arr.vc; rw [hmu, hV, ← EReal.coe_sub]
  generalize hC : (fun e => V e - (∑ e, V e) / 2048) = C at *
  have hvc' : ∀ e, A.vc s e = (C e : EReal) := fun e => by rw [hvc, ← hC]
  have hvar : A.var s = (((∑ e, C e * C e) / 2048 + e : ℝ) : EReal) := by
    unfold Arr.var
    rw [len_eq, hee]
    simp only [hvc', ← EReal.coe_mul]
    rw [coe_sum, div_coe _ _ (by norm_num), ← EReal.coe_add]
  generalize hM : (∑ e, C e * C e) / 2048 + e = M at hvar
  have hMp : 0 < M := by
    rw [← hM]
    exact add_pos_of_nonneg_of_pos (div_nonneg (Finset.sum_nonneg fun i _ => mul_self_nonneg _) (by norm_num)) he
  refine ⟨C, M, (Real.sqrt M)⁻¹, hvc', ?_, hvar, hMp.ne', ?_, ?_⟩
  · rw [← hC, Finset.sum_sub_distrib, Finset.sum_const, Finset.card_univ, Fintype.card_fin, nsmul_eq_mul]
    push_cast
    ring
  · unfold Arr.rs
    rw [hvar, Ideal.rsqrt_coe, if_neg (not_lt.2 hMp.le), if_neg hMp.ne']
  · have hs : Real.sqrt M ≠ 0 := (Real.sqrt_pos.2 hMp).ne'
    have h2 : M = Real.sqrt M * Real.sqrt M := (Real.mul_self_sqrt hMp.le).symm
    rw [div_eq_iff hMp.ne']
    calc (Real.sqrt M)⁻¹ = (Real.sqrt M)⁻¹ ^ 3 * (Real.sqrt M * Real.sqrt M) := by field_simp
      _ = _ := by rw [← h2]

theorem Finite.rs (h : A.Finite) (s) : Real' (A.rs s) := by
  obtain ⟨_, _, R, _, _, _, _, hR, _⟩ := h.row s
  exact ⟨R, hR⟩
theorem Finite.vc (h : A.Finite) (s e) : Real' (A.vc s e) := by
  obtain ⟨C, _, _, hC, _⟩ := h.row s
  exact ⟨_, hC e⟩
theorem Finite.vh (h : A.Finite) (s e) : Real' (A.vh s e) := (h.vc s e).mul (h.rs s)
theorem Finite.vn (h : A.Finite) (s e) : Real' (A.vn s e) := ((h.vh s e).mul (h.lg e)).add (h.lb e)
theorem Finite.mix (h : A.Finite) (s e) : Real' (A.mix s e) :=
  (Real'.sum _ _ fun j => (h.tri _ _ _).mul (h.vn _ _)).add (h.bs _ _)

/-- The weight of the gradient of the variance, as the chain rule gives it. -/
def q (A : Arr) (s : ℕ) : EReal :=
  Ideal.div ((∑ e, A.vc s e * A.dvh s e) * (mhalf * Ideal.div (A.rs s) (A.var s))) len

/-- The layer norm's gradient as the chain rule gives it. -/
theorem Finite.dv_ref (h : A.Finite) (s : ℕ) (e : Fin 2048) (two : EReal) (h2 : two = ((2 : ℝ) : EReal)) :
    A.dvh s e * A.rs s + A.q s * (two * A.vc s e)
      + Ideal.div (∑ k, -(A.dvh s k * A.rs s) + ∑ k, -(A.q s * (two * A.vc s k))) len = A.dv s e := by
  obtain ⟨C, M, R, hC, hC0, hM, hM0, hR, hRM⟩ := h.row s
  choose D hD using h.dvh s
  have hq : A.q s = (((∑ e, C e * D e) * (-1 / 2 * R ^ 3) / 2048 : ℝ) : EReal) := by
    unfold Arr.q
    rw [hM, hR, len_eq, mhalf_eq]
    simp only [hC, hD, ← EReal.coe_mul]
    rw [coe_sum, div_coe _ _ hM0, hRM, ← EReal.coe_mul, ← EReal.coe_mul, div_coe _ _ (by norm_num)]
  have hS : ∑ e, D e * (C e * R) = (∑ e, C e * D e) * R := by
    rw [Finset.sum_mul]
    exact Finset.sum_congr rfl fun e _ => by ring
  unfold Arr.dv Arr.vh
  rw [hq, h2, hR, len_eq]
  generalize hT : ∑ e, C e * D e = T at *
  simp only [hC, hD, ← EReal.coe_mul, ← EReal.coe_neg]
  rw [coe_sum, coe_sum, coe_sum, coe_sum, hS, div_coe (∑ i, D i) _ (by norm_num), div_coe (T * R) _ (by norm_num), ← EReal.coe_add, ← EReal.coe_add, div_coe _ _ (by norm_num)]
  simp only [← EReal.coe_mul, ← EReal.coe_sub, ← EReal.coe_add]
  congr 1
  rw [Finset.sum_neg_distrib, Finset.sum_neg_distrib, ← Finset.sum_mul, ← Finset.mul_sum, ← Finset.mul_sum, hC0]
  ring

end Arr
end Cert.Gmlp
-- ==== Proof.GmPay.lean ====
/- What the stored values of the gated mixer's backward kernel are at an index. -/
module

public import proofs.«01_k».proof.Proof.Gen.Kernel7Ideal.Skeleton
public import proofs.«01_k».proof.Proof.Gmlp
public import Idealize.ShloMosaic.Lib.Pointwise

@[expose] public section

set_option maxRecDepth 16384

noncomputable section

namespace Cert.Kernel7Ideal.Gm

open Idealize.ShloMosaic Idealize.ShloMosaic.TcCoe Idealize.ShloMosaic.Tactic
open Cert.Kernel7Ideal Cert.Kernel7Ideal.Gen
open Cert.Norm (mhalf)
open Cert.Gmlp (ra rb len eps cdf pdf gelu dgelu)
open Cert.GatedConv (half sg)

theorem cmp_ge : ∀ i j : Fin 128, IntOp.cmpi CmpIPredicate.sge (BitVec.ofNat 32 i) (BitVec.ofNat 32 j) = if j.val ≤ i.val then 1#1 else 0#1 := by
  decide +kernel

theorem cmp_le : ∀ i j : Fin 128, IntOp.cmpi CmpIPredicate.sle (BitVec.ofNat 32 i) (BitVec.ofNat 32 j) = if i.val ≤ j.val then 1#1 else 0#1 := by
  decide +kernel

theorem sel_ge (i j : Fin 128) (x y : EReal) :
    Scalar.select (IntOp.cmpi CmpIPredicate.sge (BitVec.ofNat 32 i) (BitVec.ofNat 32 j)) x y = if j.val ≤ i.val then x else y := by
  rw [cmp_ge]; by_cases h : j.val ≤ i.val
  · rw [if_pos h, if_pos h]; rfl
  · rw [if_neg h, if_neg h]; rfl

theorem sel_le (i j : Fin 128) (x y : EReal) :
    Scalar.select (IntOp.cmpi CmpIPredicate.sle (BitVec.ofNat 32 i) (BitVec.ofNat 32 j)) x y = if i.val ≤ j.val then x else y := by
  rw [cmp_le]; by_cases h : i.val ≤ j.val
  · rw [if_pos h, if_pos h]; rfl
  · rw [if_neg h, if_neg h]; rfl

theorem named_a (b : BitVec 32) : Named.named (F := Ideal) κ "a" (φ := .f32) b = ra := by
  have h : κ "a" = some ra := by unfold κ; rfl
  simp only [Named.named, h, Option.getD_some]

theorem named_b (b : BitVec 32) : Named.named (F := Ideal) κ "b" (φ := .f32) b = rb := by
  have h : κ "b" = some rb := by unfold κ; rfl
  simp only [Named.named, h, Option.getD_some]

/-- A mixing matrix's lower triangle, and the upper one of its transpose. -/
def tri (w : Vec Ideal S1x128x128 .f32) (i j : Fin 128) : EReal := if j.val ≤ i.val then w (ix3 0 i j) else 0
def triT (w : Vec Ideal S1x128x128 .f32) (i j : Fin 128) : EReal := if i.val ≤ j.val then w (ix3 0 i j) else 0

/-- One group's and chunk's mixed rows, the gradient at the normed rows, the accumulated weight gradient, a masked weight
    gradient, and the row sums of a group. -/
def mixT (w : Vec Ideal S1x128x128 .f32) (x : Vec Ideal S128x256 .bf16) (b : Vec Ideal S128x1 .f32) : Vec Ideal S128x256 .f32 :=
  fun y => ∑ j : Fin 128, tri w (y 0) j * x (ix2 j (y 1)) + b (ix2 (y 0) 0)
def dvnT (w : Vec Ideal S1x128x128 .f32) (x : Vec Ideal S128x256 .bf16) : Vec Ideal S128x256 .f32 :=
  fun y => ∑ j : Fin 128, triT w (y 0) j * x (ix2 j (y 1))
def accT (o : Vec Ideal S1x128x128 .f32) (a b : Vec Ideal S128x256 .bf16) : Vec Ideal S1x128x128 .f32 :=
  fun y => o y + ∑ c : Fin 256, a (ix2 (y 1) c) * b (ix2 (y 2) c)
def trilT (w : Vec Ideal S1x128x128 .f32) : Vec Ideal S1x128x128 .f32 := fun y => if (y 2).val ≤ (y 1).val then w y else 0
def rowT (x : Vec Ideal S128x256 .f32) : Vec Ideal S128x1 .f32 := fun y => ∑ c : Fin 256, x (ix2 (y 0) c)

theorem mixp0 (w : Vec Ideal S1x128x128 .f32) (x : Vec Ideal S128x256 .bf16) (b : Vec Ideal S128x1 .f32) :
    k0_pay41 (F := Ideal) (k0_pay39 w x) (k0_pay40 b) = mixT w x b := by
  funext y; idx_vars y; pointwise [mixT, tri, k0_pay41, k0_pay39, k0_pay40, k0_pay38, sel_ge]

theorem mixp1 (w : Vec Ideal S1x128x128 .f32) (x : Vec Ideal S128x256 .bf16) (b : Vec Ideal S128x1 .f32) :
    k0_pay42 (F := Ideal) (k0_pay38 w) x b = mixT w x b := by
  funext y; idx_vars y; pointwise [mixT, tri, k0_pay42, k0_pay38, sel_ge]

theorem mixp2 (w : Vec Ideal S1x128x128 .f32) (x : Vec Ideal S128x256 .bf16) (b : Vec Ideal S128x1 .f32) :
    k0_pay44 (F := Ideal) w x b = mixT w x b := by
  funext y; idx_vars y; pointwise [mixT, tri, k0_pay44, k0_pay43, sel_ge]

theorem mixp3 (w : Vec Ideal S1x128x128 .f32) (x : Vec Ideal S128x256 .bf16) (b : Vec Ideal S128x1 .f32) :
    k0_pay46 (F := Ideal) (k0_pay45 w x) b = mixT w x b := by
  funext y; idx_vars y; pointwise [mixT, tri, k0_pay46, k0_pay45, k0_pay43, sel_ge]

theorem mixp4 (w : Vec Ideal S1x128x128 .f32) (x : Vec Ideal S128x256 .bf16) (b : Vec Ideal S128x1 .f32) :
    k0_pay48 (F := Ideal) w x b = mixT w x b := by
  funext y; idx_vars y; pointwise [mixT, tri, k0_pay48, k0_pay47, sel_ge]

theorem mixp5 (w : Vec Ideal S1x128x128 .f32) (x : Vec Ideal S128x256 .bf16) (b : Vec Ideal S128x1 .f32) :
    k0_pay49 (F := Ideal) w x b = mixT w x b := by
  funext y; idx_vars y; pointwise [mixT, tri, k0_pay49, k0_pay47, sel_ge]

theorem mixp6 (w : Vec Ideal S1x128x128 .f32) (x : Vec Ideal S128x256 .bf16) (b : Vec Ideal S128x1 .f32) :
    k0_pay51 (F := Ideal) w x b = mixT w x b := by
  funext y; idx_vars y; pointwise [mixT, tri, k0_pay51, k0_pay50, sel_ge]

theorem mixp7 (w : Vec Ideal S1x128x128 .f32) (x : Vec Ideal S128x256 .bf16) (b : Vec Ideal S128x1 .f32) :
    k0_pay52 (F := Ideal) w x b = mixT w x b := by
  funext y; idx_vars y; pointwise [mixT, tri, k0_pay52, k0_pay50, sel_ge]

theorem mixp8 (w : Vec Ideal S1x128x128 .f32) (x : Vec Ideal S128x256 .bf16) (b : Vec Ideal S128x1 .f32) :
    k0_pay55 (F := Ideal) (k0_pay54 w x) b = mixT w x b := by
  funext y; idx_vars y; pointwise [mixT, tri, k0_pay55, k0_pay54, k0_pay53, sel_ge]

theorem mixp9 (w : Vec Ideal S1x128x128 .f32) (x : Vec Ideal S128x256 .bf16) (b : Vec Ideal S128x1 .f32) :
    k0_pay56 (F := Ideal) (k0_pay53 w) x b = mixT w x b := by
  funext y; idx_vars y; pointwise [mixT, tri, k0_pay56, k0_pay53, sel_ge]

theorem mixp10 (w : Vec Ideal S1x128x128 .f32) (x : Vec Ideal S128x256 .bf16) (b : Vec Ideal S128x1 .f32) :
    k0_pay58 (F := Ideal) w x b = mixT w x b := by
  funext y; idx_vars y; pointwise [mixT, tri, k0_pay58, k0_pay57, sel_ge]

theorem mixp11 (w : Vec Ideal S1x128x128 .f32) (x : Vec Ideal S128x256 .bf16) (b : Vec Ideal S128x1 .f32) :
    k0_pay59 (F := Ideal) (k0_pay57 w) x b = mixT w x b := by
  funext y; idx_vars y; pointwise [mixT, tri, k0_pay59, k0_pay57, sel_ge]

theorem mixp12 (w : Vec Ideal S1x128x128 .f32) (x : Vec Ideal S128x256 .bf16) (b : Vec Ideal S128x1 .f32) :
    k0_pay61 (F := Ideal) w x b = mixT w x b := by
  funext y; idx_vars y; pointwise [mixT, tri, k0_pay61, k0_pay60, sel_ge]

theorem mixp13 (w : Vec Ideal S1x128x128 .f32) (x : Vec Ideal S128x256 .bf16) (b : Vec Ideal S128x1 .f32) :
    k0_pay62 (F := Ideal) w x b = mixT w x b := by
  funext y; idx_vars y; pointwise [mixT, tri, k0_pay62, k0_pay60, sel_ge]

theorem mixp14 (w : Vec Ideal S1x128x128 .f32) (x : Vec Ideal S128x256 .bf16) (b : Vec Ideal S128x1 .f32) :
    k0_pay64 (F := Ideal) w x b = mixT w x b := by
  funext y; idx_vars y; pointwise [mixT, tri, k0_pay64, k0_pay63, sel_ge]

theorem mixp15 (w : Vec Ideal S1x128x128 .f32) (x : Vec Ideal S128x256 .bf16) (b : Vec Ideal S128x1 .f32) :
    k0_pay65 (F := Ideal) w x b = mixT w x b := by
  funext y; idx_vars y; pointwise [mixT, tri, k0_pay65, k0_pay63, sel_ge]

theorem dvp0 (w : Vec Ideal S1x128x128 .f32) (x : Vec Ideal S128x256 .bf16) :
    k0_pay102 (F := Ideal) (k0_pay99 w) k0_pay100 x = dvnT w x := by
  funext y; idx_vars y; pointwise [dvnT, triT, k0_pay102, k0_pay101, k0_pay99, k0_pay100, sel_le]

theorem dvp1 (w : Vec Ideal S1x128x128 .f32) (x : Vec Ideal S128x256 .bf16) :
    k0_pay103 (F := Ideal) (k0_pay99 w) k0_pay100 x = dvnT w x := by
  funext y; idx_vars y; pointwise [dvnT, triT, k0_pay103, k0_pay101, k0_pay99, k0_pay100, sel_le]

theorem dvp2 (w : Vec Ideal S1x128x128 .f32) (x : Vec Ideal S128x256 .bf16) :
    k0_pay105 (F := Ideal) w x = dvnT w x := by
  funext y; idx_vars y; pointwise [dvnT, triT, k0_pay105, k0_pay104, sel_le]

theorem dvp3 (w : Vec Ideal S1x128x128 .f32) (x : Vec Ideal S128x256 .bf16) :
    k0_pay106 (F := Ideal) w x = dvnT w x := by
  funext y; idx_vars y; pointwise [dvnT, triT, k0_pay106, k0_pay104, sel_le]

theorem dvp4 (w : Vec Ideal S1x128x128 .f32) (x : Vec Ideal S128x256 .bf16) :
    k0_pay108 (F := Ideal) w x = dvnT w x := by
  funext y; idx_vars y; pointwise [dvnT, triT, k0_pay108, k0_pay107, sel_le]

theorem dvp5 (w : Vec Ideal S1x128x128 .f32) (x : Vec Ideal S128x256 .bf16) :
    k0_pay109 (F := Ideal) w x = dvnT w x := by
  funext y; idx_vars y; pointwise [dvnT, triT, k0_pay109, k0_pay107, sel_le]

theorem dvp6 (w : Vec Ideal S1x128x128 .f32) (x : Vec Ideal S128x256 .bf16) :
    k0_pay111 (F := Ideal) w x = dvnT w x := by
  funext y; idx_vars y; pointwise [dvnT, triT, k0_pay111, k0_pay110, sel_le]

theorem dvp7 (w : Vec Ideal S1x128x128 .f32) (x : Vec Ideal S128x256 .bf16) :
    k0_pay112 (F := Ideal) (k0_pay110 w) x = dvnT w x := by
  funext y; idx_vars y; pointwise [dvnT, triT, k0_pay112, k0_pay110, sel_le]

theorem dvp8 (w : Vec Ideal S1x128x128 .f32) (x : Vec Ideal S128x256 .bf16) :
    k0_pay114 (F := Ideal) w x = dvnT w x := by
  funext y; idx_vars y; pointwise [dvnT, triT, k0_pay114, k0_pay113, sel_le]

theorem dvp9 (w : Vec Ideal S1x128x128 .f32) (x : Vec Ideal S128x256 .bf16) :
    k0_pay115 (F := Ideal) w x = dvnT w x := by
  funext y; idx_vars y; pointwise [dvnT, triT, k0_pay115, k0_pay113, sel_le]

theorem dvp10 (w : Vec Ideal S1x128x128 .f32) (x : Vec Ideal S128x256 .bf16) :
    k0_pay118 (F := Ideal) (k0_pay117 w x) = dvnT w x := by
  funext y; idx_vars y; pointwise [dvnT, triT, k0_pay118, k0_pay117, k0_pay116, sel_le]

theorem dvp11 (w : Vec Ideal S1x128x128 .f32) (x : Vec Ideal S128x256 .bf16) :
    k0_pay119 (F := Ideal) (k0_pay116 w) x = dvnT w x := by
  funext y; idx_vars y; pointwise [dvnT, triT, k0_pay119, k0_pay116, sel_le]

theorem dvp12 (w : Vec Ideal S1x128x128 .f32) (x : Vec Ideal S128x256 .bf16) :
    k0_pay121 (F := Ideal) w x = dvnT w x := by
  funext y; idx_vars y; pointwise [dvnT, triT, k0_pay121, k0_pay120, sel_le]

theorem dvp13 (w : Vec Ideal S1x128x128 .f32) (x : Vec Ideal S128x256 .bf16) :
    k0_pay122 (F := Ideal) w x = dvnT w x := by
  funext y; idx_vars y; pointwise [dvnT, triT, k0_pay122, k0_pay120, sel_le]

theorem dvp14 (w : Vec Ideal S1x128x128 .f32) (x : Vec Ideal S128x256 .bf16) :
    k0_pay127 (F := Ideal) (k0_pay123 w) k0_pay124 k0_pay125 x = dvnT w x := by
  funext y; idx_vars y; pointwise [dvnT, triT, k0_pay127, k0_pay126, k0_pay123, k0_pay124, k0_pay125, sel_le]

theorem dvp15 (w : Vec Ideal S1x128x128 .f32) (x : Vec Ideal S128x256 .bf16) :
    k0_pay128 (F := Ideal) (k0_pay123 w) k0_pay124 k0_pay125 x = dvnT w x := by
  funext y; idx_vars y; pointwise [dvnT, triT, k0_pay128, k0_pay126, k0_pay123, k0_pay124, k0_pay125, sel_le]

theorem wp0 (o : Vec Ideal S1x128x128 .f32) (a b : Vec Ideal S128x256 .bf16) :
    k0_pay76 (F := Ideal) o a b = accT o a b := by
  funext y; idx_vars y; obtain rfl := Fin.fin_one_eq_zero y0; pointwise [accT, k0_pay76]

theorem wp1 (o : Vec Ideal S1x128x128 .f32) (a b : Vec Ideal S128x256 .bf16) :
    k0_pay77 (F := Ideal) o a b = accT o a b := by
  funext y; idx_vars y; obtain rfl := Fin.fin_one_eq_zero y0; pointwise [accT, k0_pay77]

theorem wp2 (o : Vec Ideal S1x128x128 .f32) (a b : Vec Ideal S128x256 .bf16) :
    k0_pay80 (F := Ideal) (k0_pay78 o) (k0_pay79 a b) = accT o a b := by
  funext y; idx_vars y; obtain rfl := Fin.fin_one_eq_zero y0; pointwise [accT, k0_pay80, k0_pay78, k0_pay79]

theorem wp3 (o : Vec Ideal S1x128x128 .f32) (a b : Vec Ideal S128x256 .bf16) :
    k0_pay81 (F := Ideal) o a b = accT o a b := by
  funext y; idx_vars y; obtain rfl := Fin.fin_one_eq_zero y0; pointwise [accT, k0_pay81]

theorem wp4 (o : Vec Ideal S1x128x128 .f32) (a b : Vec Ideal S128x256 .bf16) :
    k0_pay82 (F := Ideal) o a b = accT o a b := by
  funext y; idx_vars y; obtain rfl := Fin.fin_one_eq_zero y0; pointwise [accT, k0_pay82]

theorem wp5 (o : Vec Ideal S1x128x128 .f32) (a b : Vec Ideal S128x256 .bf16) :
    k0_pay84 (F := Ideal) (k0_pay83 o) a b = accT o a b := by
  funext y; idx_vars y; obtain rfl := Fin.fin_one_eq_zero y0; pointwise [accT, k0_pay84, k0_pay83]

theorem wp6 (o : Vec Ideal S1x128x128 .f32) (a b : Vec Ideal S128x256 .bf16) :
    k0_pay85 (F := Ideal) o a b = accT o a b := by
  funext y; idx_vars y; obtain rfl := Fin.fin_one_eq_zero y0; pointwise [accT, k0_pay85]

theorem wp7 (o : Vec Ideal S1x128x128 .f32) (a b : Vec Ideal S128x256 .bf16) :
    k0_pay86 (F := Ideal) o a b = accT o a b := by
  funext y; idx_vars y; obtain rfl := Fin.fin_one_eq_zero y0; pointwise [accT, k0_pay86]

theorem wp8 (o : Vec Ideal S1x128x128 .f32) (a b : Vec Ideal S128x256 .bf16) :
    k0_pay89 (F := Ideal) o a b = accT o a b := by
  funext y; idx_vars y; obtain rfl := Fin.fin_one_eq_zero y0; pointwise [accT, k0_pay89]

theorem wp9 (o : Vec Ideal S1x128x128 .f32) (a b : Vec Ideal S128x256 .bf16) :
    k0_pay90 (F := Ideal) o a b = accT o a b := by
  funext y; idx_vars y; obtain rfl := Fin.fin_one_eq_zero y0; pointwise [accT, k0_pay90]

theorem wp10 (o : Vec Ideal S1x128x128 .f32) (a b : Vec Ideal S128x256 .bf16) :
    k0_pay92 (F := Ideal) (k0_pay91 o a b) = accT o a b := by
  funext y; idx_vars y; obtain rfl := Fin.fin_one_eq_zero y0; pointwise [accT, k0_pay92, k0_pay91]

theorem wp11 (o : Vec Ideal S1x128x128 .f32) (a b : Vec Ideal S128x256 .bf16) :
    k0_pay93 (F := Ideal) o a b = accT o a b := by
  funext y; idx_vars y; obtain rfl := Fin.fin_one_eq_zero y0; pointwise [accT, k0_pay93]

theorem wp12 (o : Vec Ideal S1x128x128 .f32) (a b : Vec Ideal S128x256 .bf16) :
    k0_pay94 (F := Ideal) o a b = accT o a b := by
  funext y; idx_vars y; obtain rfl := Fin.fin_one_eq_zero y0; pointwise [accT, k0_pay94]

theorem wp13 (o : Vec Ideal S1x128x128 .f32) (a b : Vec Ideal S128x256 .bf16) :
    k0_pay96 (F := Ideal) (k0_pay95 o) a b = accT o a b := by
  funext y; idx_vars y; obtain rfl := Fin.fin_one_eq_zero y0; pointwise [accT, k0_pay96, k0_pay95]

theorem wp14 (o : Vec Ideal S1x128x128 .f32) (a b : Vec Ideal S128x256 .bf16) :
    k0_pay97 (F := Ideal) o a b = accT o a b := by
  funext y; idx_vars y; obtain rfl := Fin.fin_one_eq_zero y0; pointwise [accT, k0_pay97]

theorem wp15 (o : Vec Ideal S1x128x128 .f32) (a b : Vec Ideal S128x256 .bf16) :
    k0_pay98 (F := Ideal) o a b = accT o a b := by
  funext y; idx_vars y; obtain rfl := Fin.fin_one_eq_zero y0; pointwise [accT, k0_pay98]

theorem tp0 (w : Vec Ideal S1x128x128 .f32) : k0_pay6 (F := Ideal) w = trilT w := by
  funext y; idx_vars y; obtain rfl := Fin.fin_one_eq_zero y0; pointwise [trilT, k0_pay6, sel_ge]

theorem tp1 (w : Vec Ideal S1x128x128 .f32) : k0_pay8 (F := Ideal) w = trilT w := by
  funext y; idx_vars y; obtain rfl := Fin.fin_one_eq_zero y0; pointwise [trilT, k0_pay8, sel_ge]

theorem tp2 (w : Vec Ideal S1x128x128 .f32) : k0_pay10 (F := Ideal) w = trilT w := by
  funext y; idx_vars y; obtain rfl := Fin.fin_one_eq_zero y0; pointwise [trilT, k0_pay10, sel_ge]

theorem tp3 (w : Vec Ideal S1x128x128 .f32) : k0_pay12 (F := Ideal) w = trilT w := by
  funext y; idx_vars y; obtain rfl := Fin.fin_one_eq_zero y0; pointwise [trilT, k0_pay12, sel_ge]

theorem tp4 (w : Vec Ideal S1x128x128 .f32) : k0_pay16 (F := Ideal) (k0_pay14 w) k0_pay15 = trilT w := by
  funext y; idx_vars y; obtain rfl := Fin.fin_one_eq_zero y0; pointwise [trilT, k0_pay16, k0_pay14, k0_pay15, sel_ge]

theorem tp5 (w : Vec Ideal S1x128x128 .f32) : k0_pay18 (F := Ideal) w = trilT w := by
  funext y; idx_vars y; obtain rfl := Fin.fin_one_eq_zero y0; pointwise [trilT, k0_pay18, sel_ge]

theorem tp6 (w : Vec Ideal S1x128x128 .f32) : k0_pay2 (F := Ideal) (k0_pay20 w) = trilT w := by
  funext y; idx_vars y; obtain rfl := Fin.fin_one_eq_zero y0; pointwise [trilT, k0_pay2, k0_pay20, sel_ge]

theorem tp7 (w : Vec Ideal S1x128x128 .f32) : k0_pay4 (F := Ideal) w = trilT w := by
  funext y; idx_vars y; obtain rfl := Fin.fin_one_eq_zero y0; pointwise [trilT, k0_pay4, sel_ge]

theorem sp0 (x : Vec Ideal S128x256 .f32) : k0_pay7 (F := Ideal) x = rowT x := by
  funext y; idx_vars y; obtain rfl := Fin.fin_one_eq_zero y1; pointwise [rowT, k0_pay7]

theorem sp1 (x : Vec Ideal S128x256 .f32) : k0_pay9 (F := Ideal) x = rowT x := by
  funext y; idx_vars y; obtain rfl := Fin.fin_one_eq_zero y1; pointwise [rowT, k0_pay9]

theorem sp2 (x : Vec Ideal S128x256 .f32) : k0_pay11 (F := Ideal) x = rowT x := by
  funext y; idx_vars y; obtain rfl := Fin.fin_one_eq_zero y1; pointwise [rowT, k0_pay11]

theorem sp3 (x : Vec Ideal S128x256 .f32) : k0_pay13 (F := Ideal) x = rowT x := by
  funext y; idx_vars y; obtain rfl := Fin.fin_one_eq_zero y1; pointwise [rowT, k0_pay13]

theorem sp4 (x : Vec Ideal S128x256 .f32) : k0_pay17 (F := Ideal) x = rowT x := by
  funext y; idx_vars y; obtain rfl := Fin.fin_one_eq_zero y1; pointwise [rowT, k0_pay17]

theorem sp5 (x : Vec Ideal S128x256 .f32) : k0_pay19 (F := Ideal) x = rowT x := by
  funext y; idx_vars y; obtain rfl := Fin.fin_one_eq_zero y1; pointwise [rowT, k0_pay19]

theorem sp6 (x : Vec Ideal S128x256 .f32) : k0_pay3 (F := Ideal) x = rowT x := by
  funext y; idx_vars y; obtain rfl := Fin.fin_one_eq_zero y1; pointwise [rowT, k0_pay3]

theorem sp7 (x : Vec Ideal S128x256 .f32) : k0_pay5 (F := Ideal) x = rowT x := by
  funext y; idx_vars y; obtain rfl := Fin.fin_one_eq_zero y1; pointwise [rowT, k0_pay5]

theorem pay21 (y : S8x128x128.Idx) : k0_pay21 (F := Ideal) y = 0 := by pointwise [k0_pay21]
theorem pay22 (y : S1x2048.Idx) : k0_pay22 (F := Ideal) y = 0 := by pointwise [k0_pay22]
theorem pay23 (y : S1x2048.Idx) : k0_pay23 (F := Ideal) y = 0 := by pointwise [k0_pay23]
theorem pay24 (y : S128x2048.Idx) : k0_pay24 (F := Ideal) y = 0 := by pointwise [k0_pay24]
theorem pay25 (v : Vec Ideal S1x2048 .f32) (y : S1x2048.Idx) : k0_pay25 (F := Ideal) v y = v y := by pointwise [k0_pay25]

theorem pay28 (x : Vec Ideal S1x256x2048 .f32) (r : Fin 256) (e : Fin 2048) : k0_pay28 (F := Ideal) x (ix2 r e) = gelu (x (ix3 0 r e)) := by
  pointwise [k0_pay28, k0_pay27, k0_pay26, gelu, cdf, named_a]
  rfl
theorem pay29 (x : Vec Ideal S1x256x2048 .f32) (r : Fin 256) (e : Fin 2048) : k0_pay29 (F := Ideal) x (ix2 r e) = dgelu (x (ix3 0 r e)) := by
  pointwise [k0_pay29, k0_pay27, k0_pay26, dgelu, cdf, pdf, named_a, named_b]
  rfl
theorem pay30 (x : Vec Ideal S1x256x2048 .f32) (r : Fin 256) (e : Fin 2048) : k0_pay30 (F := Ideal) x (ix2 r e) = x (ix3 0 r e) := by
  pointwise [k0_pay30]
theorem pay31 (x : Vec Ideal S1x256x2048 .f32) (r : Fin 256) (e : Fin 2048) : k0_pay31 (F := Ideal) x (ix2 r e) = cdf (x (ix3 0 r e)) := by
  pointwise [k0_pay31, k0_pay30, cdf, named_a]
  rfl
theorem pay32 (x : Vec Ideal S1x256x2048 .f32) (r : Fin 256) (e : Fin 2048) : k0_pay32 (F := Ideal) x (ix2 r e) = pdf (x (ix3 0 r e)) := by
  pointwise [k0_pay32, k0_pay30, pdf, named_b]
theorem pay33 (a b c : Vec Ideal S256x2048 .f32) (r : Fin 256) (e : Fin 2048) :
    k0_pay33 (F := Ideal) a b c (ix2 r e) = b (ix2 r e) + a (ix2 r e) * c (ix2 r e) := by
  pointwise [k0_pay33]
theorem pay34 (a b : Vec Ideal S256x2048 .f32) (r : Fin 256) (e : Fin 2048) :
    k0_pay34 (F := Ideal) a b (ix2 r e) = a (ix2 r e) * b (ix2 r e) - Ideal.div (∑ k : Fin 2048, a (ix2 r k) * b (ix2 r k)) len := by
  pointwise [k0_pay34]
theorem pay35 (a b : Vec Ideal S256x2048 .f32) (r : Fin 256) :
    k0_pay35 (F := Ideal) a b (ix2 r 0)
      = Ideal.rsqrt (Ideal.div (∑ k : Fin 2048, k0_pay34 (F := Ideal) a b (ix2 r k) * k0_pay34 (F := Ideal) a b (ix2 r k)) len + eps) := by
  pointwise [k0_pay35]
theorem pay36 (a b : Vec Ideal S256x2048 .f32) (r : Fin 256) (e : Fin 2048) :
    k0_pay36 (F := Ideal) a b (ix2 r e) = k0_pay34 (F := Ideal) a b (ix2 r e) * k0_pay35 (F := Ideal) a b (ix2 r 0) := by
  pointwise [k0_pay36]
theorem pay37 (g : Vec Ideal S1x2048 .f32) (a b : Vec Ideal S256x2048 .f32) (h : Vec Ideal S1x2048 .f32) (r : Fin 256) (e : Fin 2048) :
    k0_pay37 (F := Ideal) g a b h (ix2 r e) = k0_pay36 (F := Ideal) a b (ix2 r e) * g (ix2 0 e) + h (ix2 0 e) := by
  pointwise [k0_pay37]
theorem pay66 (a : Vec Ideal S256x1024 .bf16) (b : Vec Ideal S2048x1024 .bf16) (r : Fin 256) (e : Fin 2048) :
    k0_pay66 (F := Ideal) a b (ix2 r e) = ∑ d : Fin 1024, a (ix2 r d) * b (ix2 e d) := by
  pointwise [k0_pay66]
theorem pay69 (dy : Vec Ideal S256x2048 .f32) (z : Vec Ideal S1x256x2048 .f32) (r : Fin 256) (e : Fin 2048) :
    k0_pay69 (F := Ideal) dy z (ix2 r e) = dy (ix2 r e) * (z (ix3 0 r e) * sg (z (ix3 0 r e))) := by
  pointwise [k0_pay69, k0_pay68, k0_pay67, sg]
theorem pay70 (u mx dy : Vec Ideal S256x2048 .f32) (z : Vec Ideal S1x256x2048 .f32) (r : Fin 256) (e : Fin 2048) :
    k0_pay70 (F := Ideal) u mx dy z (ix3 0 r e)
      = dy (ix2 r e) * (u (ix2 r e) * mx (ix2 r e)) * (sg (z (ix3 0 r e)) * (1 + z (ix3 0 r e) * (1 - sg (z (ix3 0 r e))))) := by
  pointwise [k0_pay70, k0_pay68, k0_pay67, sg]
theorem pay71 (du mx dy : Vec Ideal S256x2048 .f32) (z : Vec Ideal S1x256x2048 .f32) (r : Fin 256) (e : Fin 2048) :
    k0_pay71 (F := Ideal) du mx dy z (ix3 0 r e) = k0_pay69 (F := Ideal) dy z (ix2 r e) * mx (ix2 r e) * du (ix2 r e) := by
  pointwise [k0_pay71]
theorem pay72 (u dy : Vec Ideal S256x2048 .f32) (z : Vec Ideal S1x256x2048 .f32) (r : Fin 256) (e : Fin 2048) :
    k0_pay72 (F := Ideal) u dy z (ix2 r e) = k0_pay69 (F := Ideal) dy z (ix2 r e) * u (ix2 r e) := by
  pointwise [k0_pay72]
theorem pay73 (u dy : Vec Ideal S256x2048 .f32) (z : Vec Ideal S1x256x2048 .f32) (r : Fin 256) (e : Fin 2048) :
    k0_pay73 (F := Ideal) u dy z (ix2 r e) = k0_pay72 (F := Ideal) u dy z (ix2 r e) := by
  pointwise [k0_pay73]
theorem pay75 (u dy : Vec Ideal S256x2048 .f32) (z : Vec Ideal S1x256x2048 .f32) (o : Vec Ideal S128x2048 .f32) (i : Fin 128) (e : Fin 2048) :
    k0_pay75 (F := Ideal) (k0_pay74 u dy z o) (ix2 i e) = o (ix2 i e) + k0_pay72 (F := Ideal) u dy z (ix2 ⟨i.val, by omega⟩ e) := by
  pointwise [k0_pay75, k0_pay74]
theorem pay88 (d : Vec Ideal S256x2048 .f32) (o : Vec Ideal S128x2048 .f32) (i : Fin 128) (e : Fin 2048) :
    k0_pay88 (F := Ideal) (k0_pay87 d o) (ix2 i e) = o (ix2 i e) + d (ix2 ⟨128 + i.val, by omega⟩ e) := by
  pointwise [k0_pay88, k0_pay87]
theorem pay129 (vh dvn : Vec Ideal S256x2048 .f32) (o : Vec Ideal S1x2048 .f32) (e : Fin 2048) :
    k0_pay129 (F := Ideal) vh dvn o (ix2 0 e) = o (ix2 0 e) + ∑ r : Fin 256, dvn (ix2 r e) * vh (ix2 r e) := by
  pointwise [k0_pay129]
theorem pay130 (dvn : Vec Ideal S256x2048 .f32) (o : Vec Ideal S1x2048 .f32) (e : Fin 2048) :
    k0_pay130 (F := Ideal) dvn o (ix2 0 e) = o (ix2 0 e) + ∑ r : Fin 256, dvn (ix2 r e) := by
  pointwise [k0_pay130]
theorem pay131 (g : Vec Ideal S1x2048 .f32) (dvn : Vec Ideal S256x2048 .f32) (r : Fin 256) (e : Fin 2048) :
    k0_pay131 (F := Ideal) g dvn (ix2 r e) = dvn (ix2 r e) * g (ix2 0 e) := by
  pointwise [k0_pay131]
theorem pay132 (g : Vec Ideal S1x2048 .f32) (dvn : Vec Ideal S256x2048 .f32) (r : Fin 256) :
    k0_pay132 (F := Ideal) g dvn (ix2 r 0) = Ideal.div (∑ k : Fin 2048, k0_pay131 (F := Ideal) g dvn (ix2 r k)) len := by
  pointwise [k0_pay132]
theorem pay1 (dg : Vec Ideal S256x2048 .f32) (rs : Vec Ideal S256x1 .f32) (vh dvh : Vec Ideal S256x2048 .f32) (mn : Vec Ideal S256x1 .f32)
    (r : Fin 256) (e : Fin 2048) :
    k0_pay1 (F := Ideal) dg rs vh dvh mn (ix3 0 r e)
      = rs (ix2 r 0) * (dvh (ix2 r e) - mn (ix2 r 0) - vh (ix2 r e) * Ideal.div (∑ k : Fin 2048, dvh (ix2 r k) * vh (ix2 r k)) len)
          * dg (ix2 r e) := by
  pointwise [k0_pay1]

end Cert.Kernel7Ideal.Gm
-- ==== Proof.GmRead.lean ====
/- The blocks the gated mixer's backward kernel stores piece by piece, read back whole. -/
module

public import proofs.«01_k».proof.Proof.GmPay
public import Idealize.ShloMosaic.Lib.Pipeline.ValueKit.Point
public import Idealize.ShloMosaic.Lib.Pipeline.ValueKit.Acc
public import Idealize.ShloMosaic.Lib.Pipeline.ReadBack
public import Idealize.ShloMosaic.Lib.Ring

@[expose] public section

set_option maxRecDepth 16384

noncomputable section

namespace Cert.Kernel7Ideal.Gm

open Idealize.ShloMosaic Idealize.ShloMosaic.TcCoe Idealize.ShloMosaic.Tactic
open Cert.Kernel7Ideal Cert.Kernel7Ideal.Gen

/-- A block of mixed rows, of gradients at the normed rows, the accumulated weight gradient, its lower triangle, and the row
    sums, each over the whole block. -/
def mixE (ws : Vec Ideal S8x128x128 .f32) (vn : Vec Ideal S256x2048 .bf16) (bt : Vec Ideal S128x8 .f32) (r : Fin 256) (e : Fin 2048) : EReal :=
  ∑ j : Fin 128, (if j.val ≤ r.val % 128 then ws (ix3 ⟨e.val / 256, by omega⟩ ⟨r.val % 128, by omega⟩ j) else 0)
    * vn (ix2 ⟨128 * (r.val / 128) + j.val, by omega⟩ e) + bt (ix2 ⟨r.val % 128, by omega⟩ ⟨e.val / 256, by omega⟩)
def mixV (ws : Vec Ideal S8x128x128 .f32) (vn : Vec Ideal S256x2048 .bf16) (bt : Vec Ideal S128x8 .f32) : Vec Ideal S256x2048 .f32 :=
  fun y => mixE ws vn bt (y 0) (y 1)
def dvnE (wt : Vec Ideal S8x128x128 .f32) (dm : Vec Ideal S256x2048 .bf16) (r : Fin 256) (e : Fin 2048) : EReal :=
  ∑ i : Fin 128, (if r.val % 128 ≤ i.val then wt (ix3 ⟨e.val / 256, by omega⟩ ⟨r.val % 128, by omega⟩ i) else 0)
    * dm (ix2 ⟨128 * (r.val / 128) + i.val, by omega⟩ e)
def dvnV (wt : Vec Ideal S8x128x128 .f32) (dm : Vec Ideal S256x2048 .bf16) : Vec Ideal S256x2048 .f32 := fun y => dvnE wt dm (y 0) (y 1)
def dwsE (o : Vec Ideal S8x128x128 .f32) (dm vn : Vec Ideal S256x2048 .bf16) (g : Fin 8) (i j : Fin 128) : EReal :=
  o (ix3 g i j)
    + ∑ c : Fin 256, dm (ix2 ⟨i.val, by omega⟩ ⟨256 * g.val + c.val, by omega⟩) * vn (ix2 ⟨j.val, by omega⟩ ⟨256 * g.val + c.val, by omega⟩)
    + ∑ c : Fin 256, dm (ix2 ⟨128 + i.val, by omega⟩ ⟨256 * g.val + c.val, by omega⟩) * vn (ix2 ⟨128 + j.val, by omega⟩ ⟨256 * g.val + c.val, by omega⟩)
def dwsV (o : Vec Ideal S8x128x128 .f32) (dm vn : Vec Ideal S256x2048 .bf16) : Vec Ideal S8x128x128 .f32 := fun y => dwsE o dm vn (y 0) (y 1) (y 2)
def trilV (o : Vec Ideal S8x128x128 .f32) (dm vn : Vec Ideal S256x2048 .bf16) : Vec Ideal S8x128x128 .f32 :=
  fun y => if (y 2).val ≤ (y 1).val then dwsE o dm vn (y 0) (y 1) (y 2) else 0
def dbsE (M : Vec Ideal S128x2048 .f32) (i : Fin 128) (g : Fin 8) : EReal := ∑ c : Fin 256, M (ix2 i ⟨256 * g.val + c.val, by omega⟩)
def dbsV (M : Vec Ideal S128x2048 .f32) : Vec Ideal S128x8 .f32 := fun y => dbsE M (y 0) (y 1)

theorem emb2 {a b p q : ℕ} (off : Fin 2 → ℕ) (inb : ∀ k, off k + (![a, b] : Fin 2 → ℕ) k ≤ (⟨2, ![p, q]⟩ : Shape).size k) (i : Fin a) (c : Fin b)
    (r : Fin p) (e : Fin q) (hr : r.val = off 0 + i.val) (he : e.val = off 1 + c.val) :
    (Rect.unit (s := ⟨2, ![p, q]⟩) off ![a, b] inb).emb (ix2 i c) = ix2 r e := by
  refine funext fun k => Fin.ext ?_
  refine (Rect.idx_unit_val off ![a, b] inb (ix2 i c) k).trans ?_
  revert k
  exact Fin.forall_fin_two.mpr ⟨hr.symm, he.symm⟩

theorem emb3 {a b c p q s : ℕ} (off : Fin 3 → ℕ) (inb : ∀ k, off k + (![a, b, c] : Fin 3 → ℕ) k ≤ (⟨3, ![p, q, s]⟩ : Shape).size k)
    (i : Fin a) (j : Fin b) (k : Fin c) (i' : Fin p) (j' : Fin q) (k' : Fin s) (h0 : i'.val = off 0 + i.val) (h1 : j'.val = off 1 + j.val)
    (h2 : k'.val = off 2 + k.val) :
    (Rect.unit (s := ⟨3, ![p, q, s]⟩) off ![a, b, c] inb).emb (ix3 i j k) = ix3 i' j' k' := by
  refine funext fun l => Fin.ext ?_
  refine (Rect.idx_unit_val off ![a, b, c] inb (ix3 i j k) l).trans ?_
  revert l
  exact Fin.forall_fin_succ.mpr ⟨h0.symm, Fin.forall_fin_two.mpr ⟨h1.symm, h2.symm⟩⟩

theorem mix_piece (ws : Vec Ideal S8x128x128 .f32) (vn : Vec Ideal S256x2048 .bf16) (bt : Vec Ideal S128x8 .f32) (g n : ℕ) (hg : g < 8) (hn : n < 2)
    (i1 : ∀ a, (![g, 0, 0] : Fin 3 → ℕ) a + (![1, 128, 128] : Fin 3 → ℕ) a ≤ S8x128x128.size a)
    (i2 : ∀ a, (![128 * n, 256 * g] : Fin 2 → ℕ) a + (![128, 256] : Fin 2 → ℕ) a ≤ S256x2048.size a)
    (i3 : ∀ a, (![0, g] : Fin 2 → ℕ) a + (![128, 1] : Fin 2 → ℕ) a ≤ S128x8.size a) (x : S128x256.Idx) :
    mixT (View.ld ws (Rect.unit ![g, 0, 0] ![1, 128, 128] i1)) (View.ld vn (Rect.unit ![128 * n, 256 * g] ![128, 256] i2))
      (View.ld bt (Rect.unit ![0, g] ![128, 1] i3)) x
      = mixV ws vn bt ((Rect.unit (s := S256x2048) ![128 * n, 256 * g] ![128, 256] i2).emb x) := by
  idx_vars x
  rw [emb2 ![128 * n, 256 * g] i2 x0 x1 ⟨128 * n + x0.val, by omega⟩ ⟨256 * g + x1.val, by omega⟩ rfl rfl]
  pointwise [mixT, tri, View.ld_apply]
  have e1 : (128 * n + x0.val) % 128 = x0.val := by omega
  have e2 : (128 * n + x0.val) / 128 = n := by omega
  have e3 : (256 * g + x1.val) / 256 = g := by omega
  simp only [mixV, mixE, ix2_0, ix2_1, e1, e2, e3, Fin.eta]

theorem dvn_piece (wt : Vec Ideal S8x128x128 .f32) (dm : Vec Ideal S256x2048 .bf16) (g n : ℕ) (hg : g < 8) (hn : n < 2)
    (i1 : ∀ a, (![g, 0, 0] : Fin 3 → ℕ) a + (![1, 128, 128] : Fin 3 → ℕ) a ≤ S8x128x128.size a)
    (i2 : ∀ a, (![128 * n, 256 * g] : Fin 2 → ℕ) a + (![128, 256] : Fin 2 → ℕ) a ≤ S256x2048.size a) (x : S128x256.Idx) :
    dvnT (View.ld wt (Rect.unit ![g, 0, 0] ![1, 128, 128] i1)) (View.ld dm (Rect.unit ![128 * n, 256 * g] ![128, 256] i2)) x
      = dvnV wt dm ((Rect.unit (s := S256x2048) ![128 * n, 256 * g] ![128, 256] i2).emb x) := by
  idx_vars x
  rw [emb2 ![128 * n, 256 * g] i2 x0 x1 ⟨128 * n + x0.val, by omega⟩ ⟨256 * g + x1.val, by omega⟩ rfl rfl]
  pointwise [dvnT, triT, View.ld_apply]
  have e1 : (128 * n + x0.val) % 128 = x0.val := by omega
  have e2 : (128 * n + x0.val) / 128 = n := by omega
  have e3 : (256 * g + x1.val) / 256 = g := by omega
  simp only [dvnV, dvnE, ix2_0, ix2_1, e1, e2, e3, Fin.eta]

theorem acc_at (o : Vec Ideal S8x128x128 .f32) (dm vn : Vec Ideal S256x2048 .bf16) (g : ℕ) (hg : g < 8)
    (i1 : ∀ a, (![g, 0, 0] : Fin 3 → ℕ) a + (![1, 128, 128] : Fin 3 → ℕ) a ≤ S8x128x128.size a)
    (i2 : ∀ a, (![0, 256 * g] : Fin 2 → ℕ) a + (![128, 256] : Fin 2 → ℕ) a ≤ S256x2048.size a)
    (i3 : ∀ a, (![128, 256 * g] : Fin 2 → ℕ) a + (![128, 256] : Fin 2 → ℕ) a ≤ S256x2048.size a) (i j : Fin 128) :
    accT (accT (View.ld o (Rect.unit ![g, 0, 0] ![1, 128, 128] i1)) (View.ld dm (Rect.unit ![0, 256 * g] ![128, 256] i2))
      (View.ld vn (Rect.unit ![0, 256 * g] ![128, 256] i2))) (View.ld dm (Rect.unit ![128, 256 * g] ![128, 256] i3))
      (View.ld vn (Rect.unit ![128, 256 * g] ![128, 256] i3)) (ix3 0 i j)
      = dwsE o dm vn ⟨g, hg⟩ i j := by
  pointwise [accT, View.ld_apply, dwsE]

theorem acc_piece (o : Vec Ideal S8x128x128 .f32) (dm vn : Vec Ideal S256x2048 .bf16) (g : ℕ) (hg : g < 8)
    (i1 : ∀ a, (![g, 0, 0] : Fin 3 → ℕ) a + (![1, 128, 128] : Fin 3 → ℕ) a ≤ S8x128x128.size a)
    (i2 : ∀ a, (![0, 256 * g] : Fin 2 → ℕ) a + (![128, 256] : Fin 2 → ℕ) a ≤ S256x2048.size a)
    (i3 : ∀ a, (![128, 256 * g] : Fin 2 → ℕ) a + (![128, 256] : Fin 2 → ℕ) a ≤ S256x2048.size a) (x : S1x128x128.Idx) :
    accT (accT (View.ld o (Rect.unit ![g, 0, 0] ![1, 128, 128] i1)) (View.ld dm (Rect.unit ![0, 256 * g] ![128, 256] i2))
      (View.ld vn (Rect.unit ![0, 256 * g] ![128, 256] i2))) (View.ld dm (Rect.unit ![128, 256 * g] ![128, 256] i3))
      (View.ld vn (Rect.unit ![128, 256 * g] ![128, 256] i3)) x
      = dwsV o dm vn ((Rect.unit (s := S8x128x128) ![g, 0, 0] ![1, 128, 128] i1).emb x) := by
  idx_vars x
  obtain rfl := Fin.fin_one_eq_zero x0
  rw [emb3 ![g, 0, 0] i1 0 x1 x2 ⟨g, hg⟩ x1 x2 rfl (Nat.zero_add _).symm (Nat.zero_add _).symm, acc_at o dm vn g hg i1 i2 i3 x1 x2]
  rfl

theorem tril_piece (o : Vec Ideal S8x128x128 .f32) (dm vn : Vec Ideal S256x2048 .bf16) (g : ℕ) (hg : g < 8)
    (i1 : ∀ a, (![g, 0, 0] : Fin 3 → ℕ) a + (![1, 128, 128] : Fin 3 → ℕ) a ≤ S8x128x128.size a)
    (i2 : ∀ a, (![0, 256 * g] : Fin 2 → ℕ) a + (![128, 256] : Fin 2 → ℕ) a ≤ S256x2048.size a)
    (i3 : ∀ a, (![128, 256 * g] : Fin 2 → ℕ) a + (![128, 256] : Fin 2 → ℕ) a ≤ S256x2048.size a) (x : S1x128x128.Idx) :
    trilT (accT (accT (View.ld o (Rect.unit ![g, 0, 0] ![1, 128, 128] i1)) (View.ld dm (Rect.unit ![0, 256 * g] ![128, 256] i2))
      (View.ld vn (Rect.unit ![0, 256 * g] ![128, 256] i2))) (View.ld dm (Rect.unit ![128, 256 * g] ![128, 256] i3))
      (View.ld vn (Rect.unit ![128, 256 * g] ![128, 256] i3))) x
      = trilV o dm vn ((Rect.unit (s := S8x128x128) ![g, 0, 0] ![1, 128, 128] i1).emb x) := by
  idx_vars x
  obtain rfl := Fin.fin_one_eq_zero x0
  rw [emb3 ![g, 0, 0] i1 0 x1 x2 ⟨g, hg⟩ x1 x2 rfl (Nat.zero_add _).symm (Nat.zero_add _).symm, trilT, acc_at o dm vn g hg i1 i2 i3 x1 x2]
  rfl

theorem row_piece (M : Vec Ideal S128x2048 .f32) (g : ℕ) (hg : g < 8)
    (i1 : ∀ a, (![0, 256 * g] : Fin 2 → ℕ) a + (![128, 256] : Fin 2 → ℕ) a ≤ S128x2048.size a)
    (i2 : ∀ a, (![0, g] : Fin 2 → ℕ) a + (![128, 1] : Fin 2 → ℕ) a ≤ S128x8.size a) (x : S128x1.Idx) :
    rowT (View.ld M (Rect.unit ![0, 256 * g] ![128, 256] i1)) x = dbsV M ((Rect.unit (s := S128x8) ![0, g] ![128, 1] i2).emb x) := by
  idx_vars x
  obtain rfl := Fin.fin_one_eq_zero x1
  rw [emb2 ![0, g] i2 x0 0 x0 ⟨g, hg⟩ (Nat.zero_add _).symm rfl]
  pointwise [rowT, View.ld_apply, dbsV, dbsE]

theorem whole_idx (y : S256x2048.Idx) (inb : ∀ k, (![0, 0] : Fin 2 → ℕ) k + (![256, 2048] : Fin 2 → ℕ) k ≤ S256x2048.size k) :
    (Rect.unit (s := S256x2048) ![0, 0] ![256, 2048] inb).toLoadRect.idx y = y := by
  idx_vars y
  exact emb2 ![0, 0] inb y0 y1 y0 y1 (Nat.zero_add _).symm (Nat.zero_add _).symm

theorem mix_read (ws : Vec Ideal S8x128x128 .f32) (vn : Vec Ideal S256x2048 .bf16) (bt : Vec Ideal S128x8 .f32) :
    (View.whole cc0_scratch1).readCov (Val := Elt Ideal) [⟨Rect.unit ![128, 1792] ![128, 256] inb_S256x2048_S128x256_128_1792, mixT (View.ld ws (Rect.unit ![7, 0, 0] ![1, 128, 128] inb_S8x128x128_S1x128x128_7_0_0)) (View.ld vn (Rect.unit ![128, 1792] ![128, 256] inb_S256x2048_S128x256_128_1792)) (View.ld bt (Rect.unit ![0, 7] ![128, 1] inb_S128x8_S128x1_0_7))⟩,
    ⟨Rect.unit ![0, 1792] ![128, 256] inb_S256x2048_S128x256_0_1792, mixT (View.ld ws (Rect.unit ![7, 0, 0] ![1, 128, 128] inb_S8x128x128_S1x128x128_7_0_0)) (View.ld vn (Rect.unit ![0, 1792] ![128, 256] inb_S256x2048_S128x256_0_1792)) (View.ld bt (Rect.unit ![0, 7] ![128, 1] inb_S128x8_S128x1_0_7))⟩,
    ⟨Rect.unit ![128, 1536] ![128, 256] inb_S256x2048_S128x256_128_1536, mixT (View.ld ws (Rect.unit ![6, 0, 0] ![1, 128, 128] inb_S8x128x128_S1x128x128_6_0_0)) (View.ld vn (Rect.unit ![128, 1536] ![128, 256] inb_S256x2048_S128x256_128_1536)) (View.ld bt (Rect.unit ![0, 6] ![128, 1] inb_S128x8_S128x1_0_6))⟩,
    ⟨Rect.unit ![0, 1536] ![128, 256] inb_S256x2048_S128x256_0_1536, mixT (View.ld ws (Rect.unit ![6, 0, 0] ![1, 128, 128] inb_S8x128x128_S1x128x128_6_0_0)) (View.ld vn (Rect.unit ![0, 1536] ![128, 256] inb_S256x2048_S128x256_0_1536)) (View.ld bt (Rect.unit ![0, 6] ![128, 1] inb_S128x8_S128x1_0_6))⟩,
    ⟨Rect.unit ![128, 1280] ![128, 256] inb_S256x2048_S128x256_128_1280, mixT (View.ld ws (Rect.unit ![5, 0, 0] ![1, 128, 128] inb_S8x128x128_S1x128x128_5_0_0)) (View.ld vn (Rect.unit ![128, 1280] ![128, 256] inb_S256x2048_S128x256_128_1280)) (View.ld bt (Rect.unit ![0, 5] ![128, 1] inb_S128x8_S128x1_0_5))⟩,
    ⟨Rect.unit ![0, 1280] ![128, 256] inb_S256x2048_S128x256_0_1280, mixT (View.ld ws (Rect.unit ![5, 0, 0] ![1, 128, 128] inb_S8x128x128_S1x128x128_5_0_0)) (View.ld vn (Rect.unit ![0, 1280] ![128, 256] inb_S256x2048_S128x256_0_1280)) (View.ld bt (Rect.unit ![0, 5] ![128, 1] inb_S128x8_S128x1_0_5))⟩,
    ⟨Rect.unit ![128, 1024] ![128, 256] inb_S256x2048_S128x256_128_1024, mixT (View.ld ws (Rect.unit ![4, 0, 0] ![1, 128, 128] inb_S8x128x128_S1x128x128_4_0_0)) (View.ld vn (Rect.unit ![128, 1024] ![128, 256] inb_S256x2048_S128x256_128_1024)) (View.ld bt (Rect.unit ![0, 4] ![128, 1] inb_S128x8_S128x1_0_4))⟩,
    ⟨Rect.unit ![0, 1024] ![128, 256] inb_S256x2048_S128x256_0_1024, mixT (View.ld ws (Rect.unit ![4, 0, 0] ![1, 128, 128] inb_S8x128x128_S1x128x128_4_0_0)) (View.ld vn (Rect.unit ![0, 1024] ![128, 256] inb_S256x2048_S128x256_0_1024)) (View.ld bt (Rect.unit ![0, 4] ![128, 1] inb_S128x8_S128x1_0_4))⟩,
    ⟨Rect.unit ![128, 768] ![128, 256] inb_S256x2048_S128x256_128_768, mixT (View.ld ws (Rect.unit ![3, 0, 0] ![1, 128, 128] inb_S8x128x128_S1x128x128_3_0_0)) (View.ld vn (Rect.unit ![128, 768] ![128, 256] inb_S256x2048_S128x256_128_768)) (View.ld bt (Rect.unit ![0, 3] ![128, 1] inb_S128x8_S128x1_0_3))⟩,
    ⟨Rect.unit ![0, 768] ![128, 256] inb_S256x2048_S128x256_0_768, mixT (View.ld ws (Rect.unit ![3, 0, 0] ![1, 128, 128] inb_S8x128x128_S1x128x128_3_0_0)) (View.ld vn (Rect.unit ![0, 768] ![128, 256] inb_S256x2048_S128x256_0_768)) (View.ld bt (Rect.unit ![0, 3] ![128, 1] inb_S128x8_S128x1_0_3))⟩,
    ⟨Rect.unit ![128, 512] ![128, 256] inb_S256x2048_S128x256_128_512, mixT (View.ld ws (Rect.unit ![2, 0, 0] ![1, 128, 128] inb_S8x128x128_S1x128x128_2_0_0)) (View.ld vn (Rect.unit ![128, 512] ![128, 256] inb_S256x2048_S128x256_128_512)) (View.ld bt (Rect.unit ![0, 2] ![128, 1] inb_S128x8_S128x1_0_2))⟩,
    ⟨Rect.unit ![0, 512] ![128, 256] inb_S256x2048_S128x256_0_512, mixT (View.ld ws (Rect.unit ![2, 0, 0] ![1, 128, 128] inb_S8x128x128_S1x128x128_2_0_0)) (View.ld vn (Rect.unit ![0, 512] ![128, 256] inb_S256x2048_S128x256_0_512)) (View.ld bt (Rect.unit ![0, 2] ![128, 1] inb_S128x8_S128x1_0_2))⟩,
    ⟨Rect.unit ![128, 256] ![128, 256] inb_S256x2048_S128x256_128_256, mixT (View.ld ws (Rect.unit ![1, 0, 0] ![1, 128, 128] inb_S8x128x128_S1x128x128_1_0_0)) (View.ld vn (Rect.unit ![128, 256] ![128, 256] inb_S256x2048_S128x256_128_256)) (View.ld bt (Rect.unit ![0, 1] ![128, 1] inb_S128x8_S128x1_0_1))⟩,
    ⟨Rect.unit ![0, 256] ![128, 256] inb_S256x2048_S128x256_0_256, mixT (View.ld ws (Rect.unit ![1, 0, 0] ![1, 128, 128] inb_S8x128x128_S1x128x128_1_0_0)) (View.ld vn (Rect.unit ![0, 256] ![128, 256] inb_S256x2048_S128x256_0_256)) (View.ld bt (Rect.unit ![0, 1] ![128, 1] inb_S128x8_S128x1_0_1))⟩,
    ⟨Rect.unit ![128, 0] ![128, 256] inb_S256x2048_S128x256_128_0, mixT (View.ld ws (Rect.unit ![0, 0, 0] ![1, 128, 128] inb_S8x128x128_S1x128x128_0_0_0)) (View.ld vn (Rect.unit ![128, 0] ![128, 256] inb_S256x2048_S128x256_128_0)) (View.ld bt (Rect.unit ![0, 0] ![128, 1] inb_S128x8_S128x1_0_0))⟩,
    ⟨Rect.unit ![0, 0] ![128, 256] inb_S256x2048_S128x256_0_0, mixT (View.ld ws (Rect.unit ![0, 0, 0] ![1, 128, 128] inb_S8x128x128_S1x128x128_0_0_0)) (View.ld vn (Rect.unit ![0, 0] ![128, 256] inb_S256x2048_S128x256_0_0)) (View.ld bt (Rect.unit ![0, 0] ![128, 1] inb_S128x8_S128x1_0_0))⟩] (Rect.unit ![0, 0] ![256, 2048] inb_S256x2048_S256x2048_0_0).toLoadRect = mixV ws vn bt := by
  rw [View.readCov_eq_canon']
  funext y
  rw [whole_idx y]
  exact View.canon_append_of_piecesOf (mixV ws vn bt) [] [_, _, _, _, _, _, _, _, _, _, _, _, _, _, _, _] ⟨mix_piece ws vn bt 7 1 (by decide) (by decide) _ _ _, mix_piece ws vn bt 7 0 (by decide) (by decide) _ _ _, mix_piece ws vn bt 6 1 (by decide) (by decide) _ _ _, mix_piece ws vn bt 6 0 (by decide) (by decide) _ _ _, mix_piece ws vn bt 5 1 (by decide) (by decide) _ _ _, mix_piece ws vn bt 5 0 (by decide) (by decide) _ _ _, mix_piece ws vn bt 4 1 (by decide) (by decide) _ _ _, mix_piece ws vn bt 4 0 (by decide) (by decide) _ _ _, mix_piece ws vn bt 3 1 (by decide) (by decide) _ _ _, mix_piece ws vn bt 3 0 (by decide) (by decide) _ _ _, mix_piece ws vn bt 2 1 (by decide) (by decide) _ _ _, mix_piece ws vn bt 2 0 (by decide) (by decide) _ _ _, mix_piece ws vn bt 1 1 (by decide) (by decide) _ _ _, mix_piece ws vn bt 1 0 (by decide) (by decide) _ _ _, mix_piece ws vn bt 0 1 (by decide) (by decide) _ _ _, mix_piece ws vn bt 0 0 (by decide) (by decide) _ _ _, trivial⟩ y
    (View.cover_of_tiledL _ ![128, 256] (by rfl) y)

theorem dvn_read (wt : Vec Ideal S8x128x128 .f32) (dm : Vec Ideal S256x2048 .bf16) :
    (View.whole cc0_scratch3).readCov (Val := Elt Ideal) [⟨Rect.unit ![128, 1792] ![128, 256] inb_S256x2048_S128x256_128_1792, dvnT (View.ld wt (Rect.unit ![7, 0, 0] ![1, 128, 128] inb_S8x128x128_S1x128x128_7_0_0)) (View.ld dm (Rect.unit ![128, 1792] ![128, 256] inb_S256x2048_S128x256_128_1792))⟩,
    ⟨Rect.unit ![0, 1792] ![128, 256] inb_S256x2048_S128x256_0_1792, dvnT (View.ld wt (Rect.unit ![7, 0, 0] ![1, 128, 128] inb_S8x128x128_S1x128x128_7_0_0)) (View.ld dm (Rect.unit ![0, 1792] ![128, 256] inb_S256x2048_S128x256_0_1792))⟩,
    ⟨Rect.unit ![128, 1536] ![128, 256] inb_S256x2048_S128x256_128_1536, dvnT (View.ld wt (Rect.unit ![6, 0, 0] ![1, 128, 128] inb_S8x128x128_S1x128x128_6_0_0)) (View.ld dm (Rect.unit ![128, 1536] ![128, 256] inb_S256x2048_S128x256_128_1536))⟩,
    ⟨Rect.unit ![0, 1536] ![128, 256] inb_S256x2048_S128x256_0_1536, dvnT (View.ld wt (Rect.unit ![6, 0, 0] ![1, 128, 128] inb_S8x128x128_S1x128x128_6_0_0)) (View.ld dm (Rect.unit ![0, 1536] ![128, 256] inb_S256x2048_S128x256_0_1536))⟩,
    ⟨Rect.unit ![128, 1280] ![128, 256] inb_S256x2048_S128x256_128_1280, dvnT (View.ld wt (Rect.unit ![5, 0, 0] ![1, 128, 128] inb_S8x128x128_S1x128x128_5_0_0)) (View.ld dm (Rect.unit ![128, 1280] ![128, 256] inb_S256x2048_S128x256_128_1280))⟩,
    ⟨Rect.unit ![0, 1280] ![128, 256] inb_S256x2048_S128x256_0_1280, dvnT (View.ld wt (Rect.unit ![5, 0, 0] ![1, 128, 128] inb_S8x128x128_S1x128x128_5_0_0)) (View.ld dm (Rect.unit ![0, 1280] ![128, 256] inb_S256x2048_S128x256_0_1280))⟩,
    ⟨Rect.unit ![128, 1024] ![128, 256] inb_S256x2048_S128x256_128_1024, dvnT (View.ld wt (Rect.unit ![4, 0, 0] ![1, 128, 128] inb_S8x128x128_S1x128x128_4_0_0)) (View.ld dm (Rect.unit ![128, 1024] ![128, 256] inb_S256x2048_S128x256_128_1024))⟩,
    ⟨Rect.unit ![0, 1024] ![128, 256] inb_S256x2048_S128x256_0_1024, dvnT (View.ld wt (Rect.unit ![4, 0, 0] ![1, 128, 128] inb_S8x128x128_S1x128x128_4_0_0)) (View.ld dm (Rect.unit ![0, 1024] ![128, 256] inb_S256x2048_S128x256_0_1024))⟩,
    ⟨Rect.unit ![128, 768] ![128, 256] inb_S256x2048_S128x256_128_768, dvnT (View.ld wt (Rect.unit ![3, 0, 0] ![1, 128, 128] inb_S8x128x128_S1x128x128_3_0_0)) (View.ld dm (Rect.unit ![128, 768] ![128, 256] inb_S256x2048_S128x256_128_768))⟩,
    ⟨Rect.unit ![0, 768] ![128, 256] inb_S256x2048_S128x256_0_768, dvnT (View.ld wt (Rect.unit ![3, 0, 0] ![1, 128, 128] inb_S8x128x128_S1x128x128_3_0_0)) (View.ld dm (Rect.unit ![0, 768] ![128, 256] inb_S256x2048_S128x256_0_768))⟩,
    ⟨Rect.unit ![128, 512] ![128, 256] inb_S256x2048_S128x256_128_512, dvnT (View.ld wt (Rect.unit ![2, 0, 0] ![1, 128, 128] inb_S8x128x128_S1x128x128_2_0_0)) (View.ld dm (Rect.unit ![128, 512] ![128, 256] inb_S256x2048_S128x256_128_512))⟩,
    ⟨Rect.unit ![0, 512] ![128, 256] inb_S256x2048_S128x256_0_512, dvnT (View.ld wt (Rect.unit ![2, 0, 0] ![1, 128, 128] inb_S8x128x128_S1x128x128_2_0_0)) (View.ld dm (Rect.unit ![0, 512] ![128, 256] inb_S256x2048_S128x256_0_512))⟩,
    ⟨Rect.unit ![128, 256] ![128, 256] inb_S256x2048_S128x256_128_256, dvnT (View.ld wt (Rect.unit ![1, 0, 0] ![1, 128, 128] inb_S8x128x128_S1x128x128_1_0_0)) (View.ld dm (Rect.unit ![128, 256] ![128, 256] inb_S256x2048_S128x256_128_256))⟩,
    ⟨Rect.unit ![0, 256] ![128, 256] inb_S256x2048_S128x256_0_256, dvnT (View.ld wt (Rect.unit ![1, 0, 0] ![1, 128, 128] inb_S8x128x128_S1x128x128_1_0_0)) (View.ld dm (Rect.unit ![0, 256] ![128, 256] inb_S256x2048_S128x256_0_256))⟩,
    ⟨Rect.unit ![128, 0] ![128, 256] inb_S256x2048_S128x256_128_0, dvnT (View.ld wt (Rect.unit ![0, 0, 0] ![1, 128, 128] inb_S8x128x128_S1x128x128_0_0_0)) (View.ld dm (Rect.unit ![128, 0] ![128, 256] inb_S256x2048_S128x256_128_0))⟩,
    ⟨Rect.unit ![0, 0] ![128, 256] inb_S256x2048_S128x256_0_0, dvnT (View.ld wt (Rect.unit ![0, 0, 0] ![1, 128, 128] inb_S8x128x128_S1x128x128_0_0_0)) (View.ld dm (Rect.unit ![0, 0] ![128, 256] inb_S256x2048_S128x256_0_0))⟩] (Rect.unit ![0, 0] ![256, 2048] inb_S256x2048_S256x2048_0_0).toLoadRect = dvnV wt dm := by
  rw [View.readCov_eq_canon']
  funext y
  rw [whole_idx y]
  exact View.canon_append_of_piecesOf (dvnV wt dm) [] [_, _, _, _, _, _, _, _, _, _, _, _, _, _, _, _] ⟨dvn_piece wt dm 7 1 (by decide) (by decide) _ _, dvn_piece wt dm 7 0 (by decide) (by decide) _ _, dvn_piece wt dm 6 1 (by decide) (by decide) _ _, dvn_piece wt dm 6 0 (by decide) (by decide) _ _, dvn_piece wt dm 5 1 (by decide) (by decide) _ _, dvn_piece wt dm 5 0 (by decide) (by decide) _ _, dvn_piece wt dm 4 1 (by decide) (by decide) _ _, dvn_piece wt dm 4 0 (by decide) (by decide) _ _, dvn_piece wt dm 3 1 (by decide) (by decide) _ _, dvn_piece wt dm 3 0 (by decide) (by decide) _ _, dvn_piece wt dm 2 1 (by decide) (by decide) _ _, dvn_piece wt dm 2 0 (by decide) (by decide) _ _, dvn_piece wt dm 1 1 (by decide) (by decide) _ _, dvn_piece wt dm 1 0 (by decide) (by decide) _ _, dvn_piece wt dm 0 1 (by decide) (by decide) _ _, dvn_piece wt dm 0 0 (by decide) (by decide) _ _, trivial⟩ y
    (View.cover_of_tiledL _ ![128, 256] (by rfl) y)

theorem dws_read (o : Vec Ideal S8x128x128 .f32) (dm vn : Vec Ideal S256x2048 .bf16) (L : List (View.Piece (Elt Ideal) S8x128x128 .f32)) :
    View.canon (⟨(Rect.unit ![7, 0, 0] ![1, 128, 128] inb_S8x128x128_S1x128x128_7_0_0), accT (accT (View.ld o (Rect.unit ![7, 0, 0] ![1, 128, 128] inb_S8x128x128_S1x128x128_7_0_0)) (View.ld dm (Rect.unit ![0, 1792] ![128, 256] inb_S256x2048_S128x256_0_1792)) (View.ld vn (Rect.unit ![0, 1792] ![128, 256] inb_S256x2048_S128x256_0_1792))) (View.ld dm (Rect.unit ![128, 1792] ![128, 256] inb_S256x2048_S128x256_128_1792)) (View.ld vn (Rect.unit ![128, 1792] ![128, 256] inb_S256x2048_S128x256_128_1792))⟩ ::
    ⟨(Rect.unit ![6, 0, 0] ![1, 128, 128] inb_S8x128x128_S1x128x128_6_0_0), accT (accT (View.ld o (Rect.unit ![6, 0, 0] ![1, 128, 128] inb_S8x128x128_S1x128x128_6_0_0)) (View.ld dm (Rect.unit ![0, 1536] ![128, 256] inb_S256x2048_S128x256_0_1536)) (View.ld vn (Rect.unit ![0, 1536] ![128, 256] inb_S256x2048_S128x256_0_1536))) (View.ld dm (Rect.unit ![128, 1536] ![128, 256] inb_S256x2048_S128x256_128_1536)) (View.ld vn (Rect.unit ![128, 1536] ![128, 256] inb_S256x2048_S128x256_128_1536))⟩ ::
    ⟨(Rect.unit ![5, 0, 0] ![1, 128, 128] inb_S8x128x128_S1x128x128_5_0_0), accT (accT (View.ld o (Rect.unit ![5, 0, 0] ![1, 128, 128] inb_S8x128x128_S1x128x128_5_0_0)) (View.ld dm (Rect.unit ![0, 1280] ![128, 256] inb_S256x2048_S128x256_0_1280)) (View.ld vn (Rect.unit ![0, 1280] ![128, 256] inb_S256x2048_S128x256_0_1280))) (View.ld dm (Rect.unit ![128, 1280] ![128, 256] inb_S256x2048_S128x256_128_1280)) (View.ld vn (Rect.unit ![128, 1280] ![128, 256] inb_S256x2048_S128x256_128_1280))⟩ ::
    ⟨(Rect.unit ![4, 0, 0] ![1, 128, 128] inb_S8x128x128_S1x128x128_4_0_0), accT (accT (View.ld o (Rect.unit ![4, 0, 0] ![1, 128, 128] inb_S8x128x128_S1x128x128_4_0_0)) (View.ld dm (Rect.unit ![0, 1024] ![128, 256] inb_S256x2048_S128x256_0_1024)) (View.ld vn (Rect.unit ![0, 1024] ![128, 256] inb_S256x2048_S128x256_0_1024))) (View.ld dm (Rect.unit ![128, 1024] ![128, 256] inb_S256x2048_S128x256_128_1024)) (View.ld vn (Rect.unit ![128, 1024] ![128, 256] inb_S256x2048_S128x256_128_1024))⟩ ::
    ⟨(Rect.unit ![3, 0, 0] ![1, 128, 128] inb_S8x128x128_S1x128x128_3_0_0), accT (accT (View.ld o (Rect.unit ![3, 0, 0] ![1, 128, 128] inb_S8x128x128_S1x128x128_3_0_0)) (View.ld dm (Rect.unit ![0, 768] ![128, 256] inb_S256x2048_S128x256_0_768)) (View.ld vn (Rect.unit ![0, 768] ![128, 256] inb_S256x2048_S128x256_0_768))) (View.ld dm (Rect.unit ![128, 768] ![128, 256] inb_S256x2048_S128x256_128_768)) (View.ld vn (Rect.unit ![128, 768] ![128, 256] inb_S256x2048_S128x256_128_768))⟩ ::
    ⟨(Rect.unit ![2, 0, 0] ![1, 128, 128] inb_S8x128x128_S1x128x128_2_0_0), accT (accT (View.ld o (Rect.unit ![2, 0, 0] ![1, 128, 128] inb_S8x128x128_S1x128x128_2_0_0)) (View.ld dm (Rect.unit ![0, 512] ![128, 256] inb_S256x2048_S128x256_0_512)) (View.ld vn (Rect.unit ![0, 512] ![128, 256] inb_S256x2048_S128x256_0_512))) (View.ld dm (Rect.unit ![128, 512] ![128, 256] inb_S256x2048_S128x256_128_512)) (View.ld vn (Rect.unit ![128, 512] ![128, 256] inb_S256x2048_S128x256_128_512))⟩ ::
    ⟨(Rect.unit ![1, 0, 0] ![1, 128, 128] inb_S8x128x128_S1x128x128_1_0_0), accT (accT (View.ld o (Rect.unit ![1, 0, 0] ![1, 128, 128] inb_S8x128x128_S1x128x128_1_0_0)) (View.ld dm (Rect.unit ![0, 256] ![128, 256] inb_S256x2048_S128x256_0_256)) (View.ld vn (Rect.unit ![0, 256] ![128, 256] inb_S256x2048_S128x256_0_256))) (View.ld dm (Rect.unit ![128, 256] ![128, 256] inb_S256x2048_S128x256_128_256)) (View.ld vn (Rect.unit ![128, 256] ![128, 256] inb_S256x2048_S128x256_128_256))⟩ ::
    ⟨(Rect.unit ![0, 0, 0] ![1, 128, 128] inb_S8x128x128_S1x128x128_0_0_0), accT (accT (View.ld o (Rect.unit ![0, 0, 0] ![1, 128, 128] inb_S8x128x128_S1x128x128_0_0_0)) (View.ld dm (Rect.unit ![0, 0] ![128, 256] inb_S256x2048_S128x256_0_0)) (View.ld vn (Rect.unit ![0, 0] ![128, 256] inb_S256x2048_S128x256_0_0))) (View.ld dm (Rect.unit ![128, 0] ![128, 256] inb_S256x2048_S128x256_128_0)) (View.ld vn (Rect.unit ![128, 0] ![128, 256] inb_S256x2048_S128x256_128_0))⟩ :: L) = dwsV o dm vn := by
  funext y
  exact View.canon_append_of_piecesOf (dwsV o dm vn) L [_, _, _, _, _, _, _, _] ⟨acc_piece o dm vn 7 (by decide) _ _ _, acc_piece o dm vn 6 (by decide) _ _ _, acc_piece o dm vn 5 (by decide) _ _ _, acc_piece o dm vn 4 (by decide) _ _ _, acc_piece o dm vn 3 (by decide) _ _ _, acc_piece o dm vn 2 (by decide) _ _ _, acc_piece o dm vn 1 (by decide) _ _ _, acc_piece o dm vn 0 (by decide) _ _ _, trivial⟩ y (View.cover_of_tiledL _ ![1, 128, 128] (by rfl) y)

theorem tril_read (o : Vec Ideal S8x128x128 .f32) (dm vn : Vec Ideal S256x2048 .bf16) (L : List (View.Piece (Elt Ideal) S8x128x128 .f32)) :
    View.canon (⟨(Rect.unit ![7, 0, 0] ![1, 128, 128] inb_S8x128x128_S1x128x128_7_0_0), trilT (accT (accT (View.ld o (Rect.unit ![7, 0, 0] ![1, 128, 128] inb_S8x128x128_S1x128x128_7_0_0)) (View.ld dm (Rect.unit ![0, 1792] ![128, 256] inb_S256x2048_S128x256_0_1792)) (View.ld vn (Rect.unit ![0, 1792] ![128, 256] inb_S256x2048_S128x256_0_1792))) (View.ld dm (Rect.unit ![128, 1792] ![128, 256] inb_S256x2048_S128x256_128_1792)) (View.ld vn (Rect.unit ![128, 1792] ![128, 256] inb_S256x2048_S128x256_128_1792)))⟩ ::
    ⟨(Rect.unit ![6, 0, 0] ![1, 128, 128] inb_S8x128x128_S1x128x128_6_0_0), trilT (accT (accT (View.ld o (Rect.unit ![6, 0, 0] ![1, 128, 128] inb_S8x128x128_S1x128x128_6_0_0)) (View.ld dm (Rect.unit ![0, 1536] ![128, 256] inb_S256x2048_S128x256_0_1536)) (View.ld vn (Rect.unit ![0, 1536] ![128, 256] inb_S256x2048_S128x256_0_1536))) (View.ld dm (Rect.unit ![128, 1536] ![128, 256] inb_S256x2048_S128x256_128_1536)) (View.ld vn (Rect.unit ![128, 1536] ![128, 256] inb_S256x2048_S128x256_128_1536)))⟩ ::
    ⟨(Rect.unit ![5, 0, 0] ![1, 128, 128] inb_S8x128x128_S1x128x128_5_0_0), trilT (accT (accT (View.ld o (Rect.unit ![5, 0, 0] ![1, 128, 128] inb_S8x128x128_S1x128x128_5_0_0)) (View.ld dm (Rect.unit ![0, 1280] ![128, 256] inb_S256x2048_S128x256_0_1280)) (View.ld vn (Rect.unit ![0, 1280] ![128, 256] inb_S256x2048_S128x256_0_1280))) (View.ld dm (Rect.unit ![128, 1280] ![128, 256] inb_S256x2048_S128x256_128_1280)) (View.ld vn (Rect.unit ![128, 1280] ![128, 256] inb_S256x2048_S128x256_128_1280)))⟩ ::
    ⟨(Rect.unit ![4, 0, 0] ![1, 128, 128] inb_S8x128x128_S1x128x128_4_0_0), trilT (accT (accT (View.ld o (Rect.unit ![4, 0, 0] ![1, 128, 128] inb_S8x128x128_S1x128x128_4_0_0)) (View.ld dm (Rect.unit ![0, 1024] ![128, 256] inb_S256x2048_S128x256_0_1024)) (View.ld vn (Rect.unit ![0, 1024] ![128, 256] inb_S256x2048_S128x256_0_1024))) (View.ld dm (Rect.unit ![128, 1024] ![128, 256] inb_S256x2048_S128x256_128_1024)) (View.ld vn (Rect.unit ![128, 1024] ![128, 256] inb_S256x2048_S128x256_128_1024)))⟩ ::
    ⟨(Rect.unit ![3, 0, 0] ![1, 128, 128] inb_S8x128x128_S1x128x128_3_0_0), trilT (accT (accT (View.ld o (Rect.unit ![3, 0, 0] ![1, 128, 128] inb_S8x128x128_S1x128x128_3_0_0)) (View.ld dm (Rect.unit ![0, 768] ![128, 256] inb_S256x2048_S128x256_0_768)) (View.ld vn (Rect.unit ![0, 768] ![128, 256] inb_S256x2048_S128x256_0_768))) (View.ld dm (Rect.unit ![128, 768] ![128, 256] inb_S256x2048_S128x256_128_768)) (View.ld vn (Rect.unit ![128, 768] ![128, 256] inb_S256x2048_S128x256_128_768)))⟩ ::
    ⟨(Rect.unit ![2, 0, 0] ![1, 128, 128] inb_S8x128x128_S1x128x128_2_0_0), trilT (accT (accT (View.ld o (Rect.unit ![2, 0, 0] ![1, 128, 128] inb_S8x128x128_S1x128x128_2_0_0)) (View.ld dm (Rect.unit ![0, 512] ![128, 256] inb_S256x2048_S128x256_0_512)) (View.ld vn (Rect.unit ![0, 512] ![128, 256] inb_S256x2048_S128x256_0_512))) (View.ld dm (Rect.unit ![128, 512] ![128, 256] inb_S256x2048_S128x256_128_512)) (View.ld vn (Rect.unit ![128, 512] ![128, 256] inb_S256x2048_S128x256_128_512)))⟩ ::
    ⟨(Rect.unit ![1, 0, 0] ![1, 128, 128] inb_S8x128x128_S1x128x128_1_0_0), trilT (accT (accT (View.ld o (Rect.unit ![1, 0, 0] ![1, 128, 128] inb_S8x128x128_S1x128x128_1_0_0)) (View.ld dm (Rect.unit ![0, 256] ![128, 256] inb_S256x2048_S128x256_0_256)) (View.ld vn (Rect.unit ![0, 256] ![128, 256] inb_S256x2048_S128x256_0_256))) (View.ld dm (Rect.unit ![128, 256] ![128, 256] inb_S256x2048_S128x256_128_256)) (View.ld vn (Rect.unit ![128, 256] ![128, 256] inb_S256x2048_S128x256_128_256)))⟩ ::
    ⟨(Rect.unit ![0, 0, 0] ![1, 128, 128] inb_S8x128x128_S1x128x128_0_0_0), trilT (accT (accT (View.ld o (Rect.unit ![0, 0, 0] ![1, 128, 128] inb_S8x128x128_S1x128x128_0_0_0)) (View.ld dm (Rect.unit ![0, 0] ![128, 256] inb_S256x2048_S128x256_0_0)) (View.ld vn (Rect.unit ![0, 0] ![128, 256] inb_S256x2048_S128x256_0_0))) (View.ld dm (Rect.unit ![128, 0] ![128, 256] inb_S256x2048_S128x256_128_0)) (View.ld vn (Rect.unit ![128, 0] ![128, 256] inb_S256x2048_S128x256_128_0)))⟩ :: L) = trilV o dm vn := by
  funext y
  exact View.canon_append_of_piecesOf (trilV o dm vn) L [_, _, _, _, _, _, _, _] ⟨tril_piece o dm vn 7 (by decide) _ _ _, tril_piece o dm vn 6 (by decide) _ _ _, tril_piece o dm vn 5 (by decide) _ _ _, tril_piece o dm vn 4 (by decide) _ _ _, tril_piece o dm vn 3 (by decide) _ _ _, tril_piece o dm vn 2 (by decide) _ _ _, tril_piece o dm vn 1 (by decide) _ _ _, tril_piece o dm vn 0 (by decide) _ _ _, trivial⟩ y (View.cover_of_tiledL _ ![1, 128, 128] (by rfl) y)

theorem row_read (M : Vec Ideal S128x2048 .f32) :
    View.canon ([⟨Rect.unit ![0, 7] ![128, 1] inb_S128x8_S128x1_0_7, rowT (View.ld M (Rect.unit ![0, 1792] ![128, 256] inb_S128x2048_S128x256_0_1792))⟩,
    ⟨Rect.unit ![0, 6] ![128, 1] inb_S128x8_S128x1_0_6, rowT (View.ld M (Rect.unit ![0, 1536] ![128, 256] inb_S128x2048_S128x256_0_1536))⟩,
    ⟨Rect.unit ![0, 5] ![128, 1] inb_S128x8_S128x1_0_5, rowT (View.ld M (Rect.unit ![0, 1280] ![128, 256] inb_S128x2048_S128x256_0_1280))⟩,
    ⟨Rect.unit ![0, 4] ![128, 1] inb_S128x8_S128x1_0_4, rowT (View.ld M (Rect.unit ![0, 1024] ![128, 256] inb_S128x2048_S128x256_0_1024))⟩,
    ⟨Rect.unit ![0, 3] ![128, 1] inb_S128x8_S128x1_0_3, rowT (View.ld M (Rect.unit ![0, 768] ![128, 256] inb_S128x2048_S128x256_0_768))⟩,
    ⟨Rect.unit ![0, 2] ![128, 1] inb_S128x8_S128x1_0_2, rowT (View.ld M (Rect.unit ![0, 512] ![128, 256] inb_S128x2048_S128x256_0_512))⟩,
    ⟨Rect.unit ![0, 1] ![128, 1] inb_S128x8_S128x1_0_1, rowT (View.ld M (Rect.unit ![0, 256] ![128, 256] inb_S128x2048_S128x256_0_256))⟩,
    ⟨Rect.unit ![0, 0] ![128, 1] inb_S128x8_S128x1_0_0, rowT (View.ld M (Rect.unit ![0, 0] ![128, 256] inb_S128x2048_S128x256_0_0))⟩] : List (View.Piece (Elt Ideal) S128x8 .f32)) = dbsV M := by
  funext y
  exact View.canon_append_of_piecesOf (dbsV M) [] [_, _, _, _, _, _, _, _] ⟨row_piece M 7 (by decide) _ inb_S128x8_S128x1_0_7, row_piece M 6 (by decide) _ inb_S128x8_S128x1_0_6, row_piece M 5 (by decide) _ inb_S128x8_S128x1_0_5, row_piece M 4 (by decide) _ inb_S128x8_S128x1_0_4, row_piece M 3 (by decide) _ inb_S128x8_S128x1_0_3, row_piece M 2 (by decide) _ inb_S128x8_S128x1_0_2, row_piece M 1 (by decide) _ inb_S128x8_S128x1_0_1, row_piece M 0 (by decide) _ inb_S128x8_S128x1_0_0, trivial⟩ y (View.cover_of_tiledL _ ![128, 1] (by rfl) y)

end Cert.Kernel7Ideal.Gm
-- ==== Proof.GmBlk.lean ====
/- One grid point of the gated mixer's backward kernel: what its stored values are, from what its blocks hold. -/
module

public import proofs.«01_k».proof.Proof.GmRead

@[expose] public section

set_option maxRecDepth 16384

noncomputable section

namespace Cert.Kernel7Ideal.Gm

open Idealize.ShloMosaic Idealize.ShloMosaic.TcCoe Idealize.ShloMosaic.Tactic
open Cert.Kernel7Ideal Cert.Kernel7Ideal.Gen
open Cert.Gmlp
open Cert.GatedConv (sg)

/-- A grid point's ten input blocks. -/
structure Blks where
  b0 : Vec Ideal S1x256x2048 .f32
  b1 : Vec Ideal S1x256x2048 .f32
  b2 : Vec Ideal S1x256x2048 .f32
  b3 : Vec Ideal S256x1024 .bf16
  b4 : Vec Ideal S2048x1024 .bf16
  b5 : Vec Ideal S1x2048 .f32
  b6 : Vec Ideal S1x2048 .f32
  b7 : Vec Ideal S8x128x128 .f32
  b8 : Vec Ideal S8x128x128 .f32
  b9 : Vec Ideal S128x8 .f32

/-- They hold the arrays' rows from `256 T` on, and the parameters. -/
structure Blks.Holds (B : Blks) (A : Arr) (T : ℕ) : Prop where
  h0 : ∀ r e, B.b0 (ix3 0 r e) = A.pu (256 * T + r.val) e
  h1 : ∀ r e, B.b1 (ix3 0 r e) = A.pv (256 * T + r.val) e
  h2 : ∀ r e, B.b2 (ix3 0 r e) = A.z (256 * T + r.val) e
  h3 : ∀ r d, B.b3 (ix2 r d) = A.ct (256 * T + r.val) d
  h4 : ∀ e d, B.b4 (ix2 e d) = A.wo e d
  h5 : ∀ e, B.b5 (ix2 0 e) = A.lg e
  h6 : ∀ e, B.b6 (ix2 0 e) = A.lb e
  h7 : ∀ g i j, B.b7 (ix3 g i j) = A.ws g i j
  h8 : ∀ g i j, B.b8 (ix3 g i j) = A.ws g j i
  h9 : ∀ i g, B.b9 (ix2 i g) = A.bs g i

namespace Blks
variable (B : Blks)

/-- The block's gelu, normed rows, gradients and so on, as the kernel computes them. -/
abbrev u : Vec Ideal S256x2048 .f32 := k0_pay28 B.b0
abbrev dy : Vec Ideal S256x2048 .f32 := k0_pay66 B.b3 B.b4
abbrev dm : Vec Ideal S256x2048 .bf16 := k0_pay73 B.u B.dy B.b2
abbrev vh : Vec Ideal S256x2048 .f32 := k0_pay36 (k0_pay30 B.b1) (k0_pay31 B.b1)
abbrev vn : Vec Ideal S256x2048 .bf16 := k0_pay37 (k0_pay25 B.b5) (k0_pay30 B.b1) (k0_pay31 B.b1) B.b6

variable {B} {A : Arr} {T : ℕ} (h : B.Holds A T)
include h

theorem Holds.u_at (r e) : B.u (ix2 r e) = A.u (256 * T + r.val) e := by
  rw [Blks.u, pay28, h.h0]; rfl
theorem Holds.v_at (r e) : k0_pay30 (F := Ideal) B.b1 (ix2 r e) * k0_pay31 (F := Ideal) B.b1 (ix2 r e) = A.v (256 * T + r.val) e := by
  rw [pay30, pay31, h.h1]; rfl
theorem Holds.vc_at (r e) : k0_pay34 (F := Ideal) (k0_pay30 B.b1) (k0_pay31 B.b1) (ix2 r e) = A.vc (256 * T + r.val) e := by
  rw [pay34]
  simp only [h.v_at]
  rfl
theorem Holds.rs_at (r) : k0_pay35 (F := Ideal) (k0_pay30 B.b1) (k0_pay31 B.b1) (ix2 r 0) = A.rs (256 * T + r.val) := by
  rw [pay35]
  simp only [h.vc_at]
  rfl
theorem Holds.vh_at (r e) : B.vh (ix2 r e) = A.vh (256 * T + r.val) e := by
  rw [Blks.vh, pay36, h.vc_at, h.rs_at]; rfl
theorem Holds.vn_at (r e) : B.vn (ix2 r e) = A.vn (256 * T + r.val) e := by
  have e1 := h.vh_at r e
  unfold Blks.vh at e1
  rw [Blks.vn, pay37, e1, pay25, h.h5, h.h6]; rfl
theorem Holds.dy_at (r e) : B.dy (ix2 r e) = A.dy (256 * T + r.val) e := by
  rw [Blks.dy, pay66]
  simp only [h.h3, h.h4]
  rfl
theorem Holds.ds_at (r e) : k0_pay69 (F := Ideal) B.dy B.b2 (ix2 r e) = A.ds (256 * T + r.val) e := by
  rw [pay69, h.dy_at, h.h2]; rfl
theorem Holds.dm72_at (r e) : k0_pay72 (F := Ideal) B.u B.dy B.b2 (ix2 r e) = A.dm (256 * T + r.val) e := by
  rw [pay72, h.ds_at, h.u_at]; rfl
theorem Holds.dm_at (r e) : B.dm (ix2 r e) = A.dm (256 * T + r.val) e := by
  rw [Blks.dm, pay73, h.dm72_at]

theorem Holds.mix_at (r e) : mixE B.b7 B.vn B.b9 r e = A.mix (256 * T + r.val) e := by
  have hm : (256 * T + r.val) % 128 = r.val % 128 := by omega
  have hd : 128 * ((256 * T + r.val) / 128) = 256 * T + 128 * (r.val / 128) := by omega
  unfold mixE Arr.mix
  have hr : ri (256 * T + r.val) = ⟨r.val % 128, by omega⟩ := Fin.ext hm
  rw [hr, h.h9]
  refine congrArg₂ (· + ·) (Finset.sum_congr rfl fun j _ => ?_) rfl
  rw [h.vn_at, h.h7, Arr.tri, hd, ← Nat.add_assoc]
  rfl

theorem Holds.dvn_at (r e) : dvnE B.b8 B.dm r e = A.dvn (256 * T + r.val) e := by
  have hm : (256 * T + r.val) % 128 = r.val % 128 := by omega
  have hd : 128 * ((256 * T + r.val) / 128) = 256 * T + 128 * (r.val / 128) := by omega
  unfold dvnE Arr.dvn
  have hr : ri (256 * T + r.val) = ⟨r.val % 128, by omega⟩ := Fin.ext hm
  rw [hr]
  refine Finset.sum_congr rfl fun j _ => ?_
  rw [h.dm_at, h.h8, Arr.tri, hd, ← Nat.add_assoc]
  rfl

theorem Holds.dws_at (o : Vec Ideal S8x128x128 .f32) (g i j) :
    dwsE o B.dm B.vn g i j = o (ix3 g i j) + A.wterm (2 * T) g i j + A.wterm (2 * T + 1) g i j := by
  unfold dwsE Arr.wterm
  refine congrArg₂ (· + ·) (congrArg₂ (· + ·) rfl (Finset.sum_congr rfl fun c _ => ?_)) (Finset.sum_congr rfl fun c _ => ?_)
  · rw [h.dm_at, h.vn_at, show 128 * (2 * T) = 256 * T by omega]
    rfl
  · rw [h.dm_at, h.vn_at, show 128 * (2 * T + 1) = 256 * T + 128 by omega, Nat.add_assoc, Nat.add_assoc]
    rfl

theorem Holds.acc_at (o : Vec Ideal S128x2048 .f32) (i e) :
    k0_pay88 (F := Ideal) (k0_pay87 (k0_pay72 B.u B.dy B.b2) (k0_pay75 (k0_pay74 B.u B.dy B.b2 o))) (ix2 i e)
      = o (ix2 i e) + A.dm (128 * (2 * T) + i.val) e + A.dm (128 * (2 * T + 1) + i.val) e := by
  rw [pay88, pay75, h.dm72_at, h.dm72_at, show 128 * (2 * T) = 256 * T by omega, show 128 * (2 * T + 1) = 256 * T + 128 by omega, Nat.add_assoc (256 * T)]

theorem Holds.dlg_at (o : Vec Ideal S1x2048 .f32) (e) :
    k0_pay129 (F := Ideal) B.vh (dvnV B.b8 B.dm) o (ix2 0 e)
      = o (ix2 0 e) + ∑ r : Fin 256, A.dvn (256 * T + r.val) e * A.vh (256 * T + r.val) e := by
  rw [pay129]
  refine congrArg₂ (· + ·) rfl (Finset.sum_congr rfl fun r _ => congrArg₂ (· * ·) (h.dvn_at r e) (h.vh_at r e))

theorem Holds.dlb_at (o : Vec Ideal S1x2048 .f32) (e) :
    k0_pay130 (F := Ideal) (dvnV B.b8 B.dm) o (ix2 0 e) = o (ix2 0 e) + ∑ r : Fin 256, A.dvn (256 * T + r.val) e := by
  rw [pay130]
  refine congrArg₂ (· + ·) rfl (Finset.sum_congr rfl fun r _ => h.dvn_at r e)

theorem Holds.dp0_at (r e) : k0_pay71 (F := Ideal) (k0_pay29 B.b0) (mixV B.b7 B.vn B.b9) B.dy B.b2 (ix3 0 r e) = A.dp0 (256 * T + r.val) e := by
  rw [pay71, pay29, h.ds_at, h.h0]
  exact congrArg₂ (· * ·) (congrArg₂ (· * ·) rfl (h.mix_at r e)) rfl

theorem Holds.dp2_at (r e) : k0_pay70 (F := Ideal) B.u (mixV B.b7 B.vn B.b9) B.dy B.b2 (ix3 0 r e) = A.dp2 (256 * T + r.val) e := by
  rw [pay70, h.dy_at, h.u_at, h.h2, show mixV B.b7 B.vn B.b9 (ix2 r e) = _ from h.mix_at r e]
  rfl

theorem Holds.dvh_at (r e) : k0_pay131 (F := Ideal) (k0_pay25 B.b5) (dvnV B.b8 B.dm) (ix2 r e) = A.dvh (256 * T + r.val) e := by
  rw [pay131, pay25, h.h5, show dvnV B.b8 B.dm (ix2 r e) = _ from h.dvn_at r e]
  rfl

theorem Holds.dp1_at (r e) :
    k0_pay1 (F := Ideal) (k0_pay33 (k0_pay30 B.b1) (k0_pay31 B.b1) (k0_pay32 B.b1)) (k0_pay35 (k0_pay30 B.b1) (k0_pay31 B.b1)) B.vh
        (k0_pay131 (k0_pay25 B.b5) (dvnV B.b8 B.dm)) (k0_pay132 (k0_pay25 B.b5) (dvnV B.b8 B.dm)) (ix3 0 r e) = A.dp1 (256 * T + r.val) e := by
  rw [pay1, h.rs_at, pay132, h.vh_at, pay33, pay30, pay31, pay32, h.h1]
  simp only [h.dvh_at, h.vh_at]
  rfl

end Blks
end Cert.Kernel7Ideal.Gm
-- ==== Proof.GmArr.lean ====
/- The gated mixer's arrays from the arguments. -/
module

public import proofs.«01_k».proof.Proof.Gen.Kernel7Ideal.Skeleton
public import proofs.«01_k».proof.Proof.Gmlp
public import Idealize.ShloMosaic.Lib.Pointwise

@[expose] public section

noncomputable section

namespace Cert.Gmlp

open Idealize.ShloMosaic Idealize.ShloMosaic.Tactic
open Cert.GatedConv (Real')
open Cert.Kernel7Ideal

/-- A row number, wrapped round at the last row. -/
def rw' (s : ℕ) : Fin 8192 := ⟨s % 8192, Nat.mod_lt _ (by decide)⟩

theorem rw'_eq (s : Fin 8192) : rw' s.val = s := Fin.ext (Nat.mod_eq_of_lt s.isLt)
theorem rw'_of {s : ℕ} (h : s < 8192) : rw' s = ⟨s, h⟩ := Fin.ext (Nat.mod_eq_of_lt h)

/-- The arrays, from the seven arguments. -/
abbrev arr (x0 : Vec Ideal S3x8192x2048 .f32) (x1 x2 : Vec Ideal S2048 .f32) (x3 : Vec Ideal S8x128x128 .f32) (x4 : Vec Ideal S8x128 .f32)
    (x5 : Vec Ideal S2048x1024 .f32) (x6 : Vec Ideal S8192x1024 .f32) : Arr where
  pu s e := x0 (ix3 0 (rw' s) e)
  pv s e := x0 (ix3 1 (rw' s) e)
  z s e := x0 (ix3 2 (rw' s) e)
  ct s d := x6 (ix2 (rw' s) d)
  wo e d := x5 (ix2 e d)
  lg e := x1 (ix1 e)
  lb e := x2 (ix1 e)
  ws g i j := x3 (ix3 g i j)
  bs g i := x4 (ix2 g i)

end Cert.Gmlp
-- ==== Proof.GmBlocks.lean ====
/- The gated mixer's backward kernel: its result arrays as the backward pass's formulas. -/
module

public import proofs.«01_k».proof.Proof.Gen.Kernel7Ideal.Value
public import proofs.«01_k».proof.Proof.GmBlk
public import proofs.«01_k».proof.Proof.GmArr
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel7Ideal.Gm

open Idealize.ShloMosaic Idealize.ShloMosaic.TcCoe Idealize.ShloMosaic.Tactic
open Idealize.ShloMosaic.Pipeline (Dat)
open Cert.Kernel7Ideal Cert.Kernel7Ideal.Gen

open Cert.Gmlp

theorem idx0 : ∀ t : Fin cfg0.N, win0_0.index t = ![0, t.val, 0] := (by decide +kernel : ∀ t : Fin grid0.N, _)
theorem idx1 : ∀ t : Fin cfg0.N, win0_1.index t = ![1, t.val, 0] := (by decide +kernel : ∀ t : Fin grid0.N, _)
theorem idx2 : ∀ t : Fin cfg0.N, win0_2.index t = ![2, t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, t.val, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

variable (m : (ℓ : Loc nD τ sig) → Buf (Elt Ideal) ℓ)

abbrev x0 (c : Dev nD) : Vec Ideal S3x8192x2048 .f32 := m ((c : Thread nD τ).loc main_arg0)
abbrev x1 (c : Dev nD) : Vec Ideal S2048 .f32 := m ((c : Thread nD τ).loc main_arg1)
abbrev x2 (c : Dev nD) : Vec Ideal S2048 .f32 := m ((c : Thread nD τ).loc main_arg2)
abbrev x3 (c : Dev nD) : Vec Ideal S8x128x128 .f32 := m ((c : Thread nD τ).loc main_arg3)
abbrev x4 (c : Dev nD) : Vec Ideal S8x128 .f32 := m ((c : Thread nD τ).loc main_arg4)
abbrev x5 (c : Dev nD) : Vec Ideal S2048x1024 .f32 := m ((c : Thread nD τ).loc main_arg5)
abbrev x6 (c : Dev nD) : Vec Ideal S8192x1024 .f32 := m ((c : Thread nD τ).loc main_arg6)

/-- The arrays of the backward pass, from the kernel's arguments. -/
abbrev A (c : Dev nD) : Arr := arr (x0 m c) (x1 m c) (x2 m c) (x3 m c) (x4 m c) (x5 m c) (x6 m c)

/-! ### The blocks a grid point reads -/

abbrev blk0 (c : Dev nD) (t : Fin cfg0.N) : Vec Ideal S1x256x2048 .f32 := iblk m c 0 t
abbrev blk1 (c : Dev nD) (t : Fin cfg0.N) : Vec Ideal S1x256x2048 .f32 := iblk m c 1 t
abbrev blk2 (c : Dev nD) (t : Fin cfg0.N) : Vec Ideal S1x256x2048 .f32 := iblk m c 2 t
abbrev blk3 (c : Dev nD) (t : Fin cfg0.N) : Vec Ideal S256x1024 .bf16 := iblk m c 3 t
abbrev blk4 (c : Dev nD) (t : Fin cfg0.N) : Vec Ideal S2048x1024 .bf16 := iblk m c 4 t
abbrev blk5 (c : Dev nD) (t : Fin cfg0.N) : Vec Ideal S1x2048 .f32 := iblk m c 5 t
abbrev blk6 (c : Dev nD) (t : Fin cfg0.N) : Vec Ideal S1x2048 .f32 := iblk m c 6 t
abbrev blk7 (c : Dev nD) (t : Fin cfg0.N) : Vec Ideal S8x128x128 .f32 := iblk m c 7 t
abbrev blk8 (c : Dev nD) (t : Fin cfg0.N) : Vec Ideal S8x128x128 .f32 := iblk m c 8 t
abbrev blk9 (c : Dev nD) (t : Fin cfg0.N) : Vec Ideal S128x8 .f32 := iblk m c 9 t

abbrev blks (c : Dev nD) (t : Fin cfg0.N) : Blks :=
  ⟨blk0 m c t, blk1 m c t, blk2 m c t, blk3 m c t, blk4 m c t, blk5 m c t, blk6 m c t, blk7 m c t, blk8 m c t, blk9 m c t⟩

theorem lt_N (t : Fin cfg0.N) : t.val < 32 := lt_of_lt_of_eq t.isLt N_0

theorem blk0_at (c : Dev nD) (t : Fin cfg0.N) (r : Fin 256) (e : Fin 2048) : blk0 m c t (ix3 0 r e) = (A m c).pu (256 * t.val + r.val) e := by
  have ht := lt_N t
  show _ = x0 m c (ix3 0 (rw' (256 * t.val + r.val)) e)
  rw [rw'_of (show 256 * t.val + r.val < 8192 by omega)]
  blk_ext! [iblk, V, idx0 t]

theorem blk1_at (c : Dev nD) (t : Fin cfg0.N) (r : Fin 256) (e : Fin 2048) : blk1 m c t (ix3 0 r e) = (A m c).pv (256 * t.val + r.val) e := by
  have ht := lt_N t
  show _ = x0 m c (ix3 1 (rw' (256 * t.val + r.val)) e)
  rw [rw'_of (show 256 * t.val + r.val < 8192 by omega)]
  blk_ext! [iblk, V, idx1 t]

theorem blk2_at (c : Dev nD) (t : Fin cfg0.N) (r : Fin 256) (e : Fin 2048) : blk2 m c t (ix3 0 r e) = (A m c).z (256 * t.val + r.val) e := by
  have ht := lt_N t
  show _ = x0 m c (ix3 2 (rw' (256 * t.val + r.val)) e)
  rw [rw'_of (show 256 * t.val + r.val < 8192 by omega)]
  blk_ext! [iblk, V, idx2 t]

theorem blk3_at (c : Dev nD) (t : Fin cfg0.N) (r : Fin 256) (d : Fin 1024) : blk3 m c t (ix2 r d) = (A m c).ct (256 * t.val + r.val) d := by
  have ht := lt_N t
  show _ = x6 m c (ix2 (rw' (256 * t.val + r.val)) d)
  rw [rw'_of (show 256 * t.val + r.val < 8192 by omega)]
  blk_ext! [iblk, V, idx3 t]

theorem blk4_at (c : Dev nD) (t : Fin cfg0.N) (e : Fin 2048) (d : Fin 1024) : blk4 m c t (ix2 e d) = (A m c).wo e d := by
  show _ = x5 m c (ix2 e d)
  blk_ext! [iblk, V, idx4 t]

theorem blk5_at (c : Dev nD) (t : Fin cfg0.N) (e : Fin 2048) : blk5 m c t (ix2 0 e) = (A m c).lg e := by
  show _ = x1 m c (ix1 e)
  blk_ext! [iblk, V, idx5 t]

theorem blk6_at (c : Dev nD) (t : Fin cfg0.N) (e : Fin 2048) : blk6 m c t (ix2 0 e) = (A m c).lb e := by
  show _ = x2 m c (ix1 e)
  blk_ext! [iblk, V, idx6 t]

theorem blk7_at (c : Dev nD) (t : Fin cfg0.N) (g : Fin 8) (i j : Fin 128) : blk7 m c t (ix3 g i j) = (A m c).ws g i j := by
  show _ = x3 m c (ix3 g i j)
  blk_ext! [iblk, V, idx7 t]

theorem blk8_at (c : Dev nD) (t : Fin cfg0.N) (g : Fin 8) (i j : Fin 128) : blk8 m c t (ix3 g i j) = (A m c).ws g j i := by
  show _ = x3 m c (ix3 g j i)
  blk_ext! [iblk, V, idx8 t]

theorem blk9_at (c : Dev nD) (t : Fin cfg0.N) (i : Fin 128) (g : Fin 8) : blk9 m c t (ix2 i g) = (A m c).bs g i := by
  show _ = x4 m c (ix2 g i)
  blk_ext! [iblk, V, idx9 t]

theorem holds (c : Dev nD) (t : Fin cfg0.N) : (blks m c t).Holds (A m c) t.val :=
  ⟨blk0_at m c t, blk1_at m c t, blk2_at m c t, blk3_at m c t, blk4_at m c t, blk5_at m c t, blk6_at m c t, blk7_at m c t, blk8_at m c t, blk9_at m c t⟩

end Cert.Kernel7Ideal.Gm
-- ==== Proof.GmOuts.lean ====
/- The gated mixer's backward kernel: what each grid point leaves in its outputs. -/
module

public import proofs.«01_k».proof.Proof.Gen.Kernel7Ideal.Value
public import proofs.«01_k».proof.Proof.GmBlocks
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel7Ideal.Gm

open Idealize.ShloMosaic Idealize.ShloMosaic.TcCoe Idealize.ShloMosaic.Tactic
open Idealize.ShloMosaic.Pipeline (Dat)
open Cert.Kernel7Ideal Cert.Kernel7Ideal.Gen

open Cert.Gmlp

variable (m : (ℓ : Loc nD τ sig) → Buf (Elt Ideal) ℓ)

theorem pred_lt (t : Fin cfg0.N) : t.val - 1 < cfg0.N := Nat.lt_of_le_of_lt (Nat.sub_le _ _) t.isLt

theorem o15_A (c : Dev nD) (t : Fin cfg0.N) (h0 : t.val % 32 = 0) (i : Fin 128) (e : Fin 2048) :
    (outsAt0 m c t.val t.isLt).2.2.2.2.2 (ix2 i e)
      = 0 + (A m c).dm (128 * (2 * t.val) + i.val) e + (A m c).dm (128 * (2 * t.val + 1) + i.val) e := by
  rw [outsAt0_A m c t h0 (by omega)]
  frame_open
  simp (disch := decide) only [↓ View.readCov_skip, ↓ View.readCov_cons_toLoadRect, ↓ View.readCov_fill, read_unread_whole]
  frame_out
  refine ((holds m c t).acc_at _ i e).trans ?_
  rw [pay24]

theorem o11_A (c : Dev nD) (t : Fin cfg0.N) (h0 : t.val % 32 = 0) (g : Fin 8) (i j : Fin 128) :
    (outsAt0 m c t.val t.isLt).2.1 (ix3 g i j)
      = 0 + (A m c).wterm (2 * t.val) g i j + (A m c).wterm (2 * t.val + 1) g i j := by
  rw [outsAt0_A m c t h0 (by omega)]
  frame_open
  simp (disch := decide) only [↓ View.readCov_skip, ↓ View.readCov_cons_toLoadRect, ↓ View.readCov_fill, wp0, wp1, wp2, wp3, wp4, wp5, wp6, wp7, wp8, wp9, wp10, wp11, wp12, wp13, wp14, wp15]
  frame_out
  rw [dws_read]
  refine ((holds m c t).dws_at _ g i j).trans ?_
  rw [pay21]

theorem o13_A (c : Dev nD) (t : Fin cfg0.N) (h0 : t.val % 32 = 0) (e : Fin 2048) :
    (outsAt0 m c t.val t.isLt).2.2.2.1 (ix2 0 e)
      = 0 + ∑ r : Fin 256, (A m c).dvn (256 * t.val + r.val) e * (A m c).vh (256 * t.val + r.val) e := by
  rw [outsAt0_A m c t h0 (by omega)]
  frame_open
  simp (disch := decide) only [↓ View.readCov_skip, ↓ View.readCov_cons_toLoadRect, ↓ View.readCov_fill, dvp0, dvp1, dvp2, dvp3, dvp4, dvp5, dvp6, dvp7, dvp8, dvp9, dvp10, dvp11, dvp12, dvp13, dvp14, dvp15]
  frame_out
  rw [dvn_read]
  refine ((holds m c t).dlg_at _ e).trans ?_
  rw [pay22]

theorem o14_A (c : Dev nD) (t : Fin cfg0.N) (h0 : t.val % 32 = 0) (e : Fin 2048) :
    (outsAt0 m c t.val t.isLt).2.2.2.2.1 (ix2 0 e)
      = 0 + ∑ r : Fin 256, (A m c).dvn (256 * t.val + r.val) e := by
  rw [outsAt0_A m c t h0 (by omega)]
  frame_open
  simp (disch := decide) only [↓ View.readCov_skip, ↓ View.readCov_cons_toLoadRect, ↓ View.readCov_fill, dvp0, dvp1, dvp2, dvp3, dvp4, dvp5, dvp6, dvp7, dvp8, dvp9, dvp10, dvp11, dvp12, dvp13, dvp14, dvp15]
  frame_out
  rw [dvn_read]
  refine ((holds m c t).dlb_at _ e).trans ?_
  rw [pay23]

theorem o15_B (c : Dev nD) (t : Fin cfg0.N) (h0 : ¬ t.val % 32 = 0) (h1 : ¬ t.val % 32 = 31) (i : Fin 128) (e : Fin 2048) :
    (outsAt0 m c t.val t.isLt).2.2.2.2.2 (ix2 i e)
      = (outsAt0 m c (t.val - 1) (pred_lt t)).2.2.2.2.2 (ix2 i e) + (A m c).dm (128 * (2 * t.val) + i.val) e + (A m c).dm (128 * (2 * t.val + 1) + i.val) e := by
  rw [outsAt0_B m c t h0 h1]
  frame_open
  simp (disch := decide) only [↓ View.readCov_skip, ↓ View.readCov_cons_toLoadRect, ↓ View.readCov_fill]
  frame_out
  try simp only [read_unread_whole]
  exact (holds m c t).acc_at _ i e

theorem o11_B (c : Dev nD) (t : Fin cfg0.N) (h0 : ¬ t.val % 32 = 0) (h1 : ¬ t.val % 32 = 31) (g : Fin 8) (i j : Fin 128) :
    (outsAt0 m c t.val t.isLt).2.1 (ix3 g i j)
      = (outsAt0 m c (t.val - 1) (pred_lt t)).2.1 (ix3 g i j) + (A m c).wterm (2 * t.val) g i j + (A m c).wterm (2 * t.val + 1) g i j := by
  rw [outsAt0_B m c t h0 h1]
  frame_open
  simp (disch := decide) only [↓ View.readCov_skip, ↓ View.readCov_cons_toLoadRect, ↓ View.readCov_fill, wp0, wp1, wp2, wp3, wp4, wp5, wp6, wp7, wp8, wp9, wp10, wp11, wp12, wp13, wp14, wp15]
  frame_out
  try simp only [read_unread_whole]
  rw [dws_read]
  exact (holds m c t).dws_at _ g i j

theorem o13_B (c : Dev nD) (t : Fin cfg0.N) (h0 : ¬ t.val % 32 = 0) (h1 : ¬ t.val % 32 = 31) (e : Fin 2048) :
    (outsAt0 m c t.val t.isLt).2.2.2.1 (ix2 0 e)
      = (outsAt0 m c (t.val - 1) (pred_lt t)).2.2.2.1 (ix2 0 e) + ∑ r : Fin 256, (A m c).dvn (256 * t.val + r.val) e * (A m c).vh (256 * t.val + r.val) e := by
  rw [outsAt0_B m c t h0 h1]
  frame_open
  simp (disch := decide) only [↓ View.readCov_skip, ↓ View.readCov_cons_toLoadRect, ↓ View.readCov_fill, dvp0, dvp1, dvp2, dvp3, dvp4, dvp5, dvp6, dvp7, dvp8, dvp9, dvp10, dvp11, dvp12, dvp13, dvp14, dvp15]
  frame_out
  try simp only [read_unread_whole]
  rw [dvn_read]
  exact (holds m c t).dlg_at _ e

theorem o14_B (c : Dev nD) (t : Fin cfg0.N) (h0 : ¬ t.val % 32 = 0) (h1 : ¬ t.val % 32 = 31) (e : Fin 2048) :
    (outsAt0 m c t.val t.isLt).2.2.2.2.1 (ix2 0 e)
      = (outsAt0 m c (t.val - 1) (pred_lt t)).2.2.2.2.1 (ix2 0 e) + ∑ r : Fin 256, (A m c).dvn (256 * t.val + r.val) e := by
  rw [outsAt0_B m c t h0 h1]
  frame_open
  simp (disch := decide) only [↓ View.readCov_skip, ↓ View.readCov_cons_toLoadRect, ↓ View.readCov_fill, dvp0, dvp1, dvp2, dvp3, dvp4, dvp5, dvp6, dvp7, dvp8, dvp9, dvp10, dvp11, dvp12, dvp13, dvp14, dvp15]
  frame_out
  try simp only [read_unread_whole]
  rw [dvn_read]
  exact (holds m c t).dlb_at _ e

theorem o15_C (c : Dev nD) (t : Fin cfg0.N) (h1 : t.val % 32 = 31) (i : Fin 128) (e : Fin 2048) :
    (outsAt0 m c t.val t.isLt).2.2.2.2.2 (ix2 i e)
      = (outsAt0 m c (t.val - 1) (pred_lt t)).2.2.2.2.2 (ix2 i e) + (A m c).dm (128 * (2 * t.val) + i.val) e + (A m c).dm (128 * (2 * t.val + 1) + i.val) e := by
  rw [outsAt0_C m c t (by omega) h1]
  frame_open
  simp (disch := decide) only [↓ View.readCov_skip, ↓ View.readCov_cons_toLoadRect, ↓ View.readCov_fill]
  frame_out
  try simp only [read_unread_whole]
  exact (holds m c t).acc_at _ i e

theorem o11_C (c : Dev nD) (t : Fin cfg0.N) (h1 : t.val % 32 = 31) (g : Fin 8) (i j : Fin 128) :
    (outsAt0 m c t.val t.isLt).2.1 (ix3 g i j)
      = if j.val ≤ i.val then (outsAt0 m c (t.val - 1) (pred_lt t)).2.1 (ix3 g i j) + (A m c).wterm (2 * t.val) g i j + (A m c).wterm (2 * t.val + 1) g i j else 0 := by
  rw [outsAt0_C m c t (by omega) h1]
  frame_open
  simp (disch := decide) only [↓ View.readCov_skip, ↓ View.readCov_cons_toLoadRect, ↓ View.readCov_fill, wp0, wp1, wp2, wp3, wp4, wp5, wp6, wp7, wp8, wp9, wp10, wp11, wp12, wp13, wp14, wp15, tp0, tp1, tp2, tp3, tp4, tp5, tp6, tp7]
  frame_out
  try simp only [read_unread_whole]
  rw [tril_read]
  show (if j.val ≤ i.val then dwsE _ _ _ g i j else 0) = _
  exact if_congr Iff.rfl ((holds m c t).dws_at _ g i j) rfl

theorem o13_C (c : Dev nD) (t : Fin cfg0.N) (h1 : t.val % 32 = 31) (e : Fin 2048) :
    (outsAt0 m c t.val t.isLt).2.2.2.1 (ix2 0 e)
      = (outsAt0 m c (t.val - 1) (pred_lt t)).2.2.2.1 (ix2 0 e) + ∑ r : Fin 256, (A m c).dvn (256 * t.val + r.val) e * (A m c).vh (256 * t.val + r.val) e := by
  rw [outsAt0_C m c t (by omega) h1]
  frame_open
  simp (disch := decide) only [↓ View.readCov_skip, ↓ View.readCov_cons_toLoadRect, ↓ View.readCov_fill, dvp0, dvp1, dvp2, dvp3, dvp4, dvp5, dvp6, dvp7, dvp8, dvp9, dvp10, dvp11, dvp12, dvp13, dvp14, dvp15]
  frame_out
  try simp only [read_unread_whole]
  rw [dvn_read]
  exact (holds m c t).dlg_at _ e

theorem o14_C (c : Dev nD) (t : Fin cfg0.N) (h1 : t.val % 32 = 31) (e : Fin 2048) :
    (outsAt0 m c t.val t.isLt).2.2.2.2.1 (ix2 0 e)
      = (outsAt0 m c (t.val - 1) (pred_lt t)).2.2.2.2.1 (ix2 0 e) + ∑ r : Fin 256, (A m c).dvn (256 * t.val + r.val) e := by
  rw [outsAt0_C m c t (by omega) h1]
  frame_open
  simp (disch := decide) only [↓ View.readCov_skip, ↓ View.readCov_cons_toLoadRect, ↓ View.readCov_fill, dvp0, dvp1, dvp2, dvp3, dvp4, dvp5, dvp6, dvp7, dvp8, dvp9, dvp10, dvp11, dvp12, dvp13, dvp14, dvp15]
  frame_out
  try simp only [read_unread_whole]
  rw [dvn_read]
  exact (holds m c t).dlb_at _ e

theorem o12_C (c : Dev nD) (t : Fin cfg0.N) (h1 : t.val % 32 = 31) (i : Fin 128) (g : Fin 8) :
    (outsAt0 m c t.val t.isLt).2.2.1 (ix2 i g)
      = ∑ e : Fin 256, ((outsAt0 m c (t.val - 1) (pred_lt t)).2.2.2.2.2 (ix2 i (col g e)) + (A m c).dm (128 * (2 * t.val) + i.val) (col g e) + (A m c).dm (128 * (2 * t.val + 1) + i.val) (col g e)) := by
  rw [outsAt0_C m c t (by omega) h1]
  frame_open
  simp (disch := decide) only [↓ View.readCov_skip, ↓ View.readCov_cons_toLoadRect, ↓ View.readCov_fill, sp0, sp1, sp2, sp3, sp4, sp5, sp6, sp7]
  frame_out
  try simp only [read_unread_whole]
  rw [row_read]
  show dbsE _ i g = _
  exact Finset.sum_congr rfl fun e _ => (holds m c t).acc_at _ i (col g e)

end Cert.Kernel7Ideal.Gm
-- ==== Proof.GmParts.lean ====
/- The gated mixer's backward kernel: what each grid point leaves in its outputs. -/
module

public import proofs.«01_k».proof.Proof.Gen.Kernel7Ideal.Value
public import proofs.«01_k».proof.Proof.GmBlocks
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel7Ideal.Gm

open Idealize.ShloMosaic Idealize.ShloMosaic.TcCoe Idealize.ShloMosaic.Tactic
open Idealize.ShloMosaic.Pipeline (Dat)
open Cert.Kernel7Ideal Cert.Kernel7Ideal.Gen

open Cert.Gmlp

variable (m : (ℓ : Loc nD τ sig) → Buf (Elt Ideal) ℓ)

/-- The gradients of the projection's parts, by the part's number. -/
def dp (A : Arr) (p : Fin 3) (s : ℕ) (e : Fin 2048) : EReal := if p = 0 then A.dp0 s e else if p = 1 then A.dp1 s e else A.dp2 s e

/-- The same over one point's block. -/
def dpV (A : Arr) (T : ℕ) : Vec Ideal S3x256x2048 .bf16 := fun y => dp A (y 0) (256 * T + (y 1).val) (y 2)

theorem dp_read (B : Blks) (A : Arr) (T : ℕ) (h : B.Holds A T) :
    View.canon ([⟨Rect.unit ![1, 0, 0] ![1, 256, 2048] inb_S3x256x2048_S1x256x2048_1_0_0,
        k0_pay1 (k0_pay33 (k0_pay30 B.b1) (k0_pay31 B.b1) (k0_pay32 B.b1)) (k0_pay35 (k0_pay30 B.b1) (k0_pay31 B.b1)) B.vh
        (k0_pay131 (k0_pay25 B.b5) (dvnV B.b8 B.dm)) (k0_pay132 (k0_pay25 B.b5) (dvnV B.b8 B.dm))⟩,
      ⟨Rect.unit ![0, 0, 0] ![1, 256, 2048] inb_S3x256x2048_S1x256x2048_0_0_0, k0_pay71 (k0_pay29 B.b0) (mixV B.b7 B.vn B.b9) B.dy B.b2⟩,
      ⟨Rect.unit ![2, 0, 0] ![1, 256, 2048] inb_S3x256x2048_S1x256x2048_2_0_0, k0_pay70 B.u (mixV B.b7 B.vn B.b9) B.dy B.b2⟩]
        : List (View.Piece (Elt Ideal) S3x256x2048 .bf16)) = dpV A T := by
  have p1 (x : S1x256x2048.Idx) : k0_pay1 (F := Ideal) (k0_pay33 (k0_pay30 B.b1) (k0_pay31 B.b1) (k0_pay32 B.b1)) (k0_pay35 (k0_pay30 B.b1) (k0_pay31 B.b1)) B.vh
      (k0_pay131 (k0_pay25 B.b5) (dvnV B.b8 B.dm)) (k0_pay132 (k0_pay25 B.b5) (dvnV B.b8 B.dm)) x
      = dpV A T ((Rect.unit (s := S3x256x2048) ![1, 0, 0] ![1, 256, 2048] inb_S3x256x2048_S1x256x2048_1_0_0).emb x) := by
    idx_vars x
    obtain rfl := Fin.fin_one_eq_zero x0
    refine (h.dp1_at x1 x2).trans ?_
    rw [emb3 ![1, 0, 0] _ 0 x1 x2 1 x1 x2 rfl (Nat.zero_add _).symm (Nat.zero_add _).symm]
    show A.dp1 _ _ = dp A 1 (256 * T + x1.val) x2
    rw [dp, if_neg (by decide), if_pos rfl]
  have p0 (x : S1x256x2048.Idx) : k0_pay71 (F := Ideal) (k0_pay29 B.b0) (mixV B.b7 B.vn B.b9) B.dy B.b2 x
      = dpV A T ((Rect.unit (s := S3x256x2048) ![0, 0, 0] ![1, 256, 2048] inb_S3x256x2048_S1x256x2048_0_0_0).emb x) := by
    idx_vars x
    obtain rfl := Fin.fin_one_eq_zero x0
    refine (h.dp0_at x1 x2).trans ?_
    rw [emb3 ![0, 0, 0] _ 0 x1 x2 0 x1 x2 rfl (Nat.zero_add _).symm (Nat.zero_add _).symm]
    show A.dp0 _ _ = dp A 0 (256 * T + x1.val) x2
    rw [dp, if_pos rfl]
  have p2 (x : S1x256x2048.Idx) : k0_pay70 (F := Ideal) B.u (mixV B.b7 B.vn B.b9) B.dy B.b2 x
      = dpV A T ((Rect.unit (s := S3x256x2048) ![2, 0, 0] ![1, 256, 2048] inb_S3x256x2048_S1x256x2048_2_0_0).emb x) := by
    idx_vars x
    obtain rfl := Fin.fin_one_eq_zero x0
    refine (h.dp2_at x1 x2).trans ?_
    rw [emb3 ![2, 0, 0] _ 0 x1 x2 2 x1 x2 rfl (Nat.zero_add _).symm (Nat.zero_add _).symm]
    show A.dp2 _ _ = dp A 2 (256 * T + x1.val) x2
    rw [dp, if_neg (by decide), if_neg (by decide)]
  funext y
  exact View.canon_append_of_piecesOf (dpV A T) [] [_, _, _] ⟨p1, p0, p2, trivial⟩ y (View.cover_of_tiledL _ ![1, 256, 2048] (by rfl) y)

set_option maxHeartbeats 2000000 in
theorem o10_A (c : Dev nD) (t : Fin cfg0.N) (h0 : t.val % 32 = 0) (p : Fin 3) (r : Fin 256) (e : Fin 2048) :
    (outsAt0 m c t.val t.isLt).1 (ix3 p r e)
      = dp (A m c) p (256 * t.val + r.val) e := by
  rw [outsAt0_A m c t h0 (by omega)]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, dvp0, dvp1, dvp2, dvp3, dvp4, dvp5, dvp6, dvp7, dvp8, dvp9, dvp10, dvp11, dvp12, dvp13, dvp14, dvp15]
  frame_out
  rw [mix_read, dvn_read]
  exact congrFun (dp_read (blks m c t) (A m c) t.val (holds m c t)) (ix3 p r e)

set_option maxHeartbeats 2000000 in
theorem o10_B (c : Dev nD) (t : Fin cfg0.N) (h0 : ¬ t.val % 32 = 0) (h1 : ¬ t.val % 32 = 31) (p : Fin 3) (r : Fin 256) (e : Fin 2048) :
    (outsAt0 m c t.val t.isLt).1 (ix3 p r e)
      = dp (A m c) p (256 * t.val + r.val) e := by
  rw [outsAt0_B m c t h0 h1]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, dvp0, dvp1, dvp2, dvp3, dvp4, dvp5, dvp6, dvp7, dvp8, dvp9, dvp10, dvp11, dvp12, dvp13, dvp14, dvp15]
  frame_out
  rw [mix_read, dvn_read]
  exact congrFun (dp_read (blks m c t) (A m c) t.val (holds m c t)) (ix3 p r e)

set_option maxHeartbeats 2000000 in
theorem o10_C (c : Dev nD) (t : Fin cfg0.N) (h1 : t.val % 32 = 31) (p : Fin 3) (r : Fin 256) (e : Fin 2048) :
    (outsAt0 m c t.val t.isLt).1 (ix3 p r e)
      = dp (A m c) p (256 * t.val + r.val) e := by
  rw [outsAt0_C m c t (by omega) h1]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, dvp0, dvp1, dvp2, dvp3, dvp4, dvp5, dvp6, dvp7, dvp8, dvp9, dvp10, dvp11, dvp12, dvp13, dvp14, dvp15]
  frame_out
  rw [mix_read, dvn_read]
  exact congrFun (dp_read (blks m c t) (A m c) t.val (holds m c t)) (ix3 p r e)

end Cert.Kernel7Ideal.Gm
-- ==== Proof.Gm.lean ====
/- The gated mixer's backward kernel: its result arrays as the backward pass's formulas. -/
module

public import proofs.«01_k».proof.Proof.Gen.Kernel7Ideal.Value
public import proofs.«01_k».proof.Proof.GmOuts
public import proofs.«01_k».proof.Proof.GmParts
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel7Ideal.Gm

open Idealize.ShloMosaic Idealize.ShloMosaic.TcCoe Idealize.ShloMosaic.Tactic
open Idealize.ShloMosaic.Pipeline (Dat)
open Cert.Kernel7Ideal Cert.Kernel7Ideal.Gen

open Cert.Gmlp

variable (m : (ℓ : Loc nD τ sig) → Buf (Elt Ideal) ℓ)

theorem rows_step (f : ℕ → EReal) (i : ℕ) :
    ∑ s ∈ Finset.range (256 * (i + 1)), f s = ∑ s ∈ Finset.range (256 * i), f s + ∑ r : Fin 256, f (256 * i + r.val) := by
  rw [Nat.mul_add, Nat.mul_one, Finset.sum_range_add, Finset.sum_range (fun x => f (256 * i + x))]

theorem two_step (f : ℕ → EReal) (i : ℕ) :
    ∑ s ∈ Finset.range (2 * (i + 1)), f s = ∑ s ∈ Finset.range (2 * i), f s + f (2 * i) + f (2 * i + 1) := by
  rw [Nat.mul_add, Nat.mul_one, Finset.sum_range_succ, Finset.sum_range_succ]

theorem o10 (c : Dev nD) (t : Fin cfg0.N) (p : Fin 3) (r : Fin 256) (e : Fin 2048) :
    (outsAt0 m c t.val t.isLt).1 (ix3 p r e) = dp (A m c) p (256 * t.val + r.val) e := by
  by_cases h0 : t.val % 32 = 0
  · exact o10_A m c t h0 p r e
  by_cases h1 : t.val % 32 = 31
  · exact o10_C m c t h1 p r e
  · exact o10_B m c t h0 h1 p r e

/-- The carried sums after each point. -/
theorem acc_pt (c : Dev nD) (i : Fin 128) (e : Fin 2048) : ∀ (n : ℕ) (hn : n < cfg0.N),
    (outsAt0 m c n hn).2.2.2.2.2 (ix2 i e) = ∑ k ∈ Finset.range (2 * (n + 1)), (A m c).dm (128 * k + i.val) e := by
  intro n
  induction n with
  | zero =>
    intro hn
    refine (o15_A m c ⟨0, hn⟩ rfl i e).trans ?_
    rw [two_step (fun k => (A m c).dm (128 * k + i.val) e)]
    rfl
  | succ n ih =>
    intro hn
    have hN : n + 1 < 32 := lt_of_lt_of_eq hn N_0
    rw [two_step (fun k => (A m c).dm (128 * k + i.val) e), ← ih (by omega)]
    by_cases h1 : (n + 1) % 32 = 31
    · exact o15_C m c ⟨n + 1, hn⟩ h1 i e
    · exact o15_B m c ⟨n + 1, hn⟩ (by show ¬ (n + 1) % 32 = 0; omega) h1 i e

theorem dws_pt (c : Dev nD) (g : Fin 8) (i j : Fin 128) : ∀ (n : ℕ) (hn : n < cfg0.N), n < 31 →
    (outsAt0 m c n hn).2.1 (ix3 g i j) = ∑ k ∈ Finset.range (2 * (n + 1)), (A m c).wterm k g i j := by
  intro n
  induction n with
  | zero =>
    intro hn _
    refine (o11_A m c ⟨0, hn⟩ rfl g i j).trans ?_
    rw [two_step (fun k => (A m c).wterm k g i j)]
    rfl
  | succ n ih =>
    intro hn h
    rw [two_step (fun k => (A m c).wterm k g i j), ← ih (by omega) (by omega)]
    exact o11_B m c ⟨n + 1, hn⟩ (by show ¬ (n + 1) % 32 = 0; omega) (by show ¬ (n + 1) % 32 = 31; omega) g i j

theorem dlg_pt (c : Dev nD) (e : Fin 2048) : ∀ (n : ℕ) (hn : n < cfg0.N),
    (outsAt0 m c n hn).2.2.2.1 (ix2 0 e) = ∑ s ∈ Finset.range (256 * (n + 1)), (A m c).dvn s e * (A m c).vh s e := by
  intro n
  induction n with
  | zero =>
    intro hn
    refine (o13_A m c ⟨0, hn⟩ rfl e).trans ?_
    rw [rows_step (fun s => (A m c).dvn s e * (A m c).vh s e)]
    rfl
  | succ n ih =>
    intro hn
    have hN : n + 1 < 32 := lt_of_lt_of_eq hn N_0
    rw [rows_step (fun s => (A m c).dvn s e * (A m c).vh s e), ← ih (by omega)]
    by_cases h1 : (n + 1) % 32 = 31
    · exact o13_C m c ⟨n + 1, hn⟩ h1 e
    · exact o13_B m c ⟨n + 1, hn⟩ (by show ¬ (n + 1) % 32 = 0; omega) h1 e

theorem dlb_pt (c : Dev nD) (e : Fin 2048) : ∀ (n : ℕ) (hn : n < cfg0.N),
    (outsAt0 m c n hn).2.2.2.2.1 (ix2 0 e) = ∑ s ∈ Finset.range (256 * (n + 1)), (A m c).dvn s e := by
  intro n
  induction n with
  | zero =>
    intro hn
    refine (o14_A m c ⟨0, hn⟩ rfl e).trans ?_
    rw [rows_step (fun s => (A m c).dvn s e)]
    rfl
  | succ n ih =>
    intro hn
    have hN : n + 1 < 32 := lt_of_lt_of_eq hn N_0
    rw [rows_step (fun s => (A m c).dvn s e), ← ih (by omega)]
    by_cases h1 : (n + 1) % 32 = 31
    · exact o14_C m c ⟨n + 1, hn⟩ h1 e
    · exact o14_B m c ⟨n + 1, hn⟩ (by show ¬ (n + 1) % 32 = 0; omega) h1 e

/-! ### The last point -/

theorem dws_last (c : Dev nD) (t : Fin cfg0.N) (h : t.val % 32 = 31) (g : Fin 8) (i j : Fin 128) :
    (outsAt0 m c t.val t.isLt).2.1 (ix3 g i j) = (A m c).dws g i j := by
  have ht : t.val = 31 := by have := lt_N t; omega
  have hp := dws_pt m c g i j (t.val - 1) (pred_lt t) (by omega)
  refine (o11_C m c t h g i j).trans (if_congr Iff.rfl ?_ rfl)
  rw [hp, show t.val - 1 + 1 = t.val by omega, ← two_step (fun k => (A m c).wterm k g i j), ht]
  exact Finset.sum_range _

theorem dbs_last (c : Dev nD) (t : Fin cfg0.N) (h : t.val % 32 = 31) (i : Fin 128) (g : Fin 8) :
    (outsAt0 m c t.val t.isLt).2.2.1 (ix2 i g) = (A m c).dbs i g := by
  have ht : t.val = 31 := by have := lt_N t; omega
  refine (o12_C m c t h i g).trans (Finset.sum_congr rfl fun e _ => ?_)
  rw [acc_pt m c i (col g e) (t.val - 1) (pred_lt t), show t.val - 1 + 1 = t.val by omega, ← two_step (fun k => (A m c).dm (128 * k + i.val) (col g e)), ht]
  exact Finset.sum_range _

theorem dlg_last (c : Dev nD) (t : Fin cfg0.N) (h : t.val % 32 = 31) (e : Fin 2048) :
    (outsAt0 m c t.val t.isLt).2.2.2.1 (ix2 0 e) = (A m c).dlg e := by
  have ht : t.val = 31 := by have := lt_N t; omega
  refine (dlg_pt m c e t.val t.isLt).trans ?_
  rw [ht]
  exact Finset.sum_range _

theorem dlb_last (c : Dev nD) (t : Fin cfg0.N) (h : t.val % 32 = 31) (e : Fin 2048) :
    (outsAt0 m c t.val t.isLt).2.2.2.2.1 (ix2 0 e) = (A m c).dlb e := by
  have ht : t.val = 31 := by have := lt_N t; omega
  refine (dlb_pt m c e t.val t.isLt).trans ?_
  rw [ht]
  exact Finset.sum_range _

/-! ### The result arrays -/

abbrev res10 (A : Arr) : Vec Ideal S3x8192x2048 .bf16 := fun y => dp A (y 0) (y 1).val (y 2)
abbrev res11 (A : Arr) : Vec Ideal S8x128x128 .f32 := fun y => A.dws (y 0) (y 1) (y 2)
abbrev res12 (A : Arr) : Vec Ideal S128x8 .f32 := fun y => A.dbs (y 0) (y 1)
abbrev res13 (A : Arr) : Vec Ideal S1x2048 .f32 := fun y => A.dlg (y 1)
abbrev res14 (A : Arr) : Vec Ideal S1x2048 .f32 := fun y => A.dlb (y 1)

theorem final10 (c : Dev nD) : (dats m 0 c).arrAt 10 cfg0.N = res10 (A m c) := by
  refine (dats m 0 c).arrAt_eq_of_covers 10 _ (by decide +kernel) fun t hf y => ?_
  blk_simp
  rw [after0_10]
  idx_vars y
  refine (o10 m c t y0 y1 y2).trans ?_
  have e0 : ((win0_10.blk t).view.emb (ix3 y0 y1 y2) 0 : Fin 3) = y0 := Fin.ext (by blk_simp [idx10 t])
  have e1 : (((win0_10.blk t).view.emb (ix3 y0 y1 y2) 1 : Fin _) : ℕ) = 256 * t.val + y1.val := by
    blk_simp [idx10 t]
    exact congrArg (· + y1.val) (Nat.mul_comm _ _)
  have e2 : ((win0_10.blk t).view.emb (ix3 y0 y1 y2) 2 : Fin 2048) = y2 := Fin.ext (by blk_simp [idx10 t])
  show _ = dp (A m c) ((win0_10.blk t).view.emb (ix3 y0 y1 y2) 0) ((win0_10.blk t).view.emb (ix3 y0 y1 y2) 1).val ((win0_10.blk t).view.emb (ix3 y0 y1 y2) 2)
  rw [e0, e1, e2]

theorem final11 (c : Dev nD) : (dats m 0 c).arrAt 11 cfg0.N = res11 (A m c) := by
  refine (dats m 0 c).arrAt_eq_of_covers 11 _ (by decide +kernel) fun t hf y => ?_
  have hl : t.val % 32 = 31 := (flush0_11 t).mp hf
  blk_simp
  rw [after0_11]
  idx_vars y
  refine (dws_last m c t hl y0 y1 y2).trans ?_
  have e0 : ((win0_11.blk t).view.emb (ix3 y0 y1 y2) 0 : Fin 8) = y0 := Fin.ext (by blk_simp [idx11 t])
  have e1 : ((win0_11.blk t).view.emb (ix3 y0 y1 y2) 1 : Fin 128) = y1 := Fin.ext (by blk_simp [idx11 t])
  have e2 : ((win0_11.blk t).view.emb (ix3 y0 y1 y2) 2 : Fin 128) = y2 := Fin.ext (by blk_simp [idx11 t])
  show _ = (A m c).dws ((win0_11.blk t).view.emb (ix3 y0 y1 y2) 0) ((win0_11.blk t).view.emb (ix3 y0 y1 y2) 1) ((win0_11.blk t).view.emb (ix3 y0 y1 y2) 2)
  rw [e0, e1, e2]

theorem final12 (c : Dev nD) : (dats m 0 c).arrAt 12 cfg0.N = res12 (A m c) := by
  refine (dats m 0 c).arrAt_eq_of_covers 12 _ (by decide +kernel) fun t hf y => ?_
  have hl : t.val % 32 = 31 := (flush0_12 t).mp hf
  blk_simp
  rw [after0_12]
  idx_vars y
  refine (dbs_last m c t hl y0 y1).trans ?_
  have e0 : ((win0_12.blk t).view.emb (ix2 y0 y1) 0 : Fin 128) = y0 := Fin.ext (by blk_simp [idx12 t])
  have e1 : ((win0_12.blk t).view.emb (ix2 y0 y1) 1 : Fin 8) = y1 := Fin.ext (by blk_simp [idx12 t])
  show _ = (A m c).dbs ((win0_12.blk t).view.emb (ix2 y0 y1) 0) ((win0_12.blk t).view.emb (ix2 y0 y1) 1)
  rw [e0, e1]

theorem final13 (c : Dev nD) : (dats m 0 c).arrAt 13 cfg0.N = res13 (A m c) := by
  refine (dats m 0 c).arrAt_eq_of_covers 13 _ (by decide +kernel) fun t hf y => ?_
  have hl : t.val % 32 = 31 := (flush0_13 t).mp hf
  blk_simp
  rw [after0_13]
  idx_vars y
  refine (congrArg _ (congrFun (congrArg ix2 (Subsingleton.elim y0 0)) y1)).trans ?_
  refine (dlg_last m c t hl y1).trans ?_
  have e1 : ((win0_13.blk t).view.emb (ix2 y0 y1) 1 : Fin 2048) = y1 := Fin.ext (by blk_simp [idx13 t])
  show _ = (A m c).dlg ((win0_13.blk t).view.emb (ix2 y0 y1) 1)
  rw [e1]

theorem final14 (c : Dev nD) : (dats m 0 c).arrAt 14 cfg0.N = res14 (A m c) := by
  refine (dats m 0 c).arrAt_eq_of_covers 14 _ (by decide +kernel) fun t hf y => ?_
  have hl : t.val % 32 = 31 := (flush0_14 t).mp hf
  blk_simp
  rw [after0_14]
  idx_vars y
  refine (congrArg _ (congrFun (congrArg ix2 (Subsingleton.elim y0 0)) y1)).trans ?_
  refine (dlb_last m c t hl y1).trans ?_
  have e1 : ((win0_14.blk t).view.emb (ix2 y0 y1) 1 : Fin 2048) = y1 := Fin.ext (by blk_simp [idx14 t])
  show _ = (A m c).dlb ((win0_14.blk t).view.emb (ix2 y0 y1) 1)
  rw [e1]

end Cert.Kernel7Ideal.Gm
-- ==== Proof.GmRed.lean ====
/- The sums over two axes the gated mixer's reference takes, read at an index. -/
module

public import proofs.«01_k».proof.Proof.Gen.Reference7Ideal.Read
public import Idealize.ShloMosaic.Lib.TwoAxisContraction
public import Idealize.ShloMosaic.Lib.Pointwise

@[expose] public section

set_option maxRecDepth 16384

noncomputable section

open scoped BigOperators

namespace Cert.Reference7Ideal.Gm

open Idealize.ShloMosaic Idealize.ShloMosaic.Tactic Cert.Reference7Ideal Cert.Reference7Ideal.Read
open Idealize.ShloMosaic.ValueIdx (contrEquiv2 contrEquiv2_symm_val0 contrEquiv2_symm_val1 sum_contr2)

/-- A host sum over the first and the last of four axes. -/
theorem reduce_03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k0 : Fin n0, ∑ k1 : Fin n3, v (ix4 k0 a b k1) := by
  refine congrArg (init + ·) ?_
  refine (Finset.sum_filter_eq_sum_of_fiber _ (fun k : Fin n0 × Fin n3 => ix4 k.1 a b k.2)
    (fun _ _ e => Prod.ext (congrFun e 0) (congrFun e 3)) (fun i => ?_) v).trans ?_
  · constructor
    · intro e
      refine ⟨(i 0, i 3), ?_⟩
      funext c; apply Fin.ext
      match c with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext c; apply Fin.ext
      match c with
      | ⟨0, _⟩ => rfl
      | ⟨1, _⟩ => rfl
  · simp only [Fintype.sum_prod_type]

abbrev D := dot_S8x64x256x128_S64x128x8x256_S8x128x128_12_03_3_1_0_2

/-- A group's product summed over the chunks and the group's columns. -/
theorem dot_two (L : FVec Ideal S8x64x256x128 .f32) (R : FVec Ideal S64x128x8x256 .f32) (g : Fin 8) (i j : Fin 128) :
    Host.dotGeneral D none L R (ix3 g i j) = ∑ n : Fin 64, ∑ c : Fin 256, L (ix4 g n c i) * R (ix4 n j g c) := by
  have hr : D.contr.rank = 2 := rfl
  have c0 : D.contr.size ⟨0, by rw [hr]; omega⟩ = 64 := rfl
  have c1 : D.contr.size ⟨1, by rw [hr]; omega⟩ = 256 := rfl
  simp only [Host.dotGeneral]
  rw [Ideal.dotGeneral_apply, sum_contr2 D 64 256 hr c0 c1]
  refine Finset.sum_congr rfl fun n _ => Finset.sum_congr rfl fun c _ => ?_
  have h0 := contrEquiv2_symm_val0 D 64 256 hr c0 c1 (n, c)
  have h1 := contrEquiv2_symm_val1 D 64 256 hr c0 c1 (n, c)
  have el : D.lhsIdx (ix3 g i j) ((contrEquiv2 D 64 256 hr c0 c1).symm (n, c)) = ix4 g n c i := by
    funext a; apply Fin.ext
    match a with
    | ⟨0, _⟩ => rfl
    | ⟨1, _⟩ => exact h0
    | ⟨2, _⟩ => exact h1
    | ⟨3, _⟩ => rfl
  have er : D.rhsIdx (ix3 g i j) ((contrEquiv2 D 64 256 hr c0 c1).symm (n, c)) = ix4 n j g c := by
    funext a; apply Fin.ext
    match a with
    | ⟨0, _⟩ => exact h0
    | ⟨1, _⟩ => rfl
    | ⟨2, _⟩ => rfl
    | ⟨3, _⟩ => exact h1
  rw [el, er]

end Cert.Reference7Ideal.Gm
-- ==== Proof.GmRef.lean ====
/- The gated mixer's reference: its gradients as the backward pass's formulas. -/
module

public import proofs.«01_k».proof.Proof.GmRed
public import proofs.«01_k».proof.Proof.GmArr

@[expose] public section

set_option maxRecDepth 16384

noncomputable section

open scoped BigOperators

namespace Cert.Reference7Ideal.Gm

open Idealize.ShloMosaic Idealize.ShloMosaic.Tactic Cert.Reference7Ideal Cert.Reference7Ideal.Read
open Cert.Gmlp
open Cert.Norm (div_coe)
open Cert.GatedConv (Real' half half_eq sg sg_eq sg_real dsilu)

variable (x0 : Vec Ideal S3x8192x2048 .f32) (x1 x2 : Vec Ideal S2048 .f32) (x3 : Vec Ideal S8x128x128 .f32) (x4 : Vec Ideal S8x128 .f32)
  (x5 : Vec Ideal S2048x1024 .f32) (x6 : Vec Ideal S8192x1024 .f32)

abbrev A : Arr := arr x0 x1 x2 x3 x4 x5 x6

theorem pu_at (s : Fin 8192) (e : Fin 2048) : val_main_v1 (F := Ideal) x0 (ix2 s e) = (A x0 x1 x2 x3 x4 x5 x6).pu s e := by
  show _ = x0 (ix3 0 (rw' s) e)
  rw [rw'_eq]
  pointwise [val_main_v1, val_main_v0]

theorem pv_at (s : Fin 8192) (e : Fin 2048) : val_main_v3 (F := Ideal) x0 (ix2 s e) = (A x0 x1 x2 x3 x4 x5 x6).pv s e := by
  show _ = x0 (ix3 1 (rw' s) e)
  rw [rw'_eq]
  pointwise [val_main_v3, val_main_v2]

theorem z_at (s : Fin 8192) (e : Fin 2048) : val_main_v5 (F := Ideal) x0 (ix2 s e) = (A x0 x1 x2 x3 x4 x5 x6).z s e := by
  show _ = x0 (ix3 2 (rw' s) e)
  rw [rw'_eq]
  pointwise [val_main_v5, val_main_v4]

theorem two_eq : Ideal.ofBits .f32 0x40000000#32 = ((2 : ℝ) : EReal) := by
  simp [Ideal.ofBits, Ideal.ieee, -EReal.coe_mul]; norm_num

theorem mtwo_eq : Ideal.ofBits .f32 0xC0000000#32 = ((-2 : ℝ) : EReal) := by
  simp [Ideal.ofBits, Ideal.ieee, -EReal.coe_mul]; norm_num

theorem four_eq : Ideal.ofBits .f32 0x40800000#32 = ((4 : ℝ) : EReal) := by
  simp [Ideal.ofBits, Ideal.ieee, -EReal.coe_mul]; norm_num

theorem a_at (i : S_.Idx) : val_main_v10 (F := Ideal) i = ra := by
  pointwise [val_main_v10, val_main_v9, val_main_cst_0, val_main_cst_1]
  have h2 : Real.sqrt 2 ≠ 0 := (Real.sqrt_pos.2 (by norm_num)).ne'
  rw [two_eq, Ideal.sqrt_coe, if_neg (by norm_num), show (1 : EReal) = ((1 : ℝ) : EReal) from rfl, div_coe _ _ h2, one_div]

theorem a'_at (i : S_.Idx) : val_main_v28 (F := Ideal) i = ra := a_at i

theorem c_at (i : S_.Idx) : val_main_v16 (F := Ideal) i = -rc := by
  pointwise [val_main_v16, val_main_v15, val_main_v14, val_main_v13, val_main_cst_2, val_main_cst_3, val_main_cst_4, val_main_cst_5]
  have hp : Real.sqrt Real.pi ≠ 0 := (Real.sqrt_pos.2 Real.pi_pos).ne'
  have ha : Ideal.atan2 1 1 = ((Real.pi / 4 : ℝ) : EReal) := by
    rw [show (1 : EReal) = ((1 : ℝ) : EReal) from rfl]
    have hr : Ideal.atan2 ((1 : ℝ) : EReal) ((1 : ℝ) : EReal)
      = ((if (0 : ℝ) < 1 then Real.arctan (1 / 1)
        else if (1 : ℝ) < 0 then (if (0 : ℝ) ≤ 1 then Real.arctan (1 / 1) + Real.pi else Real.arctan (1 / 1) - Real.pi)
        else if (0 : ℝ) < 1 then Real.pi / 2 else if (1 : ℝ) < 0 then -(Real.pi / 2) else 0 : ℝ) : EReal) := rfl
    rw [hr, if_pos (by norm_num), div_one, Real.arctan_one]
  rw [mtwo_eq, four_eq, ha, ← EReal.coe_mul, show 4 * (Real.pi / 4) = Real.pi by ring, Ideal.sqrt_coe, if_neg (not_lt.2 Real.pi_pos.le),
    div_coe _ _ hp, ← EReal.coe_neg]
  congr 1
  rw [div_eq_mul_inv, neg_mul]

theorem c'_at (i : S_.Idx) : val_main_v34 (F := Ideal) i = -rc := c_at i

theorem u_at (s : Fin 8192) (e : Fin 2048) : val_main_v23 (F := Ideal) x0 (ix2 s e) = (A x0 x1 x2 x3 x4 x5 x6).u s e := by
  refine Eq.trans ?_ (gelu_ref _)
  pointwise [val_main_v23, val_main_v7, val_main_v6, val_main_cst, val_main_v17, val_main_v12, val_main_v11, val_main_v8]
  rw [a_at, pu_at x0 x1 x2 x3 x4 x5 x6]

theorem v_at (s : Fin 8192) (e : Fin 2048) : val_main_v41 (F := Ideal) x0 (ix2 s e) = (A x0 x1 x2 x3 x4 x5 x6).v s e := by
  refine Eq.trans ?_ (gelu_ref _)
  pointwise [val_main_v41, val_main_v25, val_main_v24, val_main_cst_6, val_main_v35, val_main_v30, val_main_v29, val_main_v26]
  rw [a'_at, pv_at x0 x1 x2 x3 x4 x5 x6]

theorem mu_at (s : Fin 8192) : val_main_v45 (F := Ideal) x0 (ix2 s 0) = (A x0 x1 x2 x3 x4 x5 x6).mu s := by
  pointwise [val_main_v45, val_main_v44, val_main_cst_14, val_main_v43, val_main_v42, val_main_cst_13]
  simp only [v_at x0 x1 x2 x3 x4 x5 x6]
  rfl

theorem vc_at (s : Fin 8192) (e : Fin 2048) : val_main_v47 (F := Ideal) x0 (ix2 s e) = (A x0 x1 x2 x3 x4 x5 x6).vc s e := by
  pointwise [val_main_v47, val_main_v46]
  rw [v_at x0 x1 x2 x3 x4 x5 x6, mu_at x0 x1 x2 x3 x4 x5 x6]
  rfl

theorem vc'_at (s : Fin 8192) (e : Fin 2048) : val_main_v56 (F := Ideal) x0 (ix2 s e) = (A x0 x1 x2 x3 x4 x5 x6).vc s e :=
  vc_at x0 x1 x2 x3 x4 x5 x6 s e

theorem var_at (s : Fin 8192) : val_main_v58 (F := Ideal) x0 (ix2 s 0) = (A x0 x1 x2 x3 x4 x5 x6).var s := by
  pointwise [val_main_v58, val_main_v57, val_main_cst_18, val_main_v54, val_main_v53, val_main_cst_17, val_main_v52, val_main_v51, val_main_cst_16, val_main_v48]
  simp only [vc_at x0 x1 x2 x3 x4 x5 x6]
  rfl

theorem rs_at (s : Fin 8192) : val_main_v59 (F := Ideal) x0 (ix2 s 0) = (A x0 x1 x2 x3 x4 x5 x6).rs s := by
  pointwise [val_main_v59]
  rw [var_at x0 x1 x2 x3 x4 x5 x6]
  rfl

theorem vh_at (s : Fin 8192) (e : Fin 2048) : val_main_v64 (F := Ideal) x0 (ix2 s e) = (A x0 x1 x2 x3 x4 x5 x6).vh s e := by
  pointwise [val_main_v64, val_main_v63]
  rw [vc'_at x0 x1 x2 x3 x4 x5 x6, rs_at x0 x1 x2 x3 x4 x5 x6]
  rfl

theorem vn_at (s : Fin 8192) (e : Fin 2048) : val_main_v70 (F := Ideal) x0 x1 x2 (ix2 s e) = (A x0 x1 x2 x3 x4 x5 x6).vn s e := by
  pointwise [val_main_v70, val_main_v69, val_main_v68, val_main_v67, val_main_v66, val_main_v65]
  rw [vh_at x0 x1 x2 x3 x4 x5 x6]
  rfl

theorem ix2_congr {a b : ℕ} {i i' : Fin a} {j j' : Fin b} (hi : i.val = i'.val) (hj : j.val = j'.val) : ix2 i j = ix2 i' j' := by
  rw [Fin.ext hi, Fin.ext hj]

theorem cmp_ge (i j : Fin 128) : IntOp.cmpi CmpIPredicate.sge (IntOp.addi (BitVec.ofNat 32 i) 0#32) (BitVec.ofNat 32 j) = if j.val ≤ i.val then 1#1 else 0#1 := by
  have h : ∀ i j : Fin 128, IntOp.cmpi CmpIPredicate.sge (IntOp.addi (BitVec.ofNat 32 i) 0#32) (BitVec.ofNat 32 j) = if j.val ≤ i.val then 1#1 else 0#1 := by
    decide +kernel
  exact h i j

theorem col_eq (e : Fin 2048) : col ⟨e.val / 256, by omega⟩ ⟨e.val % 256, by omega⟩ = e := Fin.ext (by show 256 * (e.val / 256) + e.val % 256 = e.val; omega)

/-- A chunk's row. -/
def crow (n : Fin 64) (i : Fin 128) : Fin 8192 := ⟨128 * n.val + i.val, by omega⟩

theorem vn4_at (n : Fin 64) (i : Fin 128) (g : Fin 8) (c : Fin 256) :
    val_main_v71 (F := Ideal) x0 x1 x2 (ix4 n i g c) = (A x0 x1 x2 x3 x4 x5 x6).vn (128 * n.val + i.val) (col g c) := by
  refine Eq.trans ?_ (vn_at x0 x1 x2 x3 x4 x5 x6 (crow n i) (col g c))
  pointwise [val_main_v71]
  exact congrArg _ (ix2_congr (congrArg (· + i.val) (Nat.mul_comm _ _)) (congrArg (· + c.val) (Nat.mul_comm _ _)))

theorem mask_at (g : Fin 8) (i j : Fin 128) : val_main_v76_1 (F := Ideal) (ix3 g i j) = if j.val ≤ i.val then 1#1 else 0#1 := by
  pointwise [val_main_v76_1, val_main_v74, val_main_v73, val_main_v72, val_main_c, val_main_call0_v0, val_main_call0_v1, val_main_call0_c, val_main_call0_v2, val_main_call0_v3, val_main_call0_v4, val_main_call0_v5, val_main_call0_c_0]
  rw [cmp_ge]
  by_cases h : j.val ≤ i.val
  · rw [if_pos h]; rfl
  · rw [if_neg h]; rfl

theorem tri_at (g : Fin 8) (i j : Fin 128) : val_main_v76_0 (F := Ideal) x3 (ix3 g i j) = (A x0 x1 x2 x3 x4 x5 x6).tri g i j := by
  pointwise [val_main_v76_0, val_main_v75, val_main_cst_20]
  rw [mask_at]
  unfold Arr.tri
  by_cases h : j.val ≤ i.val
  · rw [if_pos h, if_pos h]; rfl
  · rw [if_neg h, if_neg h]; rfl

theorem mixed_at (s : Fin 8192) (e : Fin 2048) : val_main_v83 (F := Ideal) x0 x1 x2 x3 x4 (ix2 s e) = (A x0 x1 x2 x3 x4 x5 x6).mix s e := by
  pointwise [val_main_v83, val_main_v82, val_main_v81, val_main_v80, val_main_v79, val_main_v78, val_main_v77]
  refine congrArg₂ (· + ·) (Finset.sum_congr rfl fun j _ => ?_) rfl
  refine (congrArg₂ (· * ·) (vn4_at x0 x1 x2 x3 x4 x5 x6 ⟨s.val / 128, by omega⟩ j ⟨e.val / 256, by omega⟩ ⟨e.val % 256, by omega⟩)
    (tri_at x0 x1 x2 x3 x4 x5 x6 ⟨e.val / 256, by omega⟩ ⟨s.val % 128, by omega⟩ j)).trans ?_
  rw [col_eq]
  exact mul_comm _ _

theorem sg_at (s : Fin 8192) (e : Fin 2048) : val_main_v85_2 (F := Ideal) x0 (ix2 s e) = sg ((A x0 x1 x2 x3 x4 x5 x6).z s e) := by
  pointwise [val_main_v85_2, val_main_call2_v0, val_main_call2_v1, val_main_call2_v2, val_main_call2_v3, val_main_call2_v4, val_main_call2_cst, val_main_call2_cst_0]
  rw [z_at x0 x1 x2 x3 x4 x5 x6, sg_eq]

theorem dy_at (s : Fin 8192) (e : Fin 2048) : val_main_v88 (F := Ideal) x5 x6 (ix2 s e) = (A x0 x1 x2 x3 x4 x5 x6).dy s e := by
  show _ = ∑ d, x6 (ix2 (rw' s) d) * x5 (ix2 e d)
  rw [rw'_eq]
  pointwise [val_main_v88]

theorem ds_at (s : Fin 8192) (e : Fin 2048) : val_main_v89 (F := Ideal) x0 x5 x6 (ix2 s e) = (A x0 x1 x2 x3 x4 x5 x6).ds s e := by
  pointwise [val_main_v89, val_main_v85_0]
  rw [sg_at x0 x1 x2 x3 x4 x5 x6, z_at x0 x1 x2 x3 x4 x5 x6, dy_at x0 x1 x2 x3 x4 x5 x6]
  exact mul_comm _ _

theorem dsz_at (s : Fin 8192) (e : Fin 2048) : val_main_v90 (F := Ideal) x0 x1 x2 x3 x4 x5 x6 (ix2 s e)
    = (A x0 x1 x2 x3 x4 x5 x6).dy s e * ((A x0 x1 x2 x3 x4 x5 x6).u s e * (A x0 x1 x2 x3 x4 x5 x6).mix s e) := by
  pointwise [val_main_v90, val_main_v84]
  rw [dy_at x0 x1 x2 x3 x4 x5 x6, u_at x0 x1 x2 x3 x4 x5 x6, mixed_at x0 x1 x2 x3 x4 x5 x6]

theorem dp2_at (h : (A x0 x1 x2 x3 x4 x5 x6).Finite) (s : Fin 8192) (e : Fin 2048) :
    val_main_v91 (F := Ideal) x0 x1 x2 x3 x4 x5 x6 (ix2 s e) = (A x0 x1 x2 x3 x4 x5 x6).dp2 s e := by
  pointwise [val_main_v91, val_main_call3_v0, val_main_call3_v1, val_main_call3_v2, val_main_v85_1, val_main_call2_v7, val_main_call2_v6, val_main_call2_cst_1]
  rw [sg_at x0 x1 x2 x3 x4 x5 x6, z_at x0 x1 x2 x3 x4 x5 x6, dsz_at x0 x1 x2 x3 x4 x5 x6]
  unfold Arr.dp2
  obtain ⟨w, hw⟩ := (h.dy s.val e).mul ((h.u s.val e).mul (h.mix s.val e))
  obtain ⟨z, hz⟩ := h.z s.val e
  obtain ⟨g, hg⟩ := sg_real' (h.z s.val e)
  rw [hw, hg, hz, show (1 : EReal) = ((1 : ℝ) : EReal) from rfl]
  simp only [← EReal.coe_mul, ← EReal.coe_sub, ← EReal.coe_add]
  congr 1
  ring

theorem dm_at (s : Fin 8192) (e : Fin 2048) : val_main_v92 (F := Ideal) x0 x5 x6 (ix2 s e) = (A x0 x1 x2 x3 x4 x5 x6).dm s e := by
  pointwise [val_main_v92]
  rw [u_at x0 x1 x2 x3 x4 x5 x6, ds_at x0 x1 x2 x3 x4 x5 x6]
  exact mul_comm _ _

theorem dm4_at (n : Fin 64) (i : Fin 128) (g : Fin 8) (c : Fin 256) :
    val_main_v94 (F := Ideal) x0 x5 x6 (ix4 n i g c) = (A x0 x1 x2 x3 x4 x5 x6).dm (128 * n.val + i.val) (col g c) := by
  refine Eq.trans ?_ (dm_at x0 x1 x2 x3 x4 x5 x6 (crow n i) (col g c))
  pointwise [val_main_v94]
  exact congrArg _ (ix2_congr (congrArg (· + i.val) (Nat.mul_comm _ _)) (congrArg (· + c.val) (Nat.mul_comm _ _)))

theorem dbs_at (i : Fin 128) (g : Fin 8) : val_main_v161 (F := Ideal) x0 x5 x6 (ix2 i g) = (A x0 x1 x2 x3 x4 x5 x6).dbs i g := by
  pointwise [val_main_v161, val_main_v98]
  unfold val_main_v97
  rw [Host.reduceAdd_apply, Ideal.hostReduceAdd_def, reduce_03, Fin.sum_univ_one, Fin.sum_univ_one]
  pointwise [val_main_v96, val_main_cst_22]
  unfold val_main_v95
  rw [Host.reduceAdd_apply, Ideal.hostReduceAdd_def, reduce_03]
  pointwise [val_main_cst_21]
  simp only [dm4_at x0 x1 x2 x3 x4 x5 x6]
  exact Finset.sum_comm

theorem dws_at (g : Fin 8) (i j : Fin 128) : val_main_v103 (F := Ideal) x0 x1 x2 x5 x6 (ix3 g i j) = (A x0 x1 x2 x3 x4 x5 x6).dws g i j := by
  pointwise [val_main_v103, val_main_call4_v0, val_main_call4_cst]
  rw [mask_at]
  have hd : val_main_v100 (F := Ideal) x0 x1 x2 x5 x6 (ix3 g i j) = ∑ n : Fin 64, (A x0 x1 x2 x3 x4 x5 x6).wterm n.val g i j := by
    unfold val_main_v100
    rw [dot_two]
    refine Finset.sum_congr rfl fun n _ => Finset.sum_congr rfl fun c _ => ?_
    rw [vn4_at x0 x1 x2 x3 x4 x5 x6]
    pointwise [val_main_v99]
    rw [dm4_at x0 x1 x2 x3 x4 x5 x6]
  rw [hd]
  unfold Arr.dws
  by_cases h : j.val ≤ i.val
  · rw [if_pos h, if_pos h]; rfl
  · rw [if_neg h, if_neg h]; rfl

theorem dvn_at (s : Fin 8192) (e : Fin 2048) : val_main_v104 (F := Ideal) x0 x3 x5 x6 (ix2 s e) = (A x0 x1 x2 x3 x4 x5 x6).dvn s e := by
  pointwise [val_main_v104, val_main_v102, val_main_v101, val_main_v99]
  refine Finset.sum_congr rfl fun i _ => ?_
  refine (congrArg₂ (· * ·) (dm4_at x0 x1 x2 x3 x4 x5 x6 ⟨s.val / 128, by omega⟩ i ⟨e.val / 256, by omega⟩ ⟨e.val % 256, by omega⟩)
    (tri_at x0 x1 x2 x3 x4 x5 x6 ⟨e.val / 256, by omega⟩ i ⟨s.val % 128, by omega⟩)).trans ?_
  rw [col_eq]
  exact mul_comm _ _

theorem dlb_at (e : Fin 2048) : val_main_v163 (F := Ideal) x0 x3 x5 x6 (ix2 0 e) = (A x0 x1 x2 x3 x4 x5 x6).dlb e := by
  pointwise [val_main_v163, val_main_v107, val_main_cst_24, val_main_v106, val_main_v105, val_main_cst_23]
  rw [Fin.sum_univ_one]
  exact Finset.sum_congr rfl fun s _ => dvn_at x0 x1 x2 x3 x4 x5 x6 s e

theorem dlg_at (e : Fin 2048) : val_main_v162 (F := Ideal) x0 x3 x5 x6 (ix2 0 e) = (A x0 x1 x2 x3 x4 x5 x6).dlg e := by
  pointwise [val_main_v162, val_main_v113, val_main_cst_26, val_main_v110, val_main_v109, val_main_cst_25, val_main_v108]
  rw [Fin.sum_univ_one]
  refine Finset.sum_congr rfl fun s _ => ?_
  rw [vh_at x0 x1 x2 x3 x4 x5 x6, dvn_at x0 x1 x2 x3 x4 x5 x6]
  exact mul_comm _ _

theorem dvh_at (s : Fin 8192) (e : Fin 2048) : val_main_v112 (F := Ideal) x0 x1 x3 x5 x6 (ix2 s e) = (A x0 x1 x2 x3 x4 x5 x6).dvh s e := by
  pointwise [val_main_v112, val_main_v111, val_main_v65]
  rw [dvn_at x0 x1 x2 x3 x4 x5 x6]
  rfl

theorem q_at (s : Fin 8192) : val_main_v125 (F := Ideal) x0 x1 x3 x5 x6 (ix1 s) = (A x0 x1 x2 x3 x4 x5 x6).q s := by
  pointwise [val_main_v125, val_main_cst_30, val_main_v124, val_main_v123, val_main_cst_29, val_main_v119, val_main_v116, val_main_v115, val_main_cst_27, val_main_v114, val_main_v62, val_main_v61, val_main_cst_19, val_main_v60]
  rw [Fin.sum_univ_one]
  simp only [vc'_at x0 x1 x2 x3 x4 x5 x6, dvh_at x0 x1 x2 x3 x4 x5 x6, rs_at x0 x1 x2 x3 x4 x5 x6, var_at x0 x1 x2 x3 x4 x5 x6]
  rfl

theorem first_at (s : Fin 8192) (e : Fin 2048) : val_main_v118 (F := Ideal) x0 x1 x3 x5 x6 (ix2 s e)
    = (A x0 x1 x2 x3 x4 x5 x6).dvh s e * (A x0 x1 x2 x3 x4 x5 x6).rs s := by
  pointwise [val_main_v118, val_main_v117]
  rw [dvh_at x0 x1 x2 x3 x4 x5 x6, rs_at x0 x1 x2 x3 x4 x5 x6]

theorem second_at (s : Fin 8192) (e : Fin 2048) : val_main_v127 (F := Ideal) x0 x1 x3 x5 x6 (ix2 s e)
    = (A x0 x1 x2 x3 x4 x5 x6).q s * (Ideal.ofBits .f32 0x40000000#32 * (A x0 x1 x2 x3 x4 x5 x6).vc s e) := by
  pointwise [val_main_v127, val_main_v126, val_main_v50, val_main_v49, val_main_cst_15]
  rw [q_at x0 x1 x2 x3 x4 x5 x6, vc_at x0 x1 x2 x3 x4 x5 x6]

theorem dv_at (h : (A x0 x1 x2 x3 x4 x5 x6).Finite) (s : Fin 8192) (e : Fin 2048) :
    val_main_v137 (F := Ideal) x0 x1 x3 x5 x6 (ix2 s e) = (A x0 x1 x2 x3 x4 x5 x6).dv s e := by
  refine Eq.trans ?_ (h.dv_ref s e _ two_eq)
  pointwise [val_main_v137, val_main_v131, val_main_v136, val_main_v135, val_main_cst_33, val_main_v134, val_main_v133, val_main_cst_32, val_main_v132, val_main_v122, val_main_v121, val_main_cst_28, val_main_v120, val_main_v130, val_main_v129, val_main_cst_31, val_main_v128]
  rw [Fin.sum_univ_one]
  simp only [first_at x0 x1 x2 x3 x4 x5 x6, second_at x0 x1 x2 x3 x4 x5 x6]

theorem sub_real {x y : EReal} : Real' x → Real' y → Real' (x - y) := by
  rintro ⟨a, rfl⟩ ⟨b, rfl⟩; exact ⟨a - b, (EReal.coe_sub a b).symm⟩

theorem div_len {x : EReal} : Real' x → Real' (Ideal.div x len) := by
  rintro ⟨a, rfl⟩; exact ⟨a / 2048, by rw [len_eq, div_coe _ _ (by norm_num)]⟩

theorem dv_real {A : Arr} (h : A.Finite) (s : ℕ) (e : Fin 2048) : Real' (A.dv s e) :=
  (h.rs s).mul (sub_real (sub_real (h.dvh s e) (div_len (Real'.sum _ _ fun k => h.dvh s k)))
    ((h.vh s e).mul (div_len (Real'.sum _ _ fun k => (h.dvh s k).mul (h.vh s k)))))

theorem dgelu_at {g x : EReal} (hg : Real' g) (hx : Real' x) :
    -(half * x * g * (-rc * Ideal.exp (-(-x * ra * (-x * ra)))) * ra) + half * (g * Ideal.erfc (-x * ra)) = g * dgelu x := by
  rw [← dgelu_ref hg hx, ← mul_assoc, mul_comm (half * x * g)]

theorem dp1_at (h : (A x0 x1 x2 x3 x4 x5 x6).Finite) (s : Fin 8192) (e : Fin 2048) :
    val_main_v146 (F := Ideal) x0 x1 x3 x5 x6 (ix2 s e) = (A x0 x1 x2 x3 x4 x5 x6).dp1 s e := by
  refine Eq.trans ?_ (dgelu_at (dv_real h s e) (h.pv s e))
  pointwise [val_main_v146, val_main_v145, val_main_v144, val_main_cst_34, val_main_v143, val_main_v142, val_main_v141, val_main_v140, val_main_v139, val_main_v138, val_main_v25, val_main_v24, val_main_cst_6, val_main_v35, val_main_v30, val_main_v29, val_main_v26, val_main_v40, val_main_v39, val_main_v38, val_main_v37, val_main_v36]
  rw [a'_at, c'_at, pv_at x0 x1 x2 x3 x4 x5 x6, dv_at x0 x1 x2 x3 x4 x5 x6 h]

theorem dsm_at (s : Fin 8192) (e : Fin 2048) : val_main_v93 (F := Ideal) x0 x1 x2 x3 x4 x5 x6 (ix2 s e)
    = (A x0 x1 x2 x3 x4 x5 x6).ds s e * (A x0 x1 x2 x3 x4 x5 x6).mix s e := by
  pointwise [val_main_v93]
  rw [ds_at x0 x1 x2 x3 x4 x5 x6, mixed_at x0 x1 x2 x3 x4 x5 x6]

theorem dp0_at (h : (A x0 x1 x2 x3 x4 x5 x6).Finite) (s : Fin 8192) (e : Fin 2048) :
    val_main_v155 (F := Ideal) x0 x1 x2 x3 x4 x5 x6 (ix2 s e) = (A x0 x1 x2 x3 x4 x5 x6).dp0 s e := by
  refine Eq.trans ?_ (dgelu_at ((h.ds s e).mul (h.mix s e)) (h.pu s e))
  pointwise [val_main_v155, val_main_v154, val_main_v153, val_main_cst_35, val_main_v152, val_main_v151, val_main_v150, val_main_v149, val_main_v148, val_main_v147, val_main_v7, val_main_v6, val_main_cst, val_main_v17, val_main_v12, val_main_v11, val_main_v8, val_main_v22, val_main_v21, val_main_v20, val_main_v19, val_main_v18]
  rw [a_at, c_at, pu_at x0 x1 x2 x3 x4 x5 x6, dsm_at x0 x1 x2 x3 x4 x5 x6]

/-- A part of the projection's gradient, by the part's number. -/
def dpart (A : Arr) (p : Fin 3) (s : ℕ) (e : Fin 2048) : EReal := if p = 0 then A.dp0 s e else if p = 1 then A.dp1 s e else A.dp2 s e

theorem dp_at (h : (A x0 x1 x2 x3 x4 x5 x6).Finite) (p : Fin 3) (s : Fin 8192) (e : Fin 2048) :
    val_main_v160 (F := Ideal) x0 x1 x2 x3 x4 x5 x6 (ix3 p s e) = dpart (A x0 x1 x2 x3 x4 x5 x6) p s e := by
  pointwise [val_main_v160, val_main_v159, val_main_v158, val_main_v157, val_main_v156]
  rw [dp0_at x0 x1 x2 x3 x4 x5 x6 h, dp1_at x0 x1 x2 x3 x4 x5 x6 h, dp2_at x0 x1 x2 x3 x4 x5 x6 h]
  unfold dpart
  match p with
  | ⟨0, _⟩ => rfl
  | ⟨1, _⟩ => rfl
  | ⟨2, _⟩ => rfl

end Cert.Reference7Ideal.Gm
-- ==== Proof.GmValue.lean ====
/- The value claim of the gated mixer's backward pass, its reference's frame, and what its precondition says. -/
module

public import proofs.«01_k».proof.Defs
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gm
public import proofs.«01_k».proof.Proof.GmRef
public import proofs.«01_k».proof.Proof.Finite

@[expose] public section

set_option maxRecDepth 16384
set_option maxHeartbeats 4000000

noncomputable section

namespace Cert.Gmlp

open Idealize.ShloMosaic Idealize.ShloMosaic.TcCoe Cert.GatedConv

theorem pre_facts7 : Cert.Pre_finite_args7.Facts where
  bcast_S_S3x8192x2048 := by decide
  reducesTo_S3x8192x2048_S_d0_1_2 := by decide
  h_S_ := by decide
  bcast_S_S2048 := by decide
  reducesTo_S2048_S_d0 := by decide
  bcast_S_S8x128x128 := by decide
  reducesTo_S8x128x128_S_d0_1_2 := by decide
  bcast_S_S8x128 := by decide
  reducesTo_S8x128_S_d0_1 := by decide
  bcast_S_S2048x1024 := by decide
  reducesTo_S2048x1024_S_d0_1 := by decide
  bcast_S_S8192x1024 := by decide
  reducesTo_S8192x1024_S_d0_1 := by decide

theorem finite_of_pre7 [hP : Cert.Pre_finite_args7.Facts] (x0 : Vec Ideal Pre_finite_args7.S3x8192x2048 .f32)
    (x1 x2 : Vec Ideal Pre_finite_args7.S2048 .f32) (x3 : Vec Ideal Pre_finite_args7.S8x128x128 .f32)
    (x4 : Vec Ideal Pre_finite_args7.S8x128 .f32) (x5 : Vec Ideal Pre_finite_args7.S2048x1024 .f32)
    (x6 : Vec Ideal Pre_finite_args7.S8192x1024 .f32)
    (h : Pre_finite_args7.fn (F := Ideal) x0 x1 x2 x3 x4 x5 x6 = fun _ => 1#1) : (arr x0 x1 x2 x3 x4 x5 x6).Finite := by
  have hs : Subsingleton Pre_finite_args7.S_.Idx := ⟨fun a b => funext fun i => i.elim0⟩
  have e := congrFun h (fun i => i.elim0)
  unfold Pre_finite_args7.fn Pre_finite_args7.fn_part1 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have r0 := real_of_all x0 _ _ _ _ _ h0
  have r1 := real_of_all x1 _ _ _ _ _ h1
  have r2 := real_of_all x2 _ _ _ _ _ h2
  have r3 := real_of_all x3 _ _ _ _ _ h3
  have r4 := real_of_all x4 _ _ _ _ _ h4
  have r5 := real_of_all x5 _ _ _ _ _ h5
  have r6 := real_of_all x6 _ _ _ _ _ h6
  exact ⟨fun _ _ => r0 _, fun _ _ => r0 _, fun _ _ => r0 _, fun _ _ => r6 _, fun _ _ => r5 _, fun _ => r1 _, fun _ => r2 _,
    fun _ _ _ => r3 _, fun _ _ => r4 _⟩

end Cert.Gmlp

namespace Cert.Proof

open Idealize.ShloMosaic Idealize.ShloMosaic.TcCoe Idealize.SL.Sem

theorem frame_reference7 : Cert.quiescent_Reference7Ideal := fun m ρ _ =>
  (θ_run Cert.Reference7Ideal.defs _ _).mono (fun r h => ⟨fun c => (h c).2.2.2.2.2, sem_eq_zero_of_no_sems (by decide) r.2⟩)
    (Cert.Reference7Ideal.Value.run (F := Ideal) m ρ)

theorem preserves7 : Cert.preserves_Kernel7_Kernel7Ideal :=
  ⟨IdealRules.named_const.statement Cert.Kernel7Ideal.κ "a" .f32 _ _ (by unfold Cert.Kernel7Ideal.κ; rfl),
    IdealRules.named_const.statement Cert.Kernel7Ideal.κ "b" .f32 _ _ (by unfold Cert.Kernel7Ideal.κ; rfl)⟩

open Cert.Kernel7Ideal.Gm (x0 x1 x2 x3 x4 x5 x6 A res10 res11 res12 res13 res14) in
theorem value7 : Cert.algebraic_Kernel7Ideal_Reference7Ideal_pre_finite_args7 (hPre_finite_args7 := Gmlp.pre_facts7) := by
  intro m g m' g' hpre hm
  refine ⟨fun c => res10 (A m c), fun c => res11 (A m c), fun c => res12 (A m c), fun c => res13 (A m c), fun c => res14 (A m c), ?_, ?_⟩
  · refine (θ_run Cert.Kernel7Ideal.defs _ _).mono (fun r h c => ?_) (Cert.Kernel7Ideal.Value.run_blocks (F := Ideal) m g)
    obtain ⟨h0, h1, h2, h3, h4, hr⟩ := h c
    exact ⟨h0.trans (Kernel7Ideal.Gm.final10 m c), h1.trans (Kernel7Ideal.Gm.final11 m c), h2.trans (Kernel7Ideal.Gm.final12 m c), h3.trans (Kernel7Ideal.Gm.final13 m c), h4.trans (Kernel7Ideal.Gm.final14 m c), hr⟩
  · refine (θ_run Cert.Reference7Ideal.defs _ _).mono (fun r h c => ?_) (Cert.Reference7Ideal.Value.run (F := Ideal) m' g')
    obtain ⟨h0, h1, h2, h3, h4, hr⟩ := h c
    obtain ⟨a0, a1, a2, a3, a4, a5, a6⟩ := hm c
    have l0 : StableHlo.launchContents m' c (Proc.devRef .tc Reference7Ideal.main_arg0) = m ((c.tc : Thread Cert.Kernel7Ideal.nD Cert.Kernel7Ideal.τ).loc Cert.Kernel7Ideal.main_arg0) := a0
    have l1 : StableHlo.launchContents m' c (Proc.devRef .tc Reference7Ideal.main_arg1) = m ((c.tc : Thread Cert.Kernel7Ideal.nD Cert.Kernel7Ideal.τ).loc Cert.Kernel7Ideal.main_arg1) := a1
    have l2 : StableHlo.launchContents m' c (Proc.devRef .tc Reference7Ideal.main_arg2) = m ((c.tc : Thread Cert.Kernel7Ideal.nD Cert.Kernel7Ideal.τ).loc Cert.Kernel7Ideal.main_arg2) := a2
    have l3 : StableHlo.launchContents m' c (Proc.devRef .tc Reference7Ideal.main_arg3) = m ((c.tc : Thread Cert.Kernel7Ideal.nD Cert.Kernel7Ideal.τ).loc Cert.Kernel7Ideal.main_arg3) := a3
    have l4 : StableHlo.launchContents m' c (Proc.devRef .tc Reference7Ideal.main_arg4) = m ((c.tc : Thread Cert.Kernel7Ideal.nD Cert.Kernel7Ideal.τ).loc Cert.Kernel7Ideal.main_arg4) := a4
    have l5 : StableHlo.launchContents m' c (Proc.devRef .tc Reference7Ideal.main_arg5) = m ((c.tc : Thread Cert.Kernel7Ideal.nD Cert.Kernel7Ideal.τ).loc Cert.Kernel7Ideal.main_arg5) := a5
    have l6 : StableHlo.launchContents m' c (Proc.devRef .tc Reference7Ideal.main_arg6) = m ((c.tc : Thread Cert.Kernel7Ideal.nD Cert.Kernel7Ideal.τ).loc Cert.Kernel7Ideal.main_arg6) := a6
    have hA := Gmlp.finite_of_pre7 (hP := Gmlp.pre_facts7) _ _ _ _ _ _ _ (hpre c)
    refine ⟨h0.trans ?_, h1.trans ?_, h2.trans ?_, h3.trans ?_, h4.trans ?_, hr⟩
    · rw [Reference7Ideal.Read.val_main_v160_eq, l0, l1, l2, l3, l4, l5, l6]
      funext y
      idx_vars y
      exact Reference7Ideal.Gm.dp_at (x0 m c) (x1 m c) (x2 m c) (x3 m c) (x4 m c) (x5 m c) (x6 m c) hA y0 y1 y2
    · rw [Reference7Ideal.Read.val_main_v103_eq, l0, l1, l2, l5, l6]
      funext y
      idx_vars y
      exact Reference7Ideal.Gm.dws_at (x0 m c) (x1 m c) (x2 m c) (x3 m c) (x4 m c) (x5 m c) (x6 m c) y0 y1 y2
    · rw [Reference7Ideal.Read.val_main_v161_eq, l0, l5, l6]
      funext y
      idx_vars y
      exact Reference7Ideal.Gm.dbs_at (x0 m c) (x1 m c) (x2 m c) (x3 m c) (x4 m c) (x5 m c) (x6 m c) y0 y1
    · rw [Reference7Ideal.Read.val_main_v162_eq, l0, l3, l5, l6]
      funext y
      idx_vars y
      obtain rfl : y0 = 0 := Subsingleton.elim _ _
      exact Reference7Ideal.Gm.dlg_at (x0 m c) (x1 m c) (x2 m c) (x3 m c) (x4 m c) (x5 m c) (x6 m c) y1
    · rw [Reference7Ideal.Read.val_main_v163_eq, l0, l3, l5, l6]
      funext y
      idx_vars y
      obtain rfl : y0 = 0 := Subsingleton.elim _ _
      exact Reference7Ideal.Gm.dlb_at (x0 m c) (x1 m c) (x2 m c) (x3 m c) (x4 m c) (x5 m c) (x6 m c) y1

end Cert.Proof

end
-- ==== Proof.Slab.lean ====
/- The product with one part of the weights, written into one slab: the number of the part, and the blocks it selects. -/
module

public import proofs.«01_k».proof.Defs
public import proofs.«01_k».proof.Proof.Gen.Kernel9.Frame
public import proofs.«01_k».proof.Proof.Gen.Kernel9Ideal.Frame
public import Idealize.ShloMosaic.Lib.StableHlo.Predicate
public import Idealize.ShloMosaic.Lib.ReduceAll
public import Idealize.ShloMosaic.Lib.Affine
public import Idealize.ShloMosaic.Lib.Pipeline.ValueKit.Point
public import Idealize.ShloMosaic.Lib.Pipeline.ValueKit.Partial

@[expose] public section

set_option maxRecDepth 16384

noncomputable section

namespace Cert.Slab

open Idealize.ShloMosaic Idealize.ShloMosaic.TcCoe Idealize.ShloMosaic.Tactic

theorem pre_facts9 : Cert.Pre_part_number9.Facts where
  bcast_S_S1 := by decide
  reducesTo_S1_S_d0 := by decide
  h_S_ := by decide

attribute [local instance] pre_facts9

/-- The precondition says that the word is one of the four numbers. -/
theorem word_of_pre {F : FTy → Type} [FloatOps F] (q : IVec Cert.Pre_part_number9.S1 32)
    (h : FVec F Cert.Pre_part_number9.S8192x1024 .f32) (w : FVec F Cert.Pre_part_number9.S1024x8192 .f32)
    (p : FVec F Cert.Pre_part_number9.S4x8192x2048 .f32)
    (e : Cert.Pre_part_number9.fn q h w p = fun _ => 1#1) :
    ∃ k : Fin 4, ∀ x : Cert.Pre_part_number9.S1.Idx, q x = BitVec.ofNat 32 k.val := by
  suffices hs : ∃ k : Fin 4, q (ix1 (0 : Fin 1)) = BitVec.ofNat 32 k.val by
    obtain ⟨k, hk⟩ := hs
    refine ⟨k, fun x => ?_⟩
    idx_vars x
    obtain rfl : x0 = 0 := Subsingleton.elim _ _
    exact hk
  have e0 := congrFun e (fun a => a.elim0)
  have e1 := Host.reduce_andi_all _ _ _ _ _ e0 (ix1 (0 : Fin 1))
  simp only [andi, IntOp.andi_eq_one, cmpi] at e1
  obtain ⟨ha, hb⟩ := e1
  have ha' : (0#32).sle (q (ix1 (0 : Fin 1))) = true := (StableHlo.Predicate.ofBool_eq_one_iff _).mp ha
  have hb' : (q (ix1 (0 : Fin 1))).slt 4#32 = true := (StableHlo.Predicate.ofBool_eq_one_iff _).mp hb
  generalize q (ix1 (0 : Fin 1)) = v at ha' hb' ⊢
  have hv : v.toNat < 4 := by
    simp only [BitVec.sle, BitVec.slt, decide_eq_true_eq] at ha' hb'
    have h4 : (4#32 : BitVec 32).toInt = 4 := by decide
    have h0 : (0#32 : BitVec 32).toInt = 0 := by decide
    rw [h4] at hb'
    rw [h0] at ha'
    rw [BitVec.toInt_eq_toNat_cond] at ha' hb'
    split at ha' <;> omega
  exact ⟨⟨v.toNat, hv⟩, by simp⟩

end Cert.Slab

namespace Cert.Kernel9.Sl

open Idealize.ShloMosaic Idealize.ShloMosaic.TcCoe Idealize.ShloMosaic.Tactic
open Cert.Kernel9 Cert.Kernel9.Gen

attribute [local instance] Cert.Slab.pre_facts9

set_option backward.proofsInPublic true in
/-- The table that holds the number of the part. -/
noncomputable def pfk (k : Fin 4) : pre0.Contents (Elt Bits) :=
  fun | ⟨0, _⟩ => fun _ => BitVec.ofNat 32 k.val | ⟨_ + 1, h⟩ => absurd h (by simp)

theorem ok_pf : ∀ k : Fin 4, ok0 (F := Bits) (pfk k) := by
  intro k
  fin_cases k <;> decide +kernel

theorem ok_of_pre (m : (ℓ : Loc nD τ sig) → Buf (Elt Bits) ℓ) (h : Cert.Pre_Kernel9 m) : Ok (F := Bits) m := by
  obtain ⟨k, hk⟩ := Cert.Slab.word_of_pre _ _ _ _ (h 0)
  have e : tbl m = pfk k := by
    funext j x
    match j with
    | ⟨0, _⟩ => exact (congrFun (V_main_arg0 m 0) x).trans (hk x)
  unfold Ok
  rw [e]
  exact ok_pf k

end Cert.Kernel9.Sl

namespace Cert.Kernel9Ideal.Sl

open Idealize.ShloMosaic Idealize.ShloMosaic.TcCoe Idealize.ShloMosaic.Tactic
open Cert.Kernel9Ideal Cert.Kernel9Ideal.Gen

attribute [local instance] Cert.Slab.pre_facts9

set_option backward.proofsInPublic true in
/-- The table that holds the number of the part. -/
noncomputable def pfk (k : Fin 4) : pre0.Contents (Elt Ideal) :=
  fun | ⟨0, _⟩ => fun _ => BitVec.ofNat 32 k.val | ⟨_ + 1, h⟩ => absurd h (by simp)

theorem ok_pf : ∀ k : Fin 4, ok0 (F := Ideal) (pfk k) := by
  intro k
  fin_cases k <;> decide +kernel

theorem tbl_of_pre (m : (ℓ : Loc nD τ sig) → Buf (Elt Ideal) ℓ) (h : Cert.Pre_Kernel9Ideal m) :
    ∃ k : Fin 4, tbl m = pfk k ∧ (m (((0 : Dev nD) : Thread nD τ).loc main_arg0) : IVec S1 32) = fun _ => BitVec.ofNat 32 k.val := by
  obtain ⟨k, hk⟩ := Cert.Slab.word_of_pre _ _ _ _ (h 0)
  refine ⟨k, ?_, funext hk⟩
  funext j x
  match j with
  | ⟨0, _⟩ => exact (congrFun (V_main_arg0 m 0) x).trans (hk x)

theorem ok_of_pre (m : (ℓ : Loc nD τ sig) → Buf (Elt Ideal) ℓ) (h : Cert.Pre_Kernel9Ideal m) : Ok (F := Ideal) m := by
  obtain ⟨k, hk, -⟩ := tbl_of_pre m h
  unfold Ok
  rw [hk]
  exact ok_pf k

/-- The program's pipeline at the number of the part. -/
abbrev ak (k : Fin 4) : (pcfg0 (F := Ideal)).Adm := ⟨pfk k, ok_pf k⟩

theorem idx0' : ∀ (k : Fin 4) (t : Fin grid0.N), ∀ b : Fin 2, cc0_transform_0 (grid0.coords t) b = (![t.val, 0] : Fin 2 → ℕ) b := by decide +kernel
theorem idx0 (a : (pcfg0 (F := Ideal)).Adm) (k : Fin 4) (h : a = ak k) (t : Fin (cfg0 a).N) : (((cfg0 a).win 0).index t : Fin 2 → ℕ) = ![t.val, 0] := by
  subst h
  exact funext fun b => idx0' k t b
theorem idx1' : ∀ (k : Fin 4) (t : Fin grid0.N), ∀ b : Fin 2, cc0_transform_1 Facts₀.inb_S1_S1_0 Facts₀.numel1_S1 (pfk k) (grid0.coords t) b = (![0, k.val] : Fin 2 → ℕ) b := by decide +kernel
theorem idx1 (a : (pcfg0 (F := Ideal)).Adm) (k : Fin 4) (h : a = ak k) (t : Fin (cfg0 a).N) : (((cfg0 a).win 1).index t : Fin 2 → ℕ) = ![0, k.val] := by
  subst h
  exact funext fun b => idx1' k t b
theorem idx3' : ∀ (k : Fin 4) (t : Fin grid0.N), ∀ b : Fin 3, cc0_transform_4 Facts₀.inb_S1_S1_0 Facts₀.numel1_S1 (pfk k) (grid0.coords t) b = (![k.val, t.val, 0] : Fin 3 → ℕ) b := by decide +kernel
theorem idx3 (a : (pcfg0 (F := Ideal)).Adm) (k : Fin 4) (h : a = ak k) (t : Fin (cfg0 a).N) : (((cfg0 a).win 3).index t : Fin 3 → ℕ) = ![k.val, t.val, 0] := by
  subst h
  exact funext fun b => idx3' k t b

theorem covers : ∀ (a : (pcfg0 (F := Ideal)).Adm) (k : Fin 4), a = ak k → ((cfg0 a).win 3).CoversWhere (fun β => β (0 : Fin 3) = k.val) := by
  rintro _ k rfl
  fin_cases k <;> decide +kernel

end Cert.Kernel9Ideal.Sl

end
-- ==== Proof.SlabFinal.lean ====
/- The product with one part of the weights: the kernel's result array as sums, and the reference's. -/
module

public import proofs.«01_k».proof.Proof.Slab
public import proofs.«01_k».proof.Proof.Gen.Reference9Ideal.Read
public import Idealize.ShloMosaic.Lib.Pointwise

@[expose] public section

set_option maxRecDepth 16384

noncomputable section

namespace Cert.Kernel9Ideal.Sl

open Idealize.ShloMosaic Idealize.ShloMosaic.TcCoe Idealize.ShloMosaic.Tactic
open Idealize.ShloMosaic.Pipeline (Dat)
open Cert.Kernel9Ideal Cert.Kernel9Ideal.Gen

/-- The slabs with slab `k` overwritten by the product of the rows with part `k` of the weights' columns. -/
abbrev slab (k : Fin 4) (x1 : Vec Ideal S8192x1024 .f32) (x2 : Vec Ideal S1024x8192 .f32) (x3 : Vec Ideal S4x8192x2048 .f32) :
    Vec Ideal S4x8192x2048 .f32 :=
  fun y => if (y 0).val = k.val then ∑ d : Fin 1024, x1 (ix2 (y 1) d) * x2 (ix2 d ⟨2048 * k.val + (y 2).val, by
    have h2 : (y 2).val < 2048 := (y 2).isLt
    omega⟩) else x3 y

theorem pay1 (a : Vec Ideal S1024x1024 .bf16) (b : Vec Ideal S1024x2048 .bf16) (z : Fin 1) (r : Fin 1024) (e : Fin 2048) :
    k0_pay1 (F := Ideal) a b (ix3 z r e) = ∑ d : Fin 1024, a (ix2 r d) * b (ix2 d e) := by
  pointwise [k0_pay1]

variable (m : (ℓ : Loc nD τ sig) → Buf (Elt Ideal) ℓ)

abbrev x1 (c : Dev nD) : Vec Ideal S8192x1024 .f32 := m ((c : Thread nD τ).loc main_arg1)
abbrev x2 (c : Dev nD) : Vec Ideal S1024x8192 .f32 := m ((c : Thread nD τ).loc main_arg2)
abbrev x3 (c : Dev nD) : Vec Ideal S4x8192x2048 .f32 := m ((c : Thread nD τ).loc main_arg3)

theorem adm_eq (hO : Ok m) (k : Fin 4) (hk : tbl m = pfk k) : adm m hO = ak k := Subtype.ext hk

abbrev blk0 (hO : Ok m) (c : Dev nD) (t : Fin (cfgM m hO).N) : Vec Ideal S1024x1024 .bf16 := iblk m hO c 0 t
abbrev blk1 (hO : Ok m) (c : Dev nD) (t : Fin (cfgM m hO).N) : Vec Ideal S1024x2048 .bf16 := iblk m hO c 1 t

theorem blk0_at (hO : Ok m) (k : Fin 4) (hk : tbl m = pfk k) (c : Dev nD) (t : Fin (cfgM m hO).N) (r : Fin 1024) (d : Fin 1024)
    (s : Fin 8192) (hs : s.val = 1024 * t.val + r.val) :
    blk0 m hO c t (ix2 r d) = x1 m c (ix2 s d) := by
  have ht : t.val < 8 := lt_of_lt_of_eq t.isLt N_0
  have hi := idx0 (adm m hO) k (adm_eq m hO k hk) t
  rw [show s = ⟨1024 * t.val + r.val, by omega⟩ from Fin.ext hs]
  blk_ext! [iblk, V, hi]

theorem blk1_at (hO : Ok m) (k : Fin 4) (hk : tbl m = pfk k) (c : Dev nD) (t : Fin (cfgM m hO).N) (d : Fin 1024) (e : Fin 2048)
    (q : Fin 8192) (hq : q.val = 2048 * k.val + e.val) :
    blk1 m hO c t (ix2 d e) = x2 m c (ix2 d q) := by
  have hi := idx1 (adm m hO) k (adm_eq m hO k hk) t
  rw [show q = ⟨2048 * k.val + e.val, by omega⟩ from Fin.ext hq]
  blk_ext! [iblk, V, hi]

theorem out_at (hO : Ok m) (c : Dev nD) (t : Fin (cfgM m hO).N) (y : S1x1024x2048.Idx) :
    outsAt0 m hO c t y = k0_pay1 (blk0 m hO c t) (blk1 m hO c t) y := by
  unfold outsAt0
  frame_out
  exact congrArg₂ (fun a b => k0_pay1 a b y) (Memref.IsWhole.read_unread (hs0_0 m hO t) _) (Memref.IsWhole.read_unread (hs0_1 m hO t) _)

/-- The array the slabs are copied from. -/
theorem entry (c : Dev nD) (y : S4x8192x2048.Idx) : (V m c main_v3 : Vec Ideal S4x8192x2048 .f32) y = x3 m c y := by
  unfold V
  after_results
  rfl

/-- The slabs at an index of the part that was written. -/
theorem slab_at (k : Fin 4) (x1 : Vec Ideal S8192x1024 .f32) (x2 : Vec Ideal S1024x8192 .f32) (x3 : Vec Ideal S4x8192x2048 .f32)
    (j : S4x8192x2048.Idx) (s : Fin 8192) (q : Fin 8192) (h0 : (j 0).val = k.val) (h1 : (j 1).val = s.val) (h2 : q.val = 2048 * k.val + (j 2).val) :
    slab k x1 x2 x3 j = ∑ d : Fin 1024, x1 (ix2 s d) * x2 (ix2 d q) := by
  obtain rfl : j 1 = s := Fin.ext h1
  refine (if_pos h0).trans ?_
  refine Finset.sum_congr rfl fun d _ => ?_
  exact congrArg (fun z : Fin 8192 => x1 (ix2 (j 1) d) * x2 (ix2 d z)) (Fin.ext h2.symm)

/-- The product at a grid point's index is the slabs' sum at the array's index. -/
theorem point_at (hO : Ok m) (k : Fin 4) (hk : tbl m = pfk k) (c : Dev nD) (t : Fin (cfgM m hO).N) (y : S1x1024x2048.Idx)
    (j : S4x8192x2048.Idx) (e0 : (j 0).val = k.val * 1 + (y 0).val) (e1 : (j 1).val = t.val * 1024 + (y 1).val)
    (e2 : (j 2).val = 0 * 2048 + (y 2).val) :
    outsAt0 m hO c t y = slab k (x1 m c) (x2 m c) (x3 m c) j := by
  have ht : t.val < 8 := lt_of_lt_of_eq t.isLt N_0
  rw [out_at]
  idx_vars y
  have b0 : y0.val < 1 := y0.isLt
  have b1 : y1.val < 1024 := y1.isLt
  have b2 : y2.val < 2048 := y2.isLt
  have d0 : (j 0).val = k.val * 1 + y0.val := e0
  have d1 : (j 1).val = t.val * 1024 + y1.val := e1
  have d2 : (j 2).val = 0 * 2048 + y2.val := e2
  refine (pay1 (blk0 m hO c t) (blk1 m hO c t) y0 y1 y2).trans ?_
  refine Eq.trans ?_ (slab_at k (x1 m c) (x2 m c) (x3 m c) j ⟨1024 * t.val + y1.val, by omega⟩ ⟨2048 * k.val + y2.val, by omega⟩
    (by omega) (by show _ = 1024 * t.val + y1.val; omega) (by show 2048 * k.val + y2.val = _; omega)).symm
  refine Finset.sum_congr rfl fun d _ => ?_
  exact congrArg₂ (· * ·) (blk0_at m hO k hk c t y1 d _ rfl) (blk1_at m hO k hk c t d y2 _ rfl)

theorem final (hO : Ok m) (k : Fin 4) (hk : tbl m = pfk k) (c : Dev nD) :
    (dats m hO 0 c).arrAt 3 (cfgM m hO).N = slab k (x1 m c) (x2 m c) (x3 m c) := by
  refine (dats m hO 0 c).arrAt_eq_of_coversWhere_of_agree 3 _ _ (covers (adm m hO) k (adm_eq m hO k hk)) (fun t hf y => ?_) (fun j hj => ?_)
  · have hi := idx3 (adm m hO) k (adm_eq m hO k hk) t
    have he : ∀ a : Fin 3, ((((((cfgM m hO).win 3).blk t).view.emb y : S4x8192x2048.Idx) a : Fin _) : ℕ)
        = (((cfgM m hO).win 3).index t : Fin 3 → ℕ) a * S1x1024x2048.size a + ((y : S1x1024x2048.Idx) a).val :=
      fun a => Pipeline.Window.rect_emb_val ((cfgM m hO).win 3) t y a
    rw [hi] at he
    blk_simp
    rw [after0_3]
    exact point_at m hO k hk c t y _ (he 0) (he 1) (he 2)
  · rw [A_eq]
    refine (entry m c j).trans ?_
    exact (if_neg fun h0 => hj ((Nat.div_one _).trans h0)).symm

end Cert.Kernel9Ideal.Sl

namespace Cert.Reference9Ideal.Sl

open Idealize.ShloMosaic Idealize.ShloMosaic.Tactic Cert.Reference9Ideal Cert.Reference9Ideal.Read
open Cert.Kernel9Ideal.Sl (slab slab_at)

theorem v0_at (x1 : Vec Ideal S8192x1024 .f32) (x2 : Vec Ideal S1024x8192 .f32) (s : Fin 8192) (q : Fin 8192) :
    val_main_v0 (F := Ideal) x1 x2 (ix2 s q) = ∑ d : Fin 1024, x1 (ix2 s d) * x2 (ix2 d q) := by
  pointwise [val_main_v0]

theorem v0_at' (x1 : Vec Ideal S8192x1024 .f32) (x2 : Vec Ideal S1024x8192 .f32) (j : S8192x8192.Idx) (s : Fin 8192) (q : Fin 8192)
    (h0 : (j 0).val = s.val) (h1 : (j 1).val = q.val) :
    val_main_v0 (F := Ideal) x1 x2 j = ∑ d : Fin 1024, x1 (ix2 s d) * x2 (ix2 d q) := by
  obtain rfl : j = ix2 s q := by
    funext a
    fin_cases a
    · exact Fin.ext h0
    · exact Fin.ext h1
  exact v0_at x1 x2 s q

theorem parts_at (x1 : Vec Ideal S8192x1024 .f32) (x2 : Vec Ideal S1024x8192 .f32) (y0 : Fin 4) (y1 : Fin 8192) (y2 : Fin 2048) :
    val_main_v9 (F := Ideal) x1 x2 (ix3 y0 y1 y2)
      = ∑ d : Fin 1024, x1 (ix2 y1 d) * x2 (ix2 d ⟨2048 * y0.val + y2.val, by omega⟩) := by
  fin_cases y0
  · pointwise [val_main_v9, val_main_v8, val_main_v7, val_main_v6, val_main_v5, val_main_v4, val_main_v3, val_main_v2, val_main_v1]
    exact v0_at x1 x2 y1 _
  · pointwise [val_main_v9, val_main_v8, val_main_v7, val_main_v6, val_main_v5, val_main_v4, val_main_v3, val_main_v2, val_main_v1]
    exact v0_at' x1 x2 _ y1 ⟨2048 * 1 + y2.val, by omega⟩ rfl (by simp)
  · pointwise [val_main_v9, val_main_v8, val_main_v7, val_main_v6, val_main_v5, val_main_v4, val_main_v3, val_main_v2, val_main_v1]
    exact v0_at' x1 x2 _ y1 ⟨2048 * 2 + y2.val, by omega⟩ rfl (by simp)
  · pointwise [val_main_v9, val_main_v8, val_main_v7, val_main_v6, val_main_v5, val_main_v4, val_main_v3, val_main_v2, val_main_v1]
    exact v0_at' x1 x2 _ y1 ⟨2048 * 3 + y2.val, by omega⟩ rfl (by simp)

/-- The reference's test of a slab's number against the number of the part. -/
theorem test_at (k : Fin 4) (y0 : Fin 4) (y1 : Fin 8192) (y2 : Fin 2048) :
    val_main_call0_v0 (F := Ideal) (fun _ => BitVec.ofNat 32 k.val) (ix3 y0 y1 y2) = if y0.val = k.val then 1#1 else 0#1 := by
  rw [val_main_call0_v0_apply, val_main_v14_apply, val_main_v11_apply, val_main_v13_apply, val_main_v10_apply]
  show IntOp.cmpi .eq (BitVec.ofNat 32 y0.val) (BitVec.ofNat 32 k.val) = _
  revert y0 k
  decide

theorem val_eq (k : Fin 4) (x1 : Vec Ideal S8192x1024 .f32) (x2 : Vec Ideal S1024x8192 .f32) (x3 : Vec Ideal S4x8192x2048 .f32) :
    val_main_v15 (F := Ideal) (fun _ => BitVec.ofNat 32 k.val) x1 x2 x3 = slab k x1 x2 x3 := by
  funext y
  idx_vars y
  rw [val_main_v15_apply, test_at]
  by_cases h : y0.val = k.val
  · rw [if_pos h]
    refine Eq.trans ?_ (slab_at k x1 x2 x3 (ix3 y0 y1 y2) y1 ⟨2048 * y0.val + y2.val, by omega⟩ h rfl (by show 2048 * y0.val + y2.val = 2048 * k.val + y2.val; omega)).symm
    exact parts_at x1 x2 y0 y1 y2
  · rw [if_neg h]
    exact (if_neg h : slab k x1 x2 x3 (ix3 y0 y1 y2) = x3 (ix3 y0 y1 y2)).symm

end Cert.Reference9Ideal.Sl

end
-- ==== Proof.SlabValue.lean ====
/- The value claim of the product with one part of the weights and its reference's frame. -/
module

public import proofs.«01_k».proof.Defs
public import proofs.«01_k».proof.Proof.Gen.Reference9Ideal
public import proofs.«01_k».proof.Proof.Gen.Reference9Ideal.Run
public import proofs.«01_k».proof.Proof.Gen.Reference9Ideal.Read
public import proofs.«01_k».proof.Proof.SlabFinal

@[expose] public section

set_option maxRecDepth 16384
set_option maxHeartbeats 4000000

noncomputable section

namespace Cert.Proof

open Idealize.ShloMosaic Idealize.ShloMosaic.TcCoe Idealize.SL.Sem

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

attribute [local instance] Cert.Slab.pre_facts9

open Cert.Kernel9Ideal Cert.Kernel9Ideal.Gen in
/-- Every run ends with the slabs as the sums say and the arguments as they were. -/
theorem run9 (m : (ℓ : Loc nD τ sig) → Buf (Elt Ideal) ℓ) (ρ : Dev nD → PrngReg) (hO : Ok m) (k : Fin 4) (hk : tbl m = Kernel9Ideal.Sl.pfk k) :
    θ_run defs (onTc (τ := τ) (main (F := Ideal))) ⟨m, fun _ => 0, ρ⟩ (fun r => ∀ c : Dev nD,
      r.2.mem ((c.tc : Thread nD τ).loc main_v3) = Kernel9Ideal.Sl.slab k (Kernel9Ideal.Sl.x1 m c) (Kernel9Ideal.Sl.x2 m c) (Kernel9Ideal.Sl.x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (Kernel9Ideal.Sl.final m hO k hk c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ hO)

theorem value9 : Cert.algebraic_Kernel9Ideal_Reference9Ideal := by
  intro m g m' g' hpre hm
  obtain ⟨k, hk, hq⟩ := Kernel9Ideal.Sl.tbl_of_pre m hpre
  refine ⟨fun c => Kernel9Ideal.Sl.slab k (Kernel9Ideal.Sl.x1 m c) (Kernel9Ideal.Sl.x2 m c) (Kernel9Ideal.Sl.x3 m c), ?_, ?_⟩
  · exact run9 m g (Kernel9Ideal.Sl.ok_of_pre m hpre) k hk
  · refine (θ_run Cert.Reference9Ideal.defs _ _).mono (fun r h c => ?_) (Cert.Reference9Ideal.Value.run (F := Ideal) m' g')
    obtain ⟨h0, hr⟩ := h c
    obtain ⟨a0, a1, a2, a3⟩ := hm c
    have hc : c = 0 := Subsingleton.elim _ _
    subst hc
    refine ⟨h0.trans ?_, hr⟩
    rw [Reference9Ideal.Read.val_main_v15_eq, a0, a1, a2, a3]
    exact (congrArg (fun q => Reference9Ideal.Read.val_main_v15 (F := Ideal) q _ _ _) hq).trans (Reference9Ideal.Sl.val_eq k _ _ _)

end Cert.Proof

end
-- ==== Proof.NormSlab.lean ====
/- The normed rows and their product with one part of the weights: the number of the part, and the blocks it selects. -/
module

public import proofs.«01_k».proof.Defs
public import proofs.«01_k».proof.Proof.Gen.Kernel10.Frame
public import proofs.«01_k».proof.Proof.Gen.Kernel10Ideal.Frame
public import Idealize.ShloMosaic.Lib.StableHlo.Predicate
public import Idealize.ShloMosaic.Lib.ReduceAll
public import Idealize.ShloMosaic.Lib.Affine
public import Idealize.ShloMosaic.Lib.Pipeline.ValueKit.Point
public import Idealize.ShloMosaic.Lib.Pipeline.ValueKit.Partial

@[expose] public section

set_option maxRecDepth 16384

noncomputable section

namespace Cert.NormSlab

open Idealize.ShloMosaic Idealize.ShloMosaic.TcCoe Idealize.ShloMosaic.Tactic

theorem pre_facts10 : Cert.Pre_part_number10.Facts where
  bcast_S_S1 := by decide
  reducesTo_S1_S_d0 := by decide
  h_S_ := by decide

attribute [local instance] pre_facts10

/-- The precondition says that the word is one of the four numbers. -/
theorem word_of_pre {F : FTy → Type} [FloatOps F] (q : IVec Cert.Pre_part_number10.S1 32)
    (x : FVec F Cert.Pre_part_number10.S8192x1024 .f32) (g sc sh : FVec F Cert.Pre_part_number10.S1024 .f32)
    (w : FVec F Cert.Pre_part_number10.S1024x8192 .f32)
    (e : Cert.Pre_part_number10.fn q x g sc sh w = fun _ => 1#1) :
    ∃ k : Fin 4, ∀ x : Cert.Pre_part_number10.S1.Idx, q x = BitVec.ofNat 32 k.val := by
  suffices hs : ∃ k : Fin 4, q (ix1 (0 : Fin 1)) = BitVec.ofNat 32 k.val by
    obtain ⟨k, hk⟩ := hs
    refine ⟨k, fun x => ?_⟩
    idx_vars x
    obtain rfl : x0 = 0 := Subsingleton.elim _ _
    exact hk
  have e0 := congrFun e (fun a => a.elim0)
  have e1 := Host.reduce_andi_all _ _ _ _ _ e0 (ix1 (0 : Fin 1))
  simp only [andi, IntOp.andi_eq_one, cmpi] at e1
  obtain ⟨ha, hb⟩ := e1
  have ha' : (0#32).sle (q (ix1 (0 : Fin 1))) = true := (StableHlo.Predicate.ofBool_eq_one_iff _).mp ha
  have hb' : (q (ix1 (0 : Fin 1))).slt 4#32 = true := (StableHlo.Predicate.ofBool_eq_one_iff _).mp hb
  generalize q (ix1 (0 : Fin 1)) = v at ha' hb' ⊢
  have hv : v.toNat < 4 := by
    simp only [BitVec.sle, BitVec.slt, decide_eq_true_eq] at ha' hb'
    have h4 : (4#32 : BitVec 32).toInt = 4 := by decide
    have h0 : (0#32 : BitVec 32).toInt = 0 := by decide
    rw [h4] at hb'
    rw [h0] at ha'
    rw [BitVec.toInt_eq_toNat_cond] at ha' hb'
    split at ha' <;> omega
  exact ⟨⟨v.toNat, hv⟩, by simp⟩

end Cert.NormSlab

namespace Cert.Kernel10.Ns

open Idealize.ShloMosaic Idealize.ShloMosaic.TcCoe Idealize.ShloMosaic.Tactic
open Cert.Kernel10 Cert.Kernel10.Gen

attribute [local instance] Cert.NormSlab.pre_facts10

set_option backward.proofsInPublic true in
/-- The table that holds the number of the part. -/
noncomputable def pfk (k : Fin 4) : pre0.Contents (Elt Bits) :=
  fun | ⟨0, _⟩ => fun _ => BitVec.ofNat 32 k.val | ⟨_ + 1, h⟩ => absurd h (by simp)

theorem ok_pf : ∀ k : Fin 4, ok0 (F := Bits) (pfk k) := by
  intro k
  fin_cases k <;> decide +kernel

theorem ok_of_pre (m : (ℓ : Loc nD τ sig) → Buf (Elt Bits) ℓ) (h : Cert.Pre_Kernel10 m) : Ok (F := Bits) m := by
  obtain ⟨k, hk⟩ := Cert.NormSlab.word_of_pre _ _ _ _ _ _ (h 0)
  have e : tbl m = pfk k := by
    funext j x
    match j with
    | ⟨0, _⟩ => exact (congrFun (V_main_arg0 m 0) x).trans (hk x)
  unfold Ok
  rw [e]
  exact ok_pf k

end Cert.Kernel10.Ns

namespace Cert.Kernel10Ideal.Ns

open Idealize.ShloMosaic Idealize.ShloMosaic.TcCoe Idealize.ShloMosaic.Tactic
open Cert.Kernel10Ideal Cert.Kernel10Ideal.Gen

attribute [local instance] Cert.NormSlab.pre_facts10

set_option backward.proofsInPublic true in
/-- The table that holds the number of the part. -/
noncomputable def pfk (k : Fin 4) : pre0.Contents (Elt Ideal) :=
  fun | ⟨0, _⟩ => fun _ => BitVec.ofNat 32 k.val | ⟨_ + 1, h⟩ => absurd h (by simp)

theorem ok_pf : ∀ k : Fin 4, ok0 (F := Ideal) (pfk k) := by
  intro k
  fin_cases k <;> decide +kernel

theorem tbl_of_pre (m : (ℓ : Loc nD τ sig) → Buf (Elt Ideal) ℓ) (h : Cert.Pre_Kernel10Ideal m) :
    ∃ k : Fin 4, tbl m = pfk k ∧ (m (((0 : Dev nD) : Thread nD τ).loc main_arg0) : IVec S1 32) = fun _ => BitVec.ofNat 32 k.val := by
  obtain ⟨k, hk⟩ := Cert.NormSlab.word_of_pre _ _ _ _ _ _ (h 0)
  refine ⟨k, ?_, funext hk⟩
  funext j x
  match j with
  | ⟨0, _⟩ => exact (congrFun (V_main_arg0 m 0) x).trans (hk x)

theorem ok_of_pre (m : (ℓ : Loc nD τ sig) → Buf (Elt Ideal) ℓ) (h : Cert.Pre_Kernel10Ideal m) : Ok (F := Ideal) m := by
  obtain ⟨k, hk, -⟩ := tbl_of_pre m h
  unfold Ok
  rw [hk]
  exact ok_pf k

/-- The program's pipeline at the number of the part. -/
abbrev ak (k : Fin 4) : (pcfg0 (F := Ideal)).Adm := ⟨pfk k, ok_pf k⟩

theorem idx0' : ∀ (k : Fin 4) (t : Fin grid0.N), ∀ b : Fin 2, cc0_transform_0 (grid0.coords t) b = (![t.val, 0] : Fin 2 → ℕ) b := by decide +kernel
theorem idx0 (a : (pcfg0 (F := Ideal)).Adm) (k : Fin 4) (h : a = ak k) (t : Fin (cfg0 a).N) : (((cfg0 a).win 0).index t : Fin 2 → ℕ) = ![t.val, 0] := by
  subst h
  exact funext fun b => idx0' k t b
theorem idx1' : ∀ (k : Fin 4) (t : Fin grid0.N), ∀ b : Fin 2, cc0_transform_1 (grid0.coords t) b = (![0, 0] : Fin 2 → ℕ) b := by decide +kernel
theorem idx1 (a : (pcfg0 (F := Ideal)).Adm) (k : Fin 4) (h : a = ak k) (t : Fin (cfg0 a).N) : (((cfg0 a).win 1).index t : Fin 2 → ℕ) = ![0, 0] := by
  subst h
  exact funext fun b => idx1' k t b
theorem idx2' : ∀ (k : Fin 4) (t : Fin grid0.N), ∀ b : Fin 2, cc0_transform_2 (grid0.coords t) b = (![0, 0] : Fin 2 → ℕ) b := by decide +kernel
theorem idx2 (a : (pcfg0 (F := Ideal)).Adm) (k : Fin 4) (h : a = ak k) (t : Fin (cfg0 a).N) : (((cfg0 a).win 2).index t : Fin 2 → ℕ) = ![0, 0] := by
  subst h
  exact funext fun b => idx2' k t b
theorem idx3' : ∀ (k : Fin 4) (t : Fin grid0.N), ∀ b : Fin 2, cc0_transform_3 (grid0.coords t) b = (![0, 0] : Fin 2 → ℕ) b := by decide +kernel
theorem idx3 (a : (pcfg0 (F := Ideal)).Adm) (k : Fin 4) (h : a = ak k) (t : Fin (cfg0 a).N) : (((cfg0 a).win 3).index t : Fin 2 → ℕ) = ![0, 0] := by
  subst h
  exact funext fun b => idx3' k t b
theorem idx4' : ∀ (k : Fin 4) (t : Fin grid0.N), ∀ b : Fin 2, cc0_transform_4 Facts₀.inb_S1_S1_0 Facts₀.numel1_S1 (pfk k) (grid0.coords t) b = (![0, k.val] : Fin 2 → ℕ) b := by decide +kernel
theorem idx4 (a : (pcfg0 (F := Ideal)).Adm) (k : Fin 4) (h : a = ak k) (t : Fin (cfg0 a).N) : (((cfg0 a).win 4).index t : Fin 2 → ℕ) = ![0, k.val] := by
  subst h
  exact funext fun b => idx4' k t b
theorem idx6' : ∀ (k : Fin 4) (t : Fin grid0.N), ∀ b : Fin 2, cc0_transform_6 (grid0.coords t) b = (![t.val, 0] : Fin 2 → ℕ) b := by decide +kernel
theorem idx6 (a : (pcfg0 (F := Ideal)).Adm) (k : Fin 4) (h : a = ak k) (t : Fin (cfg0 a).N) : (((cfg0 a).win 6).index t : Fin 2 → ℕ) = ![t.val, 0] := by
  subst h
  exact funext fun b => idx6' k t b
theorem idx7' : ∀ (k : Fin 4) (t : Fin grid0.N), ∀ b : Fin 3, cc0_transform_7 Facts₀.inb_S1_S1_0 Facts₀.numel1_S1 (pfk k) (grid0.coords t) b = (![k.val, t.val, 0] : Fin 3 → ℕ) b := by decide +kernel
theorem idx7 (a : (pcfg0 (F := Ideal)).Adm) (k : Fin 4) (h : a = ak k) (t : Fin (cfg0 a).N) : (((cfg0 a).win 7).index t : Fin 3 → ℕ) = ![k.val, t.val, 0] := by
  subst h
  exact funext fun b => idx7' k t b

theorem covers6 : ∀ (a : (pcfg0 (F := Ideal)).Adm) (k : Fin 4), a = ak k → ((cfg0 a).win 6).CoversWhere (fun _ => True) := by
  rintro _ k rfl
  fin_cases k <;> decide +kernel

theorem covers7 : ∀ (a : (pcfg0 (F := Ideal)).Adm) (k : Fin 4), a = ak k → ((cfg0 a).win 7).CoversWhere (fun β => β (0 : Fin 3) = k.val) := by
  rintro _ k rfl
  fin_cases k <;> decide +kernel

end Cert.Kernel10Ideal.Ns

end
-- ==== Proof.NormSlabFinal.lean ====
/- The normed rows and their product with one part of the weights: the kernel's result arrays as formulas, and the reference's. -/
module

public import proofs.«01_k».proof.Proof.NormSlab
public import proofs.«01_k».proof.Proof.Norm
public import proofs.«01_k».proof.Proof.Gen.Reference10Ideal.Read
public import Idealize.ShloMosaic.Lib.Pointwise

@[expose] public section

set_option maxRecDepth 16384

noncomputable section

namespace Cert.Kernel10Ideal.Ns

open Idealize.ShloMosaic Idealize.ShloMosaic.TcCoe Idealize.ShloMosaic.Tactic
open Idealize.ShloMosaic.Pipeline (Dat)
open Cert.Kernel10Ideal Cert.Kernel10Ideal.Gen
open Cert.Norm (len eps one)

/-- One entry of the normed and modulated row `s`. -/
abbrev hAt (x : Vec Ideal S8192x1024 .f32) (g sc sh : Vec Ideal S1024 .f32) (s : Fin 8192) (d : Fin 1024) : EReal :=
  x (ix2 s d) * Ideal.rsqrt (Ideal.div (∑ e : Fin 1024, x (ix2 s e) * x (ix2 s e)) len + eps) * g (ix1 d) * (one + sc (ix1 d)) + sh (ix1 d)

/-- The normed and modulated rows. -/
abbrev hAll (x : Vec Ideal S8192x1024 .f32) (g sc sh : Vec Ideal S1024 .f32) : Vec Ideal S8192x1024 .bf16 :=
  fun y => hAt x g sc sh (y 0) (y 1)

/-- Their products with the four parts of the weights' columns. -/
abbrev parts (x : Vec Ideal S8192x1024 .f32) (g sc sh : Vec Ideal S1024 .f32) (w : Vec Ideal S1024x8192 .f32) : Vec Ideal S4x8192x2048 .f32 :=
  fun y => ∑ d : Fin 1024, hAt x g sc sh (y 1) d * w (ix2 d ⟨2048 * (y 0).val + (y 2).val, by
    have h0 : (y 0).val < 4 := (y 0).isLt
    have h2 : (y 2).val < 2048 := (y 2).isLt
    omega⟩)

theorem pay1 (x : Vec Ideal S1024x1024 .f32) (g sc sh : Vec Ideal S1x1024 .f32) (r d : Fin 1024) :
    k0_pay1 (F := Ideal) x g sc sh (ix2 r d)
      = x (ix2 r d) * Ideal.rsqrt (Ideal.div (∑ e : Fin 1024, x (ix2 r e) * x (ix2 r e)) len + eps) * g (ix2 0 d) * (one + sc (ix2 0 d)) + sh (ix2 0 d) := by
  pointwise [k0_pay1]

theorem pay2 (x : Vec Ideal S1024x1024 .f32) (g sc sh : Vec Ideal S1x1024 .f32) (w : Vec Ideal S1024x2048 .bf16) (z : Fin 1) (r : Fin 1024) (e : Fin 2048) :
    k0_pay2 (F := Ideal) x g sc sh w (ix3 z r e) = ∑ d : Fin 1024, k0_pay1 (F := Ideal) x g sc sh (ix2 r d) * w (ix2 d e) := by
  pointwise [k0_pay2]

variable (m : (ℓ : Loc nD τ sig) → Buf (Elt Ideal) ℓ)

abbrev x1 (c : Dev nD) : Vec Ideal S8192x1024 .f32 := m ((c : Thread nD τ).loc main_arg1)
abbrev x2 (c : Dev nD) : Vec Ideal S1024 .f32 := m ((c : Thread nD τ).loc main_arg2)
abbrev x3 (c : Dev nD) : Vec Ideal S1024 .f32 := m ((c : Thread nD τ).loc main_arg3)
abbrev x4 (c : Dev nD) : Vec Ideal S1024 .f32 := m ((c : Thread nD τ).loc main_arg4)
abbrev x5 (c : Dev nD) : Vec Ideal S1024x8192 .f32 := m ((c : Thread nD τ).loc main_arg5)

theorem adm_eq (hO : Ok m) (k : Fin 4) (hk : tbl m = pfk k) : adm m hO = ak k := Subtype.ext hk

abbrev blk0 (hO : Ok m) (c : Dev nD) (t : Fin (cfgM m hO).N) : Vec Ideal S1024x1024 .f32 := iblk m hO c 0 t
abbrev blk1 (hO : Ok m) (c : Dev nD) (t : Fin (cfgM m hO).N) : Vec Ideal S1x1024 .f32 := iblk m hO c 1 t
abbrev blk2 (hO : Ok m) (c : Dev nD) (t : Fin (cfgM m hO).N) : Vec Ideal S1x1024 .f32 := iblk m hO c 2 t
abbrev blk3 (hO : Ok m) (c : Dev nD) (t : Fin (cfgM m hO).N) : Vec Ideal S1x1024 .f32 := iblk m hO c 3 t
abbrev blk4 (hO : Ok m) (c : Dev nD) (t : Fin (cfgM m hO).N) : Vec Ideal S1024x2048 .bf16 := iblk m hO c 4 t

theorem blk0_at (hO : Ok m) (k : Fin 4) (hk : tbl m = pfk k) (c : Dev nD) (t : Fin (cfgM m hO).N) (r : Fin 1024) (d : Fin 1024)
    (s : Fin 8192) (hs : s.val = 1024 * t.val + r.val) :
    blk0 m hO c t (ix2 r d) = x1 m c (ix2 s d) := by
  have ht : t.val < 8 := lt_of_lt_of_eq t.isLt N_0
  have hi := idx0 (adm m hO) k (adm_eq m hO k hk) t
  rw [show s = ⟨1024 * t.val + r.val, by omega⟩ from Fin.ext hs]
  blk_ext! [iblk, V, hi]

theorem v0_at (c : Dev nD) (d : Fin 1024) : (V m c main_v0 : Vec Ideal S1x1024 .f32) (ix2 0 d) = x2 m c (ix1 d) := by
  unfold V
  after_results
  exact congrArg (x2 m c) (funext fun a => by fin_cases a; rfl)

theorem blk1_at (hO : Ok m) (k : Fin 4) (hk : tbl m = pfk k) (c : Dev nD) (t : Fin (cfgM m hO).N) (d : Fin 1024) :
    blk1 m hO c t (ix2 0 d) = x2 m c (ix1 d) := by
  have hi := idx1 (adm m hO) k (adm_eq m hO k hk) t
  refine Eq.trans ?_ (v0_at m c d)
  blk_ext! [iblk, hi]

theorem v1_at (c : Dev nD) (d : Fin 1024) : (V m c main_v1 : Vec Ideal S1x1024 .f32) (ix2 0 d) = x3 m c (ix1 d) := by
  unfold V
  after_results
  exact congrArg (x3 m c) (funext fun a => by fin_cases a; rfl)

theorem blk2_at (hO : Ok m) (k : Fin 4) (hk : tbl m = pfk k) (c : Dev nD) (t : Fin (cfgM m hO).N) (d : Fin 1024) :
    blk2 m hO c t (ix2 0 d) = x3 m c (ix1 d) := by
  have hi := idx2 (adm m hO) k (adm_eq m hO k hk) t
  refine Eq.trans ?_ (v1_at m c d)
  blk_ext! [iblk, hi]

theorem v2_at (c : Dev nD) (d : Fin 1024) : (V m c main_v2 : Vec Ideal S1x1024 .f32) (ix2 0 d) = x4 m c (ix1 d) := by
  unfold V
  after_results
  exact congrArg (x4 m c) (funext fun a => by fin_cases a; rfl)

theorem blk3_at (hO : Ok m) (k : Fin 4) (hk : tbl m = pfk k) (c : Dev nD) (t : Fin (cfgM m hO).N) (d : Fin 1024) :
    blk3 m hO c t (ix2 0 d) = x4 m c (ix1 d) := by
  have hi := idx3 (adm m hO) k (adm_eq m hO k hk) t
  refine Eq.trans ?_ (v2_at m c d)
  blk_ext! [iblk, hi]

theorem blk4_at (hO : Ok m) (k : Fin 4) (hk : tbl m = pfk k) (c : Dev nD) (t : Fin (cfgM m hO).N) (d : Fin 1024) (e : Fin 2048)
    (q : Fin 8192) (hq : q.val = 2048 * k.val + e.val) :
    blk4 m hO c t (ix2 d e) = x5 m c (ix2 d q) := by
  have hi := idx4 (adm m hO) k (adm_eq m hO k hk) t
  rw [show q = ⟨2048 * k.val + e.val, by omega⟩ from Fin.ext hq]
  blk_ext! [iblk, V, hi]

theorem congr_pay1 {a a' : Vec Ideal S1024x1024 .f32} {b b' s s' h h' : Vec Ideal S1x1024 .f32} (ea : a = a') (eb : b = b') (es : s = s') (eh : h = h') :
    k0_pay1 (F := Ideal) a b s h = k0_pay1 a' b' s' h' := by subst ea eb es eh; rfl

theorem congr_pay2 {a a' : Vec Ideal S1024x1024 .f32} {b b' s s' h h' : Vec Ideal S1x1024 .f32} {w w' : Vec Ideal S1024x2048 .bf16}
    (ea : a = a') (eb : b = b') (es : s = s') (eh : h = h') (ew : w = w') :
    k0_pay2 (F := Ideal) a b s h w = k0_pay2 a' b' s' h' w' := by subst ea eb es eh ew; rfl

theorem out6_at (hO : Ok m) (c : Dev nD) (t : Fin (cfgM m hO).N) (y : S1024x1024.Idx) :
    (outsAt0 m hO c t).1 y = k0_pay1 (blk0 m hO c t) (blk1 m hO c t) (blk2 m hO c t) (blk3 m hO c t) y := by
  unfold outsAt0
  frame_out
  exact congrFun (congr_pay1 (Memref.IsWhole.read_unread (hs0_0 m hO t) _) (Memref.IsWhole.read_unread (hs0_1 m hO t) _)
    (Memref.IsWhole.read_unread (hs0_2 m hO t) _) (Memref.IsWhole.read_unread (hs0_3 m hO t) _)) y

theorem out7_at (hO : Ok m) (c : Dev nD) (t : Fin (cfgM m hO).N) (y : S1x1024x2048.Idx) :
    (outsAt0 m hO c t).2 y = k0_pay2 (blk0 m hO c t) (blk1 m hO c t) (blk2 m hO c t) (blk3 m hO c t) (blk4 m hO c t) y := by
  unfold outsAt0
  frame_out
  exact congrFun (congr_pay2 (Memref.IsWhole.read_unread (hs0_0 m hO t) _) (Memref.IsWhole.read_unread (hs0_1 m hO t) _)
    (Memref.IsWhole.read_unread (hs0_2 m hO t) _) (Memref.IsWhole.read_unread (hs0_3 m hO t) _) (Memref.IsWhole.read_unread (hs0_4 m hO t) _)) y

/-- The normed rows at a grid point. -/
theorem row_at (hO : Ok m) (k : Fin 4) (hk : tbl m = pfk k) (c : Dev nD) (t : Fin (cfgM m hO).N) (r d : Fin 1024)
    (s : Fin 8192) (hs : s.val = 1024 * t.val + r.val) :
    k0_pay1 (F := Ideal) (blk0 m hO c t) (blk1 m hO c t) (blk2 m hO c t) (blk3 m hO c t) (ix2 r d) = hAt (x1 m c) (x2 m c) (x3 m c) (x4 m c) s d := by
  rw [pay1, blk1_at m hO k hk, blk2_at m hO k hk, blk3_at m hO k hk, blk0_at m hO k hk c t r d s hs,
    Finset.sum_congr rfl fun e _ => congrArg₂ (· * ·) (blk0_at m hO k hk c t r e s hs) (blk0_at m hO k hk c t r e s hs)]

theorem point6_at (hO : Ok m) (k : Fin 4) (hk : tbl m = pfk k) (c : Dev nD) (t : Fin (cfgM m hO).N) (y : S1024x1024.Idx)
    (j : S8192x1024.Idx) (e0 : (j 0).val = t.val * 1024 + (y 0).val) (e1 : (j 1).val = 0 * 1024 + (y 1).val) :
    (outsAt0 m hO c t).1 y = hAll (x1 m c) (x2 m c) (x3 m c) (x4 m c) j := by
  rw [out6_at]
  idx_vars y
  have d0 : (j 0).val = t.val * 1024 + y0.val := e0
  have d1 : (j 1).val = 0 * 1024 + y1.val := e1
  obtain rfl : y1 = j 1 := Fin.ext (by omega)
  exact row_at m hO k hk c t y0 (j 1) (j 0) (by omega)

/-- The parts at an index of the part that was computed. -/
theorem parts_of (k : Fin 4) (x : Vec Ideal S8192x1024 .f32) (g sc sh : Vec Ideal S1024 .f32) (w : Vec Ideal S1024x8192 .f32)
    (j : S4x8192x2048.Idx) (s : Fin 8192) (q : Fin 8192) (h1 : (j 1).val = s.val) (h2 : q.val = 2048 * (j 0).val + (j 2).val) :
    parts x g sc sh w j = ∑ d : Fin 1024, hAt x g sc sh s d * w (ix2 d q) := by
  obtain rfl : j 1 = s := Fin.ext h1
  refine Finset.sum_congr rfl fun d _ => ?_
  exact congrArg (fun z : Fin 8192 => hAt x g sc sh (j 1) d * w (ix2 d z)) (Fin.ext h2.symm)

theorem point7_at (hO : Ok m) (k : Fin 4) (hk : tbl m = pfk k) (c : Dev nD) (t : Fin (cfgM m hO).N) (y : S1x1024x2048.Idx)
    (j : S4x8192x2048.Idx) (e0 : (j 0).val = k.val * 1 + (y 0).val) (e1 : (j 1).val = t.val * 1024 + (y 1).val)
    (e2 : (j 2).val = 0 * 2048 + (y 2).val) :
    (outsAt0 m hO c t).2 y = parts (x1 m c) (x2 m c) (x3 m c) (x4 m c) (x5 m c) j := by
  have ht : t.val < 8 := lt_of_lt_of_eq t.isLt N_0
  rw [out7_at]
  idx_vars y
  have b0 : y0.val < 1 := y0.isLt
  have b1 : y1.val < 1024 := y1.isLt
  have b2 : y2.val < 2048 := y2.isLt
  have d0 : (j 0).val = k.val * 1 + y0.val := e0
  have d1 : (j 1).val = t.val * 1024 + y1.val := e1
  have d2 : (j 2).val = 0 * 2048 + y2.val := e2
  refine (pay2 (blk0 m hO c t) (blk1 m hO c t) (blk2 m hO c t) (blk3 m hO c t) (blk4 m hO c t) y0 y1 y2).trans ?_
  refine Eq.trans ?_ (parts_of k (x1 m c) (x2 m c) (x3 m c) (x4 m c) (x5 m c) j ⟨1024 * t.val + y1.val, by omega⟩ ⟨2048 * k.val + y2.val, by omega⟩
    (by show _ = 1024 * t.val + y1.val; omega) (by show 2048 * k.val + y2.val = _; omega)).symm
  refine Finset.sum_congr rfl fun d _ => ?_
  exact congrArg₂ (· * ·) (row_at m hO k hk c t y1 d _ rfl) (blk4_at m hO k hk c t d y2 _ rfl)

theorem final6 (hO : Ok m) (k : Fin 4) (hk : tbl m = pfk k) (c : Dev nD) :
    (dats m hO 0 c).arrAt 6 (cfgM m hO).N = hAll (x1 m c) (x2 m c) (x3 m c) (x4 m c) := by
  refine (dats m hO 0 c).arrAt_eq_of_coversWhere_of_agree 6 _ _ (covers6 (adm m hO) k (adm_eq m hO k hk)) (fun t hf y => ?_) (fun j hj => (hj trivial).elim)
  have hi := idx6 (adm m hO) k (adm_eq m hO k hk) t
  have he : ∀ a : Fin 2, ((((((cfgM m hO).win 6).blk t).view.emb y : S8192x1024.Idx) a : Fin _) : ℕ)
      = (((cfgM m hO).win 6).index t : Fin 2 → ℕ) a * S1024x1024.size a + ((y : S1024x1024.Idx) a).val :=
    fun a => Pipeline.Window.rect_emb_val ((cfgM m hO).win 6) t y a
  rw [hi] at he
  blk_simp
  rw [after0_6]
  exact point6_at m hO k hk c t y _ (he 0) (he 1)

/-- An element is the array's, where its part is the one that was computed. -/
abbrev Sel (k : Fin 4) (G : Vec Ideal S4x8192x2048 .f32) (i : S4x8192x2048.Idx) (v : EReal) : Prop := (i 0).val = k.val → v = G i

/-- The second result at the part that was computed. -/
theorem final7 (hO : Ok m) (k : Fin 4) (hk : tbl m = pfk k) (c : Dev nD) (j : S4x8192x2048.Idx) (hj : (j 0).val = k.val) :
    (dats m hO 0 c).arrAt 7 (cfgM m hO).N j = parts (x1 m c) (x2 m c) (x3 m c) (x4 m c) (x5 m c) j := by
  refine (dats m hO 0 c).arrAt_forall_of_coversWhere 7 (Sel k (parts (x1 m c) (x2 m c) (x3 m c) (x4 m c) (x5 m c))) _
    (covers7 (adm m hO) k (adm_eq m hO k hk)) (fun t hf y _ => ?_) (fun i hi h0 => (hi ((Nat.div_one _).trans h0)).elim) j ?_ hj
  · have hi := idx7 (adm m hO) k (adm_eq m hO k hk) t
    have he : ∀ a : Fin 3, ((((((cfgM m hO).win 7).blk t).view.emb y : S4x8192x2048.Idx) a : Fin _) : ℕ)
        = (((cfgM m hO).win 7).index t : Fin 3 → ℕ) a * S1x1024x2048.size a + ((y : S1x1024x2048.Idx) a).val :=
      fun a => Pipeline.Window.rect_emb_val ((cfgM m hO).win 7) t y a
    rw [hi] at he
    blk_simp
    rw [after0_7]
    exact point7_at m hO k hk c t y _ (he 0) (he 1) (he 2)
  · exact Memref.isWhole_whole _

end Cert.Kernel10Ideal.Ns

namespace Cert.Reference10Ideal.Ns

open Idealize.ShloMosaic Idealize.ShloMosaic.Tactic Cert.Reference10Ideal Cert.Reference10Ideal.Read
open Cert.Kernel10Ideal.Ns (hAt hAll parts)
open Cert.Norm (len eps one)

variable (x : Vec Ideal S8192x1024 .f32) (g sc sh : Vec Ideal S1024 .f32) (w : Vec Ideal S1024x8192 .f32)

theorem r_at (s : Fin 8192) : val_main_v7 (F := Ideal) x (ix2 s 0) = Ideal.rsqrt (Ideal.div (∑ e : Fin 1024, x (ix2 s e) * x (ix2 s e)) len + eps) := by
  pointwise [val_main_v7, val_main_v6, val_main_v5, val_main_cst_1, val_main_v4, val_main_v3, val_main_cst_0, val_main_v2, val_main_v1, val_main_cst, val_main_v0]

theorem v20_at (s : Fin 8192) (d : Fin 1024) : val_main_v20 (F := Ideal) x g sc sh (ix2 s d) = hAt x g sc sh s d := by
  pointwise [val_main_v20, val_main_v19, val_main_v18, val_main_v17, val_main_v16, val_main_v15, val_main_v14, val_main_v13, val_main_cst_2, val_main_v12, val_main_v11, val_main_v10, val_main_v9, val_main_v8]
  rw [r_at]
  simp only [hAt, Cert.Norm.one_eq]
  rfl

theorem h_eq : val_main_v21 (F := Ideal) x g sc sh = hAll x g sc sh := by
  funext y
  idx_vars y
  rw [val_main_v21_apply]
  exact v20_at x g sc sh y0 y1

theorem v22_at (s : Fin 8192) (q : Fin 8192) :
    val_main_v22 (F := Ideal) x g sc sh w (ix2 s q) = ∑ d : Fin 1024, hAt x g sc sh s d * w (ix2 d q) := by
  pointwise [val_main_v22]
  exact Finset.sum_congr rfl fun d _ => congrArg (· * w (ix2 d q)) (v20_at x g sc sh s d)

theorem v22_at' (j : S8192x8192.Idx) (s : Fin 8192) (q : Fin 8192) (h0 : (j 0).val = s.val) (h1 : (j 1).val = q.val) :
    val_main_v22 (F := Ideal) x g sc sh w j = ∑ d : Fin 1024, hAt x g sc sh s d * w (ix2 d q) := by
  obtain rfl : j = ix2 s q := by
    funext a
    fin_cases a
    · exact Fin.ext h0
    · exact Fin.ext h1
  exact v22_at x g sc sh w s q

theorem parts_at (y0 : Fin 4) (y1 : Fin 8192) (y2 : Fin 2048) :
    val_main_v31 (F := Ideal) x g sc sh w (ix3 y0 y1 y2)
      = ∑ d : Fin 1024, hAt x g sc sh y1 d * w (ix2 d ⟨2048 * y0.val + y2.val, by omega⟩) := by
  fin_cases y0
  · pointwise [val_main_v31, val_main_v30, val_main_v29, val_main_v28, val_main_v27, val_main_v26, val_main_v25, val_main_v24, val_main_v23]
    exact v22_at x g sc sh w y1 _
  · pointwise [val_main_v31, val_main_v30, val_main_v29, val_main_v28, val_main_v27, val_main_v26, val_main_v25, val_main_v24, val_main_v23]
    exact v22_at' x g sc sh w _ y1 ⟨2048 * 1 + y2.val, by omega⟩ rfl (by simp)
  · pointwise [val_main_v31, val_main_v30, val_main_v29, val_main_v28, val_main_v27, val_main_v26, val_main_v25, val_main_v24, val_main_v23]
    exact v22_at' x g sc sh w _ y1 ⟨2048 * 2 + y2.val, by omega⟩ rfl (by simp)
  · pointwise [val_main_v31, val_main_v30, val_main_v29, val_main_v28, val_main_v27, val_main_v26, val_main_v25, val_main_v24, val_main_v23]
    exact v22_at' x g sc sh w _ y1 ⟨2048 * 3 + y2.val, by omega⟩ rfl (by simp)

theorem parts_eq : val_main_v31 (F := Ideal) x g sc sh w = parts x g sc sh w := by
  funext y
  idx_vars y
  exact parts_at x g sc sh w y0 y1 y2

end Cert.Reference10Ideal.Ns

end
-- ==== Proof.NormSlabValue.lean ====
/- The value claim of the normed rows and their product with one part of the weights, and its reference's frame. -/
module

public import proofs.«01_k».proof.Defs
public import proofs.«01_k».proof.Proof.Gen.Reference10Ideal
public import proofs.«01_k».proof.Proof.Gen.Reference10Ideal.Run
public import proofs.«01_k».proof.Proof.Gen.Reference10Ideal.Read
public import proofs.«01_k».proof.Proof.NormSlabFinal

@[expose] public section

set_option maxRecDepth 16384
set_option maxHeartbeats 4000000

noncomputable section

namespace Cert.NormSlab

open Idealize.ShloMosaic Idealize.ShloMosaic.TcCoe Idealize.ShloMosaic.Tactic

theorem on_facts : Cert.On_part_computed.Facts where
  bcast_S_S8192x1024 := by decide
  bcast_S4_S4x1x1_0 := by decide
  shapeCasts_S1_S_ := by decide
  bcast_S_S4x1x1 := by decide
  bcast_S4x1x1_S4x8192x2048_0_1_2 := by decide

attribute [local instance] on_facts

/-- The mask selects, of the second result, the part whose number is given. -/
theorem part_of_mask (k : Fin 4) (q : IVec Cert.On_part_computed.S1 32) (hq : q = fun _ => BitVec.ofNat 32 k.val)
    (x : FVec Ideal Cert.On_part_computed.S8192x1024 .f32) (g sc sh : FVec Ideal Cert.On_part_computed.S1024 .f32)
    (w : FVec Ideal Cert.On_part_computed.S1024x8192 .f32) (j : Cert.On_part_computed.S4x8192x2048.Idx)
    (h : (Cert.On_part_computed.fn (F := Ideal) q x g sc sh w).2 j = 1#1) : (j 0).val = k.val := by
  subst hq
  idx_vars j
  have h' : IntOp.cmpi .eq (BitVec.ofNat 32 j0.val) (BitVec.ofNat 32 k.val) = 1#1 := h
  show j0.val = k.val
  clear h
  revert h'
  revert j0 k
  decide

end Cert.NormSlab

namespace Cert.Proof

open Idealize.ShloMosaic Idealize.ShloMosaic.TcCoe Idealize.SL.Sem

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

attribute [local instance] Cert.NormSlab.pre_facts10 Cert.NormSlab.on_facts

open Cert.Kernel10Ideal Cert.Kernel10Ideal.Gen in
/-- Every run ends with the rows and their part as the formulas say and the arguments as they were. -/
theorem run10 (m : (ℓ : Loc nD τ sig) → Buf (Elt Ideal) ℓ) (ρ : Dev nD → PrngReg) (hO : Ok m) (k : Fin 4) (hk : tbl m = Kernel10Ideal.Ns.pfk k) :
    θ_run defs (onTc (τ := τ) (main (F := Ideal))) ⟨m, fun _ => 0, ρ⟩ (fun r => ∀ c : Dev nD,
      r.2.mem ((c.tc : Thread nD τ).loc main_v5_0) = Kernel10Ideal.Ns.hAll (Kernel10Ideal.Ns.x1 m c) (Kernel10Ideal.Ns.x2 m c) (Kernel10Ideal.Ns.x3 m c) (Kernel10Ideal.Ns.x4 m c)
      ∧ (∀ j : S4x8192x2048.Idx, (j 0).val = k.val → r.2.mem ((c.tc : Thread nD τ).loc main_v5_1) j
        = Kernel10Ideal.Ns.parts (Kernel10Ideal.Ns.x1 m c) (Kernel10Ideal.Ns.x2 m c) (Kernel10Ideal.Ns.x3 m c) (Kernel10Ideal.Ns.x4 m c) (Kernel10Ideal.Ns.x5 m c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨a0, a1, a2, a3, a4, a5⟩ : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := h.2 c
    exact ⟨((h.1 c).1 6).trans (Kernel10Ideal.Ns.final6 m hO k hk c),
      fun j hj => (congrFun ((h.1 c).1 7) j).trans (Kernel10Ideal.Ns.final7 m hO k hk c j hj), a0, a1, a2, a3, a4, a5⟩)
    (θ_run_and (run_main m ρ hO) (unchanged m ρ hO))

theorem value10 : Cert.algebraic_Kernel10Ideal_Reference10Ideal_on_part_computed := by
  intro m g m' g' hpre hm
  obtain ⟨k, hk, hq⟩ := Kernel10Ideal.Ns.tbl_of_pre m hpre
  refine ⟨fun c => Kernel10Ideal.Ns.hAll (Kernel10Ideal.Ns.x1 m c) (Kernel10Ideal.Ns.x2 m c) (Kernel10Ideal.Ns.x3 m c) (Kernel10Ideal.Ns.x4 m c),
    fun c => Kernel10Ideal.Ns.parts (Kernel10Ideal.Ns.x1 m c) (Kernel10Ideal.Ns.x2 m c) (Kernel10Ideal.Ns.x3 m c) (Kernel10Ideal.Ns.x4 m c) (Kernel10Ideal.Ns.x5 m c), ?_, ?_⟩
  · refine (θ_run Cert.Kernel10Ideal.defs _ _).mono (fun r h c => ?_) (run10 m g (Kernel10Ideal.Ns.ok_of_pre m hpre) k hk)
    obtain ⟨h0, h1, hr⟩ := h c
    have hc : c = 0 := Subsingleton.elim _ _
    subst hc
    exact ⟨fun i _ => congrFun h0 i, fun i hi => h1 i (Cert.NormSlab.part_of_mask k _ hq _ _ _ _ _ i hi), hr⟩
  · refine (θ_run Cert.Reference10Ideal.defs _ _).mono (fun r h c => ?_) (Cert.Reference10Ideal.Value.run (F := Ideal) m' g')
    obtain ⟨h0, h1, hr⟩ := h c
    obtain ⟨a0, a1, a2, a3, a4, a5⟩ := hm c
    refine ⟨fun i _ => congrFun (h0.trans ?_) i, fun i _ => congrFun (h1.trans ?_) i, hr⟩
    · rw [Reference10Ideal.Read.val_main_v21_eq, a1, a2, a3, a4]
      exact Reference10Ideal.Ns.h_eq _ _ _ _
    · rw [Reference10Ideal.Read.val_main_v31_eq, a1, a2, a3, a4, a5]
      exact Reference10Ideal.Ns.parts_eq _ _ _ _ _

end Cert.Proof

end
-- ==== Proof.HdArr.lean ====
/- The gated mixer's forward pass with the loss head over extended reals, its arrays read at row and column numbers. -/
module

public import proofs.«01_k».proof.Proof.GmArr
public import proofs.«01_k».proof.Proof.NormDx

@[expose] public section

noncomputable section

open scoped BigOperators

namespace Cert.Head

open Idealize.ShloMosaic
open Cert.GatedConv (half half_eq sg)
open Cert.Gmlp (Arr)
open Cert.Norm (Rows len eps mhalf len_eq one_eq div_coe)

/-- The reciprocal of the row length. -/
abbrev rlen : EReal := Ideal.ofBits .f32 0x3A800000#32

theorem rlen_eq : rlen = ((1 / 1024 : ℝ) : EReal) := by
  simp [rlen, Ideal.ofBits, Ideal.ieee, -EReal.coe_mul]; norm_num

/-- The mixer's arrays, the residual stream, its gate, the last norm's gain and the target. -/
structure Hd where
  M : Arr
  x1 : ℕ → Fin 1024 → EReal
  ga : Fin 1024 → EReal
  gf : Fin 1024 → EReal
  tg : ℕ → Fin 1024 → EReal

namespace Hd
variable (H : Hd)

/-- The mixer's gated rows, its branch, and the stream after it. -/
def y (s : ℕ) (e : Fin 2048) : EReal := H.M.z s e * sg (H.M.z s e) * (H.M.u s e * H.M.mix s e)
def br (s : ℕ) (d : Fin 1024) : EReal := ∑ e, H.y s e * H.M.wo e d
def X (s : ℕ) (d : Fin 1024) : EReal := H.x1 s d + H.ga d * H.br s d
/-- The norm's factor and rows, the error, and the loss's gradient at the norm's result. -/
def r (s : ℕ) : EReal := Ideal.rsqrt (Ideal.div (∑ d, H.X s d * H.X s d) len + eps)
def xn (s : ℕ) (d : Fin 1024) : EReal := H.X s d * H.r s
def err (s : ℕ) (d : Fin 1024) : EReal := H.xn s d * H.gf d - H.tg s d
def dout (s : ℕ) (d : Fin 1024) : EReal := H.err s d * rlen
/-- The stream's gradient, the branch's, one row's loss, and the terms of the two column sums. -/
def dx (s : ℕ) (d : Fin 1024) : EReal :=
  H.r s * (H.dout s d * H.gf d - H.xn s d * Ideal.div (∑ k, H.dout s k * H.gf k * H.xn s k) len)
def dbr (s : ℕ) (d : Fin 1024) : EReal := H.ga d * H.dx s d
def lossT (s : ℕ) : EReal := Ideal.div (∑ d, H.err s d * H.err s d) len
def tgf (s : ℕ) (d : Fin 1024) : EReal := H.dout s d * H.xn s d
def tga (s : ℕ) (d : Fin 1024) : EReal := H.dx s d * H.br s d
def loss : EReal := half * ∑ s : Fin 8192, H.lossT s.val
def dgf (d : Fin 1024) : EReal := ∑ s : Fin 8192, H.tgf s.val d
def dga (d : Fin 1024) : EReal := ∑ s : Fin 8192, H.tga s.val d

/-- The rows of the last norm's gradient. -/
abbrev rows : Rows := ⟨H.X, H.dout, fun _ _ => 0, H.gf, fun _ => 0⟩

variable {H}

theorem rows_dy (s d) : H.rows.dy s d = H.dout s d * H.gf d := by
  show H.dout s d * (Norm.one + 0) * H.gf d = _
  rw [add_zero, one_eq, EReal.coe_one, mul_one]

theorem rows_dx (s d) : H.rows.dx s d = H.dx s d := by
  unfold Rows.dx
  simp only [rows_dy]
  exact zero_add _

/-- The stream's gradient as the chain rule gives it. -/
theorem dx_ref (s : ℕ) (d : Fin 1024) :
    H.dout s d * H.gf d * H.r s
        + H.X s d * Ideal.div ((∑ k, H.X s k * (H.dout s k * H.gf k)) * (mhalf * Ideal.div (H.r s) (H.rows.ms s))) len
        + Ideal.div ((∑ k, H.X s k * (H.dout s k * H.gf k)) * (mhalf * Ideal.div (H.r s) (H.rows.ms s))) len * H.X s d = H.dx s d := by
  have e := H.rows.dx_all s d
  rw [rows_dx] at e
  unfold Rows.q at e
  simp only [rows_dy] at e
  simp only [zero_add] at e
  exact e

/-- The loss's gradient at the error, as the chain rule gives it. -/
theorem dout_ref (x one two : EReal) (h1 : one = ((1 : ℝ) : EReal)) (h2 : two = ((2 : ℝ) : EReal)) :
    Ideal.div (half * one) len * (two * x) = x * rlen := by
  rw [← mul_assoc, mul_comm, half_eq, h1, h2, len_eq, ← EReal.coe_mul, div_coe _ _ (by norm_num), ← EReal.coe_mul, rlen_eq]
  norm_num

/-- A half distributes over a sum. -/
theorem half_add (a b : EReal) : half * (a + b) = half * a + half * b := by
  rw [half_eq]
  exact EReal.left_distrib_of_nonneg_of_ne_top (by exact_mod_cast (by norm_num : (0 : ℝ) ≤ 1 / 2)) (EReal.coe_ne_top _) a b

end Hd

end Cert.Head
-- ==== Proof.HdPay.lean ====
/- What the stored values of the gated mixer's forward kernel with the loss head are at an index. -/
module

public import proofs.«01_k».proof.Proof.Gen.Kernel11Ideal.Skeleton
public import proofs.«01_k».proof.Proof.HdArr
public import Idealize.ShloMosaic.Lib.Pointwise

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen
open Cert.Gmlp (ra gelu cdf)
open Cert.GatedConv (half sg)
open Cert.Head (rlen)

theorem cmp_ge : ∀ i j : Fin 128, IntOp.cmpi CmpIPredicate.sge (BitVec.ofNat 32 i) (BitVec.ofNat 32 j) = if j.val ≤ i.val then 1#1 else 0#1 := by
  decide +kernel

theorem sel_ge (i j : Fin 128) (x y : EReal) :
    Scalar.select (IntOp.cmpi CmpIPredicate.sge (BitVec.ofNat 32 i) (BitVec.ofNat 32 j)) x y = if j.val ≤ i.val then x else y := by
  rw [cmp_ge]; by_cases h : j.val ≤ i.val
  · rw [if_pos h, if_pos h]; rfl
  · rw [if_neg h, if_neg h]; rfl

theorem named_a (b : BitVec 32) : Named.named (F := Ideal) κ "a" (φ := .f32) b = ra := by
  have h : κ "a" = some ra := by unfold κ; rfl
  simp only [Named.named, h, Option.getD_some]

/-- A mixing matrix's lower triangle, and one group's and chunk's mixed rows. -/
def tri (w : Vec Ideal S1x128x128 .f32) (i j : Fin 128) : EReal := if j.val ≤ i.val then w (ix3 0 i j) else 0
def mixT (w : Vec Ideal S1x128x128 .f32) (x : Vec Ideal S128x256 .bf16) (b : Vec Ideal S128x1 .f32) : Vec Ideal S128x256 .f32 :=
  fun y => ∑ j : Fin 128, tri w (y 0) j * x (ix2 j (y 1)) + b (ix2 (y 0) 0)

theorem mixp0 (w : Vec Ideal S1x128x128 .f32) (x : Vec Ideal S128x256 .bf16) (b : Vec Ideal S128x1 .f32) :
    k0_pay9 (F := Ideal) w x b = mixT w x b := by
  funext y; idx_vars y; pointwise [mixT, tri, k0_pay9, k0_pay8, sel_ge]

theorem mixp1 (w : Vec Ideal S1x128x128 .f32) (x : Vec Ideal S128x256 .bf16) (b : Vec Ideal S128x1 .f32) :
    k0_pay10 (F := Ideal) w x b = mixT w x b := by
  funext y; idx_vars y; pointwise [mixT, tri, k0_pay10, k0_pay8, sel_ge]

theorem mixp2 (w : Vec Ideal S1x128x128 .f32) (x : Vec Ideal S128x256 .bf16) (b : Vec Ideal S128x1 .f32) :
    k0_pay12 (F := Ideal) (k0_pay11 w x b) = mixT w x b := by
  funext y; idx_vars y; pointwise [mixT, tri, k0_pay12, k0_pay11, k0_pay8, sel_ge]

theorem mixp3 (w : Vec Ideal S1x128x128 .f32) (x : Vec Ideal S128x256 .bf16) (b : Vec Ideal S128x1 .f32) :
    k0_pay13 (F := Ideal) (k0_pay8 w) x b = mixT w x b := by
  funext y; idx_vars y; pointwise [mixT, tri, k0_pay13, k0_pay8, sel_ge]

theorem mixp4 (w : Vec Ideal S1x128x128 .f32) (x : Vec Ideal S128x256 .bf16) (b : Vec Ideal S128x1 .f32) :
    k0_pay15 (F := Ideal) w x b = mixT w x b := by
  funext y; idx_vars y; pointwise [mixT, tri, k0_pay15, k0_pay14, sel_ge]

theorem mixp5 (w : Vec Ideal S1x128x128 .f32) (x : Vec Ideal S128x256 .bf16) (b : Vec Ideal S128x1 .f32) :
    k0_pay17 (F := Ideal) (k0_pay16 w x) b = mixT w x b := by
  funext y; idx_vars y; pointwise [mixT, tri, k0_pay17, k0_pay16, k0_pay14, sel_ge]

theorem mixp6 (w : Vec Ideal S1x128x128 .f32) (x : Vec Ideal S128x256 .bf16) (b : Vec Ideal S128x1 .f32) :
    k0_pay18 (F := Ideal) (k0_pay14 w) x b = mixT w x b := by
  funext y; idx_vars y; pointwise [mixT, tri, k0_pay18, k0_pay14, sel_ge]

theorem mixp7 (w : Vec Ideal S1x128x128 .f32) (x : Vec Ideal S128x256 .bf16) (b : Vec Ideal S128x1 .f32) :
    k0_pay19 (F := Ideal) (k0_pay14 w) x b = mixT w x b := by
  funext y; idx_vars y; pointwise [mixT, tri, k0_pay19, k0_pay14, sel_ge]

theorem mixp8 (w : Vec Ideal S1x128x128 .f32) (x : Vec Ideal S128x256 .bf16) (b : Vec Ideal S128x1 .f32) :
    k0_pay22 (F := Ideal) (k0_pay21 w x) b = mixT w x b := by
  funext y; idx_vars y; pointwise [mixT, tri, k0_pay22, k0_pay21, k0_pay20, sel_ge]

theorem mixp9 (w : Vec Ideal S1x128x128 .f32) (x : Vec Ideal S128x256 .bf16) (b : Vec Ideal S128x1 .f32) :
    k0_pay23 (F := Ideal) (k0_pay20 w) x b = mixT w x b := by
  funext y; idx_vars y; pointwise [mixT, tri, k0_pay23, k0_pay20, sel_ge]

theorem mixp10 (w : Vec Ideal S1x128x128 .f32) (x : Vec Ideal S128x256 .bf16) (b : Vec Ideal S128x1 .f32) :
    k0_pay24 (F := Ideal) (k0_pay20 w) x b = mixT w x b := by
  funext y; idx_vars y; pointwise [mixT, tri, k0_pay24, k0_pay20, sel_ge]

theorem mixp11 (w : Vec Ideal S1x128x128 .f32) (x : Vec Ideal S128x256 .bf16) (b : Vec Ideal S128x1 .f32) :
    k0_pay26 (F := Ideal) (k0_pay25 (k0_pay20 w) x b) = mixT w x b := by
  funext y; idx_vars y; pointwise [mixT, tri, k0_pay26, k0_pay25, k0_pay20, sel_ge]

theorem mixp12 (w : Vec Ideal S1x128x128 .f32) (x : Vec Ideal S128x256 .bf16) (b : Vec Ideal S128x1 .f32) :
    k0_pay28 (F := Ideal) w x b = mixT w x b := by
  funext y; idx_vars y; pointwise [mixT, tri, k0_pay28, k0_pay27, sel_ge]

theorem mixp13 (w : Vec Ideal S1x128x128 .f32) (x : Vec Ideal S128x256 .bf16) (b : Vec Ideal S128x1 .f32) :
    k0_pay29 (F := Ideal) w x b = mixT w x b := by
  funext y; idx_vars y; pointwise [mixT, tri, k0_pay29, k0_pay27, sel_ge]

theorem mixp14 (w : Vec Ideal S1x128x128 .f32) (x : Vec Ideal S128x256 .bf16) (b : Vec Ideal S128x1 .f32) :
    k0_pay31 (F := Ideal) (k0_pay30 w x b) = mixT w x b := by
  funext y; idx_vars y; pointwise [mixT, tri, k0_pay31, k0_pay30, k0_pay27, sel_ge]

theorem mixp15 (w : Vec Ideal S1x128x128 .f32) (x : Vec Ideal S128x256 .bf16) (b : Vec Ideal S128x1 .f32) :
    k0_pay32 (F := Ideal) (k0_pay27 w) x b = mixT w x b := by
  funext y; idx_vars y; pointwise [mixT, tri, k0_pay32, k0_pay27, sel_ge]

theorem mixp16 (w : Vec Ideal S1x128x128 .f32) (x : Vec Ideal S128x256 .bf16) (b : Vec Ideal S128x1 .f32) :
    k0_pay34 (F := Ideal) w x b = mixT w x b := by
  funext y; idx_vars y; pointwise [mixT, tri, k0_pay34, k0_pay33, sel_ge]

theorem mixp17 (w : Vec Ideal S1x128x128 .f32) (x : Vec Ideal S128x256 .bf16) (b : Vec Ideal S128x1 .f32) :
    k0_pay36 (F := Ideal) (k0_pay35 w x) b = mixT w x b := by
  funext y; idx_vars y; pointwise [mixT, tri, k0_pay36, k0_pay35, k0_pay33, sel_ge]

theorem mixp18 (w : Vec Ideal S1x128x128 .f32) (x : Vec Ideal S128x256 .bf16) (b : Vec Ideal S128x1 .f32) :
    k0_pay37 (F := Ideal) (k0_pay33 w) x b = mixT w x b := by
  funext y; idx_vars y; pointwise [mixT, tri, k0_pay37, k0_pay33, sel_ge]

theorem mixp19 (w : Vec Ideal S1x128x128 .f32) (x : Vec Ideal S128x256 .bf16) (b : Vec Ideal S128x1 .f32) :
    k0_pay38 (F := Ideal) (k0_pay33 w) x b = mixT w x b := by
  funext y; idx_vars y; pointwise [mixT, tri, k0_pay38, k0_pay33, sel_ge]

theorem mixp20 (w : Vec Ideal S1x128x128 .f32) (x : Vec Ideal S128x256 .bf16) (b : Vec Ideal S128x1 .f32) :
    k0_pay41 (F := Ideal) (k0_pay40 w x) b = mixT w x b := by
  funext y; idx_vars y; pointwise [mixT, tri, k0_pay41, k0_pay40, k0_pay39, sel_ge]

theorem mixp21 (w : Vec Ideal S1x128x128 .f32) (x : Vec Ideal S128x256 .bf16) (b : Vec Ideal S128x1 .f32) :
    k0_pay42 (F := Ideal) (k0_pay39 w) x b = mixT w x b := by
  funext y; idx_vars y; pointwise [mixT, tri, k0_pay42, k0_pay39, sel_ge]

theorem mixp22 (w : Vec Ideal S1x128x128 .f32) (x : Vec Ideal S128x256 .bf16) (b : Vec Ideal S128x1 .f32) :
    k0_pay43 (F := Ideal) (k0_pay39 w) x b = mixT w x b := by
  funext y; idx_vars y; pointwise [mixT, tri, k0_pay43, k0_pay39, sel_ge]

theorem mixp23 (w : Vec Ideal S1x128x128 .f32) (x : Vec Ideal S128x256 .bf16) (b : Vec Ideal S128x1 .f32) :
    k0_pay45 (F := Ideal) (k0_pay44 (k0_pay39 w) x b) = mixT w x b := by
  funext y; idx_vars y; pointwise [mixT, tri, k0_pay45, k0_pay44, k0_pay39, sel_ge]

theorem mixp24 (w : Vec Ideal S1x128x128 .f32) (x : Vec Ideal S128x256 .bf16) (b : Vec Ideal S128x1 .f32) :
    k0_pay47 (F := Ideal) w x b = mixT w x b := by
  funext y; idx_vars y; pointwise [mixT, tri, k0_pay47, k0_pay46, sel_ge]

theorem mixp25 (w : Vec Ideal S1x128x128 .f32) (x : Vec Ideal S128x256 .bf16) (b : Vec Ideal S128x1 .f32) :
    k0_pay48 (F := Ideal) w x b = mixT w x b := by
  funext y; idx_vars y; pointwise [mixT, tri, k0_pay48, k0_pay46, sel_ge]

theorem mixp26 (w : Vec Ideal S1x128x128 .f32) (x : Vec Ideal S128x256 .bf16) (b : Vec Ideal S128x1 .f32) :
    k0_pay50 (F := Ideal) (k0_pay49 w x b) = mixT w x b := by
  funext y; idx_vars y; pointwise [mixT, tri, k0_pay50, k0_pay49, k0_pay46, sel_ge]

theorem mixp27 (w : Vec Ideal S1x128x128 .f32) (x : Vec Ideal S128x256 .bf16) (b : Vec Ideal S128x1 .f32) :
    k0_pay51 (F := Ideal) (k0_pay46 w) x b = mixT w x b := by
  funext y; idx_vars y; pointwise [mixT, tri, k0_pay51, k0_pay46, sel_ge]

theorem mixp28 (w : Vec Ideal S1x128x128 .f32) (x : Vec Ideal S128x256 .bf16) (b : Vec Ideal S128x1 .f32) :
    k0_pay53 (F := Ideal) w x b = mixT w x b := by
  funext y; idx_vars y; pointwise [mixT, tri, k0_pay53, k0_pay52, sel_ge]

theorem mixp29 (w : Vec Ideal S1x128x128 .f32) (x : Vec Ideal S128x256 .bf16) (b : Vec Ideal S128x1 .f32) :
    k0_pay55 (F := Ideal) (k0_pay54 w x) b = mixT w x b := by
  funext y; idx_vars y; pointwise [mixT, tri, k0_pay55, k0_pay54, k0_pay52, sel_ge]

theorem mixp30 (w : Vec Ideal S1x128x128 .f32) (x : Vec Ideal S128x256 .bf16) (b : Vec Ideal S128x1 .f32) :
    k0_pay56 (F := Ideal) (k0_pay52 w) x b = mixT w x b := by
  funext y; idx_vars y; pointwise [mixT, tri, k0_pay56, k0_pay52, sel_ge]

theorem mixp31 (w : Vec Ideal S1x128x128 .f32) (x : Vec Ideal S128x256 .bf16) (b : Vec Ideal S128x1 .f32) :
    k0_pay57 (F := Ideal) (k0_pay52 w) x b = mixT w x b := by
  funext y; idx_vars y; pointwise [mixT, tri, k0_pay57, k0_pay52, sel_ge]

theorem pay3 (y : S8x128.Idx) : k0_pay3 (F := Ideal) y = 0 := by pointwise [k0_pay3]
theorem pay4 (y : S1x1024.Idx) : k0_pay4 (F := Ideal) y = 0 := by pointwise [k0_pay4]
theorem pay5 (y : S1x1024.Idx) : k0_pay5 (F := Ideal) y = 0 := by pointwise [k0_pay5]
theorem pay1 (a b : Vec Ideal S1x1024 .f32) (d : Fin 1024) : k0_pay1 (F := Ideal) a b (ix2 0 d) = b (ix2 0 d) + a (ix2 0 d) := by
  pointwise [k0_pay1]
theorem pay2 (a b : Vec Ideal S1x1024 .f32) (d : Fin 1024) : k0_pay2 (F := Ideal) a b (ix2 0 d) = b (ix2 0 d) + a (ix2 0 d) := by
  pointwise [k0_pay2]

/-- A row normed, with the gain and the bias. -/
def lnRow (v : Fin 2048 → EReal) (g b : EReal) (e : Fin 2048) : EReal :=
  (v e - Ideal.div (∑ k, v k) Gmlp.len)
    * Ideal.rsqrt (Ideal.div (∑ k, (v k - Ideal.div (∑ j, v j) Gmlp.len) * (v k - Ideal.div (∑ j, v j) Gmlp.len)) Gmlp.len + Gmlp.eps) * g + b

theorem pay7 (x : Vec Ideal S512x2048 .bf16) (r : Fin 512) (e : Fin 2048) : k0_pay7 (F := Ideal) x (ix2 r e) = x (ix2 r e) := by
  pointwise [k0_pay7]
theorem pay6 (x : Vec Ideal S1x512x2048 .f32) (g b : Vec Ideal S1x2048 .f32) (r : Fin 512) (e : Fin 2048) :
    k0_pay6 (F := Ideal) x g b (ix2 r e) = lnRow (fun k => gelu (x (ix3 0 r k))) (g (ix2 0 e)) (b (ix2 0 e)) e := by
  pointwise [k0_pay6, lnRow, gelu, cdf, named_a]
  rfl
theorem pay58 (z : Vec Ideal S1x512x2048 .f32) (r : Fin 512) (e : Fin 2048) :
    k0_pay58 (F := Ideal) z (ix2 r e) = z (ix3 0 r e) * sg (z (ix3 0 r e)) := by
  pointwise [k0_pay58, sg]
theorem pay59 (s : Vec Ideal S512x2048 .f32) (x : Vec Ideal S1x512x2048 .f32) (mx : Vec Ideal S512x2048 .f32) (r : Fin 512) (e : Fin 2048) :
    k0_pay59 (F := Ideal) s x mx (ix2 r e) = s (ix2 r e) * (gelu (x (ix3 0 r e)) * mx (ix2 r e)) := by
  pointwise [k0_pay59, gelu, cdf, named_a]
  rfl
section
variable (s : Vec Ideal S512x2048 .f32) (x : Vec Ideal S1x512x2048 .f32) (mx : Vec Ideal S512x2048 .f32) (w : Vec Ideal S2048x1024 .bf16)
  (x1 : Vec Ideal S512x1024 .f32) (ga : Vec Ideal S1x1024 .f32)
theorem pay60 (r : Fin 512) (d : Fin 1024) :
    k0_pay60 (F := Ideal) s x mx w (ix2 r d) = ∑ e : Fin 2048, k0_pay59 (F := Ideal) s x mx (ix2 r e) * w (ix2 e d) := by
  pointwise [k0_pay60]
theorem pay63 (r : Fin 512) (d : Fin 1024) :
    k0_pay63 (F := Ideal) s x mx w x1 ga (ix2 r d) = x1 (ix2 r d) + ga (ix2 0 d) * k0_pay60 (F := Ideal) s x mx w (ix2 r d) := by
  pointwise [k0_pay63, k0_pay61]
theorem pay64 (r : Fin 512) :
    k0_pay64 (F := Ideal) s x mx w x1 ga (ix2 r 0) = Ideal.rsqrt (Ideal.div (∑ k : Fin 1024, k0_pay63 (F := Ideal) s x mx w x1 ga (ix2 r k)
      * k0_pay63 (F := Ideal) s x mx w x1 ga (ix2 r k)) Norm.len + Norm.eps) := by
  pointwise [k0_pay64]
theorem pay65 (r : Fin 512) (d : Fin 1024) :
    k0_pay65 (F := Ideal) s x mx w x1 ga (ix2 r d) = k0_pay64 (F := Ideal) s x mx w x1 ga (ix2 r 0) := by
  pointwise [k0_pay65]
end
theorem pay61 (v : Vec Ideal S1x1024 .f32) (y : S1x1024.Idx) : k0_pay61 (F := Ideal) v y = v y := by pointwise [k0_pay61]
theorem pay62 (v : Vec Ideal S1x1024 .f32) (y : S1x1024.Idx) : k0_pay62 (F := Ideal) v y = v y := by pointwise [k0_pay62]
theorem pay66 (a b : Vec Ideal S512x1024 .f32) (r : Fin 512) (d : Fin 1024) : k0_pay66 (F := Ideal) a b (ix2 r d) = a (ix2 r d) * b (ix2 r d) := by
  pointwise [k0_pay66]
section
variable (gf : Vec Ideal S1x1024 .f32) (tg X : Vec Ideal S512x1024 .f32) (rs : Vec Ideal S512x1 .f32) (rb br : Vec Ideal S512x1024 .f32)
theorem pay67 (r : Fin 512) (d : Fin 1024) :
    k0_pay67 (F := Ideal) gf tg X rb (ix2 r d) = k0_pay66 (F := Ideal) X rb (ix2 r d) * gf (ix2 0 d) - tg (ix2 r d) := by
  pointwise [k0_pay67]
theorem pay68 (r : Fin 512) (d : Fin 1024) : k0_pay68 (F := Ideal) gf tg X rb (ix2 r d) = k0_pay67 (F := Ideal) gf tg X rb (ix2 r d) * rlen := by
  pointwise [k0_pay68]
theorem pay69 (r : Fin 512) (d : Fin 1024) :
    k0_pay69 (F := Ideal) gf tg X rs rb (ix2 r d)
      = rs (ix2 r 0) * (k0_pay68 (F := Ideal) gf tg X rb (ix2 r d) * gf (ix2 0 d) - k0_pay66 (F := Ideal) X rb (ix2 r d)
        * Ideal.div (∑ k : Fin 1024, k0_pay68 (F := Ideal) gf tg X rb (ix2 r k) * gf (ix2 0 k) * k0_pay66 (F := Ideal) X rb (ix2 r k)) Norm.len) := by
  pointwise [k0_pay69]
theorem pay70 (d : Fin 1024) :
    k0_pay70 (F := Ideal) gf tg X rb (ix2 0 d) = ∑ r : Fin 512, k0_pay68 (F := Ideal) gf tg X rb (ix2 r d) * k0_pay66 (F := Ideal) X rb (ix2 r d) := by
  pointwise [k0_pay70]
theorem pay71 (d : Fin 1024) :
    k0_pay71 (F := Ideal) br gf tg X rs rb (ix2 0 d) = ∑ r : Fin 512, k0_pay69 (F := Ideal) gf tg X rs rb (ix2 r d) * br (ix2 r d) := by
  pointwise [k0_pay71]
theorem pay72 (ga : Vec Ideal S1x1024 .f32) (r : Fin 512) (d : Fin 1024) :
    k0_pay72 (F := Ideal) ga gf tg X rs rb (ix2 r d) = ga (ix2 0 d) * k0_pay69 (F := Ideal) gf tg X rs rb (ix2 r d) := by
  pointwise [k0_pay72]
theorem pay73 (o : Vec Ideal S8x128 .f32) (i : Fin 8) (j : Fin 128) :
    k0_pay73 (F := Ideal) gf tg X rb o (ix2 i j)
      = o (ix2 i j) + half * ∑ r : Fin 512, Ideal.div (∑ k : Fin 1024, k0_pay67 (F := Ideal) gf tg X rb (ix2 r k) * k0_pay67 (F := Ideal) gf tg X rb (ix2 r k)) Norm.len := by
  pointwise [k0_pay73]
  simp only [Fin.sum_univ_one, Finset.univ_unique, Finset.sum_singleton]
end

end Cert.Kernel11Ideal.Hm
-- ==== Proof.HdRead.lean ====
/- The block of mixed rows the gated mixer's forward kernel stores piece by piece, read back whole. -/
module

public import proofs.«01_k».proof.Proof.HdPay
public import Idealize.ShloMosaic.Lib.Pipeline.ValueKit.Point
public import Idealize.ShloMosaic.Lib.Pipeline.ValueKit.Acc
public import Idealize.ShloMosaic.Lib.Pipeline.ReadBack
public import Idealize.ShloMosaic.Lib.Ring

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen

/-- The mixed rows over the whole block. -/
def mixE (ws : Vec Ideal S8x128x128 .f32) (vn : Vec Ideal S512x2048 .bf16) (bt : Vec Ideal S128x8 .f32) (r : Fin 512) (e : Fin 2048) : EReal :=
  ∑ j : Fin 128, (if j.val ≤ r.val % 128 then ws (ix3 ⟨e.val / 256, by omega⟩ ⟨r.val % 128, by omega⟩ j) else 0)
    * vn (ix2 ⟨128 * (r.val / 128) + j.val, by omega⟩ e) + bt (ix2 ⟨r.val % 128, by omega⟩ ⟨e.val / 256, by omega⟩)
def mixV (ws : Vec Ideal S8x128x128 .f32) (vn : Vec Ideal S512x2048 .bf16) (bt : Vec Ideal S128x8 .f32) : Vec Ideal S512x2048 .f32 :=
  fun y => mixE ws vn bt (y 0) (y 1)

theorem emb2 {a b p q : ℕ} (off : Fin 2 → ℕ) (inb : ∀ k, off k + (![a, b] : Fin 2 → ℕ) k ≤ (⟨2, ![p, q]⟩ : Shape).size k) (i : Fin a) (c : Fin b)
    (r : Fin p) (e : Fin q) (hr : r.val = off 0 + i.val) (he : e.val = off 1 + c.val) :
    (Rect.unit (s := ⟨2, ![p, q]⟩) off ![a, b] inb).emb (ix2 i c) = ix2 r e := by
  refine funext fun k => Fin.ext ?_
  refine (Rect.idx_unit_val off ![a, b] inb (ix2 i c) k).trans ?_
  revert k
  exact Fin.forall_fin_two.mpr ⟨hr.symm, he.symm⟩

theorem emb3 {a b c p q s : ℕ} (off : Fin 3 → ℕ) (inb : ∀ k, off k + (![a, b, c] : Fin 3 → ℕ) k ≤ (⟨3, ![p, q, s]⟩ : Shape).size k)
    (i : Fin a) (j : Fin b) (k : Fin c) (i' : Fin p) (j' : Fin q) (k' : Fin s) (h0 : i'.val = off 0 + i.val) (h1 : j'.val = off 1 + j.val)
    (h2 : k'.val = off 2 + k.val) :
    (Rect.unit (s := ⟨3, ![p, q, s]⟩) off ![a, b, c] inb).emb (ix3 i j k) = ix3 i' j' k' := by
  refine funext fun l => Fin.ext ?_
  refine (Rect.idx_unit_val off ![a, b, c] inb (ix3 i j k) l).trans ?_
  revert l
  exact Fin.forall_fin_succ.mpr ⟨h0.symm, Fin.forall_fin_two.mpr ⟨h1.symm, h2.symm⟩⟩

theorem mix_piece (ws : Vec Ideal S8x128x128 .f32) (vn : Vec Ideal S512x2048 .bf16) (bt : Vec Ideal S128x8 .f32) (g n : ℕ) (hg : g < 8) (hn : n < 4)
    (i1 : ∀ a, (![g, 0, 0] : Fin 3 → ℕ) a + (![1, 128, 128] : Fin 3 → ℕ) a ≤ S8x128x128.size a)
    (i2 : ∀ a, (![128 * n, 256 * g] : Fin 2 → ℕ) a + (![128, 256] : Fin 2 → ℕ) a ≤ S512x2048.size a)
    (i3 : ∀ a, (![0, g] : Fin 2 → ℕ) a + (![128, 1] : Fin 2 → ℕ) a ≤ S128x8.size a) (x : S128x256.Idx) :
    mixT (View.ld ws (Rect.unit ![g, 0, 0] ![1, 128, 128] i1)) (View.ld vn (Rect.unit ![128 * n, 256 * g] ![128, 256] i2))
      (View.ld bt (Rect.unit ![0, g] ![128, 1] i3)) x
      = mixV ws vn bt ((Rect.unit (s := S512x2048) ![128 * n, 256 * g] ![128, 256] i2).emb x) := by
  idx_vars x
  rw [emb2 ![128 * n, 256 * g] i2 x0 x1 ⟨128 * n + x0.val, by omega⟩ ⟨256 * g + x1.val, by omega⟩ rfl rfl]
  pointwise [mixT, tri, View.ld_apply]
  have e1 : (128 * n + x0.val) % 128 = x0.val := by omega
  have e2 : (128 * n + x0.val) / 128 = n := by omega
  have e3 : (256 * g + x1.val) / 256 = g := by omega
  simp only [mixV, mixE, ix2_0, ix2_1, e1, e2, e3, Fin.eta]

theorem whole_idx (y : S512x2048.Idx) (inb : ∀ k, (![0, 0] : Fin 2 → ℕ) k + (![512, 2048] : Fin 2 → ℕ) k ≤ S512x2048.size k) :
    (Rect.unit (s := S512x2048) ![0, 0] ![512, 2048] inb).toLoadRect.idx y = y := by
  idx_vars y
  exact emb2 ![0, 0] inb y0 y1 y0 y1 (Nat.zero_add _).symm (Nat.zero_add _).symm

theorem mix_read (ws : Vec Ideal S8x128x128 .f32) (vn : Vec Ideal S512x2048 .bf16) (bt : Vec Ideal S128x8 .f32) :
    (View.whole cc0_scratch1).readCov (Val := Elt Ideal) [⟨Rect.unit ![384, 1792] ![128, 256] inb_S512x2048_S128x256_384_1792, mixT (View.ld ws (Rect.unit ![7, 0, 0] ![1, 128, 128] inb_S8x128x128_S1x128x128_7_0_0)) (View.ld vn (Rect.unit ![384, 1792] ![128, 256] inb_S512x2048_S128x256_384_1792)) (View.ld bt (Rect.unit ![0, 7] ![128, 1] inb_S128x8_S128x1_0_7))⟩,
    ⟨Rect.unit ![256, 1792] ![128, 256] inb_S512x2048_S128x256_256_1792, mixT (View.ld ws (Rect.unit ![7, 0, 0] ![1, 128, 128] inb_S8x128x128_S1x128x128_7_0_0)) (View.ld vn (Rect.unit ![256, 1792] ![128, 256] inb_S512x2048_S128x256_256_1792)) (View.ld bt (Rect.unit ![0, 7] ![128, 1] inb_S128x8_S128x1_0_7))⟩,
    ⟨Rect.unit ![128, 1792] ![128, 256] inb_S512x2048_S128x256_128_1792, mixT (View.ld ws (Rect.unit ![7, 0, 0] ![1, 128, 128] inb_S8x128x128_S1x128x128_7_0_0)) (View.ld vn (Rect.unit ![128, 1792] ![128, 256] inb_S512x2048_S128x256_128_1792)) (View.ld bt (Rect.unit ![0, 7] ![128, 1] inb_S128x8_S128x1_0_7))⟩,
    ⟨Rect.unit ![0, 1792] ![128, 256] inb_S512x2048_S128x256_0_1792, mixT (View.ld ws (Rect.unit ![7, 0, 0] ![1, 128, 128] inb_S8x128x128_S1x128x128_7_0_0)) (View.ld vn (Rect.unit ![0, 1792] ![128, 256] inb_S512x2048_S128x256_0_1792)) (View.ld bt (Rect.unit ![0, 7] ![128, 1] inb_S128x8_S128x1_0_7))⟩,
    ⟨Rect.unit ![384, 1536] ![128, 256] inb_S512x2048_S128x256_384_1536, mixT (View.ld ws (Rect.unit ![6, 0, 0] ![1, 128, 128] inb_S8x128x128_S1x128x128_6_0_0)) (View.ld vn (Rect.unit ![384, 1536] ![128, 256] inb_S512x2048_S128x256_384_1536)) (View.ld bt (Rect.unit ![0, 6] ![128, 1] inb_S128x8_S128x1_0_6))⟩,
    ⟨Rect.unit ![256, 1536] ![128, 256] inb_S512x2048_S128x256_256_1536, mixT (View.ld ws (Rect.unit ![6, 0, 0] ![1, 128, 128] inb_S8x128x128_S1x128x128_6_0_0)) (View.ld vn (Rect.unit ![256, 1536] ![128, 256] inb_S512x2048_S128x256_256_1536)) (View.ld bt (Rect.unit ![0, 6] ![128, 1] inb_S128x8_S128x1_0_6))⟩,
    ⟨Rect.unit ![128, 1536] ![128, 256] inb_S512x2048_S128x256_128_1536, mixT (View.ld ws (Rect.unit ![6, 0, 0] ![1, 128, 128] inb_S8x128x128_S1x128x128_6_0_0)) (View.ld vn (Rect.unit ![128, 1536] ![128, 256] inb_S512x2048_S128x256_128_1536)) (View.ld bt (Rect.unit ![0, 6] ![128, 1] inb_S128x8_S128x1_0_6))⟩,
    ⟨Rect.unit ![0, 1536] ![128, 256] inb_S512x2048_S128x256_0_1536, mixT (View.ld ws (Rect.unit ![6, 0, 0] ![1, 128, 128] inb_S8x128x128_S1x128x128_6_0_0)) (View.ld vn (Rect.unit ![0, 1536] ![128, 256] inb_S512x2048_S128x256_0_1536)) (View.ld bt (Rect.unit ![0, 6] ![128, 1] inb_S128x8_S128x1_0_6))⟩,
    ⟨Rect.unit ![384, 1280] ![128, 256] inb_S512x2048_S128x256_384_1280, mixT (View.ld ws (Rect.unit ![5, 0, 0] ![1, 128, 128] inb_S8x128x128_S1x128x128_5_0_0)) (View.ld vn (Rect.unit ![384, 1280] ![128, 256] inb_S512x2048_S128x256_384_1280)) (View.ld bt (Rect.unit ![0, 5] ![128, 1] inb_S128x8_S128x1_0_5))⟩,
    ⟨Rect.unit ![256, 1280] ![128, 256] inb_S512x2048_S128x256_256_1280, mixT (View.ld ws (Rect.unit ![5, 0, 0] ![1, 128, 128] inb_S8x128x128_S1x128x128_5_0_0)) (View.ld vn (Rect.unit ![256, 1280] ![128, 256] inb_S512x2048_S128x256_256_1280)) (View.ld bt (Rect.unit ![0, 5] ![128, 1] inb_S128x8_S128x1_0_5))⟩,
    ⟨Rect.unit ![128, 1280] ![128, 256] inb_S512x2048_S128x256_128_1280, mixT (View.ld ws (Rect.unit ![5, 0, 0] ![1, 128, 128] inb_S8x128x128_S1x128x128_5_0_0)) (View.ld vn (Rect.unit ![128, 1280] ![128, 256] inb_S512x2048_S128x256_128_1280)) (View.ld bt (Rect.unit ![0, 5] ![128, 1] inb_S128x8_S128x1_0_5))⟩,
    ⟨Rect.unit ![0, 1280] ![128, 256] inb_S512x2048_S128x256_0_1280, mixT (View.ld ws (Rect.unit ![5, 0, 0] ![1, 128, 128] inb_S8x128x128_S1x128x128_5_0_0)) (View.ld vn (Rect.unit ![0, 1280] ![128, 256] inb_S512x2048_S128x256_0_1280)) (View.ld bt (Rect.unit ![0, 5] ![128, 1] inb_S128x8_S128x1_0_5))⟩,
    ⟨Rect.unit ![384, 1024] ![128, 256] inb_S512x2048_S128x256_384_1024, mixT (View.ld ws (Rect.unit ![4, 0, 0] ![1, 128, 128] inb_S8x128x128_S1x128x128_4_0_0)) (View.ld vn (Rect.unit ![384, 1024] ![128, 256] inb_S512x2048_S128x256_384_1024)) (View.ld bt (Rect.unit ![0, 4] ![128, 1] inb_S128x8_S128x1_0_4))⟩,
    ⟨Rect.unit ![256, 1024] ![128, 256] inb_S512x2048_S128x256_256_1024, mixT (View.ld ws (Rect.unit ![4, 0, 0] ![1, 128, 128] inb_S8x128x128_S1x128x128_4_0_0)) (View.ld vn (Rect.unit ![256, 1024] ![128, 256] inb_S512x2048_S128x256_256_1024)) (View.ld bt (Rect.unit ![0, 4] ![128, 1] inb_S128x8_S128x1_0_4))⟩,
    ⟨Rect.unit ![128, 1024] ![128, 256] inb_S512x2048_S128x256_128_1024, mixT (View.ld ws (Rect.unit ![4, 0, 0] ![1, 128, 128] inb_S8x128x128_S1x128x128_4_0_0)) (View.ld vn (Rect.unit ![128, 1024] ![128, 256] inb_S512x2048_S128x256_128_1024)) (View.ld bt (Rect.unit ![0, 4] ![128, 1] inb_S128x8_S128x1_0_4))⟩,
    ⟨Rect.unit ![0, 1024] ![128, 256] inb_S512x2048_S128x256_0_1024, mixT (View.ld ws (Rect.unit ![4, 0, 0] ![1, 128, 128] inb_S8x128x128_S1x128x128_4_0_0)) (View.ld vn (Rect.unit ![0, 1024] ![128, 256] inb_S512x2048_S128x256_0_1024)) (View.ld bt (Rect.unit ![0, 4] ![128, 1] inb_S128x8_S128x1_0_4))⟩,
    ⟨Rect.unit ![384, 768] ![128, 256] inb_S512x2048_S128x256_384_768, mixT (View.ld ws (Rect.unit ![3, 0, 0] ![1, 128, 128] inb_S8x128x128_S1x128x128_3_0_0)) (View.ld vn (Rect.unit ![384, 768] ![128, 256] inb_S512x2048_S128x256_384_768)) (View.ld bt (Rect.unit ![0, 3] ![128, 1] inb_S128x8_S128x1_0_3))⟩,
    ⟨Rect.unit ![256, 768] ![128, 256] inb_S512x2048_S128x256_256_768, mixT (View.ld ws (Rect.unit ![3, 0, 0] ![1, 128, 128] inb_S8x128x128_S1x128x128_3_0_0)) (View.ld vn (Rect.unit ![256, 768] ![128, 256] inb_S512x2048_S128x256_256_768)) (View.ld bt (Rect.unit ![0, 3] ![128, 1] inb_S128x8_S128x1_0_3))⟩,
    ⟨Rect.unit ![128, 768] ![128, 256] inb_S512x2048_S128x256_128_768, mixT (View.ld ws (Rect.unit ![3, 0, 0] ![1, 128, 128] inb_S8x128x128_S1x128x128_3_0_0)) (View.ld vn (Rect.unit ![128, 768] ![128, 256] inb_S512x2048_S128x256_128_768)) (View.ld bt (Rect.unit ![0, 3] ![128, 1] inb_S128x8_S128x1_0_3))⟩,
    ⟨Rect.unit ![0, 768] ![128, 256] inb_S512x2048_S128x256_0_768, mixT (View.ld ws (Rect.unit ![3, 0, 0] ![1, 128, 128] inb_S8x128x128_S1x128x128_3_0_0)) (View.ld vn (Rect.unit ![0, 768] ![128, 256] inb_S512x2048_S128x256_0_768)) (View.ld bt (Rect.unit ![0, 3] ![128, 1] inb_S128x8_S128x1_0_3))⟩,
    ⟨Rect.unit ![384, 512] ![128, 256] inb_S512x2048_S128x256_384_512, mixT (View.ld ws (Rect.unit ![2, 0, 0] ![1, 128, 128] inb_S8x128x128_S1x128x128_2_0_0)) (View.ld vn (Rect.unit ![384, 512] ![128, 256] inb_S512x2048_S128x256_384_512)) (View.ld bt (Rect.unit ![0, 2] ![128, 1] inb_S128x8_S128x1_0_2))⟩,
    ⟨Rect.unit ![256, 512] ![128, 256] inb_S512x2048_S128x256_256_512, mixT (View.ld ws (Rect.unit ![2, 0, 0] ![1, 128, 128] inb_S8x128x128_S1x128x128_2_0_0)) (View.ld vn (Rect.unit ![256, 512] ![128, 256] inb_S512x2048_S128x256_256_512)) (View.ld bt (Rect.unit ![0, 2] ![128, 1] inb_S128x8_S128x1_0_2))⟩,
    ⟨Rect.unit ![128, 512] ![128, 256] inb_S512x2048_S128x256_128_512, mixT (View.ld ws (Rect.unit ![2, 0, 0] ![1, 128, 128] inb_S8x128x128_S1x128x128_2_0_0)) (View.ld vn (Rect.unit ![128, 512] ![128, 256] inb_S512x2048_S128x256_128_512)) (View.ld bt (Rect.unit ![0, 2] ![128, 1] inb_S128x8_S128x1_0_2))⟩,
    ⟨Rect.unit ![0, 512] ![128, 256] inb_S512x2048_S128x256_0_512, mixT (View.ld ws (Rect.unit ![2, 0, 0] ![1, 128, 128] inb_S8x128x128_S1x128x128_2_0_0)) (View.ld vn (Rect.unit ![0, 512] ![128, 256] inb_S512x2048_S128x256_0_512)) (View.ld bt (Rect.unit ![0, 2] ![128, 1] inb_S128x8_S128x1_0_2))⟩,
    ⟨Rect.unit ![384, 256] ![128, 256] inb_S512x2048_S128x256_384_256, mixT (View.ld ws (Rect.unit ![1, 0, 0] ![1, 128, 128] inb_S8x128x128_S1x128x128_1_0_0)) (View.ld vn (Rect.unit ![384, 256] ![128, 256] inb_S512x2048_S128x256_384_256)) (View.ld bt (Rect.unit ![0, 1] ![128, 1] inb_S128x8_S128x1_0_1))⟩,
    ⟨Rect.unit ![256, 256] ![128, 256] inb_S512x2048_S128x256_256_256, mixT (View.ld ws (Rect.unit ![1, 0, 0] ![1, 128, 128] inb_S8x128x128_S1x128x128_1_0_0)) (View.ld vn (Rect.unit ![256, 256] ![128, 256] inb_S512x2048_S128x256_256_256)) (View.ld bt (Rect.unit ![0, 1] ![128, 1] inb_S128x8_S128x1_0_1))⟩,
    ⟨Rect.unit ![128, 256] ![128, 256] inb_S512x2048_S128x256_128_256, mixT (View.ld ws (Rect.unit ![1, 0, 0] ![1, 128, 128] inb_S8x128x128_S1x128x128_1_0_0)) (View.ld vn (Rect.unit ![128, 256] ![128, 256] inb_S512x2048_S128x256_128_256)) (View.ld bt (Rect.unit ![0, 1] ![128, 1] inb_S128x8_S128x1_0_1))⟩,
    ⟨Rect.unit ![0, 256] ![128, 256] inb_S512x2048_S128x256_0_256, mixT (View.ld ws (Rect.unit ![1, 0, 0] ![1, 128, 128] inb_S8x128x128_S1x128x128_1_0_0)) (View.ld vn (Rect.unit ![0, 256] ![128, 256] inb_S512x2048_S128x256_0_256)) (View.ld bt (Rect.unit ![0, 1] ![128, 1] inb_S128x8_S128x1_0_1))⟩,
    ⟨Rect.unit ![384, 0] ![128, 256] inb_S512x2048_S128x256_384_0, mixT (View.ld ws (Rect.unit ![0, 0, 0] ![1, 128, 128] inb_S8x128x128_S1x128x128_0_0_0)) (View.ld vn (Rect.unit ![384, 0] ![128, 256] inb_S512x2048_S128x256_384_0)) (View.ld bt (Rect.unit ![0, 0] ![128, 1] inb_S128x8_S128x1_0_0))⟩,
    ⟨Rect.unit ![256, 0] ![128, 256] inb_S512x2048_S128x256_256_0, mixT (View.ld ws (Rect.unit ![0, 0, 0] ![1, 128, 128] inb_S8x128x128_S1x128x128_0_0_0)) (View.ld vn (Rect.unit ![256, 0] ![128, 256] inb_S512x2048_S128x256_256_0)) (View.ld bt (Rect.unit ![0, 0] ![128, 1] inb_S128x8_S128x1_0_0))⟩,
    ⟨Rect.unit ![128, 0] ![128, 256] inb_S512x2048_S128x256_128_0, mixT (View.ld ws (Rect.unit ![0, 0, 0] ![1, 128, 128] inb_S8x128x128_S1x128x128_0_0_0)) (View.ld vn (Rect.unit ![128, 0] ![128, 256] inb_S512x2048_S128x256_128_0)) (View.ld bt (Rect.unit ![0, 0] ![128, 1] inb_S128x8_S128x1_0_0))⟩,
    ⟨Rect.unit ![0, 0] ![128, 256] inb_S512x2048_S128x256_0_0, mixT (View.ld ws (Rect.unit ![0, 0, 0] ![1, 128, 128] inb_S8x128x128_S1x128x128_0_0_0)) (View.ld vn (Rect.unit ![0, 0] ![128, 256] inb_S512x2048_S128x256_0_0)) (View.ld bt (Rect.unit ![0, 0] ![128, 1] inb_S128x8_S128x1_0_0))⟩] (Rect.unit ![0, 0] ![512, 2048] inb_S512x2048_S512x2048_0_0).toLoadRect = mixV ws vn bt := by
  rw [View.readCov_eq_canon']
  funext y
  rw [whole_idx y]
  exact View.canon_append_of_piecesOf (mixV ws vn bt) [] [_, _, _, _, _, _, _, _, _, _, _, _, _, _, _, _, _, _, _, _, _, _, _, _, _, _, _, _, _, _, _, _] ⟨mix_piece ws vn bt 7 3 (by decide) (by decide) _ _ _, mix_piece ws vn bt 7 2 (by decide) (by decide) _ _ _, mix_piece ws vn bt 7 1 (by decide) (by decide) _ _ _, mix_piece ws vn bt 7 0 (by decide) (by decide) _ _ _, mix_piece ws vn bt 6 3 (by decide) (by decide) _ _ _, mix_piece ws vn bt 6 2 (by decide) (by decide) _ _ _, mix_piece ws vn bt 6 1 (by decide) (by decide) _ _ _, mix_piece ws vn bt 6 0 (by decide) (by decide) _ _ _, mix_piece ws vn bt 5 3 (by decide) (by decide) _ _ _, mix_piece ws vn bt 5 2 (by decide) (by decide) _ _ _, mix_piece ws vn bt 5 1 (by decide) (by decide) _ _ _, mix_piece ws vn bt 5 0 (by decide) (by decide) _ _ _, mix_piece ws vn bt 4 3 (by decide) (by decide) _ _ _, mix_piece ws vn bt 4 2 (by decide) (by decide) _ _ _, mix_piece ws vn bt 4 1 (by decide) (by decide) _ _ _, mix_piece ws vn bt 4 0 (by decide) (by decide) _ _ _, mix_piece ws vn bt 3 3 (by decide) (by decide) _ _ _, mix_piece ws vn bt 3 2 (by decide) (by decide) _ _ _, mix_piece ws vn bt 3 1 (by decide) (by decide) _ _ _, mix_piece ws vn bt 3 0 (by decide) (by decide) _ _ _, mix_piece ws vn bt 2 3 (by decide) (by decide) _ _ _, mix_piece ws vn bt 2 2 (by decide) (by decide) _ _ _, mix_piece ws vn bt 2 1 (by decide) (by decide) _ _ _, mix_piece ws vn bt 2 0 (by decide) (by decide) _ _ _, mix_piece ws vn bt 1 3 (by decide) (by decide) _ _ _, mix_piece ws vn bt 1 2 (by decide) (by decide) _ _ _, mix_piece ws vn bt 1 1 (by decide) (by decide) _ _ _, mix_piece ws vn bt 1 0 (by decide) (by decide) _ _ _, mix_piece ws vn bt 0 3 (by decide) (by decide) _ _ _, mix_piece ws vn bt 0 2 (by decide) (by decide) _ _ _, mix_piece ws vn bt 0 1 (by decide) (by decide) _ _ _, mix_piece ws vn bt 0 0 (by decide) (by decide) _ _ _, trivial⟩ y
    (View.cover_of_tiledL _ ![128, 256] (by rfl) y)

end Cert.Kernel11Ideal.Hm
-- ==== Proof.HdBlk.lean ====
/- One grid point of the gated mixer's forward kernel: what its stored values are, from what its blocks hold. -/
module

public import proofs.«01_k».proof.Proof.HdRead

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen
open Cert.Gmlp (Arr arr ri rw' rw'_of gelu)
open Cert.GatedConv (sg half)
open Cert.Head

/-- A grid point's twelve input blocks. -/
structure Blks where
  b0 : Vec Ideal S1x512x2048 .f32
  b1 : Vec Ideal S1x512x2048 .f32
  b2 : Vec Ideal S1x512x2048 .f32
  b3 : Vec Ideal S1x2048 .f32
  b4 : Vec Ideal S1x2048 .f32
  b5 : Vec Ideal S8x128x128 .f32
  b6 : Vec Ideal S128x8 .f32
  b7 : Vec Ideal S2048x1024 .bf16
  b8 : Vec Ideal S512x1024 .f32
  b9 : Vec Ideal S1x1024 .f32
  b10 : Vec Ideal S1x1024 .f32
  b11 : Vec Ideal S512x1024 .f32

/-- They hold the arrays' rows from `512 T` on, and the parameters. -/
structure Blks.Holds (B : Blks) (H : Hd) (T : ℕ) : Prop where
  h0 : ∀ r e, B.b0 (ix3 0 r e) = H.M.pu (512 * T + r.val) e
  h1 : ∀ r e, B.b1 (ix3 0 r e) = H.M.pv (512 * T + r.val) e
  h2 : ∀ r e, B.b2 (ix3 0 r e) = H.M.z (512 * T + r.val) e
  h3 : ∀ e, B.b3 (ix2 0 e) = H.M.lg e
  h4 : ∀ e, B.b4 (ix2 0 e) = H.M.lb e
  h5 : ∀ g i j, B.b5 (ix3 g i j) = H.M.ws g i j
  h6 : ∀ i g, B.b6 (ix2 i g) = H.M.bs g i
  h7 : ∀ e d, B.b7 (ix2 e d) = H.M.wo e d
  h8 : ∀ r d, B.b8 (ix2 r d) = H.x1 (512 * T + r.val) d
  h9 : ∀ d, B.b9 (ix2 0 d) = H.ga d
  h10 : ∀ d, B.b10 (ix2 0 d) = H.gf d
  h11 : ∀ r d, B.b11 (ix2 r d) = H.tg (512 * T + r.val) d

namespace Blks
variable (B : Blks)

/-- The block's normed rows, mixed rows, branch, stream and so on, as the kernel computes them. -/
abbrev vn : Vec Ideal S512x2048 .bf16 := k0_pay7 (k0_pay6 B.b1 B.b3 B.b4)
abbrev mx : Vec Ideal S512x2048 .f32 := mixV B.b5 B.vn B.b6
abbrev br : Vec Ideal S512x1024 .f32 := k0_pay60 (k0_pay58 B.b2) B.b0 B.mx B.b7
abbrev X : Vec Ideal S512x1024 .f32 := k0_pay63 (k0_pay58 B.b2) B.b0 B.mx B.b7 B.b8 B.b9
abbrev rs : Vec Ideal S512x1 .f32 := k0_pay64 (k0_pay58 B.b2) B.b0 B.mx B.b7 B.b8 B.b9
abbrev rb : Vec Ideal S512x1024 .f32 := k0_pay65 (k0_pay58 B.b2) B.b0 B.mx B.b7 B.b8 B.b9

variable {B} {H : Hd} {T : ℕ} (h : B.Holds H T)
include h

theorem Holds.vn_at (r e) : B.vn (ix2 r e) = H.M.vn (512 * T + r.val) e := by
  rw [Blks.vn, pay7, pay6, h.h3, h.h4]
  simp only [h.h1]
  rfl
theorem Holds.mix_at (r e) : mixE B.b5 B.vn B.b6 r e = H.M.mix (512 * T + r.val) e := by
  have hm : (512 * T + r.val) % 128 = r.val % 128 := by omega
  have hd : 128 * ((512 * T + r.val) / 128) = 512 * T + 128 * (r.val / 128) := by omega
  unfold mixE Arr.mix
  have hr : ri (512 * T + r.val) = ⟨r.val % 128, by omega⟩ := Fin.ext hm
  rw [hr, h.h6]
  refine congrArg₂ (· + ·) (Finset.sum_congr rfl fun j _ => ?_) rfl
  rw [h.vn_at, h.h5, Arr.tri, hd, ← Nat.add_assoc]
  rfl
theorem Holds.mx_at (r e) : B.mx (ix2 r e) = H.M.mix (512 * T + r.val) e := h.mix_at r e
theorem Holds.y_at (r e) : k0_pay59 (F := Ideal) (k0_pay58 B.b2) B.b0 B.mx (ix2 r e) = H.y (512 * T + r.val) e := by
  rw [pay59, pay58, h.mx_at, h.h2, h.h0]; rfl
theorem Holds.br_at (r d) : B.br (ix2 r d) = H.br (512 * T + r.val) d := by
  rw [Blks.br, pay60]
  simp only [h.y_at, h.h7]
  rfl
theorem Holds.X_at (r d) : B.X (ix2 r d) = H.X (512 * T + r.val) d := by
  have e1 := h.br_at r d
  unfold Blks.br at e1
  rw [Blks.X, pay63, e1, h.h8, h.h9]; rfl
theorem Holds.rs_at (r) : B.rs (ix2 r 0) = H.r (512 * T + r.val) := by
  rw [Blks.rs, pay64]
  simp only [h.X_at]
  rfl
theorem Holds.xn_at (r d) : k0_pay66 (F := Ideal) B.X B.rb (ix2 r d) = H.xn (512 * T + r.val) d := by
  have e1 := h.rs_at r
  unfold Blks.rs at e1
  rw [pay66, h.X_at, Blks.rb, pay65, e1]; rfl
theorem Holds.err_at (r d) : k0_pay67 (F := Ideal) (k0_pay62 B.b10) B.b11 B.X B.rb (ix2 r d) = H.err (512 * T + r.val) d := by
  rw [pay67, h.xn_at, pay62, h.h10, h.h11]; rfl
theorem Holds.dout_at (r d) : k0_pay68 (F := Ideal) (k0_pay62 B.b10) B.b11 B.X B.rb (ix2 r d) = H.dout (512 * T + r.val) d := by
  rw [pay68, h.err_at]; rfl
theorem Holds.dx_at (r d) : k0_pay69 (F := Ideal) (k0_pay62 B.b10) B.b11 B.X B.rs B.rb (ix2 r d) = H.dx (512 * T + r.val) d := by
  rw [pay69, h.rs_at]
  simp only [h.dout_at, h.xn_at, pay62, h.h10]
  rfl
theorem Holds.dbr_at (r d) : k0_pay72 (F := Ideal) (k0_pay61 B.b9) (k0_pay62 B.b10) B.b11 B.X B.rs B.rb (ix2 r d) = H.dbr (512 * T + r.val) d := by
  rw [pay72, h.dx_at, pay61, h.h9]; rfl
theorem Holds.loss_at (o : Vec Ideal S8x128 .f32) (i j) :
    k0_pay73 (F := Ideal) (k0_pay62 B.b10) B.b11 B.X B.rb o (ix2 i j) = o (ix2 i j) + half * ∑ r : Fin 512, H.lossT (512 * T + r.val) := by
  rw [pay73]
  simp only [h.err_at]
  rfl
theorem Holds.dgf_at (o : Vec Ideal S1x1024 .f32) (d) :
    k0_pay1 (F := Ideal) (k0_pay70 (k0_pay62 B.b10) B.b11 B.X B.rb) o (ix2 0 d) = o (ix2 0 d) + ∑ r : Fin 512, H.tgf (512 * T + r.val) d := by
  rw [pay1, pay70]
  simp only [h.dout_at, h.xn_at]
  rfl
theorem Holds.dga_at (o : Vec Ideal S1x1024 .f32) (d) :
    k0_pay2 (F := Ideal) (k0_pay71 B.br (k0_pay62 B.b10) B.b11 B.X B.rs B.rb) o (ix2 0 d) = o (ix2 0 d) + ∑ r : Fin 512, H.tga (512 * T + r.val) d := by
  rw [pay2, pay71]
  simp only [h.dx_at, h.br_at]
  rfl

end Blks
end Cert.Kernel11Ideal.Hm
-- ==== Proof.HdIn.lean ====
/- The arrays of the gated mixer's forward pass with the loss head, from the arguments. -/
module

public import proofs.«01_k».proof.Proof.HdArr
public import proofs.«01_k».proof.Proof.GmArr

@[expose] public section

noncomputable section

namespace Cert.Head

open Idealize.ShloMosaic Idealize.ShloMosaic.Tactic
open Cert.Kernel7Ideal
open Cert.Gmlp (arr rw')

/-- The arrays, from the ten arguments; the mixer's own cotangent is not used. -/
abbrev hd (x0 : Vec Ideal S3x8192x2048 .f32) (x1 x2 : Vec Ideal S2048 .f32) (x3 : Vec Ideal S8x128x128 .f32) (x4 : Vec Ideal S8x128 .f32)
    (x5 : Vec Ideal S2048x1024 .f32) (x6 : Vec Ideal S8192x1024 .f32) (x7 x8 : Vec Ideal ⟨1, ![1024]⟩ .f32) (x9 : Vec Ideal S8192x1024 .f32) : Hd where
  M := arr x0 x1 x2 x3 x4 x5 (fun _ => 0)
  x1 s d := x6 (ix2 (rw' s) d)
  ga d := x7 (ix1 d)
  gf d := x8 (ix1 d)
  tg s d := x9 (ix2 (rw' s) d)

end Cert.Head
-- ==== Proof.HdBlocks.lean ====
/- The blocks each grid point of the gated mixer's forward kernel reads. -/
module

public import proofs.«01_k».proof.Proof.Gen.Kernel11Ideal.Value
public import proofs.«01_k».proof.Proof.HdBlk
public import proofs.«01_k».proof.Proof.HdIn
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen
open Cert.Gmlp (Arr arr ri rw' rw'_of gelu)
open Cert.GatedConv (sg half)
open Cert.Head
open Idealize.ShloMosaic.Pipeline (Dat)

theorem idx0 : ∀ t : Fin cfg0.N, win0_0.index t = ![0, t.val, 0] := (by decide +kernel : ∀ t : Fin grid0.N, _)
theorem idx1 : ∀ t : Fin cfg0.N, win0_1.index t = ![1, t.val, 0] := (by decide +kernel : ∀ t : Fin grid0.N, _)
theorem idx2 : ∀ t : Fin cfg0.N, win0_2.index t = ![2, t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)

variable (m : (ℓ : Loc nD τ sig) → Buf (Elt Ideal) ℓ)

abbrev x0 (c : Dev nD) : Vec Ideal S3x8192x2048 .f32 := m ((c : Thread nD τ).loc main_arg0)
abbrev x1 (c : Dev nD) : Vec Ideal S2048 .f32 := m ((c : Thread nD τ).loc main_arg1)
abbrev x2 (c : Dev nD) : Vec Ideal S2048 .f32 := m ((c : Thread nD τ).loc main_arg2)
abbrev x3 (c : Dev nD) : Vec Ideal S8x128x128 .f32 := m ((c : Thread nD τ).loc main_arg3)
abbrev x4 (c : Dev nD) : Vec Ideal S8x128 .f32 := m ((c : Thread nD τ).loc main_arg4)
abbrev x5 (c : Dev nD) : Vec Ideal S2048x1024 .f32 := m ((c : Thread nD τ).loc main_arg5)
abbrev x6 (c : Dev nD) : Vec Ideal S8192x1024 .f32 := m ((c : Thread nD τ).loc main_arg6)
abbrev x7 (c : Dev nD) : Vec Ideal S1024 .f32 := m ((c : Thread nD τ).loc main_arg7)
abbrev x8 (c : Dev nD) : Vec Ideal S1024 .f32 := m ((c : Thread nD τ).loc main_arg8)
abbrev x9 (c : Dev nD) : Vec Ideal S8192x1024 .f32 := m ((c : Thread nD τ).loc main_arg9)

/-- The arrays of the forward pass, from the kernel's arguments. -/
abbrev A (c : Dev nD) : Hd := hd (x0 m c) (x1 m c) (x2 m c) (x3 m c) (x4 m c) (x5 m c) (x6 m c) (x7 m c) (x8 m c) (x9 m c)

abbrev blk0 (c : Dev nD) (t : Fin cfg0.N) : Vec Ideal S1x512x2048 .f32 := iblk m c 0 t
abbrev blk1 (c : Dev nD) (t : Fin cfg0.N) : Vec Ideal S1x512x2048 .f32 := iblk m c 1 t
abbrev blk2 (c : Dev nD) (t : Fin cfg0.N) : Vec Ideal S1x512x2048 .f32 := iblk m c 2 t
abbrev blk3 (c : Dev nD) (t : Fin cfg0.N) : Vec Ideal S1x2048 .f32 := iblk m c 3 t
abbrev blk4 (c : Dev nD) (t : Fin cfg0.N) : Vec Ideal S1x2048 .f32 := iblk m c 4 t
abbrev blk5 (c : Dev nD) (t : Fin cfg0.N) : Vec Ideal S8x128x128 .f32 := iblk m c 5 t
abbrev blk6 (c : Dev nD) (t : Fin cfg0.N) : Vec Ideal S128x8 .f32 := iblk m c 6 t
abbrev blk7 (c : Dev nD) (t : Fin cfg0.N) : Vec Ideal S2048x1024 .bf16 := iblk m c 7 t
abbrev blk8 (c : Dev nD) (t : Fin cfg0.N) : Vec Ideal S512x1024 .f32 := iblk m c 8 t
abbrev blk9 (c : Dev nD) (t : Fin cfg0.N) : Vec Ideal S1x1024 .f32 := iblk m c 9 t
abbrev blk10 (c : Dev nD) (t : Fin cfg0.N) : Vec Ideal S1x1024 .f32 := iblk m c 10 t
abbrev blk11 (c : Dev nD) (t : Fin cfg0.N) : Vec Ideal S512x1024 .f32 := iblk m c 11 t

abbrev blks (c : Dev nD) (t : Fin cfg0.N) : Blks :=
  ⟨blk0 m c t, blk1 m c t, blk2 m c t, blk3 m c t, blk4 m c t, blk5 m c t, blk6 m c t, blk7 m c t, blk8 m c t, blk9 m c t, blk10 m c t, blk11 m c t⟩

theorem lt_N (t : Fin cfg0.N) : t.val < 16 := lt_of_lt_of_eq t.isLt N_0

theorem blk0_at (c : Dev nD) (t : Fin cfg0.N) (r : Fin 512) (e : Fin 2048) : blk0 m c t (ix3 0 r e) = (A m c).M.pu (512 * t.val + r.val) e := by
  have ht := lt_N t
  show _ = x0 m c (ix3 0 (rw' (512 * t.val + r.val)) e)
  rw [rw'_of (show 512 * t.val + r.val < 8192 by omega)]
  blk_ext! [iblk, V, idx0 t]

theorem blk1_at (c : Dev nD) (t : Fin cfg0.N) (r : Fin 512) (e : Fin 2048) : blk1 m c t (ix3 0 r e) = (A m c).M.pv (512 * t.val + r.val) e := by
  have ht := lt_N t
  show _ = x0 m c (ix3 1 (rw' (512 * t.val + r.val)) e)
  rw [rw'_of (show 512 * t.val + r.val < 8192 by omega)]
  blk_ext! [iblk, V, idx1 t]

theorem blk2_at (c : Dev nD) (t : Fin cfg0.N) (r : Fin 512) (e : Fin 2048) : blk2 m c t (ix3 0 r e) = (A m c).M.z (512 * t.val + r.val) e := by
  have ht := lt_N t
  show _ = x0 m c (ix3 2 (rw' (512 * t.val + r.val)) e)
  rw [rw'_of (show 512 * t.val + r.val < 8192 by omega)]
  blk_ext! [iblk, V, idx2 t]

theorem blk3_at (c : Dev nD) (t : Fin cfg0.N) (e : Fin 2048) : blk3 m c t (ix2 0 e) = (A m c).M.lg e := by
  show _ = x1 m c (ix1 e)
  blk_ext! [iblk, V, idx3 t]

theorem blk4_at (c : Dev nD) (t : Fin cfg0.N) (e : Fin 2048) : blk4 m c t (ix2 0 e) = (A m c).M.lb e := by
  show _ = x2 m c (ix1 e)
  blk_ext! [iblk, V, idx4 t]

theorem blk9_at (c : Dev nD) (t : Fin cfg0.N) (e : Fin 1024) : blk9 m c t (ix2 0 e) = (A m c).ga e := by
  show _ = x7 m c (ix1 e)
  blk_ext! [iblk, V, idx9 t]

theorem blk10_at (c : Dev nD) (t : Fin cfg0.N) (e : Fin 1024) : blk10 m c t (ix2 0 e) = (A m c).gf e := by
  show _ = x8 m c (ix1 e)
  blk_ext! [iblk, V, idx10 t]

theorem blk5_at (c : Dev nD) (t : Fin cfg0.N) (g : Fin 8) (i j : Fin 128) : blk5 m c t (ix3 g i j) = (A m c).M.ws g i j := by
  show _ = x3 m c (ix3 g i j)
  blk_ext! [iblk, V, idx5 t]

theorem blk6_at (c : Dev nD) (t : Fin cfg0.N) (i : Fin 128) (g : Fin 8) : blk6 m c t (ix2 i g) = (A m c).M.bs g i := by
  show _ = x4 m c (ix2 g i)
  blk_ext! [iblk, V, idx6 t]

theorem blk7_at (c : Dev nD) (t : Fin cfg0.N) (e : Fin 2048) (d : Fin 1024) : blk7 m c t (ix2 e d) = (A m c).M.wo e d := by
  show _ = x5 m c (ix2 e d)
  blk_ext! [iblk, V, idx7 t]

theorem blk8_at (c : Dev nD) (t : Fin cfg0.N) (r : Fin 512) (d : Fin 1024) : blk8 m c t (ix2 r d) = (A m c).x1 (512 * t.val + r.val) d := by
  have ht := lt_N t
  show _ = x6 m c (ix2 (rw' (512 * t.val + r.val)) d)
  rw [rw'_of (show 512 * t.val + r.val < 8192 by omega)]
  blk_ext! [iblk, V, idx8 t]

theorem blk11_at (c : Dev nD) (t : Fin cfg0.N) (r : Fin 512) (d : Fin 1024) : blk11 m c t (ix2 r d) = (A m c).tg (512 * t.val + r.val) d := by
  have ht := lt_N t
  show _ = x9 m c (ix2 (rw' (512 * t.val + r.val)) d)
  rw [rw'_of (show 512 * t.val + r.val < 8192 by omega)]
  blk_ext! [iblk, V, idx11 t]

theorem holds (c : Dev nD) (t : Fin cfg0.N) : (blks m c t).Holds (A m c) t.val :=
  ⟨blk0_at m c t, blk1_at m c t, blk2_at m c t, blk3_at m c t, blk4_at m c t, blk5_at m c t, blk6_at m c t, blk7_at m c t, blk8_at m c t, blk9_at m c t, blk10_at m c t, blk11_at m c t⟩

end Cert.Kernel11Ideal.Hm
-- ==== Proof.HdOuts.lean ====
/- What each grid point of the gated mixer's forward kernel leaves in its summed outputs. -/
module

public import proofs.«01_k».proof.Proof.Gen.Kernel11Ideal.Value
public import proofs.«01_k».proof.Proof.HdBlocks
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen
open Cert.Gmlp (Arr arr ri rw' rw'_of gelu)
open Cert.GatedConv (sg half)
open Cert.Head
open Idealize.ShloMosaic.Pipeline (Dat)

variable (m : (ℓ : Loc nD τ sig) → Buf (Elt Ideal) ℓ)

set_option maxHeartbeats 2000000 in
theorem o15_A (c : Dev nD) (t : Fin cfg0.N) (h0 : t.val % 16 = 0) (i : Fin 8) (j : Fin 128) :
    (outsAt0 m c t.val t.isLt).2.2.2.1 (ix2 i j) = 0 + half * ∑ r : Fin 512, (A m c).lossT (512 * t.val + r.val) := by
  rw [outsAt0_A m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  refine ((holds m c t).loss_at _ i j).trans ?_
  rw [pay3]

set_option maxHeartbeats 2000000 in
theorem o15_B (c : Dev nD) (t : Fin cfg0.N) (h0 : ¬ t.val % 16 = 0) (i : Fin 8) (j : Fin 128) :
    (outsAt0 m c t.val t.isLt).2.2.2.1 (ix2 i j) = (outsAt0 m c (t.val - 1) (Nat.lt_of_le_of_lt (Nat.sub_le _ _) t.isLt)).2.2.2.1 (ix2 i j) + half * ∑ r : Fin 512, (A m c).lossT (512 * t.val + r.val) := by
  rw [outsAt0_B m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).loss_at _ i j

set_option maxHeartbeats 2000000 in
theorem o16_A (c : Dev nD) (t : Fin cfg0.N) (h0 : t.val % 16 = 0) (d : Fin 1024) :
    (outsAt0 m c t.val t.isLt).2.2.2.2.1 (ix2 0 d) = 0 + ∑ r : Fin 512, (A m c).tgf (512 * t.val + r.val) d := by
  rw [outsAt0_A m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  refine ((holds m c t).dgf_at _ d).trans ?_
  rw [pay4]

set_option maxHeartbeats 2000000 in
theorem o16_B (c : Dev nD) (t : Fin cfg0.N) (h0 : ¬ t.val % 16 = 0) (d : Fin 1024) :
    (outsAt0 m c t.val t.isLt).2.2.2.2.1 (ix2 0 d) = (outsAt0 m c (t.val - 1) (Nat.lt_of_le_of_lt (Nat.sub_le _ _) t.isLt)).2.2.2.2.1 (ix2 0 d) + ∑ r : Fin 512, (A m c).tgf (512 * t.val + r.val) d := by
  rw [outsAt0_B m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).dgf_at _ d

set_option maxHeartbeats 2000000 in
theorem o17_A (c : Dev nD) (t : Fin cfg0.N) (h0 : t.val % 16 = 0) (d : Fin 1024) :
    (outsAt0 m c t.val t.isLt).2.2.2.2.2 (ix2 0 d) = 0 + ∑ r : Fin 512, (A m c).tga (512 * t.val + r.val) d := by
  rw [outsAt0_A m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  refine ((holds m c t).dga_at _ d).trans ?_
  rw [pay5]

set_option maxHeartbeats 2000000 in
theorem o17_B (c : Dev nD) (t : Fin cfg0.N) (h0 : ¬ t.val % 16 = 0) (d : Fin 1024) :
    (outsAt0 m c t.val t.isLt).2.2.2.2.2 (ix2 0 d) = (outsAt0 m c (t.val - 1) (Nat.lt_of_le_of_lt (Nat.sub_le _ _) t.isLt)).2.2.2.2.2 (ix2 0 d) + ∑ r : Fin 512, (A m c).tga (512 * t.val + r.val) d := by
  rw [outsAt0_B m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).dga_at _ d

end Cert.Kernel11Ideal.Hm
-- ==== Proof.HdParts.lean ====
/- What each grid point of the gated mixer's forward kernel leaves in its row outputs. -/
module

public import proofs.«01_k».proof.Proof.Gen.Kernel11Ideal.Value
public import proofs.«01_k».proof.Proof.HdBlocks
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen
open Cert.Gmlp (Arr arr ri rw' rw'_of gelu)
open Cert.GatedConv (sg half)
open Cert.Head
open Idealize.ShloMosaic.Pipeline (Dat)

variable (m : (ℓ : Loc nD τ sig) → Buf (Elt Ideal) ℓ)

set_option maxHeartbeats 2000000 in
theorem o12_A (c : Dev nD) (t : Fin cfg0.N) (h0 : t.val % 16 = 0) (r : Fin 512) (e : Fin 2048) :
    (outsAt0 m c t.val t.isLt).1 (ix2 r e) = (A m c).y (512 * t.val + r.val) e := by
  rw [outsAt0_A m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).y_at r e

set_option maxHeartbeats 2000000 in
theorem o12_B (c : Dev nD) (t : Fin cfg0.N) (h0 : ¬ t.val % 16 = 0) (r : Fin 512) (e : Fin 2048) :
    (outsAt0 m c t.val t.isLt).1 (ix2 r e) = (A m c).y (512 * t.val + r.val) e := by
  rw [outsAt0_B m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).y_at r e

set_option maxHeartbeats 2000000 in
theorem o13_A (c : Dev nD) (t : Fin cfg0.N) (h0 : t.val % 16 = 0) (r : Fin 512) (d : Fin 1024) :
    (outsAt0 m c t.val t.isLt).2.1 (ix2 r d) = (A m c).dx (512 * t.val + r.val) d := by
  rw [outsAt0_A m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).dx_at r d

set_option maxHeartbeats 2000000 in
theorem o13_B (c : Dev nD) (t : Fin cfg0.N) (h0 : ¬ t.val % 16 = 0) (r : Fin 512) (d : Fin 1024) :
    (outsAt0 m c t.val t.isLt).2.1 (ix2 r d) = (A m c).dx (512 * t.val + r.val) d := by
  rw [outsAt0_B m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).dx_at r d

set_option maxHeartbeats 2000000 in
theorem o14_A (c : Dev nD) (t : Fin cfg0.N) (h0 : t.val % 16 = 0) (r : Fin 512) (d : Fin 1024) :
    (outsAt0 m c t.val t.isLt).2.2.1 (ix2 r d) = (A m c).dbr (512 * t.val + r.val) d := by
  rw [outsAt0_A m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).dbr_at r d

set_option maxHeartbeats 2000000 in
theorem o14_B (c : Dev nD) (t : Fin cfg0.N) (h0 : ¬ t.val % 16 = 0) (r : Fin 512) (d : Fin 1024) :
    (outsAt0 m c t.val t.isLt).2.2.1 (ix2 r d) = (A m c).dbr (512 * t.val + r.val) d := by
  rw [outsAt0_B m c t h0]
  frame_open
  simp (disch := decide) only [↓ View.readCov_skip, ↓ View.readCov_cons_toLoadRect, ↓ View.readCov_fill, mixp0, mixp1, mixp2, mixp3, mixp4, mixp5, mixp6, mixp7, mixp8, mixp9, mixp10, mixp11, mixp12, mixp13, mixp14, mixp15, mixp16, mixp17, mixp18, mixp19, mixp20, mixp21, mixp22, mixp23, mixp24, mixp25, mixp26, mixp27, mixp28, mixp29, mixp30, mixp31]
  frame_out
  try simp only [read_unread_whole]
  rw [mix_read]
  exact (holds m c t).dbr_at r d

end Cert.Kernel11Ideal.Hm
-- ==== Proof.HdFinal.lean ====
/- The gated mixer's forward kernel with the loss head: its result arrays as the forward pass's formulas. -/
module

public import proofs.«01_k».proof.Proof.Gen.Kernel11Ideal.Value
public import proofs.«01_k».proof.Proof.HdOuts
public import proofs.«01_k».proof.Proof.HdParts
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.Kernel11Ideal.Hm

open Idealize.ShloMosaic Idealize.ShloMosaic.TcCoe Idealize.ShloMosaic.Tactic
open Cert.Kernel11Ideal Cert.Kernel11Ideal.Gen
open Cert.Gmlp (Arr arr ri rw' rw'_of gelu)
open Cert.GatedConv (sg half)
open Cert.Head
open Idealize.ShloMosaic.Pipeline (Dat)

variable (m : (ℓ : Loc nD τ sig) → Buf (Elt Ideal) ℓ)

theorem rows_step (f : ℕ → EReal) (i : ℕ) :
    ∑ s ∈ Finset.range (512 * (i + 1)), f s = ∑ s ∈ Finset.range (512 * i), f s + ∑ r : Fin 512, f (512 * i + r.val) := by
  rw [Nat.mul_add, Nat.mul_one, Finset.sum_range_add, Finset.sum_range (fun x => f (512 * i + x))]

theorem o12 (c : Dev nD) (t : Fin cfg0.N) (r : Fin 512) (d : Fin 2048) :
    (outsAt0 m c t.val t.isLt).1 (ix2 r d) = (A m c).y (512 * t.val + r.val) d := by
  by_cases h0 : t.val % 16 = 0
  · exact o12_A m c t h0 r d
  · exact o12_B m c t h0 r d

theorem o13 (c : Dev nD) (t : Fin cfg0.N) (r : Fin 512) (d : Fin 1024) :
    (outsAt0 m c t.val t.isLt).2.1 (ix2 r d) = (A m c).dx (512 * t.val + r.val) d := by
  by_cases h0 : t.val % 16 = 0
  · exact o13_A m c t h0 r d
  · exact o13_B m c t h0 r d

theorem o14 (c : Dev nD) (t : Fin cfg0.N) (r : Fin 512) (d : Fin 1024) :
    (outsAt0 m c t.val t.isLt).2.2.1 (ix2 r d) = (A m c).dbr (512 * t.val + r.val) d := by
  by_cases h0 : t.val % 16 = 0
  · exact o14_A m c t h0 r d
  · exact o14_B m c t h0 r d

/-- The carried sums after each point. -/
theorem loss_pt (c : Dev nD) (i : Fin 8) (j : Fin 128) : ∀ (n : ℕ) (hn : n < cfg0.N),
    (outsAt0 m c n hn).2.2.2.1 (ix2 i j) = half * ∑ s ∈ Finset.range (512 * (n + 1)), (A m c).lossT s := by
  intro n
  induction n with
  | zero =>
    intro hn
    refine (o15_A m c ⟨0, hn⟩ rfl i j).trans ?_
    rw [rows_step (fun s => (A m c).lossT s), Nat.mul_zero, Finset.range_zero, Finset.sum_empty, zero_add, zero_add]
  | succ n ih =>
    intro hn
    have hN : n + 1 < 16 := lt_of_lt_of_eq hn N_0
    rw [rows_step (fun s => (A m c).lossT s), Hd.half_add, ← ih (by omega)]
    exact o15_B m c ⟨n + 1, hn⟩ (by show ¬ (n + 1) % 16 = 0; omega) i j

theorem tgf_pt (c : Dev nD) (d : Fin 1024) : ∀ (n : ℕ) (hn : n < cfg0.N),
    (outsAt0 m c n hn).2.2.2.2.1 (ix2 0 d) = ∑ s ∈ Finset.range (512 * (n + 1)), (A m c).tgf s d := by
  intro n
  induction n with
  | zero =>
    intro hn
    refine (o16_A m c ⟨0, hn⟩ rfl d).trans ?_
    rw [rows_step (fun s => (A m c).tgf s d)]
    rfl
  | succ n ih =>
    intro hn
    have hN : n + 1 < 16 := lt_of_lt_of_eq hn N_0
    rw [rows_step (fun s => (A m c).tgf s d), ← ih (by omega)]
    exact o16_B m c ⟨n + 1, hn⟩ (by show ¬ (n + 1) % 16 = 0; omega) d

theorem tga_pt (c : Dev nD) (d : Fin 1024) : ∀ (n : ℕ) (hn : n < cfg0.N),
    (outsAt0 m c n hn).2.2.2.2.2 (ix2 0 d) = ∑ s ∈ Finset.range (512 * (n + 1)), (A m c).tga s d := by
  intro n
  induction n with
  | zero =>
    intro hn
    refine (o17_A m c ⟨0, hn⟩ rfl d).trans ?_
    rw [rows_step (fun s => (A m c).tga s d)]
    rfl
  | succ n ih =>
    intro hn
    have hN : n + 1 < 16 := lt_of_lt_of_eq hn N_0
    rw [rows_step (fun s => (A m c).tga s d), ← ih (by omega)]
    exact o17_B m c ⟨n + 1, hn⟩ (by show ¬ (n + 1) % 16 = 0; omega) d

/-! ### The result arrays -/

abbrev res12 (H : Hd) : Vec Ideal S8192x2048 .bf16 := fun y => H.y (y 0).val (y 1)
abbrev res13 (H : Hd) : Vec Ideal S8192x1024 .f32 := fun y => H.dx (y 0).val (y 1)
abbrev res14 (H : Hd) : Vec Ideal S8192x1024 .bf16 := fun y => H.dbr (y 0).val (y 1)
abbrev res15 (H : Hd) : Vec Ideal S8x128 .f32 := fun _ => H.loss
abbrev res16 (H : Hd) : Vec Ideal S1x1024 .f32 := fun y => H.dgf (y 1)
abbrev res17 (H : Hd) : Vec Ideal S1x1024 .f32 := fun y => H.dga (y 1)

theorem final12 (c : Dev nD) : (dats m 0 c).arrAt 12 cfg0.N = res12 (A m c) := by
  refine (dats m 0 c).arrAt_eq_of_covers 12 _ (by decide +kernel) fun t hf y => ?_
  blk_simp
  rw [after0_12]
  idx_vars y
  refine (o12 m c t y0 y1).trans ?_
  have e0 : (((win0_12.blk t).view.emb (ix2 y0 y1) 0 : Fin _) : ℕ) = 512 * t.val + y0.val := by
    blk_simp [idx12 t]
    exact congrArg (· + y0.val) (Nat.mul_comm _ _)
  have e1 : ((win0_12.blk t).view.emb (ix2 y0 y1) 1 : Fin 2048) = y1 := Fin.ext (by blk_simp [idx12 t])
  show _ = (A m c).y ((win0_12.blk t).view.emb (ix2 y0 y1) 0).val ((win0_12.blk t).view.emb (ix2 y0 y1) 1)
  rw [e0, e1]

theorem final13 (c : Dev nD) : (dats m 0 c).arrAt 13 cfg0.N = res13 (A m c) := by
  refine (dats m 0 c).arrAt_eq_of_covers 13 _ (by decide +kernel) fun t hf y => ?_
  blk_simp
  rw [after0_13]
  idx_vars y
  refine (o13 m c t y0 y1).trans ?_
  have e0 : (((win0_13.blk t).view.emb (ix2 y0 y1) 0 : Fin _) : ℕ) = 512 * t.val + y0.val := by
    blk_simp [idx13 t]
    exact congrArg (· + y0.val) (Nat.mul_comm _ _)
  have e1 : ((win0_13.blk t).view.emb (ix2 y0 y1) 1 : Fin 1024) = y1 := Fin.ext (by blk_simp [idx13 t])
  show _ = (A m c).dx ((win0_13.blk t).view.emb (ix2 y0 y1) 0).val ((win0_13.blk t).view.emb (ix2 y0 y1) 1)
  rw [e0, e1]

theorem final14 (c : Dev nD) : (dats m 0 c).arrAt 14 cfg0.N = res14 (A m c) := by
  refine (dats m 0 c).arrAt_eq_of_covers 14 _ (by decide +kernel) fun t hf y => ?_
  blk_simp
  rw [after0_14]
  idx_vars y
  refine (o14 m c t y0 y1).trans ?_
  have e0 : (((win0_14.blk t).view.emb (ix2 y0 y1) 0 : Fin _) : ℕ) = 512 * t.val + y0.val := by
    blk_simp [idx14 t]
    exact congrArg (· + y0.val) (Nat.mul_comm _ _)
  have e1 : ((win0_14.blk t).view.emb (ix2 y0 y1) 1 : Fin 1024) = y1 := Fin.ext (by blk_simp [idx14 t])
  show _ = (A m c).dbr ((win0_14.blk t).view.emb (ix2 y0 y1) 0).val ((win0_14.blk t).view.emb (ix2 y0 y1) 1)
  rw [e0, e1]

theorem final15 (c : Dev nD) : (dats m 0 c).arrAt 15 cfg0.N = res15 (A m c) := by
  refine (dats m 0 c).arrAt_eq_of_covers 15 _ (by decide +kernel) fun t hf y => ?_
  have hl : t.val % 16 = 15 := (flush0_15 t).mp hf
  have ht : t.val = 15 := by have := lt_N t; omega
  blk_simp
  rw [after0_15]
  idx_vars y
  refine (loss_pt m c y0 y1 t.val t.isLt).trans ?_
  rw [ht]
  exact congrArg (half * ·) (Finset.sum_range _)

theorem final16 (c : Dev nD) : (dats m 0 c).arrAt 16 cfg0.N = res16 (A m c) := by
  refine (dats m 0 c).arrAt_eq_of_covers 16 _ (by decide +kernel) fun t hf y => ?_
  have hl : t.val % 16 = 15 := (flush0_16 t).mp hf
  have ht : t.val = 15 := by have := lt_N t; omega
  blk_simp
  rw [after0_16]
  idx_vars y
  refine (congrArg _ (congrFun (congrArg ix2 (Subsingleton.elim y0 0)) y1)).trans ?_
  refine (tgf_pt m c y1 t.val t.isLt).trans ?_
  have e1 : ((win0_16.blk t).view.emb (ix2 y0 y1) 1 : Fin 1024) = y1 := Fin.ext (by blk_simp [idx16 t])
  show _ = (A m c).dgf ((win0_16.blk t).view.emb (ix2 y0 y1) 1)
  rw [e1, ht]
  exact Finset.sum_range _

theorem final17 (c : Dev nD) : (dats m 0 c).arrAt 17 cfg0.N = res17 (A m c) := by
  refine (dats m 0 c).arrAt_eq_of_covers 17 _ (by decide +kernel) fun t hf y => ?_
  have hl : t.val % 16 = 15 := (flush0_17 t).mp hf
  have ht : t.val = 15 := by have := lt_N t; omega
  blk_simp
  rw [after0_17]
  idx_vars y
  refine (congrArg _ (congrFun (congrArg ix2 (Subsingleton.elim y0 0)) y1)).trans ?_
  refine (tga_pt m c y1 t.val t.isLt).trans ?_
  have e1 : ((win0_17.blk t).view.emb (ix2 y0 y1) 1 : Fin 1024) = y1 := Fin.ext (by blk_simp [idx17 t])
  show _ = (A m c).dga ((win0_17.blk t).view.emb (ix2 y0 y1) 1)
  rw [e1, ht]
  exact Finset.sum_range _

end Cert.Kernel11Ideal.Hm
-- ==== Proof.HdRef.lean ====
/- The gated mixer's reference with the loss head: its results as the forward pass's formulas. -/
module

public import proofs.«01_k».proof.Proof.Gen.Reference11Ideal.Read
public import proofs.«01_k».proof.Proof.HdIn
public import Idealize.ShloMosaic.Lib.Pointwise

@[expose] public section

set_option maxRecDepth 16384

noncomputable section

open scoped BigOperators

namespace Cert.Reference11Ideal.Hm

open Idealize.ShloMosaic Idealize.ShloMosaic.Tactic Cert.Reference11Ideal Cert.Reference11Ideal.Read
open Cert.Gmlp (Arr ra gelu gelu_ref rw' rw'_eq ri col)
open Cert.Norm (div_coe)
open Cert.GatedConv (Real' half half_eq sg sg_eq)
open Cert.Head

variable (x0 : Vec Ideal S3x8192x2048 .f32) (x1 x2 : Vec Ideal S2048 .f32) (x3 : Vec Ideal S8x128x128 .f32) (x4 : Vec Ideal S8x128 .f32)
  (x5 : Vec Ideal S2048x1024 .f32) (x6 : Vec Ideal S8192x1024 .f32) (x7 x8 : Vec Ideal S1024 .f32) (x9 : Vec Ideal S8192x1024 .f32)

abbrev A : Hd := hd x0 x1 x2 x3 x4 x5 x6 x7 x8 x9

theorem two_eq : Ideal.ofBits .f32 0x40000000#32 = ((2 : ℝ) : EReal) := by
  simp [Ideal.ofBits, Ideal.ieee, -EReal.coe_mul]; norm_num

theorem a_at (i : S_.Idx) : val_main_v10 (F := Ideal) i = ra := by
  pointwise [val_main_v10, val_main_v9, val_main_cst_0, val_main_cst_1]
  have h2 : Real.sqrt 2 ≠ 0 := (Real.sqrt_pos.2 (by norm_num)).ne'
  rw [two_eq, Ideal.sqrt_coe, if_neg (by norm_num), show (1 : EReal) = ((1 : ℝ) : EReal) from rfl, div_coe _ _ h2, one_div]

theorem a'_at (i : S_.Idx) : val_main_v19 (F := Ideal) i = ra := a_at i

theorem pu_at (s : Fin 8192) (e : Fin 2048) : val_main_v1 (F := Ideal) x0 (ix2 s e) = (A x0 x1 x2 x3 x4 x5 x6 x7 x8 x9).M.pu s e := by
  show _ = x0 (ix3 0 (rw' s) e)
  rw [rw'_eq]
  pointwise [val_main_v1, val_main_v0]

theorem pv_at (s : Fin 8192) (e : Fin 2048) : val_main_v3 (F := Ideal) x0 (ix2 s e) = (A x0 x1 x2 x3 x4 x5 x6 x7 x8 x9).M.pv s e := by
  show _ = x0 (ix3 1 (rw' s) e)
  rw [rw'_eq]
  pointwise [val_main_v3, val_main_v2]

theorem z_at (s : Fin 8192) (e : Fin 2048) : val_main_v5 (F := Ideal) x0 (ix2 s e) = (A x0 x1 x2 x3 x4 x5 x6 x7 x8 x9).M.z s e := by
  show _ = x0 (ix3 2 (rw' s) e)
  rw [rw'_eq]
  pointwise [val_main_v5, val_main_v4]

theorem u_at (s : Fin 8192) (e : Fin 2048) : val_main_v14 (F := Ideal) x0 (ix2 s e) = (A x0 x1 x2 x3 x4 x5 x6 x7 x8 x9).M.u s e := by
  refine Eq.trans ?_ (gelu_ref _)
  pointwise [val_main_v14, val_main_v7, val_main_v6, val_main_cst, val_main_v13, val_main_v12, val_main_v11, val_main_v8]
  rw [a_at, pu_at x0 x1 x2 x3 x4 x5 x6 x7 x8 x9]

theorem v_at (s : Fin 8192) (e : Fin 2048) : val_main_v23 (F := Ideal) x0 (ix2 s e) = (A x0 x1 x2 x3 x4 x5 x6 x7 x8 x9).M.v s e := by
  refine Eq.trans ?_ (gelu_ref _)
  pointwise [val_main_v23, val_main_v16, val_main_v15, val_main_cst_2, val_main_v22, val_main_v21, val_main_v20, val_main_v17]
  rw [a'_at, pv_at x0 x1 x2 x3 x4 x5 x6 x7 x8 x9]

theorem mu_at (s : Fin 8192) : val_main_v27 (F := Ideal) x0 (ix2 s 0) = (A x0 x1 x2 x3 x4 x5 x6 x7 x8 x9).M.mu s := by
  pointwise [val_main_v27, val_main_v26, val_main_cst_6, val_main_v25, val_main_v24, val_main_cst_5]
  simp only [v_at x0 x1 x2 x3 x4 x5 x6 x7 x8 x9]
  rfl

theorem vc_at (s : Fin 8192) (e : Fin 2048) : val_main_v29 (F := Ideal) x0 (ix2 s e) = (A x0 x1 x2 x3 x4 x5 x6 x7 x8 x9).M.vc s e := by
  pointwise [val_main_v29, val_main_v28]
  rw [v_at x0 x1 x2 x3 x4 x5 x6 x7 x8 x9, mu_at x0 x1 x2 x3 x4 x5 x6 x7 x8 x9]
  rfl

theorem vc'_at (s : Fin 8192) (e : Fin 2048) : val_main_v36 (F := Ideal) x0 (ix2 s e) = (A x0 x1 x2 x3 x4 x5 x6 x7 x8 x9).M.vc s e :=
  vc_at x0 x1 x2 x3 x4 x5 x6 x7 x8 x9 s e

theorem var_at (s : Fin 8192) : val_main_v38 (F := Ideal) x0 (ix2 s 0) = (A x0 x1 x2 x3 x4 x5 x6 x7 x8 x9).M.var s := by
  pointwise [val_main_v38, val_main_v37, val_main_cst_9, val_main_v34, val_main_v33, val_main_cst_8, val_main_v32, val_main_v31, val_main_cst_7, val_main_v30]
  simp only [vc_at x0 x1 x2 x3 x4 x5 x6 x7 x8 x9]
  rfl

theorem rs_at (s : Fin 8192) : val_main_v39 (F := Ideal) x0 (ix2 s 0) = (A x0 x1 x2 x3 x4 x5 x6 x7 x8 x9).M.rs s := by
  pointwise [val_main_v39]
  rw [var_at x0 x1 x2 x3 x4 x5 x6 x7 x8 x9]
  rfl

theorem vh_at (s : Fin 8192) (e : Fin 2048) : val_main_v41 (F := Ideal) x0 (ix2 s e) = (A x0 x1 x2 x3 x4 x5 x6 x7 x8 x9).M.vh s e := by
  pointwise [val_main_v41, val_main_v40]
  rw [vc'_at x0 x1 x2 x3 x4 x5 x6 x7 x8 x9, rs_at x0 x1 x2 x3 x4 x5 x6 x7 x8 x9]
  rfl

theorem vn_at (s : Fin 8192) (e : Fin 2048) : val_main_v47 (F := Ideal) x0 x1 x2 (ix2 s e) = (A x0 x1 x2 x3 x4 x5 x6 x7 x8 x9).M.vn s e := by
  pointwise [val_main_v47, val_main_v46, val_main_v45, val_main_v44, val_main_v43, val_main_v42]
  rw [vh_at x0 x1 x2 x3 x4 x5 x6 x7 x8 x9]
  rfl

theorem ix2_congr {a b : ℕ} {i i' : Fin a} {j j' : Fin b} (hi : i.val = i'.val) (hj : j.val = j'.val) : ix2 i j = ix2 i' j' := by
  rw [Fin.ext hi, Fin.ext hj]

theorem cmp_ge (i j : Fin 128) : IntOp.cmpi CmpIPredicate.sge (IntOp.addi (BitVec.ofNat 32 i) 0#32) (BitVec.ofNat 32 j) = if j.val ≤ i.val then 1#1 else 0#1 := by
  have h : ∀ i j : Fin 128, IntOp.cmpi CmpIPredicate.sge (IntOp.addi (BitVec.ofNat 32 i) 0#32) (BitVec.ofNat 32 j) = if j.val ≤ i.val then 1#1 else 0#1 := by
    decide +kernel
  exact h i j

theorem col_eq (e : Fin 2048) : col ⟨e.val / 256, by omega⟩ ⟨e.val % 256, by omega⟩ = e := Fin.ext (by show 256 * (e.val / 256) + e.val % 256 = e.val; omega)

/-- A chunk's row. -/
def crow (n : Fin 64) (i : Fin 128) : Fin 8192 := ⟨128 * n.val + i.val, by omega⟩

theorem vn4_at (n : Fin 64) (i : Fin 128) (g : Fin 8) (c : Fin 256) :
    val_main_v48 (F := Ideal) x0 x1 x2 (ix4 n i g c) = (A x0 x1 x2 x3 x4 x5 x6 x7 x8 x9).M.vn (128 * n.val + i.val) (col g c) := by
  refine Eq.trans ?_ (vn_at x0 x1 x2 x3 x4 x5 x6 x7 x8 x9 (crow n i) (col g c))
  pointwise [val_main_v48]
  exact congrArg _ (ix2_congr (congrArg (· + i.val) (Nat.mul_comm _ _)) (congrArg (· + c.val) (Nat.mul_comm _ _)))

theorem tri_at (g : Fin 8) (i j : Fin 128) : val_main_v53 (F := Ideal) x3 (ix3 g i j) = (A x0 x1 x2 x3 x4 x5 x6 x7 x8 x9).M.tri g i j := by
  pointwise [val_main_c, val_main_v49, val_main_call0_v0, val_main_call0_c, val_main_call0_v1, val_main_call0_v2, val_main_call0_v3, val_main_call0_v4, val_main_call0_c_0, val_main_call0_v5, val_main_v50, val_main_v51, val_main_cst_10, val_main_v52, val_main_call1_v0, val_main_v53]
  rw [cmp_ge]
  unfold Arr.tri
  by_cases h : j.val ≤ i.val
  · rw [if_pos h, if_pos h]; rfl
  · rw [if_neg h, if_neg h]; rfl

theorem mixed_at (s : Fin 8192) (e : Fin 2048) : val_main_v60 (F := Ideal) x0 x1 x2 x3 x4 (ix2 s e) = (A x0 x1 x2 x3 x4 x5 x6 x7 x8 x9).M.mix s e := by
  pointwise [val_main_v60, val_main_v59, val_main_v58, val_main_v57, val_main_v56, val_main_v55, val_main_v54]
  refine congrArg₂ (· + ·) (Finset.sum_congr rfl fun j _ => ?_) rfl
  refine (congrArg₂ (· * ·) (vn4_at x0 x1 x2 x3 x4 x5 x6 x7 x8 x9 ⟨s.val / 128, by omega⟩ j ⟨e.val / 256, by omega⟩ ⟨e.val % 256, by omega⟩)
    (tri_at x0 x1 x2 x3 x4 x5 x6 x7 x8 x9 ⟨e.val / 256, by omega⟩ ⟨s.val % 128, by omega⟩ j)).trans ?_
  rw [col_eq]
  exact mul_comm _ _

theorem y_at (s : Fin 8192) (e : Fin 2048) : val_main_v63 (F := Ideal) x0 x1 x2 x3 x4 (ix2 s e) = (A x0 x1 x2 x3 x4 x5 x6 x7 x8 x9).y s e := by
  pointwise [val_main_v63, val_main_v62, val_main_v61, val_main_call2_v0, val_main_call2_v1, val_main_call2_cst, val_main_call2_v2, val_main_call2_v3, val_main_call2_cst_0, val_main_call2_v4, val_main_call2_v5]
  rw [z_at x0 x1 x2 x3 x4 x5 x6 x7 x8 x9, u_at x0 x1 x2 x3 x4 x5 x6 x7 x8 x9, mixed_at x0 x1 x2 x3 x4 x5 x6 x7 x8 x9, sg_eq]
  rfl

theorem br_at (s : Fin 8192) (d : Fin 1024) : val_main_v64 (F := Ideal) x0 x1 x2 x3 x4 x5 (ix2 s d) = (A x0 x1 x2 x3 x4 x5 x6 x7 x8 x9).br s d := by
  pointwise [val_main_v64]
  simp only [y_at x0 x1 x2 x3 x4 x5 x6 x7 x8 x9]
  rfl

theorem X_at (s : Fin 8192) (d : Fin 1024) : val_main_v68 (F := Ideal) x0 x1 x2 x3 x4 x5 x6 x7 (ix2 s d) = (A x0 x1 x2 x3 x4 x5 x6 x7 x8 x9).X s d := by
  pointwise [val_main_v68, val_main_v67, val_main_v66, val_main_v65]
  rw [br_at x0 x1 x2 x3 x4 x5 x6 x7 x8 x9]
  show _ = x6 (ix2 (rw' s) d) + _
  rw [rw'_eq]

theorem r_at (s : Fin 8192) : val_main_v76 (F := Ideal) x0 x1 x2 x3 x4 x5 x6 x7 (ix2 s 0) = (A x0 x1 x2 x3 x4 x5 x6 x7 x8 x9).r s := by
  pointwise [val_main_v76, val_main_v75, val_main_v74, val_main_v73, val_main_v72, val_main_v71, val_main_v70, val_main_v69, val_main_cst_11, val_main_cst_12, val_main_cst_13]
  simp only [X_at x0 x1 x2 x3 x4 x5 x6 x7 x8 x9]
  rfl

theorem ms_at (s : Fin 8192) : val_main_v75 (F := Ideal) x0 x1 x2 x3 x4 x5 x6 x7 (ix2 s 0) = (A x0 x1 x2 x3 x4 x5 x6 x7 x8 x9).rows.ms s := by
  pointwise [val_main_v75, val_main_v74, val_main_v73, val_main_v72, val_main_v71, val_main_v70, val_main_v69, val_main_cst_11, val_main_cst_12, val_main_cst_13]
  simp only [X_at x0 x1 x2 x3 x4 x5 x6 x7 x8 x9]
  rfl

theorem xn_at (s : Fin 8192) (d : Fin 1024) : val_main_v81 (F := Ideal) x0 x1 x2 x3 x4 x5 x6 x7 (ix2 s d) = (A x0 x1 x2 x3 x4 x5 x6 x7 x8 x9).xn s d := by
  pointwise [val_main_v81, val_main_v80]
  rw [X_at x0 x1 x2 x3 x4 x5 x6 x7 x8 x9, r_at x0 x1 x2 x3 x4 x5 x6 x7 x8 x9]
  rfl

theorem err_at (s : Fin 8192) (d : Fin 1024) : val_main_v85 (F := Ideal) x0 x1 x2 x3 x4 x5 x6 x7 x8 x9 (ix2 s d) = (A x0 x1 x2 x3 x4 x5 x6 x7 x8 x9).err s d := by
  pointwise [val_main_v85, val_main_v84, val_main_v83, val_main_v82]
  rw [xn_at x0 x1 x2 x3 x4 x5 x6 x7 x8 x9]
  show _ = _ - x9 (ix2 (rw' s) d)
  rw [rw'_eq]

theorem one_eq : Ideal.ofBits .f32 0x3F800000#32 = ((1 : ℝ) : EReal) := by
  simp [Ideal.ofBits, Ideal.ieee, -EReal.coe_mul]; try norm_num

theorem dout_at (s : Fin 8192) (d : Fin 1024) : val_main_v99 (F := Ideal) x0 x1 x2 x3 x4 x5 x6 x7 x8 x9 (ix2 s d) = (A x0 x1 x2 x3 x4 x5 x6 x7 x8 x9).dout s d := by
  refine Eq.trans ?_ (Hd.dout_ref _ 1 _ EReal.coe_one.symm two_eq)
  pointwise [val_main_v99, val_main_v98, val_main_v97, val_main_v96, val_main_cst_22, val_main_v95, val_main_v94, val_main_cst_21, val_main_cst_20, val_main_v88, val_main_v87, val_main_cst_15]
  rw [err_at x0 x1 x2 x3 x4 x5 x6 x7 x8 x9]
  try rfl

theorem loss_at (i : Fin 8) (j : Fin 128) : val_main_v128 (F := Ideal) x0 x1 x2 x3 x4 x5 x6 x7 x8 x9 (ix2 i j) = (A x0 x1 x2 x3 x4 x5 x6 x7 x8 x9).loss := by
  pointwise [val_main_v128, val_main_v93, val_main_cst_19, val_main_v92, val_main_cst_18, val_main_v91, val_main_v90, val_main_cst_17, val_main_v89, val_main_cst_16, val_main_v86]
  simp only [err_at x0 x1 x2 x3 x4 x5 x6 x7 x8 x9]
  rfl

theorem dgf_at (d : Fin 1024) : val_main_v129 (F := Ideal) x0 x1 x2 x3 x4 x5 x6 x7 x8 x9 (ix2 0 d) = (A x0 x1 x2 x3 x4 x5 x6 x7 x8 x9).dgf d := by
  pointwise [val_main_v129, val_main_v105, val_main_cst_24, val_main_v102, val_main_v101, val_main_cst_23, val_main_v100]
  rw [Fin.sum_univ_one]
  refine Finset.sum_congr rfl fun s _ => ?_
  refine (congrArg₂ (· * ·) (xn_at x0 x1 x2 x3 x4 x5 x6 x7 x8 x9 s d) (dout_at x0 x1 x2 x3 x4 x5 x6 x7 x8 x9 s d)).trans (mul_comm _ _)

theorem dy_at (s : Fin 8192) (d : Fin 1024) : val_main_v104 (F := Ideal) x0 x1 x2 x3 x4 x5 x6 x7 x8 x9 (ix2 s d) = (A x0 x1 x2 x3 x4 x5 x6 x7 x8 x9).dout s d * (A x0 x1 x2 x3 x4 x5 x6 x7 x8 x9).gf d := by
  pointwise [val_main_v104, val_main_v103, val_main_v82]
  rw [dout_at x0 x1 x2 x3 x4 x5 x6 x7 x8 x9]

theorem q_at (s : Fin 8192) : val_main_v114 (F := Ideal) x0 x1 x2 x3 x4 x5 x6 x7 x8 x9 (ix1 s) = Ideal.div ((∑ k, (A x0 x1 x2 x3 x4 x5 x6 x7 x8 x9).X s k * ((A x0 x1 x2 x3 x4 x5 x6 x7 x8 x9).dout s k * (A x0 x1 x2 x3 x4 x5 x6 x7 x8 x9).gf k)) * (Norm.mhalf * Ideal.div ((A x0 x1 x2 x3 x4 x5 x6 x7 x8 x9).r s) ((A x0 x1 x2 x3 x4 x5 x6 x7 x8 x9).rows.ms s))) Norm.len := by
  pointwise [val_main_v114, val_main_cst_27, val_main_v113, val_main_v112, val_main_cst_26, val_main_v111, val_main_v108, val_main_v107, val_main_cst_25, val_main_v106, val_main_v79, val_main_v78, val_main_cst_14, val_main_v77]
  rw [Fin.sum_univ_one]
  simp only [X_at x0 x1 x2 x3 x4 x5 x6 x7 x8 x9, dy_at x0 x1 x2 x3 x4 x5 x6 x7 x8 x9, r_at x0 x1 x2 x3 x4 x5 x6 x7 x8 x9, ms_at x0 x1 x2 x3 x4 x5 x6 x7 x8 x9]
  try rfl

theorem dx_at (s : Fin 8192) (d : Fin 1024) : val_main_v119 (F := Ideal) x0 x1 x2 x3 x4 x5 x6 x7 x8 x9 (ix2 s d) = (A x0 x1 x2 x3 x4 x5 x6 x7 x8 x9).dx s d := by
  refine Eq.trans ?_ ((A x0 x1 x2 x3 x4 x5 x6 x7 x8 x9).dx_ref s d)
  pointwise [val_main_v119, val_main_v118, val_main_v117, val_main_v116, val_main_v115, val_main_v110, val_main_v109]
  simp only [X_at x0 x1 x2 x3 x4 x5 x6 x7 x8 x9, dy_at x0 x1 x2 x3 x4 x5 x6 x7 x8 x9, r_at x0 x1 x2 x3 x4 x5 x6 x7 x8 x9, q_at x0 x1 x2 x3 x4 x5 x6 x7 x8 x9]
  try rfl

theorem dbr_at (s : Fin 8192) (d : Fin 1024) : val_main_v127 (F := Ideal) x0 x1 x2 x3 x4 x5 x6 x7 x8 x9 (ix2 s d) = (A x0 x1 x2 x3 x4 x5 x6 x7 x8 x9).dbr s d := by
  pointwise [val_main_v127, val_main_v121, val_main_v120, val_main_v65]
  rw [dx_at x0 x1 x2 x3 x4 x5 x6 x7 x8 x9]
  rfl

theorem dga_at (d : Fin 1024) : val_main_v130 (F := Ideal) x0 x1 x2 x3 x4 x5 x6 x7 x8 x9 (ix2 0 d) = (A x0 x1 x2 x3 x4 x5 x6 x7 x8 x9).dga d := by
  pointwise [val_main_v130, val_main_v125, val_main_cst_29, val_main_v124, val_main_v123, val_main_cst_28, val_main_v122]
  rw [Fin.sum_univ_one]
  refine Finset.sum_congr rfl fun s _ => ?_
  refine congrArg₂ (· * ·) (dx_at x0 x1 x2 x3 x4 x5 x6 x7 x8 x9 s d) (br_at x0 x1 x2 x3 x4 x5 x6 x7 x8 x9 s d)

theorem yb_at (s : Fin 8192) (e : Fin 2048) : val_main_v126 (F := Ideal) x0 x1 x2 x3 x4 (ix2 s e) = (A x0 x1 x2 x3 x4 x5 x6 x7 x8 x9).y s e := by
  pointwise [val_main_v126]
  exact y_at x0 x1 x2 x3 x4 x5 x6 x7 x8 x9 s e

end Cert.Reference11Ideal.Hm
-- ==== Proof.HdValue.lean ====
/- The value claim of the gated mixer's forward pass with the loss head, and its reference's frame. -/
module

public import proofs.«01_k».proof.Defs
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.HdFinal
public import proofs.«01_k».proof.Proof.HdRef

@[expose] public section

set_option maxRecDepth 16384
set_option maxHeartbeats 4000000

noncomputable section

namespace Cert.Proof

open Idealize.ShloMosaic Idealize.ShloMosaic.TcCoe Idealize.SL.Sem

theorem frame_reference11 : Cert.quiescent_Reference11Ideal := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

theorem preserves11 : Cert.preserves_Kernel11_Kernel11Ideal :=
  IdealRules.named_const.statement Cert.Kernel11Ideal.κ "a" .f32 _ _ (by unfold Cert.Kernel11Ideal.κ; rfl)

open Cert.Kernel11Ideal.Hm (x0 x1 x2 x3 x4 x5 x6 x7 x8 x9 A res12 res13 res14 res15 res16 res17) in
theorem value11 : Cert.algebraic_Kernel11Ideal_Reference11Ideal := by
  intro m g m' g' _ hm
  refine ⟨fun c => res12 (A m c), fun c => res13 (A m c), fun c => res14 (A m c), fun c => res15 (A m c), fun c => res16 (A m c), fun c => res17 (A m c), ?_, ?_⟩
  · refine (θ_run Cert.Kernel11Ideal.defs _ _).mono (fun r h c => ?_) (Cert.Kernel11Ideal.Value.run_blocks (F := Ideal) m g)
    obtain ⟨h0, h1, h2, h3, h4, h5, hr⟩ := h c
    exact ⟨h0.trans (Kernel11Ideal.Hm.final12 m c), h1.trans (Kernel11Ideal.Hm.final13 m c), h2.trans (Kernel11Ideal.Hm.final14 m c), h3.trans (Kernel11Ideal.Hm.final15 m c), h4.trans (Kernel11Ideal.Hm.final16 m c), h5.trans (Kernel11Ideal.Hm.final17 m c), hr⟩
  · refine (θ_run Cert.Reference11Ideal.defs _ _).mono (fun r h c => ?_) (Cert.Reference11Ideal.Value.run (F := Ideal) m' g')
    obtain ⟨h0, h1, h2, h3, h4, h5, hr⟩ := h c
    obtain ⟨a0, a1, a2, a3, a4, a5, a6, a7, a8, a9⟩ := hm c
    have l0 : StableHlo.launchContents m' c (Proc.devRef .tc Reference11Ideal.main_arg0) = m ((c.tc : Thread Cert.Kernel11Ideal.nD Cert.Kernel11Ideal.τ).loc Cert.Kernel11Ideal.main_arg0) := a0
    have l1 : StableHlo.launchContents m' c (Proc.devRef .tc Reference11Ideal.main_arg1) = m ((c.tc : Thread Cert.Kernel11Ideal.nD Cert.Kernel11Ideal.τ).loc Cert.Kernel11Ideal.main_arg1) := a1
    have l2 : StableHlo.launchContents m' c (Proc.devRef .tc Reference11Ideal.main_arg2) = m ((c.tc : Thread Cert.Kernel11Ideal.nD Cert.Kernel11Ideal.τ).loc Cert.Kernel11Ideal.main_arg2) := a2
    have l3 : StableHlo.launchContents m' c (Proc.devRef .tc Reference11Ideal.main_arg3) = m ((c.tc : Thread Cert.Kernel11Ideal.nD Cert.Kernel11Ideal.τ).loc Cert.Kernel11Ideal.main_arg3) := a3
    have l4 : StableHlo.launchContents m' c (Proc.devRef .tc Reference11Ideal.main_arg4) = m ((c.tc : Thread Cert.Kernel11Ideal.nD Cert.Kernel11Ideal.τ).loc Cert.Kernel11Ideal.main_arg4) := a4
    have l5 : StableHlo.launchContents m' c (Proc.devRef .tc Reference11Ideal.main_arg5) = m ((c.tc : Thread Cert.Kernel11Ideal.nD Cert.Kernel11Ideal.τ).loc Cert.Kernel11Ideal.main_arg5) := a5
    have l6 : StableHlo.launchContents m' c (Proc.devRef .tc Reference11Ideal.main_arg6) = m ((c.tc : Thread Cert.Kernel11Ideal.nD Cert.Kernel11Ideal.τ).loc Cert.Kernel11Ideal.main_arg6) := a6
    have l7 : StableHlo.launchContents m' c (Proc.devRef .tc Reference11Ideal.main_arg7) = m ((c.tc : Thread Cert.Kernel11Ideal.nD Cert.Kernel11Ideal.τ).loc Cert.Kernel11Ideal.main_arg7) := a7
    have l8 : StableHlo.launchContents m' c (Proc.devRef .tc Reference11Ideal.main_arg8) = m ((c.tc : Thread Cert.Kernel11Ideal.nD Cert.Kernel11Ideal.τ).loc Cert.Kernel11Ideal.main_arg8) := a8
    have l9 : StableHlo.launchContents m' c (Proc.devRef .tc Reference11Ideal.main_arg9) = m ((c.tc : Thread Cert.Kernel11Ideal.nD Cert.Kernel11Ideal.τ).loc Cert.Kernel11Ideal.main_arg9) := a9
    refine ⟨h0.trans ?_, h1.trans ?_, h2.trans ?_, h3.trans ?_, h4.trans ?_, h5.trans ?_, hr⟩
    · rw [Reference11Ideal.Read.val_main_v126_eq, l0, l1, l2, l3, l4]
      funext y
      idx_vars y
      exact Reference11Ideal.Hm.yb_at (x0 m c) (x1 m c) (x2 m c) (x3 m c) (x4 m c) (x5 m c) (x6 m c) (x7 m c) (x8 m c) (x9 m c) y0 y1
    · rw [Reference11Ideal.Read.val_main_v119_eq, l0, l1, l2, l3, l4, l5, l6, l7, l8, l9]
      funext y
      idx_vars y
      exact Reference11Ideal.Hm.dx_at (x0 m c) (x1 m c) (x2 m c) (x3 m c) (x4 m c) (x5 m c) (x6 m c) (x7 m c) (x8 m c) (x9 m c) y0 y1
    · rw [Reference11Ideal.Read.val_main_v127_eq, l0, l1, l2, l3, l4, l5, l6, l7, l8, l9]
      funext y
      idx_vars y
      exact Reference11Ideal.Hm.dbr_at (x0 m c) (x1 m c) (x2 m c) (x3 m c) (x4 m c) (x5 m c) (x6 m c) (x7 m c) (x8 m c) (x9 m c) y0 y1
    · rw [Reference11Ideal.Read.val_main_v128_eq, l0, l1, l2, l3, l4, l5, l6, l7, l8, l9]
      funext y
      idx_vars y
      exact Reference11Ideal.Hm.loss_at (x0 m c) (x1 m c) (x2 m c) (x3 m c) (x4 m c) (x5 m c) (x6 m c) (x7 m c) (x8 m c) (x9 m c) y0 y1
    · rw [Reference11Ideal.Read.val_main_v129_eq, l0, l1, l2, l3, l4, l5, l6, l7, l8, l9]
      funext y
      idx_vars y
      obtain rfl : y0 = 0 := Subsingleton.elim _ _
      exact Reference11Ideal.Hm.dgf_at (x0 m c) (x1 m c) (x2 m c) (x3 m c) (x4 m c) (x5 m c) (x6 m c) (x7 m c) (x8 m c) (x9 m c) y1
    · rw [Reference11Ideal.Read.val_main_v130_eq, l0, l1, l2, l3, l4, l5, l6, l7, l8, l9]
      funext y
      idx_vars y
      obtain rfl : y0 = 0 := Subsingleton.elim _ _
      exact Reference11Ideal.Hm.dga_at (x0 m c) (x1 m c) (x2 m c) (x3 m c) (x4 m c) (x5 m c) (x6 m c) (x7 m c) (x8 m c) (x9 m c) y1

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.DhAValue
public import proofs.«01_k».proof.Proof.ProjBValue
public import proofs.«01_k».proof.Proof.DhBValue
public import proofs.«01_k».proof.Proof.Final
public import proofs.«01_k».proof.Proof.Finite
public import proofs.«01_k».proof.Proof.DwA
public import proofs.«01_k».proof.Proof.DwB
public import proofs.«01_k».proof.Proof.DwOut
public import proofs.«01_k».proof.Proof.GmValue
public import proofs.«01_k».proof.Proof.SlabValue
public import proofs.«01_k».proof.Proof.NormSlabValue
public import proofs.«01_k».proof.Proof.HdValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

open Cert.KernelIdeal.Bwd Cert.ReferenceIdeal.Bwd Cert.GatedConv

/-- The reference's first result at any index. -/
theorem ref0 (x0 : Vec Ideal ReferenceIdeal.S4x8192x2048 .f32) (x1 : Vec Ideal ReferenceIdeal.S3x2048 .f32)
    (x2 : Vec Ideal ReferenceIdeal.S2048 .f32) (x3 : Vec Ideal ReferenceIdeal.S2048x1024 .f32)
    (x4 : Vec Ideal ReferenceIdeal.S8192x1024 .f32) (hA : (arrays x0 x1 x2 x3 x4).Finite) :
    ReferenceIdeal.Read.val_main_v86 (F := Ideal) x0 x1 x2 x3 x4
      = fun y => (arrays x0 x1 x2 x3 x4).dp (y 0).val (y 1).val (y 2).val := by
  funext y
  idx_vars y
  exact v86_at x0 x1 x2 x3 x4 hA y0 y1 y2

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem ref1 (x0 : Vec Ideal ReferenceIdeal.S4x8192x2048 .f32) (x1 : Vec Ideal ReferenceIdeal.S3x2048 .f32)
    (x2 : Vec Ideal ReferenceIdeal.S2048 .f32) (x3 : Vec Ideal ReferenceIdeal.S2048x1024 .f32)
    (x4 : Vec Ideal ReferenceIdeal.S8192x1024 .f32) :
    ReferenceIdeal.Read.val_main_v87 (F := Ideal) x0 x3 x4
      = fun y => ∑ r : Fin 8192, (arrays x0 x1 x2 x3 x4).term 0 r (y 1).val := by
  funext y
  idx_vars y
  obtain rfl : y0 = 0 := Subsingleton.elim _ _
  exact term0_at x0 x1 x2 x3 x4 y1

theorem ref2 (x0 : Vec Ideal ReferenceIdeal.S4x8192x2048 .f32) (x1 : Vec Ideal ReferenceIdeal.S3x2048 .f32)
    (x2 : Vec Ideal ReferenceIdeal.S2048 .f32) (x3 : Vec Ideal ReferenceIdeal.S2048x1024 .f32)
    (x4 : Vec Ideal ReferenceIdeal.S8192x1024 .f32) :
    ReferenceIdeal.Read.val_main_v88 (F := Ideal) x0 x3 x4
      = fun y => ∑ r : Fin 8192, (arrays x0 x1 x2 x3 x4).term 1 r (y 1).val := by
  funext y
  idx_vars y
  obtain rfl : y0 = 0 := Subsingleton.elim _ _
  exact term1_at x0 x1 x2 x3 x4 y1

theorem ref3 (x0 : Vec Ideal ReferenceIdeal.S4x8192x2048 .f32) (x1 : Vec Ideal ReferenceIdeal.S3x2048 .f32)
    (x2 : Vec Ideal ReferenceIdeal.S2048 .f32) (x3 : Vec Ideal ReferenceIdeal.S2048x1024 .f32)
    (x4 : Vec Ideal ReferenceIdeal.S8192x1024 .f32) :
    ReferenceIdeal.Read.val_main_v89 (F := Ideal) x0 x3 x4
      = fun y => ∑ r : Fin 8192, (arrays x0 x1 x2 x3 x4).term 2 r (y 1).val := by
  funext y
  idx_vars y
  obtain rfl : y0 = 0 := Subsingleton.elim _ _
  exact term2_at x0 x1 x2 x3 x4 y1

theorem ref4 (x0 : Vec Ideal ReferenceIdeal.S4x8192x2048 .f32) (x1 : Vec Ideal ReferenceIdeal.S3x2048 .f32)
    (x2 : Vec Ideal ReferenceIdeal.S2048 .f32) (x3 : Vec Ideal ReferenceIdeal.S2048x1024 .f32)
    (x4 : Vec Ideal ReferenceIdeal.S8192x1024 .f32) :
    ReferenceIdeal.Read.val_main_v90 (F := Ideal) x0 x3 x4
      = fun y => ∑ r : Fin 8192, (arrays x0 x1 x2 x3 x4).term 3 r (y 1).val := by
  funext y
  idx_vars y
  obtain rfl : y0 = 0 := Subsingleton.elim _ _
  exact term3_at x0 x1 x2 x3 x4 y1

theorem value : Cert.algebraic_KernelIdeal_ReferenceIdeal_pre_finite_args (hPre_finite_args := pre_facts) := by
  intro m g m' g' hpre hm
  refine ⟨gradP m, gradW m 0, gradW m 1, gradW m 2, gradW m 3, ?_, ?_⟩
  · refine (θ_run Cert.KernelIdeal.defs _ _).mono (fun r h c => ?_) (Cert.KernelIdeal.Value.run_blocks (F := Ideal) m g)
    obtain ⟨h0, h1, h2, h3, h4, hr⟩ := h c
    exact ⟨h0.trans (final16 m c), h1.trans (final17 m c), h2.trans (final18 m c), h3.trans (final19 m c), h4.trans (final20 m c), hr⟩
  · refine (θ_run Cert.ReferenceIdeal.defs _ _).mono (fun r h c => ?_) (Cert.ReferenceIdeal.Value.run (F := Ideal) m' g')
    obtain ⟨h0, h1, h2, h3, h4, hr⟩ := h c
    obtain ⟨a0, a1, a2, a3, a4⟩ := hm c
    have hA : (KA m c).Finite := finite_of_pre (hP := pre_facts) _ _ _ _ _ (hpre c)
    refine ⟨h0.trans ?_, h1.trans ?_, h2.trans ?_, h3.trans ?_, h4.trans ?_, hr⟩
    · rw [ReferenceIdeal.Read.val_main_v86_eq, a0, a1, a2, a3, a4]
      exact ref0 _ _ _ _ _ hA
    · rw [ReferenceIdeal.Read.val_main_v87_eq, a0, a3, a4]
      exact ref1 _ (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) _ _
    · rw [ReferenceIdeal.Read.val_main_v88_eq, a0, a3, a4]
      exact ref2 _ (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) _ _
    · rw [ReferenceIdeal.Read.val_main_v89_eq, a0, a3, a4]
      exact ref3 _ (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) _ _
    · rw [a0, a3, a4]
      exact ref4 _ (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) _ _

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem value2 : Cert.algebraic_Kernel2Ideal_Reference2Ideal := by
  intro m g m' g' _ hm
  refine ⟨fun c => Kernel2Ideal.Dw.prod (Kernel2Ideal.Dw.x0 m c) (Kernel2Ideal.Dw.x1 m c), ?_, ?_⟩
  · refine (θ_run Cert.Kernel2Ideal.defs _ _).mono (fun r h c => ?_) (Cert.Kernel2Ideal.Value.run_blocks (F := Ideal) m g)
    obtain ⟨h0, hr⟩ := h c
    exact ⟨h0.trans (Kernel2Ideal.Dw.final m c), hr⟩
  · refine (θ_run Cert.Reference2Ideal.defs _ _).mono (fun r h c => ?_) (Cert.Reference2Ideal.Value.run (F := Ideal) m' g')
    obtain ⟨h0, hr⟩ := h c
    obtain ⟨a0, a1⟩ := hm c
    refine ⟨h0.trans ?_, hr⟩
    rw [Reference2Ideal.Read.val_main_v17_eq, a0, a1]
    exact Reference2Ideal.Dw.val_eq _ _

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value3 : Cert.algebraic_Kernel3Ideal_Reference3Ideal := by
  intro m g m' g' _ hm
  refine ⟨fun c => Kernel3Ideal.Dw.prod (Kernel3Ideal.Dw.x0 m c) (Kernel3Ideal.Dw.x1 m c), ?_, ?_⟩
  · refine (θ_run Cert.Kernel3Ideal.defs _ _).mono (fun r h c => ?_) (Cert.Kernel3Ideal.Value.run_blocks (F := Ideal) m g)
    obtain ⟨h0, hr⟩ := h c
    exact ⟨h0.trans (Kernel3Ideal.Dw.final m c), hr⟩
  · refine (θ_run Cert.Reference3Ideal.defs _ _).mono (fun r h c => ?_) (Cert.Reference3Ideal.Value.run (F := Ideal) m' g')
    obtain ⟨h0, hr⟩ := h c
    obtain ⟨a0, a1⟩ := hm c
    refine ⟨h0.trans ?_, hr⟩
    rw [Reference3Ideal.Read.val_main_v18_eq, a0, a1]
    exact Reference3Ideal.Dw.val_eq _ _

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal := by
  intro m g m' g' _ hm
  refine ⟨fun c => Kernel4Ideal.Dw.prod (Kernel4Ideal.Dw.x0 m c) (Kernel4Ideal.Dw.x1 m c), ?_, ?_⟩
  · refine (θ_run Cert.Kernel4Ideal.defs _ _).mono (fun r h c => ?_) (Cert.Kernel4Ideal.Value.run_blocks (F := Ideal) m g)
    obtain ⟨h0, hr⟩ := h c
    exact ⟨h0.trans (Kernel4Ideal.Dw.final m c), hr⟩
  · refine (θ_run Cert.Reference4Ideal.defs _ _).mono (fun r h c => ?_) (Cert.Reference4Ideal.Value.run (F := Ideal) m' g')
    obtain ⟨h0, hr⟩ := h c
    obtain ⟨a0, a1⟩ := hm c
    refine ⟨h0.trans ?_, hr⟩
    rw [Reference4Ideal.Read.val_main_v4_eq, a0, a1]
    exact Reference4Ideal.Dw.val_eq _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    pre_facts, Gmlp.pre_facts7, Slab.pre_facts9, NormSlab.pre_facts10, NormSlab.on_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ,
    fun m ρ _ => Cert.Kernel7Ideal.Gen.frame m ρ, frame_reference7, fun m ρ _ => frame_reference7 m ρ trivial,
    fun m ρ _ => Cert.Kernel8.Gen.frame m ρ, fun m ρ _ => Cert.Kernel8Ideal.Gen.frame m ρ, frame_reference8,
    fun m ρ h => Cert.Kernel9.Gen.frame m ρ (Kernel9.Sl.ok_of_pre m h),
    fun m ρ h => Cert.Kernel9Ideal.Gen.frame m ρ (Kernel9Ideal.Sl.ok_of_pre m h), frame_reference9, fun m ρ _ => frame_reference9 m ρ trivial,
    fun m ρ h => Cert.Kernel10.Gen.frame m ρ (Kernel10.Ns.ok_of_pre m h),
    fun m ρ h => Cert.Kernel10Ideal.Gen.frame m ρ (Kernel10Ideal.Ns.ok_of_pre m h), frame_reference10, fun m ρ _ => frame_reference10 m ρ trivial,
    fun m ρ _ => Cert.Kernel11.Gen.frame m ρ, fun m ρ _ => Cert.Kernel11Ideal.Gen.frame m ρ, frame_reference11,
    trivial, value, trivial, value2, trivial, value3, trivial, value4, trivial, value5, trivial, value6,
    preserves7, value7, trivial, value8, trivial, value9, trivial, value10, preserves11, value11⟩

end Cert.Proof

end
